-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite_q [hPre_finite_q : Cert.Pre_finite_q.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite_q.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4))).1 = (fun _ => 1#1)
    ∧ (Cert.Pre_finite_q.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4))).2 = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite_q [hPre_finite_q : Cert.Pre_finite_q.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite_q.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4))).1 = (fun _ => 1#1)
    ∧ (Cert.Pre_finite_q.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4))).2 = (fun _ => 1#1)

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Kernel8Ideal_pre_finite_q [hKernel8Ideal : Cert.Kernel8Ideal.Facts] [hPre_finite_q : Cert.Pre_finite_q.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite_q m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Reference8Ideal_pre_finite_q [hReference8Ideal : Cert.Reference8Ideal.Facts] [hPre_finite_q : Cert.Pre_finite_q.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite_q m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def preserves_Kernel_KernelIdeal : Prop :=
  True

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v11)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v11) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v48) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v13)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v13) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v53) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v32)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v32) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v22) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v7)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v7) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v9) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)) →
    ∃ (v0 : (c : Dev Cert.Kernel6Ideal.nD) → Buf (Elt Ideal) ((c.tc : Thread Cert.Kernel6Ideal.nD Cert.Kernel6Ideal.τ).loc Cert.Kernel6Ideal.main_v23)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v23) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v42) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)) →
    ∃ (v0 : (c : Dev Cert.Kernel7Ideal.nD) → Buf (Elt Ideal) ((c.tc : Thread Cert.Kernel7Ideal.nD Cert.Kernel7Ideal.τ).loc Cert.Kernel7Ideal.main_v56)) (v1 : (c : Dev Cert.Kernel7Ideal.nD) → Buf (Elt Ideal) ((c.tc : Thread Cert.Kernel7Ideal.nD Cert.Kernel7Ideal.τ).loc Cert.Kernel7Ideal.main_v60)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v56) = v0 c
          ∧ r.2.mem ((c.tc : Thread Cert.Kernel7Ideal.nD Cert.Kernel7Ideal.τ).loc Cert.Kernel7Ideal.main_v60) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v64) = v0 c
          ∧ r.2.mem ((c.tc : Thread Cert.Reference7Ideal.nD Cert.Reference7Ideal.τ).loc Cert.Reference7Ideal.main_v66) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7))

def preserves_Kernel8_Kernel8Ideal : Prop :=
  True

def algebraic_Kernel8Ideal_Reference8Ideal_pre_finite_q [hKernel8Ideal : Cert.Kernel8Ideal.Facts] [hReference8Ideal : Cert.Reference8Ideal.Facts] [hPre_finite_q : Cert.Pre_finite_q.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite_q m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v41)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v41) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v45) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v7)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v7) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v27) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v5)) (v1 : (c : Dev Cert.Kernel10Ideal.nD) → Buf (Elt Ideal) ((c.tc : Thread Cert.Kernel10Ideal.nD Cert.Kernel10Ideal.τ).loc Cert.Kernel10Ideal.main_v7)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v5) = v0 c
          ∧ r.2.mem ((c.tc : Thread Cert.Kernel10Ideal.nD Cert.Kernel10Ideal.τ).loc Cert.Kernel10Ideal.main_v7) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v8) = v0 c
          ∧ r.2.mem ((c.tc : Thread Cert.Reference10Ideal.nD Cert.Reference10Ideal.τ).loc Cert.Reference10Ideal.main_v16) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)) →
    ∃ (v0 : (c : Dev Cert.Kernel11Ideal.nD) → Buf (Elt Ideal) ((c.tc : Thread Cert.Kernel11Ideal.nD Cert.Kernel11Ideal.τ).loc Cert.Kernel11Ideal.main_v32)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v32) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v25) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hPre_finite_qk : Cert.Pre_finite_qk.Facts) (hPre_finite_q : Cert.Pre_finite_q.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Kernel8Ideal_pre_finite_q (hKernel8Ideal := hKernel8Ideal) (hPre_finite_q := hPre_finite_q)
    ∧ quiescent_Reference8Ideal (hReference8Ideal := hReference8Ideal)
    ∧ quiescent_Reference8Ideal_pre_finite_q (hReference8Ideal := hReference8Ideal) (hPre_finite_q := hPre_finite_q)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal_pre_finite_q (hKernel8Ideal := hKernel8Ideal) (hReference8Ideal := hReference8Ideal) (hPre_finite_q := hPre_finite_q)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
-- ==== Pre_finite_q.lean ====
abbrev S1x16384x512 : Shape := ⟨3, ![1, 16384, 512]⟩
abbrev S1x512 : Shape := ⟨2, ![1, 512]⟩
abbrev S1x512x1536 : Shape := ⟨3, ![1, 512, 1536]⟩
abbrev S16384x2x16 : Shape := ⟨3, ![16384, 2, 16]⟩
abbrev S_ : Shape := ⟨0, ![]⟩

class Facts : Prop where
  bcast_S_S1x512 : S_.BroadcastsInDim S1x512 (![] : Fin 0 → Fin S1x512.rank)
  bcast_S_S1x512x1536 : S_.BroadcastsInDim S1x512x1536 (![] : Fin 0 → Fin S1x512x1536.rank)

variable [Facts]

def fn {F : FTy → Type} [FloatOps F] (main_arg0 : FVec F S1x16384x512 .f32) (main_arg1 : FVec F S1x512 .f32) (main_arg2 : FVec F S1x512x1536 .f32) (main_arg3 : FVec F S16384x2x16 .f32) (main_arg4 : FVec F S16384x2x16 .f32) : IVec S1x512 1 × IVec S1x512x1536 1 :=
  let main_v0 : FVec F S1x512 .f32 := Host.absf main_arg1
  let main_cst : FVec F S_ .f32 := constant S_ .f32 0x7F800000#32
  let main_v1 : FVec F S1x512 .f32 := broadcastInDim S1x512 ![] bcast_S_S1x512 main_cst
  let main_v2 : IVec S1x512 1 := cmpf .olt main_v0 main_v1
  let main_v3 : FVec F S1x512x1536 .f32 := Host.absf main_arg2
  let main_cst_0 : FVec F S_ .f32 := constant S_ .f32 0x7F800000#32
  let main_v4 : FVec F S1x512x1536 .f32 := broadcastInDim S1x512x1536 ![] bcast_S_S1x512x1536 main_cst_0
  let main_v5 : IVec S1x512x1536 1 := cmpf .olt main_v3 main_v4
  (main_v2, main_v5)
-- ==== Pre_finite_qk.lean ====
abbrev S1x16384x8x192 : Shape := ⟨4, ![1, 16384, 8, 192]⟩
abbrev S1x16640x8x192 : Shape := ⟨4, ![1, 16640, 8, 192]⟩
abbrev S1x16640x8x128 : Shape := ⟨4, ![1, 16640, 8, 128]⟩
abbrev S_ : Shape := ⟨0, ![]⟩

class Facts : Prop where
  bcast_S_S1x16384x8x192 : S_.BroadcastsInDim S1x16384x8x192 (![] : Fin 0 → Fin S1x16384x8x192.rank)
  bcast_S_S1x16640x8x192 : S_.BroadcastsInDim S1x16640x8x192 (![] : Fin 0 → Fin S1x16640x8x192.rank)

variable [Facts]

def fn {F : FTy → Type} [FloatOps F] (main_arg0 : FVec F S1x16384x8x192 .f32) (main_arg1 : FVec F S1x16640x8x192 .f32) (main_arg2 : FVec F S1x16640x8x128 .f32) : IVec S1x16384x8x192 1 × IVec S1x16640x8x192 1 :=
  let main_v0 : FVec F S1x16384x8x192 .f32 := Host.absf main_arg0
  let main_cst : FVec F S_ .f32 := constant S_ .f32 0x7F800000#32
  let main_v1 : FVec F S1x16384x8x192 .f32 := broadcastInDim S1x16384x8x192 ![] bcast_S_S1x16384x8x192 main_cst
  let main_v2 : IVec S1x16384x8x192 1 := cmpf .olt main_v0 main_v1
  let main_v3 : FVec F S1x16640x8x192 .f32 := Host.absf main_arg1
  let main_cst_0 : FVec F S_ .f32 := constant S_ .f32 0x7F800000#32
  let main_v4 : FVec F S1x16640x8x192 .f32 := broadcastInDim S1x16640x8x192 ![] bcast_S_S1x16640x8x192 main_cst_0
  let main_v5 : IVec S1x16640x8x192 1 := cmpf .olt main_v3 main_v4
  (main_v2, main_v5)
-- ==== Kernel.lean ====
abbrev S1x16384x8x192 : Shape := ⟨4, ![1, 16384, 8, 192]⟩
abbrev S1x16640x8x192 : Shape := ⟨4, ![1, 16640, 8, 192]⟩
abbrev S1x16640x8x128 : Shape := ⟨4, ![1, 16640, 8, 128]⟩
abbrev S_ : Shape := ⟨0, ![]⟩
abbrev S16384x8x64 : Shape := ⟨3, ![16384, 8, 64]⟩
abbrev S16640x8x64 : Shape := ⟨3, ![16640, 8, 64]⟩
abbrev S16384x8x192 : Shape := ⟨3, ![16384, 8, 192]⟩
abbrev S16384x8x256 : Shape := ⟨3, ![16384, 8, 256]⟩
abbrev S16384x2048 : Shape := ⟨2, ![16384, 2048]⟩
abbrev S16640x8x192 : Shape := ⟨3, ![16640, 8, 192]⟩
abbrev S16640x8x256 : Shape := ⟨3, ![16640, 8, 256]⟩
abbrev S16640x2048 : Shape := ⟨2, ![16640, 2048]⟩
abbrev S16640x8x128 : Shape := ⟨3, ![16640, 8, 128]⟩
abbrev S16640x1024 : Shape := ⟨2, ![16640, 1024]⟩
abbrev S16384x1024 : Shape := ⟨2, ![16384, 1024]⟩
abbrev S2048x256 : Shape := ⟨2, ![2048, 256]⟩
abbrev S1280x256 : Shape := ⟨2, ![1280, 256]⟩
abbrev S1280x128 : Shape := ⟨2, ![1280, 128]⟩
abbrev S2048x128 : Shape := ⟨2, ![2048, 128]⟩
abbrev S2048x1280 : Shape := ⟨2, ![2048, 1280]⟩
abbrev S2048x1 : Shape := ⟨2, ![2048, 1]⟩
abbrev S2048 : Shape := ⟨1, ![2048]⟩

abbrev nBuf : Space → Nat
  | .hbm => 28
  | .vmem => 12
  | .smem => 0
  | _ => 0

abbrev bufTy : (tb : Table) → Fin (tcTables nBuf tb) → BufTy
  | .hbm, ⟨0, _⟩ => ⟨S1x16384x8x192, .f32⟩
  | .hbm, ⟨1, _⟩ => ⟨S1x16640x8x192, .f32⟩
  | .hbm, ⟨2, _⟩ => ⟨S1x16640x8x128, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S16384x8x64, .f32⟩
  | .hbm, ⟨12, _⟩ => ⟨S_, .f32⟩
  | .hbm, ⟨13, _⟩ => ⟨S16640x8x64, .f32⟩
  | .hbm, ⟨14, _⟩ => ⟨S16384x8x192, .f32⟩
  | .hbm, ⟨15, _⟩ => ⟨S16384x8x192, .f32⟩
  | .hbm, ⟨16, _⟩ => ⟨S16384x8x192, .f32⟩
  | .hbm, ⟨17, _⟩ => ⟨S16384x8x256, .f32⟩
  | .hbm, ⟨18, _⟩ => ⟨S16384x2048, .f32⟩
  | .hbm, ⟨19, _⟩ => ⟨S16384x2048, .bf16⟩
  | .hbm, ⟨20, _⟩ => ⟨S16640x8x192, .f32⟩
  | .hbm, ⟨21, _⟩ => ⟨S16640x8x256, .f32⟩
  | .hbm, ⟨22, _⟩ => ⟨S16640x2048, .f32⟩
  | .hbm, ⟨23, _⟩ => ⟨S16640x2048, .bf16⟩
  | .hbm, ⟨24, _⟩ => ⟨S16640x8x128, .f32⟩
  | .hbm, ⟨25, _⟩ => ⟨S16640x1024, .f32⟩
  | .hbm, ⟨26, _⟩ => ⟨S16640x1024, .bf16⟩
  | .hbm, ⟨27, _⟩ => ⟨S16384x1024, .bf16⟩
  | .local _ .vmem, ⟨0, _⟩ => ⟨S2048x256, .bf16⟩
  | .local _ .vmem, ⟨1, _⟩ => ⟨S2048x256, .bf16⟩
  | .local _ .vmem, ⟨2, _⟩ => ⟨S1280x256, .bf16⟩
  | .local _ .vmem, ⟨3, _⟩ => ⟨S1280x256, .bf16⟩
  | .local _ .vmem, ⟨4, _⟩ => ⟨S1280x128, .bf16⟩
  | .local _ .vmem, ⟨5, _⟩ => ⟨S1280x128, .bf16⟩
  | .local _ .vmem, ⟨6, _⟩ => ⟨S2048x128, .bf16⟩
  | .local _ .vmem, ⟨7, _⟩ => ⟨S2048x128, .bf16⟩
  | .local _ .vmem, ⟨8, _⟩ => ⟨S2048x1280, .f32⟩
  | .local _ .vmem, ⟨9, _⟩ => ⟨S2048x1280, .f32⟩
  | .local _ .vmem, ⟨10, _⟩ => ⟨S2048x1, .f32⟩
  | .local _ .vmem, ⟨11, _⟩ => ⟨S2048x256, .f32⟩
  | _, _ => ⟨S1x16384x8x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_cst_1 : Ref sig .tc := ⟨.hbm, 7, rfl⟩
abbrev main_v2 : Ref sig .tc := ⟨.hbm, 8, rfl⟩
abbrev main_v3 : Ref sig .tc := ⟨.hbm, 9, rfl⟩
abbrev main_cst_2 : Ref sig .tc := ⟨.hbm, 10, rfl⟩
abbrev main_v4 : Ref sig .tc := ⟨.hbm, 11, rfl⟩
abbrev main_cst_3 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 8, 14], ![false, false, false]⟩

def k0_cond4 (i : grid0.Coords) : BitVec 1 :=
  let arg2 : BitVec 32 := BitVec.ofNat 32 (i 2).val
  let c13_i32_16 : BitVec 32 := 13#32
  let v34 : BitVec 1 := Scalar.cmpi .eq arg2 c13_i32_16
  let v35 : BitVec 32 := Scalar.extui v34
  let c0_i32_17 : BitVec 32 := 0#32
  let v36 : BitVec 1 := Scalar.cmpi .ne v35 c0_i32_17
  v36

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.minsi arg2 c12_i32
  let c0_i32 : BitVec 32 := 0#32
  ![v0.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let v1 : BitVec 32 := Scalar.maxsi v0 c0_i32
  let c0_i32_0 : BitVec 32 := 0#32
  ![v1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1280x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1280x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceIdeal.lean ====
abbrev S1x16384x8x192 : Shape := ⟨4, ![1, 16384, 8, 192]⟩
abbrev S1x16640x8x192 : Shape := ⟨4, ![1, 16640, 8, 192]⟩
abbrev S1x16640x8x128 : Shape := ⟨4, ![1, 16640, 8, 128]⟩
abbrev S_ : Shape := ⟨0, ![]⟩
abbrev S1x8x16384x16640 : Shape := ⟨4, ![1, 8, 16384, 16640]⟩
abbrev S1x8x16384 : Shape := ⟨3, ![1, 8, 16384]⟩
abbrev S1x8x16384x1 : Shape := ⟨4, ![1, 8, 16384, 1]⟩
abbrev S1x8x128x16384 : Shape := ⟨4, ![1, 8, 128, 16384]⟩
abbrev S1x16384x8x128 : Shape := ⟨4, ![1, 16384, 8, 128]⟩
abbrev S16384x1024 : Shape := ⟨2, ![16384, 1024]⟩

abbrev nBuf : Space → Nat
  | .hbm => 28
  | .vmem => 0
  | .smem => 0
  | _ => 0

abbrev bufTy : (tb : Table) → Fin (tcTables nBuf tb) → BufTy
  | .hbm, ⟨0, _⟩ => ⟨S1x16384x8x192, .f32⟩
  | .hbm, ⟨1, _⟩ => ⟨S1x16640x8x192, .f32⟩
  | .hbm, ⟨2, _⟩ => ⟨S1x16640x8x128, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S1x8x16384x16640, .f32⟩
  | .hbm, ⟨8, _⟩ => ⟨S1x8x16384x16640, .f32⟩
  | .hbm, ⟨9, _⟩ => ⟨S1x8x16384x16640, .f32⟩
  | .hbm, ⟨10, _⟩ => ⟨S_, .f32⟩
  | .hbm, ⟨11, _⟩ => ⟨S1x8x16384, .f32⟩
  | .hbm, ⟨12, _⟩ => ⟨S_, .f32⟩
  | .hbm, ⟨13, _⟩ => ⟨S1x8x16384, .f32⟩
  | .hbm, ⟨14, _⟩ => ⟨S1x8x16384, .f32⟩
  | .hbm, ⟨15, _⟩ => ⟨S1x8x16384x1, .f32⟩
  | .hbm, ⟨16, _⟩ => ⟨S1x8x16384x16640, .f32⟩
  | .hbm, ⟨17, _⟩ => ⟨S1x8x16384x16640, .f32⟩
  | .hbm, ⟨18, _⟩ => ⟨S1x8x16384x16640, .f32⟩
  | .hbm, ⟨19, _⟩ => ⟨S_, .f32⟩
  | .hbm, ⟨20, _⟩ => ⟨S1x8x16384, .f32⟩
  | .hbm, ⟨21, _⟩ => ⟨S1x8x16384x1, .f32⟩
  | .hbm, ⟨22, _⟩ => ⟨S1x8x16384x16640, .f32⟩
  | .hbm, ⟨23, _⟩ => ⟨S1x8x16384x16640, .f32⟩
  | .hbm, ⟨24, _⟩ => ⟨S1x8x128x16384, .f32⟩
  | .hbm, ⟨25, _⟩ => ⟨S1x16384x8x128, .f32⟩
  | .hbm, ⟨26, _⟩ => ⟨S16384x1024, .f32⟩
  | .hbm, ⟨27, _⟩ => ⟨S16384x1024, .bf16⟩
  | _, _ => ⟨S1x16384x8x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== Kernel2.lean ====
abbrev S1x16384x2048 : Shape := ⟨3, ![1, 16384, 2048]⟩
abbrev S2x2048 : Shape := ⟨2, ![2, 2048]⟩
abbrev S1x1x2048 : Shape := ⟨3, ![1, 1, 2048]⟩
abbrev S2x2048x5632 : Shape := ⟨3, ![2, 2048, 5632]⟩
abbrev S2x5632x2048 : Shape := ⟨3, ![2, 5632, 2048]⟩
abbrev S2048 : Shape := ⟨1, ![2048]⟩
abbrev S16384x2048 : Shape := ⟨2, ![16384, 2048]⟩
abbrev S1x2048 : Shape := ⟨2, ![1, 2048]⟩
abbrev S512x2048 : Shape := ⟨2, ![512, 2048]⟩
abbrev S1x2048x512 : Shape := ⟨3, ![1, 2048, 512]⟩
abbrev S1x512x2048 : Shape := ⟨3, ![1, 512, 2048]⟩
abbrev S512 : Shape := ⟨1, ![512]⟩
abbrev S512x1 : Shape := ⟨2, ![512, 1]⟩
abbrev S2048x512 : Shape := ⟨2, ![2048, 512]⟩
abbrev S512x512 : Shape := ⟨2, ![512, 512]⟩

abbrev nBuf : Space → Nat
  | .hbm => 21
  | .vmem => 17
  | .smem => 0
  | _ => 0

abbrev bufTy : (tb : Table) → Fin (tcTables nBuf tb) → BufTy
  | .hbm, ⟨0, _⟩ => ⟨S1x16384x2048, .f32⟩
  | .hbm, ⟨1, _⟩ => ⟨S2x2048, .f32⟩
  | .hbm, ⟨2, _⟩ => ⟨S1x1x2048, .f32⟩
  | .hbm, ⟨3, _⟩ => ⟨S1x1x2048, .f32⟩
  | .hbm, ⟨4, _⟩ => ⟨S1x1x2048, .f32⟩
  | .hbm, ⟨5, _⟩ => ⟨S2x2048x5632, .f32⟩
  | .hbm, ⟨6, _⟩ => ⟨S2x2048x5632, .f32⟩
  | .hbm, ⟨7, _⟩ => ⟨S2x5632x2048, .f32⟩
  | .hbm, ⟨8, _⟩ => ⟨S2048, .f32⟩
  | .hbm, ⟨9, _⟩ => ⟨S2x2048x5632, .bf16⟩
  | .hbm, ⟨10, _⟩ => ⟨S2x2048x5632, .bf16⟩
  | .hbm, ⟨11, _⟩ => ⟨S2x5632x2048, .bf16⟩
  | .hbm, ⟨12, _⟩ => ⟨S16384x2048, .f32⟩
  | .hbm, ⟨13, _⟩ => ⟨S1x2048, .f32⟩
  | .hbm, ⟨14, _⟩ => ⟨S2048, .f32⟩
  | .hbm, ⟨15, _⟩ => ⟨S1x2048, .f32⟩
  | .hbm, ⟨16, _⟩ => ⟨S1x2048, .f32⟩
  | .hbm, ⟨17, _⟩ => ⟨S1x2048, .f32⟩
  | .hbm, ⟨18, _⟩ => ⟨S1x2048, .f32⟩
  | .hbm, ⟨19, _⟩ => ⟨S1x2048, .f32⟩
  | .hbm, ⟨20, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S1x2048, .f32⟩
  | .local _ .vmem, ⟨6, _⟩ => ⟨S1x2048x512, .bf16⟩
  | .local _ .vmem, ⟨7, _⟩ => ⟨S1x2048x512, .bf16⟩
  | .local _ .vmem, ⟨8, _⟩ => ⟨S1x2048x512, .bf16⟩
  | .local _ .vmem, ⟨9, _⟩ => ⟨S1x2048x512, .bf16⟩
  | .local _ .vmem, ⟨10, _⟩ => ⟨S1x512x2048, .bf16⟩
  | .local _ .vmem, ⟨11, _⟩ => ⟨S1x512x2048, .bf16⟩
  | .local _ .vmem, ⟨12, _⟩ => ⟨S1x2048, .f32⟩
  | .local _ .vmem, ⟨13, _⟩ => ⟨S512x2048, .f32⟩
  | .local _ .vmem, ⟨14, _⟩ => ⟨S512x2048, .f32⟩
  | .local _ .vmem, ⟨15, _⟩ => ⟨S512x2048, .bf16⟩
  | .local _ .vmem, ⟨16, _⟩ => ⟨S512x2048, .f32⟩
  | _, _ => ⟨S1x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨2, ![32, 11], ![false, false]⟩

def k0_cond2 (i : grid0.Coords) : BitVec 1 :=
  let arg1 : BitVec 32 := BitVec.ofNat 32 (i 1).val
  let c10_i32 : BitVec 32 := 10#32
  let v28 : BitVec 1 := Scalar.cmpi .eq arg1 c10_i32
  let v29 : BitVec 32 := Scalar.extui v28
  let c0_i32_20 : BitVec 32 := 0#32
  let v30 : BitVec 1 := Scalar.cmpi .ne v29 c0_i32_20
  v30

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== Reference2Ideal.lean ====
abbrev S1x16384x2048 : Shape := ⟨3, ![1, 16384, 2048]⟩
abbrev S2x2048 : Shape := ⟨2, ![2, 2048]⟩
abbrev S1x1x2048 : Shape := ⟨3, ![1, 1, 2048]⟩
abbrev S2x2048x5632 : Shape := ⟨3, ![2, 2048, 5632]⟩
abbrev S2x5632x2048 : Shape := ⟨3, ![2, 5632, 2048]⟩
abbrev S2048 : Shape := ⟨1, ![2048]⟩
abbrev S1x2048 : Shape := ⟨2, ![1, 2048]⟩
abbrev S_ : Shape := ⟨0, ![]⟩
abbrev S1x16384 : Shape := ⟨2, ![1, 16384]⟩
abbrev S1x16384x1 : Shape := ⟨3, ![1, 16384, 1]⟩
abbrev S1x2048x5632 : Shape := ⟨3, ![1, 2048, 5632]⟩
abbrev S2048x5632 : Shape := ⟨2, ![2048, 5632]⟩
abbrev S1x5632x2048 : Shape := ⟨3, ![1, 5632, 2048]⟩
abbrev S5632x2048 : Shape := ⟨2, ![5632, 2048]⟩
abbrev S1x16384x5632 : Shape := ⟨3, ![1, 16384, 5632]⟩
abbrev S16384x2048 : Shape := ⟨2, ![16384, 2048]⟩

abbrev nBuf : Space → Nat
  | .hbm => 73
  | .vmem => 0
  | .smem => 0
  | _ => 0

abbrev bufTy : (tb : Table) → Fin (tcTables nBuf tb) → BufTy
  | .hbm, ⟨0, _⟩ => ⟨S1x16384x2048, .f32⟩
  | .hbm, ⟨1, _⟩ => ⟨S2x2048, .f32⟩
  | .hbm, ⟨2, _⟩ => ⟨S1x1x2048, .f32⟩
  | .hbm, ⟨3, _⟩ => ⟨S1x1x2048, .f32⟩
  | .hbm, ⟨4, _⟩ => ⟨S1x1x2048, .f32⟩
  | .hbm, ⟨5, _⟩ => ⟨S2x2048x5632, .f32⟩
  | .hbm, ⟨6, _⟩ => ⟨S2x2048x5632, .f32⟩
  | .hbm, ⟨7, _⟩ => ⟨S2x5632x2048, .f32⟩
  | .hbm, ⟨8, _⟩ => ⟨S2048, .f32⟩
  | .hbm, ⟨9, _⟩ => ⟨S1x2048, .f32⟩
  | .hbm, ⟨10, _⟩ => ⟨S2048, .f32⟩
  | .hbm, ⟨11, _⟩ => ⟨S1x16384x2048, .f32⟩
  | .hbm, ⟨12, _⟩ => ⟨S_, .f32⟩
  | .hbm, ⟨13, _⟩ => ⟨S1x16384, .f32⟩
  | .hbm, ⟨14, _⟩ => ⟨S1x16384x1, .f32⟩
  | .hbm, ⟨15, _⟩ => ⟨S_, .f32⟩
  | .hbm, ⟨16, _⟩ => ⟨S1x16384x1, .f32⟩
  | .hbm, ⟨17, _⟩ => ⟨S1x16384x1, .f32⟩
  | .hbm, ⟨18, _⟩ => ⟨S_, .f32⟩
  | .hbm, ⟨19, _⟩ => ⟨S1x16384x1, .f32⟩
  | .hbm, ⟨20, _⟩ => ⟨S1x16384x1, .f32⟩
  | .hbm, ⟨21, _⟩ => ⟨S1x16384x1, .f32⟩
  | .hbm, ⟨22, _⟩ => ⟨S1x16384x2048, .f32⟩
  | .hbm, ⟨23, _⟩ => ⟨S1x16384x2048, .f32⟩
  | .hbm, ⟨24, _⟩ => ⟨S1x1x2048, .f32⟩
  | .hbm, ⟨25, _⟩ => ⟨S1x16384x2048, .f32⟩
  | .hbm, ⟨26, _⟩ => ⟨S1x16384x2048, .f32⟩
  | .hbm, ⟨27, _⟩ => ⟨S_, .f32⟩
  | .hbm, ⟨28, _⟩ => ⟨S1x1x2048, .f32⟩
  | .hbm, ⟨29, _⟩ => ⟨S1x1x2048, .f32⟩
  | .hbm, ⟨30, _⟩ => ⟨S1x16384x2048, .f32⟩
  | .hbm, ⟨31, _⟩ => ⟨S1x16384x2048, .f32⟩
  | .hbm, ⟨32, _⟩ => ⟨S1x16384x2048, .f32⟩
  | .hbm, ⟨33, _⟩ => ⟨S1x16384x2048, .f32⟩
  | .hbm, ⟨34, _⟩ => ⟨S1x2048x5632, .f32⟩
  | .hbm, ⟨35, _⟩ => ⟨S2048x5632, .f32⟩
  | .hbm, ⟨36, _⟩ => ⟨S1x2048x5632, .f32⟩
  | .hbm, ⟨37, _⟩ => ⟨S2048x5632, .f32⟩
  | .hbm, ⟨38, _⟩ => ⟨S1x5632x2048, .f32⟩
  | .hbm, ⟨39, _⟩ => ⟨S5632x2048, .f32⟩
  | .hbm, ⟨40, _⟩ => ⟨S1x16384x5632, .f32⟩
  | .hbm, ⟨41, _⟩ => ⟨S1x16384x5632, .f32⟩
  | .hbm, ⟨42, _⟩ => ⟨S1x16384x5632, .f32⟩
  | .hbm, ⟨43, _⟩ => ⟨S_, .f32⟩
  | .hbm, ⟨44, _⟩ => ⟨S1x16384x5632, .f32⟩
  | .hbm, ⟨45, _⟩ => ⟨S1x16384x5632, .f32⟩
  | .hbm, ⟨46, _⟩ => ⟨S_, .f32⟩
  | .hbm, ⟨47, _⟩ => ⟨S1x16384x5632, .f32⟩
  | .hbm, ⟨48, _⟩ => ⟨S1x16384x5632, .f32⟩
  | .hbm, ⟨49, _⟩ => ⟨S1x16384x5632, .f32⟩
  | .hbm, ⟨50, _⟩ => ⟨S1x16384x5632, .f32⟩
  | .hbm, ⟨51, _⟩ => ⟨S1x16384x5632, .f32⟩
  | .hbm, ⟨52, _⟩ => ⟨S1x16384x2048, .f32⟩
  | .hbm, ⟨53, _⟩ => ⟨S1x16384x2048, .f32⟩
  | .hbm, ⟨54, _⟩ => ⟨S1x16384x2048, .f32⟩
  | .hbm, ⟨55, _⟩ => ⟨S1x16384x2048, .f32⟩
  | .hbm, ⟨56, _⟩ => ⟨S1x16384x2048, .f32⟩
  | .hbm, ⟨57, _⟩ => ⟨S_, .f32⟩
  | .hbm, ⟨58, _⟩ => ⟨S1x16384, .f32⟩
  | .hbm, ⟨59, _⟩ => ⟨S1x16384x1, .f32⟩
  | .hbm, ⟨60, _⟩ => ⟨S_, .f32⟩
  | .hbm, ⟨61, _⟩ => ⟨S1x16384x1, .f32⟩
  | .hbm, ⟨62, _⟩ => ⟨S1x16384x1, .f32⟩
  | .hbm, ⟨63, _⟩ => ⟨S_, .f32⟩
  | .hbm, ⟨64, _⟩ => ⟨S1x16384x1, .f32⟩
  | .hbm, ⟨65, _⟩ => ⟨S1x16384x1, .f32⟩
  | .hbm, ⟨66, _⟩ => ⟨S1x16384x1, .f32⟩
  | .hbm, ⟨67, _⟩ => ⟨S1x16384x2048, .f32⟩
  | .hbm, ⟨68, _⟩ => ⟨S1x16384x2048, .f32⟩
  | .hbm, ⟨69, _⟩ => ⟨S1x1x2048, .f32⟩
  | .hbm, ⟨70, _⟩ => ⟨S1x16384x2048, .f32⟩
  | .hbm, ⟨71, _⟩ => ⟨S1x16384x2048, .f32⟩
  | .hbm, ⟨72, _⟩ => ⟨S16384x2048, .f32⟩
  | _, _ => ⟨S1x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_call0_v0 : Ref sig .tc := ⟨.hbm, 41, rfl⟩
abbrev main_call0_v1 : Ref sig .tc := ⟨.hbm, 42, rfl⟩
abbrev main_call0_cst : Ref sig .tc := ⟨.hbm, 43, rfl⟩
abbrev main_call0_v2 : Ref sig .tc := ⟨.hbm, 44, rfl⟩
abbrev main_call0_v3 : Ref sig .tc := ⟨.hbm, 45, rfl⟩
abbrev main_call0_cst_0 : Ref sig .tc := ⟨.hbm, 46, rfl⟩
abbrev main_call0_v4 : Ref sig .tc := ⟨.hbm, 47, rfl⟩
abbrev main_call0_v5 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_3 : Ref sig .tc := ⟨.hbm, 57, rfl⟩
abbrev main_v36 : Ref sig .tc := ⟨.hbm, 58, rfl⟩
abbrev main_v37 : Ref sig .tc := ⟨.hbm, 59, rfl⟩
abbrev main_cst_4 : Ref sig .tc := ⟨.hbm, 60, rfl⟩
abbrev main_v38 : Ref sig .tc := ⟨.hbm, 61, rfl⟩
abbrev main_v39 : Ref sig .tc := ⟨.hbm, 62, rfl⟩
abbrev main_cst_5 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩

abbrev nD : Nat := 1
abbrev τ : Topo := Topo.v7x

variable {F : FTy → Type} [FloatOps F]
-- ==== Kernel3.lean ====
abbrev S1x16384x2048 : Shape := ⟨3, ![1, 16384, 2048]⟩
abbrev S2x2048 : Shape := ⟨2, ![2, 2048]⟩
abbrev S1x1x2048 : Shape := ⟨3, ![1, 1, 2048]⟩
abbrev S1x2048x6144 : Shape := ⟨3, ![1, 2048, 6144]⟩
abbrev S1x6144 : Shape := ⟨2, ![1, 6144]⟩
abbrev S1x3x6144 : Shape := ⟨3, ![1, 3, 6144]⟩
abbrev S16384x2048 : Shape := ⟨2, ![16384, 2048]⟩
abbrev S1x2048 : Shape := ⟨2, ![1, 2048]⟩
abbrev S2048 : Shape := ⟨1, ![2048]⟩
abbrev S2048x6144 : Shape := ⟨2, ![2048, 6144]⟩
abbrev S6144 : Shape := ⟨1, ![6144]⟩
abbrev S3x6144 : Shape := ⟨2, ![3, 6144]⟩
abbrev S16384x6144 : Shape := ⟨2, ![16384, 6144]⟩
abbrev S1024x2048 : Shape := ⟨2, ![1024, 2048]⟩
abbrev S8x2048 : Shape := ⟨2, ![8, 2048]⟩
abbrev S2048x768 : Shape := ⟨2, ![2048, 768]⟩
abbrev S1x768 : Shape := ⟨2, ![1, 768]⟩
abbrev S3x768 : Shape := ⟨2, ![3, 768]⟩
abbrev S1024x768 : Shape := ⟨2, ![1024, 768]⟩
abbrev S16x2048 : Shape := ⟨2, ![16, 2048]⟩
abbrev S1024 : Shape := ⟨1, ![1024]⟩
abbrev S1024x1 : Shape := ⟨2, ![1024, 1]⟩
abbrev S8 : Shape := ⟨1, ![8]⟩
abbrev S8x1 : Shape := ⟨2, ![8, 1]⟩
abbrev S16x768 : Shape := ⟨2, ![16, 768]⟩

abbrev nBuf : Space → Nat
  | .hbm => 22
  | .vmem => 21
  | .smem => 0
  | _ => 0

abbrev bufTy : (tb : Table) → Fin (tcTables nBuf tb) → BufTy
  | .hbm, ⟨0, _⟩ => ⟨S1x16384x2048, .f32⟩
  | .hbm, ⟨1, _⟩ => ⟨S2x2048, .f32⟩
  | .hbm, ⟨2, _⟩ => ⟨S1x1x2048, .f32⟩
  | .hbm, ⟨3, _⟩ => ⟨S1x1x2048, .f32⟩
  | .hbm, ⟨4, _⟩ => ⟨S1x2048x6144, .f32⟩
  | .hbm, ⟨5, _⟩ => ⟨S1x6144, .f32⟩
  | .hbm, ⟨6, _⟩ => ⟨S1x3x6144, .f32⟩
  | .hbm, ⟨7, _⟩ => ⟨S1x6144, .f32⟩
  | .hbm, ⟨8, _⟩ => ⟨S16384x2048, .f32⟩
  | .hbm, ⟨9, _⟩ => ⟨S1x2048, .f32⟩
  | .hbm, ⟨10, _⟩ => ⟨S2048, .f32⟩
  | .hbm, ⟨11, _⟩ => ⟨S1x2048, .f32⟩
  | .hbm, ⟨12, _⟩ => ⟨S1x2048, .f32⟩
  | .hbm, ⟨13, _⟩ => ⟨S2048x6144, .f32⟩
  | .hbm, ⟨14, _⟩ => ⟨S2048x6144, .bf16⟩
  | .hbm, ⟨15, _⟩ => ⟨S6144, .f32⟩
  | .hbm, ⟨16, _⟩ => ⟨S3x6144, .f32⟩
  | .hbm, ⟨17, _⟩ => ⟨S6144, .f32⟩
  | .hbm, ⟨18, _⟩ => ⟨S1x2048, .f32⟩
  | .hbm, ⟨19, _⟩ => ⟨S1x6144, .f32⟩
  | .hbm, ⟨20, _⟩ => ⟨S1x6144, .f32⟩
  | .hbm, ⟨21, _⟩ => ⟨S16384x6144, .f32⟩
  | .local _ .vmem, ⟨0, _⟩ => ⟨S1024x2048, .f32⟩
  | .local _ .vmem, ⟨1, _⟩ => ⟨S1024x2048, .f32⟩
  | .local _ .vmem, ⟨2, _⟩ => ⟨S8x2048, .f32⟩
  | .local _ .vmem, ⟨3, _⟩ => ⟨S8x2048, .f32⟩
  | .local _ .vmem, ⟨4, _⟩ => ⟨S8x2048, .f32⟩
  | .local _ .vmem, ⟨5, _⟩ => ⟨S8x2048, .f32⟩
  | .local _ .vmem, ⟨6, _⟩ => ⟨S1x2048, .f32⟩
  | .local _ .vmem, ⟨7, _⟩ => ⟨S1x2048, .f32⟩
  | .local _ .vmem, ⟨8, _⟩ => ⟨S1x2048, .f32⟩
  | .local _ .vmem, ⟨9, _⟩ => ⟨S2048x768, .bf16⟩
  | .local _ .vmem, ⟨10, _⟩ => ⟨S2048x768, .bf16⟩
  | .local _ .vmem, ⟨11, _⟩ => ⟨S1x768, .f32⟩
  | .local _ .vmem, ⟨12, _⟩ => ⟨S1x768, .f32⟩
  | .local _ .vmem, ⟨13, _⟩ => ⟨S3x768, .f32⟩
  | .local _ .vmem, ⟨14, _⟩ => ⟨S3x768, .f32⟩
  | .local _ .vmem, ⟨15, _⟩ => ⟨S1x768, .f32⟩
  | .local _ .vmem, ⟨16, _⟩ => ⟨S1x768, .f32⟩
  | .local _ .vmem, ⟨17, _⟩ => ⟨S1024x768, .f32⟩
  | .local _ .vmem, ⟨18, _⟩ => ⟨S1024x768, .f32⟩
  | .local _ .vmem, ⟨19, _⟩ => ⟨S1024x2048, .bf16⟩
  | .local _ .vmem, ⟨20, _⟩ => ⟨S16x2048, .bf16⟩
  | _, _ => ⟨S1x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_scratch0 : Ref sig .tc := ⟨.vmem, 19, rfl⟩
abbrev cc0_scratch1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c128_i32 : BitVec 32 := 128#32
  let v1 : BitVec 32 := Scalar.muli v0 c128_i32
  let c2047_i32 : BitVec 32 := 2047#32
  let v2 : BitVec 32 := Scalar.minsi v1 c2047_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S2048x768 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S3x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x768 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1024x768 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference3Ideal.lean ====
abbrev S1x16384x2048 : Shape := ⟨3, ![1, 16384, 2048]⟩
abbrev S2x2048 : Shape := ⟨2, ![2, 2048]⟩
abbrev S1x1x2048 : Shape := ⟨3, ![1, 1, 2048]⟩
abbrev S1x2048x6144 : Shape := ⟨3, ![1, 2048, 6144]⟩
abbrev S1x6144 : Shape := ⟨2, ![1, 6144]⟩
abbrev S1x3x6144 : Shape := ⟨3, ![1, 3, 6144]⟩
abbrev S1x2048 : Shape := ⟨2, ![1, 2048]⟩
abbrev S2048 : Shape := ⟨1, ![2048]⟩
abbrev S_ : Shape := ⟨0, ![]⟩
abbrev S1x16384 : Shape := ⟨2, ![1, 16384]⟩
abbrev S1x16384x1 : Shape := ⟨3, ![1, 16384, 1]⟩
abbrev S2048x6144 : Shape := ⟨2, ![2048, 6144]⟩
abbrev S1x16384x6144 : Shape := ⟨3, ![1, 16384, 6144]⟩
abbrev S6144 : Shape := ⟨1, ![6144]⟩
abbrev S1x1x6144 : Shape := ⟨3, ![1, 1, 6144]⟩
abbrev S3x6144 : Shape := ⟨2, ![3, 6144]⟩
abbrev S1x16386x6144 : Shape := ⟨3, ![1, 16386, 6144]⟩
abbrev S16384x6144 : Shape := ⟨2, ![16384, 6144]⟩

abbrev nBuf : Space → Nat
  | .hbm => 68
  | .vmem => 0
  | .smem => 0
  | _ => 0

abbrev bufTy : (tb : Table) → Fin (tcTables nBuf tb) → BufTy
  | .hbm, ⟨0, _⟩ => ⟨S1x16384x2048, .f32⟩
  | .hbm, ⟨1, _⟩ => ⟨S2x2048, .f32⟩
  | .hbm, ⟨2, _⟩ => ⟨S1x1x2048, .f32⟩
  | .hbm, ⟨3, _⟩ => ⟨S1x1x2048, .f32⟩
  | .hbm, ⟨4, _⟩ => ⟨S1x2048x6144, .f32⟩
  | .hbm, ⟨5, _⟩ => ⟨S1x6144, .f32⟩
  | .hbm, ⟨6, _⟩ => ⟨S1x3x6144, .f32⟩
  | .hbm, ⟨7, _⟩ => ⟨S1x6144, .f32⟩
  | .hbm, ⟨8, _⟩ => ⟨S1x2048, .f32⟩
  | .hbm, ⟨9, _⟩ => ⟨S2048, .f32⟩
  | .hbm, ⟨10, _⟩ => ⟨S1x16384x2048, .f32⟩
  | .hbm, ⟨11, _⟩ => ⟨S_, .f32⟩
  | .hbm, ⟨12, _⟩ => ⟨S1x16384, .f32⟩
  | .hbm, ⟨13, _⟩ => ⟨S1x16384x1, .f32⟩
  | .hbm, ⟨14, _⟩ => ⟨S_, .f32⟩
  | .hbm, ⟨15, _⟩ => ⟨S1x16384x1, .f32⟩
  | .hbm, ⟨16, _⟩ => ⟨S1x16384x1, .f32⟩
  | .hbm, ⟨17, _⟩ => ⟨S_, .f32⟩
  | .hbm, ⟨18, _⟩ => ⟨S1x16384x1, .f32⟩
  | .hbm, ⟨19, _⟩ => ⟨S1x16384x1, .f32⟩
  | .hbm, ⟨20, _⟩ => ⟨S1x16384x1, .f32⟩
  | .hbm, ⟨21, _⟩ => ⟨S1x16384x2048, .f32⟩
  | .hbm, ⟨22, _⟩ => ⟨S1x16384x2048, .f32⟩
  | .hbm, ⟨23, _⟩ => ⟨S1x1x2048, .f32⟩
  | .hbm, ⟨24, _⟩ => ⟨S1x16384x2048, .f32⟩
  | .hbm, ⟨25, _⟩ => ⟨S1x16384x2048, .f32⟩
  | .hbm, ⟨26, _⟩ => ⟨S_, .f32⟩
  | .hbm, ⟨27, _⟩ => ⟨S1x1x2048, .f32⟩
  | .hbm, ⟨28, _⟩ => ⟨S1x1x2048, .f32⟩
  | .hbm, ⟨29, _⟩ => ⟨S1x16384x2048, .f32⟩
  | .hbm, ⟨30, _⟩ => ⟨S1x16384x2048, .f32⟩
  | .hbm, ⟨31, _⟩ => ⟨S1x16384x2048, .f32⟩
  | .hbm, ⟨32, _⟩ => ⟨S1x16384x2048, .f32⟩
  | .hbm, ⟨33, _⟩ => ⟨S2048x6144, .f32⟩
  | .hbm, ⟨34, _⟩ => ⟨S1x16384x6144, .f32⟩
  | .hbm, ⟨35, _⟩ => ⟨S6144, .f32⟩
  | .hbm, ⟨36, _⟩ => ⟨S1x1x6144, .f32⟩
  | .hbm, ⟨37, _⟩ => ⟨S1x16384x6144, .f32⟩
  | .hbm, ⟨38, _⟩ => ⟨S1x16384x6144, .f32⟩
  | .hbm, ⟨39, _⟩ => ⟨S3x6144, .f32⟩
  | .hbm, ⟨40, _⟩ => ⟨S6144, .f32⟩
  | .hbm, ⟨41, _⟩ => ⟨S_, .i32⟩
  | .hbm, ⟨42, _⟩ => ⟨S_, .f32⟩
  | .hbm, ⟨43, _⟩ => ⟨S1x16386x6144, .f32⟩
  | .hbm, ⟨44, _⟩ => ⟨S1x16384x6144, .f32⟩
  | .hbm, ⟨45, _⟩ => ⟨S1x6144, .f32⟩
  | .hbm, ⟨46, _⟩ => ⟨S6144, .f32⟩
  | .hbm, ⟨47, _⟩ => ⟨S1x1x6144, .f32⟩
  | .hbm, ⟨48, _⟩ => ⟨S1x16384x6144, .f32⟩
  | .hbm, ⟨49, _⟩ => ⟨S1x16384x6144, .f32⟩
  | .hbm, ⟨50, _⟩ => ⟨S1x16384x6144, .f32⟩
  | .hbm, ⟨51, _⟩ => ⟨S1x6144, .f32⟩
  | .hbm, ⟨52, _⟩ => ⟨S6144, .f32⟩
  | .hbm, ⟨53, _⟩ => ⟨S1x1x6144, .f32⟩
  | .hbm, ⟨54, _⟩ => ⟨S1x16384x6144, .f32⟩
  | .hbm, ⟨55, _⟩ => ⟨S1x16384x6144, .f32⟩
  | .hbm, ⟨56, _⟩ => ⟨S1x16384x6144, .f32⟩
  | .hbm, ⟨57, _⟩ => ⟨S1x16384x6144, .f32⟩
  | .hbm, ⟨58, _⟩ => ⟨S1x6144, .f32⟩
  | .hbm, ⟨59, _⟩ => ⟨S6144, .f32⟩
  | .hbm, ⟨60, _⟩ => ⟨S1x1x6144, .f32⟩
  | .hbm, ⟨61, _⟩ => ⟨S1x16384x6144, .f32⟩
  | .hbm, ⟨62, _⟩ => ⟨S1x16384x6144, .f32⟩
  | .hbm, ⟨63, _⟩ => ⟨S1x16384x6144, .f32⟩
  | .hbm, ⟨64, _⟩ => ⟨S1x1x6144, .f32⟩
  | .hbm, ⟨65, _⟩ => ⟨S1x16384x6144, .f32⟩
  | .hbm, ⟨66, _⟩ => ⟨S1x16384x6144, .f32⟩
  | .hbm, ⟨67, _⟩ => ⟨S16384x6144, .f32⟩
  | _, _ => ⟨S1x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_c : Ref sig .tc := ⟨.hbm, 41, rfl⟩
abbrev main_call0_v0 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩

abbrev nD : Nat := 1
abbrev τ : Topo := Topo.v7x

variable {F : FTy → Type} [FloatOps F]
-- ==== Kernel4.lean ====
abbrev S1x16384x2048 : Shape := ⟨3, ![1, 16384, 2048]⟩
abbrev S2x2048 : Shape := ⟨2, ![2, 2048]⟩
abbrev S1x1x2048 : Shape := ⟨3, ![1, 1, 2048]⟩
abbrev S1x2048x3680 : Shape := ⟨3, ![1, 2048, 3680]⟩
abbrev S2048x3680 : Shape := ⟨2, ![2048, 3680]⟩
abbrev S2048x64 : Shape := ⟨2, ![2048, 64]⟩
abbrev S2048x1536 : Shape := ⟨2, ![2048, 1536]⟩
abbrev S2048x512 : Shape := ⟨2, ![2048, 512]⟩
abbrev S2048x2x2x16 : Shape := ⟨4, ![2048, 2, 2, 16]⟩
abbrev S2048x2x1x16 : Shape := ⟨4, ![2048, 2, 1, 16]⟩
abbrev S2048x2x16 : Shape := ⟨3, ![2048, 2, 16]⟩
abbrev S2048x32 : Shape := ⟨2, ![2048, 32]⟩
abbrev S_ : Shape := ⟨0, ![]⟩
abbrev S2048x96 : Shape := ⟨2, ![2048, 96]⟩
abbrev S2048x3840 : Shape := ⟨2, ![2048, 3840]⟩
abbrev S3840 : Shape := ⟨1, ![3840]⟩
abbrev S16384x2048 : Shape := ⟨2, ![16384, 2048]⟩
abbrev S1x2048 : Shape := ⟨2, ![1, 2048]⟩
abbrev S2048 : Shape := ⟨1, ![2048]⟩
abbrev S1x3840 : Shape := ⟨2, ![1, 3840]⟩
abbrev S16384x3840 : Shape := ⟨2, ![16384, 3840]⟩
abbrev S1024x2048 : Shape := ⟨2, ![1024, 2048]⟩
abbrev S2048x768 : Shape := ⟨2, ![2048, 768]⟩
abbrev S1x768 : Shape := ⟨2, ![1, 768]⟩
abbrev S1024x768 : Shape := ⟨2, ![1024, 768]⟩
abbrev S1024 : Shape := ⟨1, ![1024]⟩
abbrev S1024x1 : Shape := ⟨2, ![1024, 1]⟩
abbrev S16384x3072 : Shape := ⟨2, ![16384, 3072]⟩
abbrev S16384x32 : Shape := ⟨2, ![16384, 32]⟩
abbrev S16384x576 : Shape := ⟨2, ![16384, 576]⟩
abbrev S16384x3680 : Shape := ⟨2, ![16384, 3680]⟩
abbrev S1x16384x3680 : Shape := ⟨3, ![1, 16384, 3680]⟩

abbrev nBuf : Space → Nat
  | .hbm => 40
  | .vmem => 12
  | .smem => 0
  | _ => 0

abbrev bufTy : (tb : Table) → Fin (tcTables nBuf tb) → BufTy
  | .hbm, ⟨0, _⟩ => ⟨S1x16384x2048, .f32⟩
  | .hbm, ⟨1, _⟩ => ⟨S2x2048, .f32⟩
  | .hbm, ⟨2, _⟩ => ⟨S1x1x2048, .f32⟩
  | .hbm, ⟨3, _⟩ => ⟨S1x1x2048, .f32⟩
  | .hbm, ⟨4, _⟩ => ⟨S1x2048x3680, .f32⟩
  | .hbm, ⟨5, _⟩ => ⟨S2048x3680, .f32⟩
  | .hbm, ⟨6, _⟩ => ⟨S2048x64, .f32⟩
  | .hbm, ⟨7, _⟩ => ⟨S2048x1536, .f32⟩
  | .hbm, ⟨8, _⟩ => ⟨S2048x1536, .f32⟩
  | .hbm, ⟨9, _⟩ => ⟨S2048x512, .f32⟩
  | .hbm, ⟨10, _⟩ => ⟨S2048x2x2x16, .f32⟩
  | .hbm, ⟨11, _⟩ => ⟨S2048x2x1x16, .f32⟩
  | .hbm, ⟨12, _⟩ => ⟨S2048x2x16, .f32⟩
  | .hbm, ⟨13, _⟩ => ⟨S2048x2x16, .f32⟩
  | .hbm, ⟨14, _⟩ => ⟨S2048x2x1x16, .f32⟩
  | .hbm, ⟨15, _⟩ => ⟨S2048x2x16, .f32⟩
  | .hbm, ⟨16, _⟩ => ⟨S2048x2x1x16, .f32⟩
  | .hbm, ⟨17, _⟩ => ⟨S2048x2x1x16, .f32⟩
  | .hbm, ⟨18, _⟩ => ⟨S2048x2x2x16, .f32⟩
  | .hbm, ⟨19, _⟩ => ⟨S2048x64, .f32⟩
  | .hbm, ⟨20, _⟩ => ⟨S2048x32, .f32⟩
  | .hbm, ⟨21, _⟩ => ⟨S_, .f32⟩
  | .hbm, ⟨22, _⟩ => ⟨S2048x96, .f32⟩
  | .hbm, ⟨23, _⟩ => ⟨S2048x3840, .f32⟩
  | .hbm, ⟨24, _⟩ => ⟨S2048x3840, .bf16⟩
  | .hbm, ⟨25, _⟩ => ⟨S_, .f32⟩
  | .hbm, ⟨26, _⟩ => ⟨S3840, .f32⟩
  | .hbm, ⟨27, _⟩ => ⟨S16384x2048, .f32⟩
  | .hbm, ⟨28, _⟩ => ⟨S1x2048, .f32⟩
  | .hbm, ⟨29, _⟩ => ⟨S2048, .f32⟩
  | .hbm, ⟨30, _⟩ => ⟨S1x2048, .f32⟩
  | .hbm, ⟨31, _⟩ => ⟨S1x2048, .f32⟩
  | .hbm, ⟨32, _⟩ => ⟨S1x2048, .f32⟩
  | .hbm, ⟨33, _⟩ => ⟨S1x3840, .f32⟩
  | .hbm, ⟨34, _⟩ => ⟨S16384x3840, .f32⟩
  | .hbm, ⟨35, _⟩ => ⟨S16384x3072, .f32⟩
  | .hbm, ⟨36, _⟩ => ⟨S16384x32, .f32⟩
  | .hbm, ⟨37, _⟩ => ⟨S16384x576, .f32⟩
  | .hbm, ⟨38, _⟩ => ⟨S16384x3680, .f32⟩
  | .hbm, ⟨39, _⟩ => ⟨S1x16384x3680, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S2048x768, .bf16⟩
  | .local _ .vmem, ⟨6, _⟩ => ⟨S2048x768, .bf16⟩
  | .local _ .vmem, ⟨7, _⟩ => ⟨S1x768, .f32⟩
  | .local _ .vmem, ⟨8, _⟩ => ⟨S1x768, .f32⟩
  | .local _ .vmem, ⟨9, _⟩ => ⟨S1024x768, .f32⟩
  | .local _ .vmem, ⟨10, _⟩ => ⟨S1024x768, .f32⟩
  | .local _ .vmem, ⟨11, _⟩ => ⟨S1024x2048, .bf16⟩
  | _, _ => ⟨S1x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_0 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![16, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference4Ideal.lean ====
abbrev S1x16384x2048 : Shape := ⟨3, ![1, 16384, 2048]⟩
abbrev S2x2048 : Shape := ⟨2, ![2, 2048]⟩
abbrev S1x1x2048 : Shape := ⟨3, ![1, 1, 2048]⟩
abbrev S1x2048x3680 : Shape := ⟨3, ![1, 2048, 3680]⟩
abbrev S1x2048 : Shape := ⟨2, ![1, 2048]⟩
abbrev S2048 : Shape := ⟨1, ![2048]⟩
abbrev S_ : Shape := ⟨0, ![]⟩
abbrev S1x16384 : Shape := ⟨2, ![1, 16384]⟩
abbrev S1x16384x1 : Shape := ⟨3, ![1, 16384, 1]⟩
abbrev S2048x3680 : Shape := ⟨2, ![2048, 3680]⟩
abbrev S1x16384x3680 : Shape := ⟨3, ![1, 16384, 3680]⟩

abbrev nBuf : Space → Nat
  | .hbm => 32
  | .vmem => 0
  | .smem => 0
  | _ => 0

abbrev bufTy : (tb : Table) → Fin (tcTables nBuf tb) → BufTy
  | .hbm, ⟨0, _⟩ => ⟨S1x16384x2048, .f32⟩
  | .hbm, ⟨1, _⟩ => ⟨S2x2048, .f32⟩
  | .hbm, ⟨2, _⟩ => ⟨S1x1x2048, .f32⟩
  | .hbm, ⟨3, _⟩ => ⟨S1x1x2048, .f32⟩
  | .hbm, ⟨4, _⟩ => ⟨S1x2048x3680, .f32⟩
  | .hbm, ⟨5, _⟩ => ⟨S1x2048, .f32⟩
  | .hbm, ⟨6, _⟩ => ⟨S2048, .f32⟩
  | .hbm, ⟨7, _⟩ => ⟨S1x16384x2048, .f32⟩
  | .hbm, ⟨8, _⟩ => ⟨S_, .f32⟩
  | .hbm, ⟨9, _⟩ => ⟨S1x16384, .f32⟩
  | .hbm, ⟨10, _⟩ => ⟨S1x16384x1, .f32⟩
  | .hbm, ⟨11, _⟩ => ⟨S_, .f32⟩
  | .hbm, ⟨12, _⟩ => ⟨S1x16384x1, .f32⟩
  | .hbm, ⟨13, _⟩ => ⟨S1x16384x1, .f32⟩
  | .hbm, ⟨14, _⟩ => ⟨S_, .f32⟩
  | .hbm, ⟨15, _⟩ => ⟨S1x16384x1, .f32⟩
  | .hbm, ⟨16, _⟩ => ⟨S1x16384x1, .f32⟩
  | .hbm, ⟨17, _⟩ => ⟨S1x16384x1, .f32⟩
  | .hbm, ⟨18, _⟩ => ⟨S1x16384x2048, .f32⟩
  | .hbm, ⟨19, _⟩ => ⟨S1x16384x2048, .f32⟩
  | .hbm, ⟨20, _⟩ => ⟨S1x1x2048, .f32⟩
  | .hbm, ⟨21, _⟩ => ⟨S1x16384x2048, .f32⟩
  | .hbm, ⟨22, _⟩ => ⟨S1x16384x2048, .f32⟩
  | .hbm, ⟨23, _⟩ => ⟨S_, .f32⟩
  | .hbm, ⟨24, _⟩ => ⟨S1x1x2048, .f32⟩
  | .hbm, ⟨25, _⟩ => ⟨S1x1x2048, .f32⟩
  | .hbm, ⟨26, _⟩ => ⟨S1x16384x2048, .f32⟩
  | .hbm, ⟨27, _⟩ => ⟨S1x16384x2048, .f32⟩
  | .hbm, ⟨28, _⟩ => ⟨S1x16384x2048, .f32⟩
  | .hbm, ⟨29, _⟩ => ⟨S1x16384x2048, .f32⟩
  | .hbm, ⟨30, _⟩ => ⟨S2048x3680, .f32⟩
  | .hbm, ⟨31, _⟩ => ⟨S1x16384x3680, .f32⟩
  | _, _ => ⟨S1x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]
-- ==== Kernel5.lean ====
abbrev S1x16384x2048 : Shape := ⟨3, ![1, 16384, 2048]⟩
abbrev S1x2048x2048 : Shape := ⟨3, ![1, 2048, 2048]⟩
abbrev S1x2048 : Shape := ⟨2, ![1, 2048]⟩
abbrev S1x1x2048 : Shape := ⟨3, ![1, 1, 2048]⟩
abbrev S16384x2048 : Shape := ⟨2, ![16384, 2048]⟩
abbrev S2048x2048 : Shape := ⟨2, ![2048, 2048]⟩
abbrev S2048 : Shape := ⟨1, ![2048]⟩
abbrev S512x2048 : Shape := ⟨2, ![512, 2048]⟩

abbrev nBuf : Space → Nat
  | .hbm => 13
  | .vmem => 9
  | .smem => 0
  | _ => 0

abbrev bufTy : (tb : Table) → Fin (tcTables nBuf tb) → BufTy
  | .hbm, ⟨0, _⟩ => ⟨S1x16384x2048, .f32⟩
  | .hbm, ⟨1, _⟩ => ⟨S1x2048x2048, .f32⟩
  | .hbm, ⟨2, _⟩ => ⟨S1x2048, .f32⟩
  | .hbm, ⟨3, _⟩ => ⟨S1x16384x2048, .f32⟩
  | .hbm, ⟨4, _⟩ => ⟨S1x1x2048, .f32⟩
  | .hbm, ⟨5, _⟩ => ⟨S16384x2048, .f32⟩
  | .hbm, ⟨6, _⟩ => ⟨S2048x2048, .f32⟩
  | .hbm, ⟨7, _⟩ => ⟨S2048x2048, .bf16⟩
  | .hbm, ⟨8, _⟩ => ⟨S2048, .f32⟩
  | .hbm, ⟨9, _⟩ => ⟨S16384x2048, .f32⟩
  | .hbm, ⟨10, _⟩ => ⟨S1x2048, .f32⟩
  | .hbm, ⟨11, _⟩ => ⟨S1x2048, .f32⟩
  | .hbm, ⟨12, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S2048x2048, .bf16⟩
  | .local _ .vmem, ⟨3, _⟩ => ⟨S1x2048, .f32⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | _, _ => ⟨S1x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference5Ideal.lean ====
abbrev S1x16384x2048 : Shape := ⟨3, ![1, 16384, 2048]⟩
abbrev S1x2048x2048 : Shape := ⟨3, ![1, 2048, 2048]⟩
abbrev S1x2048 : Shape := ⟨2, ![1, 2048]⟩
abbrev S1x1x2048 : Shape := ⟨3, ![1, 1, 2048]⟩
abbrev S2048x2048 : Shape := ⟨2, ![2048, 2048]⟩
abbrev S2048 : Shape := ⟨1, ![2048]⟩
abbrev S16384x2048 : Shape := ⟨2, ![16384, 2048]⟩

abbrev nBuf : Space → Nat
  | .hbm => 15
  | .vmem => 0
  | .smem => 0
  | _ => 0

abbrev bufTy : (tb : Table) → Fin (tcTables nBuf tb) → BufTy
  | .hbm, ⟨0, _⟩ => ⟨S1x16384x2048, .f32⟩
  | .hbm, ⟨1, _⟩ => ⟨S1x2048x2048, .f32⟩
  | .hbm, ⟨2, _⟩ => ⟨S1x2048, .f32⟩
  | .hbm, ⟨3, _⟩ => ⟨S1x16384x2048, .f32⟩
  | .hbm, ⟨4, _⟩ => ⟨S1x1x2048, .f32⟩
  | .hbm, ⟨5, _⟩ => ⟨S2048x2048, .f32⟩
  | .hbm, ⟨6, _⟩ => ⟨S1x16384x2048, .f32⟩
  | .hbm, ⟨7, _⟩ => ⟨S2048, .f32⟩
  | .hbm, ⟨8, _⟩ => ⟨S1x1x2048, .f32⟩
  | .hbm, ⟨9, _⟩ => ⟨S1x16384x2048, .f32⟩
  | .hbm, ⟨10, _⟩ => ⟨S1x16384x2048, .f32⟩
  | .hbm, ⟨11, _⟩ => ⟨S1x16384x2048, .f32⟩
  | .hbm, ⟨12, _⟩ => ⟨S1x16384x2048, .f32⟩
  | .hbm, ⟨13, _⟩ => ⟨S1x16384x2048, .f32⟩
  | .hbm, ⟨14, _⟩ => ⟨S16384x2048, .f32⟩
  | _, _ => ⟨S1x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== Kernel6.lean ====
abbrev S1x16384x8x128 : Shape := ⟨4, ![1, 16384, 8, 128]⟩
abbrev S1x16384x2x8x64 : Shape := ⟨5, ![1, 16384, 2, 8, 64]⟩
abbrev S1x16384x1536 : Shape := ⟨3, ![1, 16384, 1536]⟩
abbrev S1x16384x1024 : Shape := ⟨3, ![1, 16384, 1024]⟩
abbrev S1x2x16 : Shape := ⟨3, ![1, 2, 16]⟩
abbrev S1x1024 : Shape := ⟨2, ![1, 1024]⟩
abbrev S1x2048x2048 : Shape := ⟨3, ![1, 2048, 2048]⟩
abbrev S1x16384x2048 : Shape := ⟨3, ![1, 16384, 2048]⟩
abbrev S1x1x2048 : Shape := ⟨3, ![1, 1, 2048]⟩
abbrev S2x16 : Shape := ⟨2, ![2, 16]⟩
abbrev S1x16 : Shape := ⟨2, ![1, 16]⟩
abbrev S16 : Shape := ⟨1, ![16]⟩
abbrev S16x64 : Shape := ⟨2, ![16, 64]⟩
abbrev S1024 : Shape := ⟨1, ![1024]⟩
abbrev S16384x1024 : Shape := ⟨2, ![16384, 1024]⟩
abbrev S_ : Shape := ⟨0, ![]⟩
abbrev S16384x2816 : Shape := ⟨2, ![16384, 2816]⟩
abbrev S16384x3840 : Shape := ⟨2, ![16384, 3840]⟩
abbrev S16384x1536 : Shape := ⟨2, ![16384, 1536]⟩
abbrev S2048x2048 : Shape := ⟨2, ![2048, 2048]⟩
abbrev S16384x2048 : Shape := ⟨2, ![16384, 2048]⟩
abbrev S1x2048 : Shape := ⟨2, ![1, 2048]⟩
abbrev S256x1024 : Shape := ⟨2, ![256, 1024]⟩
abbrev S256x2048 : Shape := ⟨2, ![256, 2048]⟩
abbrev S256x512 : Shape := ⟨2, ![256, 512]⟩
abbrev S256 : Shape := ⟨1, ![256]⟩
abbrev S256x1 : Shape := ⟨2, ![256, 1]⟩
abbrev S1x512 : Shape := ⟨2, ![1, 512]⟩

abbrev nBuf : Space → Nat
  | .hbm => 35
  | .vmem => 19
  | .smem => 0
  | _ => 0

abbrev bufTy : (tb : Table) → Fin (tcTables nBuf tb) → BufTy
  | .hbm, ⟨0, _⟩ => ⟨S1x16384x8x128, .f32⟩
  | .hbm, ⟨1, _⟩ => ⟨S1x16384x2x8x64, .f32⟩
  | .hbm, ⟨2, _⟩ => ⟨S1x16384x2x8x64, .f32⟩
  | .hbm, ⟨3, _⟩ => ⟨S1x16384x1536, .f32⟩
  | .hbm, ⟨4, _⟩ => ⟨S1x16384x1024, .f32⟩
  | .hbm, ⟨5, _⟩ => ⟨S1x2x16, .f32⟩
  | .hbm, ⟨6, _⟩ => ⟨S1x1024, .f32⟩
  | .hbm, ⟨7, _⟩ => ⟨S1x2048x2048, .f32⟩
  | .hbm, ⟨8, _⟩ => ⟨S1x16384x2048, .f32⟩
  | .hbm, ⟨9, _⟩ => ⟨S1x1x2048, .f32⟩
  | .hbm, ⟨10, _⟩ => ⟨S2x16, .f32⟩
  | .hbm, ⟨11, _⟩ => ⟨S1x16, .f32⟩
  | .hbm, ⟨12, _⟩ => ⟨S16, .f32⟩
  | .hbm, ⟨13, _⟩ => ⟨S1x16, .f32⟩
  | .hbm, ⟨14, _⟩ => ⟨S16, .f32⟩
  | .hbm, ⟨15, _⟩ => ⟨S16, .f32⟩
  | .hbm, ⟨16, _⟩ => ⟨S16x64, .f32⟩
  | .hbm, ⟨17, _⟩ => ⟨S1024, .f32⟩
  | .hbm, ⟨18, _⟩ => ⟨S1x1024, .f32⟩
  | .hbm, ⟨19, _⟩ => ⟨S16384x1024, .f32⟩
  | .hbm, ⟨20, _⟩ => ⟨S_, .f32⟩
  | .hbm, ⟨21, _⟩ => ⟨S16384x2816, .f32⟩
  | .hbm, ⟨22, _⟩ => ⟨S16384x3840, .f32⟩
  | .hbm, ⟨23, _⟩ => ⟨S16384x1024, .f32⟩
  | .hbm, ⟨24, _⟩ => ⟨S16384x1024, .bf16⟩
  | .hbm, ⟨25, _⟩ => ⟨S16384x1024, .f32⟩
  | .hbm, ⟨26, _⟩ => ⟨S16384x1024, .f32⟩
  | .hbm, ⟨27, _⟩ => ⟨S16384x1536, .f32⟩
  | .hbm, ⟨28, _⟩ => ⟨S1024, .f32⟩
  | .hbm, ⟨29, _⟩ => ⟨S1x1024, .f32⟩
  | .hbm, ⟨30, _⟩ => ⟨S2048x2048, .f32⟩
  | .hbm, ⟨31, _⟩ => ⟨S2048x2048, .bf16⟩
  | .hbm, ⟨32, _⟩ => ⟨S16384x2048, .f32⟩
  | .hbm, ⟨33, _⟩ => ⟨S1x2048, .f32⟩
  | .hbm, ⟨34, _⟩ => ⟨S16384x2048, .f32⟩
  | .local _ .vmem, ⟨0, _⟩ => ⟨S256x1024, .bf16⟩
  | .local _ .vmem, ⟨1, _⟩ => ⟨S256x1024, .bf16⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S1x1024, .f32⟩
  | .local _ .vmem, ⟨11, _⟩ => ⟨S1x1024, .f32⟩
  | .local _ .vmem, ⟨12, _⟩ => ⟨S2048x2048, .bf16⟩
  | .local _ .vmem, ⟨13, _⟩ => ⟨S256x2048, .f32⟩
  | .local _ .vmem, ⟨14, _⟩ => ⟨S256x2048, .f32⟩
  | .local _ .vmem, ⟨15, _⟩ => ⟨S1x2048, .f32⟩
  | .local _ .vmem, ⟨16, _⟩ => ⟨S256x2048, .f32⟩
  | .local _ .vmem, ⟨17, _⟩ => ⟨S256x2048, .f32⟩
  | .local _ .vmem, ⟨18, _⟩ => ⟨S256x2048, .bf16⟩
  | _, _ => ⟨S1x16384x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨2, ![64, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2048x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, true]

abbrev stage0_10 : Fin 2 → Memref sig .tc .vmem S256x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference6Ideal.lean ====
abbrev S1x16384x8x128 : Shape := ⟨4, ![1, 16384, 8, 128]⟩
abbrev S1x16384x2x8x64 : Shape := ⟨5, ![1, 16384, 2, 8, 64]⟩
abbrev S1x16384x1536 : Shape := ⟨3, ![1, 16384, 1536]⟩
abbrev S1x16384x1024 : Shape := ⟨3, ![1, 16384, 1024]⟩
abbrev S1x2x16 : Shape := ⟨3, ![1, 2, 16]⟩
abbrev S1x1024 : Shape := ⟨2, ![1, 1024]⟩
abbrev S1x2048x2048 : Shape := ⟨3, ![1, 2048, 2048]⟩
abbrev S1x16384x2048 : Shape := ⟨3, ![1, 16384, 2048]⟩
abbrev S1x1x2048 : Shape := ⟨3, ![1, 1, 2048]⟩
abbrev S2x16 : Shape := ⟨2, ![2, 16]⟩
abbrev S2x2x8 : Shape := ⟨3, ![2, 2, 8]⟩
abbrev S1x2x8 : Shape := ⟨3, ![1, 2, 8]⟩
abbrev S2x8 : Shape := ⟨2, ![2, 8]⟩
abbrev S2x8x1 : Shape := ⟨3, ![2, 8, 1]⟩
abbrev S1x1x2x8x1 : Shape := ⟨5, ![1, 1, 2, 8, 1]⟩
abbrev S1024 : Shape := ⟨1, ![1024]⟩
abbrev S1x16384x2x512 : Shape := ⟨4, ![1, 16384, 2, 512]⟩
abbrev S_ : Shape := ⟨0, ![]⟩
abbrev S2x512 : Shape := ⟨2, ![2, 512]⟩
abbrev S1x16384x2 : Shape := ⟨3, ![1, 16384, 2]⟩
abbrev S1x16384x2x1 : Shape := ⟨4, ![1, 16384, 2, 1]⟩
abbrev S1x1x2x512 : Shape := ⟨4, ![1, 1, 2, 512]⟩
abbrev S2048x2048 : Shape := ⟨2, ![2048, 2048]⟩
abbrev S16384x2048 : Shape := ⟨2, ![16384, 2048]⟩

abbrev nBuf : Space → Nat
  | .hbm => 64
  | .vmem => 0
  | .smem => 0
  | _ => 0

abbrev bufTy : (tb : Table) → Fin (tcTables nBuf tb) → BufTy
  | .hbm, ⟨0, _⟩ => ⟨S1x16384x8x128, .f32⟩
  | .hbm, ⟨1, _⟩ => ⟨S1x16384x2x8x64, .f32⟩
  | .hbm, ⟨2, _⟩ => ⟨S1x16384x2x8x64, .f32⟩
  | .hbm, ⟨3, _⟩ => ⟨S1x16384x1536, .f32⟩
  | .hbm, ⟨4, _⟩ => ⟨S1x16384x1024, .f32⟩
  | .hbm, ⟨5, _⟩ => ⟨S1x2x16, .f32⟩
  | .hbm, ⟨6, _⟩ => ⟨S1x1024, .f32⟩
  | .hbm, ⟨7, _⟩ => ⟨S1x2048x2048, .f32⟩
  | .hbm, ⟨8, _⟩ => ⟨S1x16384x2048, .f32⟩
  | .hbm, ⟨9, _⟩ => ⟨S1x1x2048, .f32⟩
  | .hbm, ⟨10, _⟩ => ⟨S2x16, .f32⟩
  | .hbm, ⟨11, _⟩ => ⟨S2x2x8, .f32⟩
  | .hbm, ⟨12, _⟩ => ⟨S1x16384x1024, .f32⟩
  | .hbm, ⟨13, _⟩ => ⟨S1x16384x2x8x64, .f32⟩
  | .hbm, ⟨14, _⟩ => ⟨S1x16384x2x8x64, .f32⟩
  | .hbm, ⟨15, _⟩ => ⟨S1x2x8, .f32⟩
  | .hbm, ⟨16, _⟩ => ⟨S2x8, .f32⟩
  | .hbm, ⟨17, _⟩ => ⟨S1x2x8, .f32⟩
  | .hbm, ⟨18, _⟩ => ⟨S2x8, .f32⟩
  | .hbm, ⟨19, _⟩ => ⟨S2x8, .f32⟩
  | .hbm, ⟨20, _⟩ => ⟨S2x8x1, .f32⟩
  | .hbm, ⟨21, _⟩ => ⟨S1x1x2x8x1, .f32⟩
  | .hbm, ⟨22, _⟩ => ⟨S1x16384x2x8x64, .f32⟩
  | .hbm, ⟨23, _⟩ => ⟨S1x16384x2x8x64, .f32⟩
  | .hbm, ⟨24, _⟩ => ⟨S1x16384x2x8x64, .f32⟩
  | .hbm, ⟨25, _⟩ => ⟨S1x16384x1024, .f32⟩
  | .hbm, ⟨26, _⟩ => ⟨S1024, .f32⟩
  | .hbm, ⟨27, _⟩ => ⟨S1x16384x2x512, .f32⟩
  | .hbm, ⟨28, _⟩ => ⟨S1x16384x2x512, .f32⟩
  | .hbm, ⟨29, _⟩ => ⟨S1x16384x2x512, .f32⟩
  | .hbm, ⟨30, _⟩ => ⟨S1x16384x2x512, .f32⟩
  | .hbm, ⟨31, _⟩ => ⟨S_, .f32⟩
  | .hbm, ⟨32, _⟩ => ⟨S1x16384x2x512, .f32⟩
  | .hbm, ⟨33, _⟩ => ⟨S1x16384x2x512, .f32⟩
  | .hbm, ⟨34, _⟩ => ⟨S_, .f32⟩
  | .hbm, ⟨35, _⟩ => ⟨S1x16384x2x512, .f32⟩
  | .hbm, ⟨36, _⟩ => ⟨S1x16384x2x512, .f32⟩
  | .hbm, ⟨37, _⟩ => ⟨S1x16384x2x512, .f32⟩
  | .hbm, ⟨38, _⟩ => ⟨S1x16384x2x512, .f32⟩
  | .hbm, ⟨39, _⟩ => ⟨S2x512, .f32⟩
  | .hbm, ⟨40, _⟩ => ⟨S1x16384x2x512, .f32⟩
  | .hbm, ⟨41, _⟩ => ⟨S_, .f32⟩
  | .hbm, ⟨42, _⟩ => ⟨S1x16384x2, .f32⟩
  | .hbm, ⟨43, _⟩ => ⟨S1x16384x2x1, .f32⟩
  | .hbm, ⟨44, _⟩ => ⟨S_, .f32⟩
  | .hbm, ⟨45, _⟩ => ⟨S1x16384x2x1, .f32⟩
  | .hbm, ⟨46, _⟩ => ⟨S1x16384x2x1, .f32⟩
  | .hbm, ⟨47, _⟩ => ⟨S_, .f32⟩
  | .hbm, ⟨48, _⟩ => ⟨S1x16384x2x1, .f32⟩
  | .hbm, ⟨49, _⟩ => ⟨S1x16384x2x1, .f32⟩
  | .hbm, ⟨50, _⟩ => ⟨S1x16384x2x1, .f32⟩
  | .hbm, ⟨51, _⟩ => ⟨S1x16384x2x512, .f32⟩
  | .hbm, ⟨52, _⟩ => ⟨S1x16384x2x512, .f32⟩
  | .hbm, ⟨53, _⟩ => ⟨S1x1x2x512, .f32⟩
  | .hbm, ⟨54, _⟩ => ⟨S1x16384x2x512, .f32⟩
  | .hbm, ⟨55, _⟩ => ⟨S1x16384x2x512, .f32⟩
  | .hbm, ⟨56, _⟩ => ⟨S1x16384x1024, .f32⟩
  | .hbm, ⟨57, _⟩ => ⟨S1x16384x2048, .f32⟩
  | .hbm, ⟨58, _⟩ => ⟨S2048x2048, .f32⟩
  | .hbm, ⟨59, _⟩ => ⟨S1x16384x2048, .f32⟩
  | .hbm, ⟨60, _⟩ => ⟨S1x16384x2048, .f32⟩
  | .hbm, ⟨61, _⟩ => ⟨S1x16384x2048, .f32⟩
  | .hbm, ⟨62, _⟩ => ⟨S1x16384x2048, .f32⟩
  | .hbm, ⟨63, _⟩ => ⟨S16384x2048, .f32⟩
  | _, _ => ⟨S1x16384x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst : Ref sig .tc := ⟨.hbm, 41, rfl⟩
abbrev main_v23 : Ref sig .tc := ⟨.hbm, 42, rfl⟩
abbrev main_v24 : Ref sig .tc := ⟨.hbm, 43, rfl⟩
abbrev main_cst_0 : Ref sig .tc := ⟨.hbm, 44, rfl⟩
abbrev main_v25 : Ref sig .tc := ⟨.hbm, 45, rfl⟩
abbrev main_v26 : Ref sig .tc := ⟨.hbm, 46, rfl⟩
abbrev main_cst_1 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩

abbrev nD : Nat := 1
abbrev τ : Topo := Topo.v7x

variable {F : FTy → Type} [FloatOps F]
-- ==== Kernel7.lean ====
abbrev S1x16384x512 : Shape := ⟨3, ![1, 16384, 512]⟩
abbrev S1x16384x64 : Shape := ⟨3, ![1, 16384, 64]⟩
abbrev S1x256x512 : Shape := ⟨3, ![1, 256, 512]⟩
abbrev S1x256x64 : Shape := ⟨3, ![1, 256, 64]⟩
abbrev S1x512 : Shape := ⟨2, ![1, 512]⟩
abbrev S1x512x2048 : Shape := ⟨3, ![1, 512, 2048]⟩
abbrev S16384x2x16 : Shape := ⟨3, ![16384, 2, 16]⟩
abbrev S16384x64 : Shape := ⟨2, ![16384, 64]⟩
abbrev S16384x2x2x16 : Shape := ⟨4, ![16384, 2, 2, 16]⟩
abbrev S16384x2x1x16 : Shape := ⟨4, ![16384, 2, 1, 16]⟩
abbrev S_ : Shape := ⟨0, ![]⟩
abbrev S16384x3072 : Shape := ⟨2, ![16384, 3072]⟩
abbrev S16384x512 : Shape := ⟨2, ![16384, 512]⟩
abbrev S16384x128 : Shape := ⟨2, ![16384, 128]⟩
abbrev S16384x3840 : Shape := ⟨2, ![16384, 3840]⟩
abbrev S256x64 : Shape := ⟨2, ![256, 64]⟩
abbrev S256x2x2x16 : Shape := ⟨4, ![256, 2, 2, 16]⟩
abbrev S256x2x1x16 : Shape := ⟨4, ![256, 2, 1, 16]⟩
abbrev S256x2x16 : Shape := ⟨3, ![256, 2, 16]⟩
abbrev S256x3072 : Shape := ⟨2, ![256, 3072]⟩
abbrev S256x512 : Shape := ⟨2, ![256, 512]⟩
abbrev S256x128 : Shape := ⟨2, ![256, 128]⟩
abbrev S256x3840 : Shape := ⟨2, ![256, 3840]⟩
abbrev S512 : Shape := ⟨1, ![512]⟩
abbrev S512x2048 : Shape := ⟨2, ![512, 2048]⟩
abbrev S16640x2048 : Shape := ⟨2, ![16640, 2048]⟩
abbrev S16640x1024 : Shape := ⟨2, ![16640, 1024]⟩
abbrev S256x2048 : Shape := ⟨2, ![256, 2048]⟩
abbrev S256x1024 : Shape := ⟨2, ![256, 1024]⟩
abbrev S256 : Shape := ⟨1, ![256]⟩
abbrev S256x1 : Shape := ⟨2, ![256, 1]⟩
abbrev S16640x8x256 : Shape := ⟨3, ![16640, 8, 256]⟩
abbrev S16640x8x192 : Shape := ⟨3, ![16640, 8, 192]⟩
abbrev S16640x8x128 : Shape := ⟨3, ![16640, 8, 128]⟩
abbrev S256x8x192 : Shape := ⟨3, ![256, 8, 192]⟩
abbrev S16384x8x192 : Shape := ⟨3, ![16384, 8, 192]⟩
abbrev S1x16640x8x192 : Shape := ⟨4, ![1, 16640, 8, 192]⟩
abbrev S256x8x128 : Shape := ⟨3, ![256, 8, 128]⟩
abbrev S16384x8x128 : Shape := ⟨3, ![16384, 8, 128]⟩
abbrev S1x16640x8x128 : Shape := ⟨4, ![1, 16640, 8, 128]⟩

abbrev nBuf : Space → Nat
  | .hbm => 75
  | .vmem => 16
  | .smem => 0
  | _ => 0

abbrev bufTy : (tb : Table) → Fin (tcTables nBuf tb) → BufTy
  | .hbm, ⟨0, _⟩ => ⟨S1x16384x512, .f32⟩
  | .hbm, ⟨1, _⟩ => ⟨S1x16384x64, .f32⟩
  | .hbm, ⟨2, _⟩ => ⟨S1x256x512, .f32⟩
  | .hbm, ⟨3, _⟩ => ⟨S1x256x64, .f32⟩
  | .hbm, ⟨4, _⟩ => ⟨S1x512, .f32⟩
  | .hbm, ⟨5, _⟩ => ⟨S1x512x2048, .f32⟩
  | .hbm, ⟨6, _⟩ => ⟨S16384x2x16, .f32⟩
  | .hbm, ⟨7, _⟩ => ⟨S16384x2x16, .f32⟩
  | .hbm, ⟨8, _⟩ => ⟨S16384x64, .f32⟩
  | .hbm, ⟨9, _⟩ => ⟨S16384x2x2x16, .f32⟩
  | .hbm, ⟨10, _⟩ => ⟨S16384x2x1x16, .f32⟩
  | .hbm, ⟨11, _⟩ => ⟨S16384x2x16, .f32⟩
  | .hbm, ⟨12, _⟩ => ⟨S16384x2x16, .f32⟩
  | .hbm, ⟨13, _⟩ => ⟨S16384x2x1x16, .f32⟩
  | .hbm, ⟨14, _⟩ => ⟨S16384x2x16, .f32⟩
  | .hbm, ⟨15, _⟩ => ⟨S16384x2x1x16, .f32⟩
  | .hbm, ⟨16, _⟩ => ⟨S16384x2x1x16, .f32⟩
  | .hbm, ⟨17, _⟩ => ⟨S16384x2x2x16, .f32⟩
  | .hbm, ⟨18, _⟩ => ⟨S16384x64, .f32⟩
  | .hbm, ⟨19, _⟩ => ⟨S1x16384x64, .f32⟩
  | .hbm, ⟨20, _⟩ => ⟨S_, .f32⟩
  | .hbm, ⟨21, _⟩ => ⟨S16384x3072, .f32⟩
  | .hbm, ⟨22, _⟩ => ⟨S16384x512, .f32⟩
  | .hbm, ⟨23, _⟩ => ⟨S16384x64, .f32⟩
  | .hbm, ⟨24, _⟩ => ⟨S16384x64, .f32⟩
  | .hbm, ⟨25, _⟩ => ⟨S_, .f32⟩
  | .hbm, ⟨26, _⟩ => ⟨S16384x128, .f32⟩
  | .hbm, ⟨27, _⟩ => ⟨S16384x3840, .f32⟩
  | .hbm, ⟨28, _⟩ => ⟨S256x64, .f32⟩
  | .hbm, ⟨29, _⟩ => ⟨S256x2x2x16, .f32⟩
  | .hbm, ⟨30, _⟩ => ⟨S256x2x1x16, .f32⟩
  | .hbm, ⟨31, _⟩ => ⟨S256x2x16, .f32⟩
  | .hbm, ⟨32, _⟩ => ⟨S256x2x16, .f32⟩
  | .hbm, ⟨33, _⟩ => ⟨S256x2x1x16, .f32⟩
  | .hbm, ⟨34, _⟩ => ⟨S256x2x16, .f32⟩
  | .hbm, ⟨35, _⟩ => ⟨S256x2x1x16, .f32⟩
  | .hbm, ⟨36, _⟩ => ⟨S256x2x1x16, .f32⟩
  | .hbm, ⟨37, _⟩ => ⟨S256x2x2x16, .f32⟩
  | .hbm, ⟨38, _⟩ => ⟨S256x64, .f32⟩
  | .hbm, ⟨39, _⟩ => ⟨S1x256x64, .f32⟩
  | .hbm, ⟨40, _⟩ => ⟨S_, .f32⟩
  | .hbm, ⟨41, _⟩ => ⟨S256x3072, .f32⟩
  | .hbm, ⟨42, _⟩ => ⟨S256x512, .f32⟩
  | .hbm, ⟨43, _⟩ => ⟨S256x64, .f32⟩
  | .hbm, ⟨44, _⟩ => ⟨S256x64, .f32⟩
  | .hbm, ⟨45, _⟩ => ⟨S_, .f32⟩
  | .hbm, ⟨46, _⟩ => ⟨S256x128, .f32⟩
  | .hbm, ⟨47, _⟩ => ⟨S256x3840, .f32⟩
  | .hbm, ⟨48, _⟩ => ⟨S_, .f32⟩
  | .hbm, ⟨49, _⟩ => ⟨S16384x64, .f32⟩
  | .hbm, ⟨50, _⟩ => ⟨S16384x2x1x16, .f32⟩
  | .hbm, ⟨51, _⟩ => ⟨S16384x2x2x16, .f32⟩
  | .hbm, ⟨52, _⟩ => ⟨S16384x64, .f32⟩
  | .hbm, ⟨53, _⟩ => ⟨S16384x128, .f32⟩
  | .hbm, ⟨54, _⟩ => ⟨S16384x2x1x16, .f32⟩
  | .hbm, ⟨55, _⟩ => ⟨S16384x2x2x16, .f32⟩
  | .hbm, ⟨56, _⟩ => ⟨S16384x64, .f32⟩
  | .hbm, ⟨57, _⟩ => ⟨S16384x128, .f32⟩
  | .hbm, ⟨58, _⟩ => ⟨S512, .f32⟩
  | .hbm, ⟨59, _⟩ => ⟨S512x2048, .f32⟩
  | .hbm, ⟨60, _⟩ => ⟨S512x2048, .bf16⟩
  | .hbm, ⟨61, _⟩ => ⟨S1x512, .f32⟩
  | .hbm, ⟨62, _⟩ => ⟨S16640x2048, .bf16⟩
  | .hbm, ⟨63, _⟩ => ⟨S16640x1024, .bf16⟩
  | .hbm, ⟨64, _⟩ => ⟨S16640x8x256, .bf16⟩
  | .hbm, ⟨65, _⟩ => ⟨S16640x8x192, .bf16⟩
  | .hbm, ⟨66, _⟩ => ⟨S16640x8x128, .bf16⟩
  | .hbm, ⟨67, _⟩ => ⟨S256x8x192, .bf16⟩
  | .hbm, ⟨68, _⟩ => ⟨S16384x8x192, .bf16⟩
  | .hbm, ⟨69, _⟩ => ⟨S16640x8x192, .bf16⟩
  | .hbm, ⟨70, _⟩ => ⟨S1x16640x8x192, .bf16⟩
  | .hbm, ⟨71, _⟩ => ⟨S256x8x128, .bf16⟩
  | .hbm, ⟨72, _⟩ => ⟨S16384x8x128, .bf16⟩
  | .hbm, ⟨73, _⟩ => ⟨S16640x8x128, .bf16⟩
  | .hbm, ⟨74, _⟩ => ⟨S1x16640x8x128, .bf16⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S1x512, .f32⟩
  | .local _ .vmem, ⟨11, _⟩ => ⟨S512x2048, .bf16⟩
  | .local _ .vmem, ⟨12, _⟩ => ⟨S256x2048, .bf16⟩
  | .local _ .vmem, ⟨13, _⟩ => ⟨S256x2048, .bf16⟩
  | .local _ .vmem, ⟨14, _⟩ => ⟨S256x1024, .bf16⟩
  | .local _ .vmem, ⟨15, _⟩ => ⟨S256x1024, .bf16⟩
  | _, _ => ⟨S1x16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_0 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_1 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_2 : Ref sig .tc := ⟨.hbm, 45, rfl⟩
abbrev main_v34 : Ref sig .tc := ⟨.hbm, 46, rfl⟩
abbrev main_v35 : Ref sig .tc := ⟨.hbm, 47, rfl⟩
abbrev main_cst_3 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49_0 : Ref sig .tc := ⟨.hbm, 62, rfl⟩
abbrev main_v49_1 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c63_i32 : BitVec 32 := 63#32
  let v0 : BitVec 32 := Scalar.minsi arg0 c63_i32
  let c6_i32 : BitVec 32 := 6#32
  let c0_i32 : BitVec 32 := 0#32
  ![v0.toNat, c6_i32.toNat]

def cc0_transform_1 (i : grid0.Coords) : Fin 2 → Nat :=
  let arg0 : BitVec 32 := BitVec.ofNat 32 (i 0).val
  let c0_i32 : BitVec 32 := 0#32
  let c6_i32 : BitVec 32 := 6#32
  let c0_i32_0 : BitVec 32 := 0#32
  ![c0_i32.toNat, c6_i32.toNat]

def cc0_transform_2 (i : grid0.Coords) : Fin 2 → Nat :=
  let arg0 : BitVec 32 := BitVec.ofNat 32 (i 0).val
  let c63_i32 : BitVec 32 := 63#32
  let v0 : BitVec 32 := Scalar.minsi arg0 c63_i32
  let c28_i32 : BitVec 32 := 28#32
  let c0_i32 : BitVec 32 := 0#32
  ![v0.toNat, c28_i32.toNat]

def cc0_transform_3 (i : grid0.Coords) : Fin 2 → Nat :=
  let arg0 : BitVec 32 := BitVec.ofNat 32 (i 0).val
  let c0_i32 : BitVec 32 := 0#32
  let c28_i32 : BitVec 32 := 28#32
  let c0_i32_0 : BitVec 32 := 0#32
  ![c0_i32.toNat, c28_i32.toNat]

def cc0_transform_4 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference7Ideal.lean ====
abbrev S1x16384x512 : Shape := ⟨3, ![1, 16384, 512]⟩
abbrev S1x16384x64 : Shape := ⟨3, ![1, 16384, 64]⟩
abbrev S1x256x512 : Shape := ⟨3, ![1, 256, 512]⟩
abbrev S1x256x64 : Shape := ⟨3, ![1, 256, 64]⟩
abbrev S1x512 : Shape := ⟨2, ![1, 512]⟩
abbrev S1x512x2048 : Shape := ⟨3, ![1, 512, 2048]⟩
abbrev S16384x2x16 : Shape := ⟨3, ![16384, 2, 16]⟩
abbrev S512 : Shape := ⟨1, ![512]⟩
abbrev S512x2048 : Shape := ⟨2, ![512, 2048]⟩
abbrev S_ : Shape := ⟨0, ![]⟩
abbrev S1x256 : Shape := ⟨2, ![1, 256]⟩
abbrev S1x256x1 : Shape := ⟨3, ![1, 256, 1]⟩
abbrev S1x1x512 : Shape := ⟨3, ![1, 1, 512]⟩
abbrev S1x256x2048 : Shape := ⟨3, ![1, 256, 2048]⟩
abbrev S1x256x8x256 : Shape := ⟨4, ![1, 256, 8, 256]⟩
abbrev S1x256x8x128 : Shape := ⟨4, ![1, 256, 8, 128]⟩
abbrev S1x256x1x64 : Shape := ⟨4, ![1, 256, 1, 64]⟩
abbrev S1x256x8x64 : Shape := ⟨4, ![1, 256, 8, 64]⟩
abbrev S1x256x8x192 : Shape := ⟨4, ![1, 256, 8, 192]⟩
abbrev S1x16384 : Shape := ⟨2, ![1, 16384]⟩
abbrev S1x16384x1 : Shape := ⟨3, ![1, 16384, 1]⟩
abbrev S1x16384x2048 : Shape := ⟨3, ![1, 16384, 2048]⟩
abbrev S1x16384x8x256 : Shape := ⟨4, ![1, 16384, 8, 256]⟩
abbrev S1x16384x8x128 : Shape := ⟨4, ![1, 16384, 8, 128]⟩
abbrev S1x16384x2x2x16 : Shape := ⟨5, ![1, 16384, 2, 2, 16]⟩
abbrev S1x16384x2x1x16 : Shape := ⟨5, ![1, 16384, 2, 1, 16]⟩
abbrev S1x16384x2x16 : Shape := ⟨4, ![1, 16384, 2, 16]⟩
abbrev S1x16384x1x64 : Shape := ⟨4, ![1, 16384, 1, 64]⟩
abbrev S1x16384x8x64 : Shape := ⟨4, ![1, 16384, 8, 64]⟩
abbrev S1x16384x8x192 : Shape := ⟨4, ![1, 16384, 8, 192]⟩
abbrev S1x16640x8x192 : Shape := ⟨4, ![1, 16640, 8, 192]⟩
abbrev S1x16640x8x128 : Shape := ⟨4, ![1, 16640, 8, 128]⟩

abbrev nBuf : Space → Nat
  | .hbm => 81
  | .vmem => 0
  | .smem => 0
  | _ => 0

abbrev bufTy : (tb : Table) → Fin (tcTables nBuf tb) → BufTy
  | .hbm, ⟨0, _⟩ => ⟨S1x16384x512, .f32⟩
  | .hbm, ⟨1, _⟩ => ⟨S1x16384x64, .f32⟩
  | .hbm, ⟨2, _⟩ => ⟨S1x256x512, .f32⟩
  | .hbm, ⟨3, _⟩ => ⟨S1x256x64, .f32⟩
  | .hbm, ⟨4, _⟩ => ⟨S1x512, .f32⟩
  | .hbm, ⟨5, _⟩ => ⟨S1x512x2048, .f32⟩
  | .hbm, ⟨6, _⟩ => ⟨S16384x2x16, .f32⟩
  | .hbm, ⟨7, _⟩ => ⟨S16384x2x16, .f32⟩
  | .hbm, ⟨8, _⟩ => ⟨S512, .f32⟩
  | .hbm, ⟨9, _⟩ => ⟨S512x2048, .f32⟩
  | .hbm, ⟨10, _⟩ => ⟨S1x256x512, .f32⟩
  | .hbm, ⟨11, _⟩ => ⟨S_, .f32⟩
  | .hbm, ⟨12, _⟩ => ⟨S1x256, .f32⟩
  | .hbm, ⟨13, _⟩ => ⟨S1x256x1, .f32⟩
  | .hbm, ⟨14, _⟩ => ⟨S_, .f32⟩
  | .hbm, ⟨15, _⟩ => ⟨S1x256x1, .f32⟩
  | .hbm, ⟨16, _⟩ => ⟨S1x256x1, .f32⟩
  | .hbm, ⟨17, _⟩ => ⟨S_, .f32⟩
  | .hbm, ⟨18, _⟩ => ⟨S1x256x1, .f32⟩
  | .hbm, ⟨19, _⟩ => ⟨S1x256x1, .f32⟩
  | .hbm, ⟨20, _⟩ => ⟨S1x256x1, .f32⟩
  | .hbm, ⟨21, _⟩ => ⟨S1x256x512, .f32⟩
  | .hbm, ⟨22, _⟩ => ⟨S1x256x512, .f32⟩
  | .hbm, ⟨23, _⟩ => ⟨S1x1x512, .f32⟩
  | .hbm, ⟨24, _⟩ => ⟨S1x256x512, .f32⟩
  | .hbm, ⟨25, _⟩ => ⟨S1x256x512, .f32⟩
  | .hbm, ⟨26, _⟩ => ⟨S1x256x2048, .f32⟩
  | .hbm, ⟨27, _⟩ => ⟨S1x256x8x256, .f32⟩
  | .hbm, ⟨28, _⟩ => ⟨S1x256x8x128, .f32⟩
  | .hbm, ⟨29, _⟩ => ⟨S1x256x8x128, .f32⟩
  | .hbm, ⟨30, _⟩ => ⟨S1x256x1x64, .f32⟩
  | .hbm, ⟨31, _⟩ => ⟨S1x256x8x64, .f32⟩
  | .hbm, ⟨32, _⟩ => ⟨S1x256x8x192, .f32⟩
  | .hbm, ⟨33, _⟩ => ⟨S512, .f32⟩
  | .hbm, ⟨34, _⟩ => ⟨S512x2048, .f32⟩
  | .hbm, ⟨35, _⟩ => ⟨S1x16384x512, .f32⟩
  | .hbm, ⟨36, _⟩ => ⟨S_, .f32⟩
  | .hbm, ⟨37, _⟩ => ⟨S1x16384, .f32⟩
  | .hbm, ⟨38, _⟩ => ⟨S1x16384x1, .f32⟩
  | .hbm, ⟨39, _⟩ => ⟨S_, .f32⟩
  | .hbm, ⟨40, _⟩ => ⟨S1x16384x1, .f32⟩
  | .hbm, ⟨41, _⟩ => ⟨S1x16384x1, .f32⟩
  | .hbm, ⟨42, _⟩ => ⟨S_, .f32⟩
  | .hbm, ⟨43, _⟩ => ⟨S1x16384x1, .f32⟩
  | .hbm, ⟨44, _⟩ => ⟨S1x16384x1, .f32⟩
  | .hbm, ⟨45, _⟩ => ⟨S1x16384x1, .f32⟩
  | .hbm, ⟨46, _⟩ => ⟨S1x16384x512, .f32⟩
  | .hbm, ⟨47, _⟩ => ⟨S1x16384x512, .f32⟩
  | .hbm, ⟨48, _⟩ => ⟨S1x1x512, .f32⟩
  | .hbm, ⟨49, _⟩ => ⟨S1x16384x512, .f32⟩
  | .hbm, ⟨50, _⟩ => ⟨S1x16384x512, .f32⟩
  | .hbm, ⟨51, _⟩ => ⟨S1x16384x2048, .f32⟩
  | .hbm, ⟨52, _⟩ => ⟨S1x16384x8x256, .f32⟩
  | .hbm, ⟨53, _⟩ => ⟨S1x16384x8x128, .f32⟩
  | .hbm, ⟨54, _⟩ => ⟨S1x16384x8x128, .f32⟩
  | .hbm, ⟨55, _⟩ => ⟨S1x16384x2x2x16, .f32⟩
  | .hbm, ⟨56, _⟩ => ⟨S1x16384x2x1x16, .f32⟩
  | .hbm, ⟨57, _⟩ => ⟨S1x16384x2x16, .f32⟩
  | .hbm, ⟨58, _⟩ => ⟨S1x16384x2x1x16, .f32⟩
  | .hbm, ⟨59, _⟩ => ⟨S1x16384x2x16, .f32⟩
  | .hbm, ⟨60, _⟩ => ⟨S1x16384x2x16, .f32⟩
  | .hbm, ⟨61, _⟩ => ⟨S1x16384x2x16, .f32⟩
  | .hbm, ⟨62, _⟩ => ⟨S1x16384x2x16, .f32⟩
  | .hbm, ⟨63, _⟩ => ⟨S1x16384x2x16, .f32⟩
  | .hbm, ⟨64, _⟩ => ⟨S1x16384x2x16, .f32⟩
  | .hbm, ⟨65, _⟩ => ⟨S1x16384x2x16, .f32⟩
  | .hbm, ⟨66, _⟩ => ⟨S1x16384x2x16, .f32⟩
  | .hbm, ⟨67, _⟩ => ⟨S1x16384x2x16, .f32⟩
  | .hbm, ⟨68, _⟩ => ⟨S1x16384x2x16, .f32⟩
  | .hbm, ⟨69, _⟩ => ⟨S1x16384x2x16, .f32⟩
  | .hbm, ⟨70, _⟩ => ⟨S1x16384x2x1x16, .f32⟩
  | .hbm, ⟨71, _⟩ => ⟨S1x16384x2x1x16, .f32⟩
  | .hbm, ⟨72, _⟩ => ⟨S1x16384x2x2x16, .f32⟩
  | .hbm, ⟨73, _⟩ => ⟨S1x16384x64, .f32⟩
  | .hbm, ⟨74, _⟩ => ⟨S1x16384x1x64, .f32⟩
  | .hbm, ⟨75, _⟩ => ⟨S1x16384x8x64, .f32⟩
  | .hbm, ⟨76, _⟩ => ⟨S1x16384x8x192, .f32⟩
  | .hbm, ⟨77, _⟩ => ⟨S1x16640x8x192, .f32⟩
  | .hbm, ⟨78, _⟩ => ⟨S1x16640x8x192, .bf16⟩
  | .hbm, ⟨79, _⟩ => ⟨S1x16640x8x128, .f32⟩
  | .hbm, ⟨80, _⟩ => ⟨S1x16640x8x128, .bf16⟩
  | _, _ => ⟨S1x16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_2 : Ref sig .tc := ⟨.hbm, 36, rfl⟩
abbrev main_v25 : Ref sig .tc := ⟨.hbm, 37, rfl⟩
abbrev main_v26 : Ref sig .tc := ⟨.hbm, 38, rfl⟩
abbrev main_cst_3 : Ref sig .tc := ⟨.hbm, 39, rfl⟩
abbrev main_v27 : Ref sig .tc := ⟨.hbm, 40, rfl⟩
abbrev main_v28 : Ref sig .tc := ⟨.hbm, 41, rfl⟩
abbrev main_cst_4 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩

abbrev nD : Nat := 1
abbrev τ : Topo := Topo.v7x

variable {F : FTy → Type} [FloatOps F]
-- ==== Kernel8.lean ====
abbrev S1x16384x512 : Shape := ⟨3, ![1, 16384, 512]⟩
abbrev S1x512 : Shape := ⟨2, ![1, 512]⟩
abbrev S1x512x1536 : Shape := ⟨3, ![1, 512, 1536]⟩
abbrev S16384x2x16 : Shape := ⟨3, ![16384, 2, 16]⟩
abbrev S_ : Shape := ⟨0, ![]⟩
abbrev S16384x64 : Shape := ⟨2, ![16384, 64]⟩
abbrev S16384x128 : Shape := ⟨2, ![16384, 128]⟩
abbrev S16384x2x1x16 : Shape := ⟨4, ![16384, 2, 1, 16]⟩
abbrev S16384x2x2x16 : Shape := ⟨4, ![16384, 2, 2, 16]⟩
abbrev S16384x256 : Shape := ⟨2, ![16384, 256]⟩
abbrev S512x1536 : Shape := ⟨2, ![512, 1536]⟩
abbrev S512x8x192 : Shape := ⟨3, ![512, 8, 192]⟩
abbrev S512x8x64 : Shape := ⟨3, ![512, 8, 64]⟩
abbrev S512x8x256 : Shape := ⟨3, ![512, 8, 256]⟩
abbrev S512x2048 : Shape := ⟨2, ![512, 2048]⟩
abbrev S512x8x2x2x16 : Shape := ⟨5, ![512, 8, 2, 2, 16]⟩
abbrev S512x8x2x1x16 : Shape := ⟨5, ![512, 8, 2, 1, 16]⟩
abbrev S512x8x2x16 : Shape := ⟨4, ![512, 8, 2, 16]⟩
abbrev S512x8x128 : Shape := ⟨3, ![512, 8, 128]⟩
abbrev S16384x1024 : Shape := ⟨2, ![16384, 1024]⟩
abbrev S16384x512 : Shape := ⟨2, ![16384, 512]⟩
abbrev S16384x2304 : Shape := ⟨2, ![16384, 2304]⟩
abbrev S16384x3840 : Shape := ⟨2, ![16384, 3840]⟩
abbrev S512 : Shape := ⟨1, ![512]⟩
abbrev S16384x2048 : Shape := ⟨2, ![16384, 2048]⟩
abbrev S512x512 : Shape := ⟨2, ![512, 512]⟩
abbrev S512x256 : Shape := ⟨2, ![512, 256]⟩
abbrev S512x1 : Shape := ⟨2, ![512, 1]⟩
abbrev S16384x8x256 : Shape := ⟨3, ![16384, 8, 256]⟩
abbrev S16384x8x192 : Shape := ⟨3, ![16384, 8, 192]⟩
abbrev S1x16384x8x192 : Shape := ⟨4, ![1, 16384, 8, 192]⟩

abbrev nBuf : Space → Nat
  | .hbm => 54
  | .vmem => 11
  | .smem => 0
  | _ => 0

abbrev bufTy : (tb : Table) → Fin (tcTables nBuf tb) → BufTy
  | .hbm, ⟨0, _⟩ => ⟨S1x16384x512, .f32⟩
  | .hbm, ⟨1, _⟩ => ⟨S1x512, .f32⟩
  | .hbm, ⟨2, _⟩ => ⟨S1x512x1536, .f32⟩
  | .hbm, ⟨3, _⟩ => ⟨S16384x2x16, .f32⟩
  | .hbm, ⟨4, _⟩ => ⟨S16384x2x16, .f32⟩
  | .hbm, ⟨5, _⟩ => ⟨S_, .f32⟩
  | .hbm, ⟨6, _⟩ => ⟨S16384x64, .f32⟩
  | .hbm, ⟨7, _⟩ => ⟨S_, .f32⟩
  | .hbm, ⟨8, _⟩ => ⟨S16384x128, .f32⟩
  | .hbm, ⟨9, _⟩ => ⟨S16384x2x1x16, .f32⟩
  | .hbm, ⟨10, _⟩ => ⟨S16384x2x2x16, .f32⟩
  | .hbm, ⟨11, _⟩ => ⟨S16384x64, .f32⟩
  | .hbm, ⟨12, _⟩ => ⟨S16384x256, .f32⟩
  | .hbm, ⟨13, _⟩ => ⟨S_, .f32⟩
  | .hbm, ⟨14, _⟩ => ⟨S16384x128, .f32⟩
  | .hbm, ⟨15, _⟩ => ⟨S16384x2x1x16, .f32⟩
  | .hbm, ⟨16, _⟩ => ⟨S16384x2x2x16, .f32⟩
  | .hbm, ⟨17, _⟩ => ⟨S16384x64, .f32⟩
  | .hbm, ⟨18, _⟩ => ⟨S16384x256, .f32⟩
  | .hbm, ⟨19, _⟩ => ⟨S512x1536, .f32⟩
  | .hbm, ⟨20, _⟩ => ⟨S512x8x192, .f32⟩
  | .hbm, ⟨21, _⟩ => ⟨S_, .f32⟩
  | .hbm, ⟨22, _⟩ => ⟨S512x8x64, .f32⟩
  | .hbm, ⟨23, _⟩ => ⟨S512x8x256, .f32⟩
  | .hbm, ⟨24, _⟩ => ⟨S512x2048, .f32⟩
  | .hbm, ⟨25, _⟩ => ⟨S512x2048, .bf16⟩
  | .hbm, ⟨26, _⟩ => ⟨S512x8x64, .f32⟩
  | .hbm, ⟨27, _⟩ => ⟨S512x8x2x2x16, .f32⟩
  | .hbm, ⟨28, _⟩ => ⟨S512x8x2x1x16, .f32⟩
  | .hbm, ⟨29, _⟩ => ⟨S512x8x2x16, .f32⟩
  | .hbm, ⟨30, _⟩ => ⟨S512x8x2x16, .f32⟩
  | .hbm, ⟨31, _⟩ => ⟨S512x8x2x1x16, .f32⟩
  | .hbm, ⟨32, _⟩ => ⟨S512x8x2x16, .f32⟩
  | .hbm, ⟨33, _⟩ => ⟨S512x8x2x1x16, .f32⟩
  | .hbm, ⟨34, _⟩ => ⟨S512x8x2x1x16, .f32⟩
  | .hbm, ⟨35, _⟩ => ⟨S512x8x2x2x16, .f32⟩
  | .hbm, ⟨36, _⟩ => ⟨S512x8x64, .f32⟩
  | .hbm, ⟨37, _⟩ => ⟨S_, .f32⟩
  | .hbm, ⟨38, _⟩ => ⟨S512x8x128, .f32⟩
  | .hbm, ⟨39, _⟩ => ⟨S512x8x256, .f32⟩
  | .hbm, ⟨40, _⟩ => ⟨S512x2048, .f32⟩
  | .hbm, ⟨41, _⟩ => ⟨S512x2048, .bf16⟩
  | .hbm, ⟨42, _⟩ => ⟨S_, .f32⟩
  | .hbm, ⟨43, _⟩ => ⟨S16384x1024, .f32⟩
  | .hbm, ⟨44, _⟩ => ⟨S16384x512, .f32⟩
  | .hbm, ⟨45, _⟩ => ⟨S_, .f32⟩
  | .hbm, ⟨46, _⟩ => ⟨S16384x2304, .f32⟩
  | .hbm, ⟨47, _⟩ => ⟨S16384x3840, .f32⟩
  | .hbm, ⟨48, _⟩ => ⟨S512, .f32⟩
  | .hbm, ⟨49, _⟩ => ⟨S1x512, .f32⟩
  | .hbm, ⟨50, _⟩ => ⟨S16384x2048, .bf16⟩
  | .hbm, ⟨51, _⟩ => ⟨S16384x8x256, .bf16⟩
  | .hbm, ⟨52, _⟩ => ⟨S16384x8x192, .bf16⟩
  | .hbm, ⟨53, _⟩ => ⟨S1x16384x8x192, .bf16⟩
  | .local _ .vmem, ⟨0, _⟩ => ⟨S512x512, .f32⟩
  | .local _ .vmem, ⟨1, _⟩ => ⟨S512x512, .f32⟩
  | .local _ .vmem, ⟨2, _⟩ => ⟨S1x512, .f32⟩
  | .local _ .vmem, ⟨3, _⟩ => ⟨S512x2048, .bf16⟩
  | .local _ .vmem, ⟨4, _⟩ => ⟨S512x2048, .bf16⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x2048, .bf16⟩
  | .local _ .vmem, ⟨10, _⟩ => ⟨S512x2048, .bf16⟩
  | _, _ => ⟨S1x16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_3 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_4 : Ref sig .tc := ⟨.hbm, 42, rfl⟩
abbrev main_v32 : Ref sig .tc := ⟨.hbm, 43, rfl⟩
abbrev main_v33 : Ref sig .tc := ⟨.hbm, 44, rfl⟩
abbrev main_cst_5 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference8Ideal.lean ====
abbrev S1x16384x512 : Shape := ⟨3, ![1, 16384, 512]⟩
abbrev S1x512 : Shape := ⟨2, ![1, 512]⟩
abbrev S1x512x1536 : Shape := ⟨3, ![1, 512, 1536]⟩
abbrev S16384x2x16 : Shape := ⟨3, ![16384, 2, 16]⟩
abbrev S512 : Shape := ⟨1, ![512]⟩
abbrev S512x1536 : Shape := ⟨2, ![512, 1536]⟩
abbrev S_ : Shape := ⟨0, ![]⟩
abbrev S1x16384 : Shape := ⟨2, ![1, 16384]⟩
abbrev S1x16384x1 : Shape := ⟨3, ![1, 16384, 1]⟩
abbrev S1x1x512 : Shape := ⟨3, ![1, 1, 512]⟩
abbrev S1x16384x1536 : Shape := ⟨3, ![1, 16384, 1536]⟩
abbrev S1x16384x8x192 : Shape := ⟨4, ![1, 16384, 8, 192]⟩
abbrev S1x16384x8x128 : Shape := ⟨4, ![1, 16384, 8, 128]⟩
abbrev S1x16384x8x64 : Shape := ⟨4, ![1, 16384, 8, 64]⟩
abbrev S16384x1x2x16 : Shape := ⟨4, ![16384, 1, 2, 16]⟩
abbrev S1x16384x8x2x2x16 : Shape := ⟨6, ![1, 16384, 8, 2, 2, 16]⟩
abbrev S1x16384x8x2x1x16 : Shape := ⟨6, ![1, 16384, 8, 2, 1, 16]⟩
abbrev S1x16384x8x2x16 : Shape := ⟨5, ![1, 16384, 8, 2, 16]⟩
abbrev S1x16384x1x2x16 : Shape := ⟨5, ![1, 16384, 1, 2, 16]⟩

abbrev nBuf : Space → Nat
  | .hbm => 54
  | .vmem => 0
  | .smem => 0
  | _ => 0

abbrev bufTy : (tb : Table) → Fin (tcTables nBuf tb) → BufTy
  | .hbm, ⟨0, _⟩ => ⟨S1x16384x512, .f32⟩
  | .hbm, ⟨1, _⟩ => ⟨S1x512, .f32⟩
  | .hbm, ⟨2, _⟩ => ⟨S1x512x1536, .f32⟩
  | .hbm, ⟨3, _⟩ => ⟨S16384x2x16, .f32⟩
  | .hbm, ⟨4, _⟩ => ⟨S16384x2x16, .f32⟩
  | .hbm, ⟨5, _⟩ => ⟨S512, .f32⟩
  | .hbm, ⟨6, _⟩ => ⟨S512x1536, .f32⟩
  | .hbm, ⟨7, _⟩ => ⟨S1x16384x512, .f32⟩
  | .hbm, ⟨8, _⟩ => ⟨S_, .f32⟩
  | .hbm, ⟨9, _⟩ => ⟨S1x16384, .f32⟩
  | .hbm, ⟨10, _⟩ => ⟨S1x16384x1, .f32⟩
  | .hbm, ⟨11, _⟩ => ⟨S_, .f32⟩
  | .hbm, ⟨12, _⟩ => ⟨S1x16384x1, .f32⟩
  | .hbm, ⟨13, _⟩ => ⟨S1x16384x1, .f32⟩
  | .hbm, ⟨14, _⟩ => ⟨S_, .f32⟩
  | .hbm, ⟨15, _⟩ => ⟨S1x16384x1, .f32⟩
  | .hbm, ⟨16, _⟩ => ⟨S1x16384x1, .f32⟩
  | .hbm, ⟨17, _⟩ => ⟨S1x16384x1, .f32⟩
  | .hbm, ⟨18, _⟩ => ⟨S1x16384x512, .f32⟩
  | .hbm, ⟨19, _⟩ => ⟨S1x16384x512, .f32⟩
  | .hbm, ⟨20, _⟩ => ⟨S1x1x512, .f32⟩
  | .hbm, ⟨21, _⟩ => ⟨S1x16384x512, .f32⟩
  | .hbm, ⟨22, _⟩ => ⟨S1x16384x512, .f32⟩
  | .hbm, ⟨23, _⟩ => ⟨S1x16384x1536, .f32⟩
  | .hbm, ⟨24, _⟩ => ⟨S1x16384x8x192, .f32⟩
  | .hbm, ⟨25, _⟩ => ⟨S1x16384x8x128, .f32⟩
  | .hbm, ⟨26, _⟩ => ⟨S1x16384x8x64, .f32⟩
  | .hbm, ⟨27, _⟩ => ⟨S16384x1x2x16, .f32⟩
  | .hbm, ⟨28, _⟩ => ⟨S16384x1x2x16, .f32⟩
  | .hbm, ⟨29, _⟩ => ⟨S1x16384x8x2x2x16, .f32⟩
  | .hbm, ⟨30, _⟩ => ⟨S1x16384x8x2x1x16, .f32⟩
  | .hbm, ⟨31, _⟩ => ⟨S1x16384x8x2x16, .f32⟩
  | .hbm, ⟨32, _⟩ => ⟨S1x16384x8x2x1x16, .f32⟩
  | .hbm, ⟨33, _⟩ => ⟨S1x16384x8x2x16, .f32⟩
  | .hbm, ⟨34, _⟩ => ⟨S1x16384x1x2x16, .f32⟩
  | .hbm, ⟨35, _⟩ => ⟨S1x16384x8x2x16, .f32⟩
  | .hbm, ⟨36, _⟩ => ⟨S1x16384x8x2x16, .f32⟩
  | .hbm, ⟨37, _⟩ => ⟨S1x16384x1x2x16, .f32⟩
  | .hbm, ⟨38, _⟩ => ⟨S1x16384x8x2x16, .f32⟩
  | .hbm, ⟨39, _⟩ => ⟨S1x16384x8x2x16, .f32⟩
  | .hbm, ⟨40, _⟩ => ⟨S1x16384x8x2x16, .f32⟩
  | .hbm, ⟨41, _⟩ => ⟨S1x16384x1x2x16, .f32⟩
  | .hbm, ⟨42, _⟩ => ⟨S1x16384x8x2x16, .f32⟩
  | .hbm, ⟨43, _⟩ => ⟨S1x16384x8x2x16, .f32⟩
  | .hbm, ⟨44, _⟩ => ⟨S1x16384x1x2x16, .f32⟩
  | .hbm, ⟨45, _⟩ => ⟨S1x16384x8x2x16, .f32⟩
  | .hbm, ⟨46, _⟩ => ⟨S1x16384x8x2x16, .f32⟩
  | .hbm, ⟨47, _⟩ => ⟨S1x16384x8x2x16, .f32⟩
  | .hbm, ⟨48, _⟩ => ⟨S1x16384x8x2x1x16, .f32⟩
  | .hbm, ⟨49, _⟩ => ⟨S1x16384x8x2x1x16, .f32⟩
  | .hbm, ⟨50, _⟩ => ⟨S1x16384x8x2x2x16, .f32⟩
  | .hbm, ⟨51, _⟩ => ⟨S1x16384x8x64, .f32⟩
  | .hbm, ⟨52, _⟩ => ⟨S1x16384x8x192, .f32⟩
  | .hbm, ⟨53, _⟩ => ⟨S1x16384x8x192, .bf16⟩
  | _, _ => ⟨S1x16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩

abbrev nD : Nat := 1
abbrev τ : Topo := Topo.v7x

variable {F : FTy → Type} [FloatOps F]
-- ==== Kernel9.lean ====
abbrev S1x16384x1536 : Shape := ⟨3, ![1, 16384, 1536]⟩
abbrev S1x3x1536 : Shape := ⟨3, ![1, 3, 1536]⟩
abbrev S1x1536 : Shape := ⟨2, ![1, 1536]⟩
abbrev S_ : Shape := ⟨0, ![]⟩
abbrev S16384x1536 : Shape := ⟨2, ![16384, 1536]⟩
abbrev S16384x768 : Shape := ⟨2, ![16384, 768]⟩
abbrev S16384x3840 : Shape := ⟨2, ![16384, 3840]⟩
abbrev S3x1536 : Shape := ⟨2, ![3, 1536]⟩
abbrev S1536 : Shape := ⟨1, ![1536]⟩
abbrev S512x1536 : Shape := ⟨2, ![512, 1536]⟩
abbrev S8x1536 : Shape := ⟨2, ![8, 1536]⟩

abbrev nBuf : Space → Nat
  | .hbm => 13
  | .vmem => 10
  | .smem => 0
  | _ => 0

abbrev bufTy : (tb : Table) → Fin (tcTables nBuf tb) → BufTy
  | .hbm, ⟨0, _⟩ => ⟨S1x16384x1536, .f32⟩
  | .hbm, ⟨1, _⟩ => ⟨S1x3x1536, .f32⟩
  | .hbm, ⟨2, _⟩ => ⟨S1x1536, .f32⟩
  | .hbm, ⟨3, _⟩ => ⟨S_, .f32⟩
  | .hbm, ⟨4, _⟩ => ⟨S16384x1536, .f32⟩
  | .hbm, ⟨5, _⟩ => ⟨S16384x1536, .f32⟩
  | .hbm, ⟨6, _⟩ => ⟨S_, .f32⟩
  | .hbm, ⟨7, _⟩ => ⟨S16384x768, .f32⟩
  | .hbm, ⟨8, _⟩ => ⟨S16384x3840, .f32⟩
  | .hbm, ⟨9, _⟩ => ⟨S3x1536, .f32⟩
  | .hbm, ⟨10, _⟩ => ⟨S1536, .f32⟩
  | .hbm, ⟨11, _⟩ => ⟨S1x1536, .f32⟩
  | .hbm, ⟨12, _⟩ => ⟨S16384x1536, .f32⟩
  | .local _ .vmem, ⟨0, _⟩ => ⟨S512x1536, .f32⟩
  | .local _ .vmem, ⟨1, _⟩ => ⟨S512x1536, .f32⟩
  | .local _ .vmem, ⟨2, _⟩ => ⟨S8x1536, .f32⟩
  | .local _ .vmem, ⟨3, _⟩ => ⟨S8x1536, .f32⟩
  | .local _ .vmem, ⟨4, _⟩ => ⟨S8x1536, .f32⟩
  | .local _ .vmem, ⟨5, _⟩ => ⟨S8x1536, .f32⟩
  | .local _ .vmem, ⟨6, _⟩ => ⟨S3x1536, .f32⟩
  | .local _ .vmem, ⟨7, _⟩ => ⟨S1x1536, .f32⟩
  | .local _ .vmem, ⟨8, _⟩ => ⟨S512x1536, .f32⟩
  | .local _ .vmem, ⟨9, _⟩ => ⟨S512x1536, .f32⟩
  | _, _ => ⟨S1x16384x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let v3 : BitVec 32 := Scalar.addi c1_i32_0 arg1
  let c0_i32_1 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c64_i32 : BitVec 32 := 64#32
  let v1 : BitVec 32 := Scalar.muli v0 c64_i32
  let c2047_i32 : BitVec 32 := 2047#32
  let v2 : BitVec 32 := Scalar.minsi v1 c2047_i32
  let c1_i32_0 : BitVec 32 := 1#32
  let v3 : BitVec 32 := Scalar.addi c1_i32_0 arg1
  let c0_i32 : BitVec 32 := 0#32
  ![v2.toNat, v3.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S3x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S1x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 2 → Memref sig .tc .vmem S512x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference9Ideal.lean ====
abbrev S1x16384x1536 : Shape := ⟨3, ![1, 16384, 1536]⟩
abbrev S1x3x1536 : Shape := ⟨3, ![1, 3, 1536]⟩
abbrev S1x1536 : Shape := ⟨2, ![1, 1536]⟩
abbrev S3x1536 : Shape := ⟨2, ![3, 1536]⟩
abbrev S1536 : Shape := ⟨1, ![1536]⟩
abbrev S_ : Shape := ⟨0, ![]⟩
abbrev S1x16386x1536 : Shape := ⟨3, ![1, 16386, 1536]⟩
abbrev S1x1x1536 : Shape := ⟨3, ![1, 1, 1536]⟩
abbrev S16384x1536 : Shape := ⟨2, ![16384, 1536]⟩

abbrev nBuf : Space → Nat
  | .hbm => 41
  | .vmem => 0
  | .smem => 0
  | _ => 0

abbrev bufTy : (tb : Table) → Fin (tcTables nBuf tb) → BufTy
  | .hbm, ⟨0, _⟩ => ⟨S1x16384x1536, .f32⟩
  | .hbm, ⟨1, _⟩ => ⟨S1x3x1536, .f32⟩
  | .hbm, ⟨2, _⟩ => ⟨S1x1536, .f32⟩
  | .hbm, ⟨3, _⟩ => ⟨S3x1536, .f32⟩
  | .hbm, ⟨4, _⟩ => ⟨S1536, .f32⟩
  | .hbm, ⟨5, _⟩ => ⟨S_, .i32⟩
  | .hbm, ⟨6, _⟩ => ⟨S_, .f32⟩
  | .hbm, ⟨7, _⟩ => ⟨S1x16386x1536, .f32⟩
  | .hbm, ⟨8, _⟩ => ⟨S1x16384x1536, .f32⟩
  | .hbm, ⟨9, _⟩ => ⟨S1x1536, .f32⟩
  | .hbm, ⟨10, _⟩ => ⟨S1536, .f32⟩
  | .hbm, ⟨11, _⟩ => ⟨S1x1x1536, .f32⟩
  | .hbm, ⟨12, _⟩ => ⟨S1x16384x1536, .f32⟩
  | .hbm, ⟨13, _⟩ => ⟨S1x16384x1536, .f32⟩
  | .hbm, ⟨14, _⟩ => ⟨S1x16384x1536, .f32⟩
  | .hbm, ⟨15, _⟩ => ⟨S1x1536, .f32⟩
  | .hbm, ⟨16, _⟩ => ⟨S1536, .f32⟩
  | .hbm, ⟨17, _⟩ => ⟨S1x1x1536, .f32⟩
  | .hbm, ⟨18, _⟩ => ⟨S1x16384x1536, .f32⟩
  | .hbm, ⟨19, _⟩ => ⟨S1x16384x1536, .f32⟩
  | .hbm, ⟨20, _⟩ => ⟨S1x16384x1536, .f32⟩
  | .hbm, ⟨21, _⟩ => ⟨S1x16384x1536, .f32⟩
  | .hbm, ⟨22, _⟩ => ⟨S1x1536, .f32⟩
  | .hbm, ⟨23, _⟩ => ⟨S1536, .f32⟩
  | .hbm, ⟨24, _⟩ => ⟨S1x1x1536, .f32⟩
  | .hbm, ⟨25, _⟩ => ⟨S1x16384x1536, .f32⟩
  | .hbm, ⟨26, _⟩ => ⟨S1x16384x1536, .f32⟩
  | .hbm, ⟨27, _⟩ => ⟨S1x16384x1536, .f32⟩
  | .hbm, ⟨28, _⟩ => ⟨S1x1x1536, .f32⟩
  | .hbm, ⟨29, _⟩ => ⟨S1x16384x1536, .f32⟩
  | .hbm, ⟨30, _⟩ => ⟨S1x16384x1536, .f32⟩
  | .hbm, ⟨31, _⟩ => ⟨S1x16384x1536, .f32⟩
  | .hbm, ⟨32, _⟩ => ⟨S1x16384x1536, .f32⟩
  | .hbm, ⟨33, _⟩ => ⟨S_, .f32⟩
  | .hbm, ⟨34, _⟩ => ⟨S1x16384x1536, .f32⟩
  | .hbm, ⟨35, _⟩ => ⟨S1x16384x1536, .f32⟩
  | .hbm, ⟨36, _⟩ => ⟨S_, .f32⟩
  | .hbm, ⟨37, _⟩ => ⟨S1x16384x1536, .f32⟩
  | .hbm, ⟨38, _⟩ => ⟨S1x16384x1536, .f32⟩
  | .hbm, ⟨39, _⟩ => ⟨S1x16384x1536, .f32⟩
  | .hbm, ⟨40, _⟩ => ⟨S16384x1536, .f32⟩
  | _, _ => ⟨S1x16384x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_call1_v0 : Ref sig .tc := ⟨.hbm, 31, rfl⟩
abbrev main_call1_v1 : Ref sig .tc := ⟨.hbm, 32, rfl⟩
abbrev main_call1_cst : Ref sig .tc := ⟨.hbm, 33, rfl⟩
abbrev main_call1_v2 : Ref sig .tc := ⟨.hbm, 34, rfl⟩
abbrev main_call1_v3 : Ref sig .tc := ⟨.hbm, 35, rfl⟩
abbrev main_call1_cst_0 : Ref sig .tc := ⟨.hbm, 36, rfl⟩
abbrev main_call1_v4 : Ref sig .tc := ⟨.hbm, 37, rfl⟩
abbrev main_call1_v5 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== Kernel10.lean ====
abbrev S1x2048 : Shape := ⟨2, ![1, 2048]⟩
abbrev S2048 : Shape := ⟨1, ![2048]⟩
abbrev S2x2048x12288 : Shape := ⟨3, ![2, 2048, 12288]⟩
abbrev S2x12288 : Shape := ⟨2, ![2, 12288]⟩
abbrev S_ : Shape := ⟨0, ![]⟩
abbrev S6x2048 : Shape := ⟨2, ![6, 2048]⟩
abbrev S8x2048 : Shape := ⟨2, ![8, 2048]⟩
abbrev S2x1x12288 : Shape := ⟨3, ![2, 1, 12288]⟩
abbrev S8x12288 : Shape := ⟨2, ![8, 12288]⟩
abbrev S1x2048x1024 : Shape := ⟨3, ![1, 2048, 1024]⟩
abbrev S1x1x1024 : Shape := ⟨3, ![1, 1, 1024]⟩
abbrev S8x1024 : Shape := ⟨2, ![8, 1024]⟩
abbrev S2048x1024 : Shape := ⟨2, ![2048, 1024]⟩
abbrev S1x1024 : Shape := ⟨2, ![1, 1024]⟩
abbrev S1x12288 : Shape := ⟨2, ![1, 12288]⟩
abbrev S1x4096 : Shape := ⟨2, ![1, 4096]⟩
abbrev S4096 : Shape := ⟨1, ![4096]⟩

abbrev nBuf : Space → Nat
  | .hbm => 13
  | .vmem => 7
  | .smem => 0
  | _ => 0

abbrev bufTy : (tb : Table) → Fin (tcTables nBuf tb) → BufTy
  | .hbm, ⟨0, _⟩ => ⟨S1x2048, .f32⟩
  | .hbm, ⟨1, _⟩ => ⟨S2048, .f32⟩
  | .hbm, ⟨2, _⟩ => ⟨S2x2048x12288, .f32⟩
  | .hbm, ⟨3, _⟩ => ⟨S2x12288, .f32⟩
  | .hbm, ⟨4, _⟩ => ⟨S1x2048, .f32⟩
  | .hbm, ⟨5, _⟩ => ⟨S_, .f32⟩
  | .hbm, ⟨6, _⟩ => ⟨S6x2048, .f32⟩
  | .hbm, ⟨7, _⟩ => ⟨S8x2048, .f32⟩
  | .hbm, ⟨8, _⟩ => ⟨S2x1x12288, .f32⟩
  | .hbm, ⟨9, _⟩ => ⟨S8x12288, .f32⟩
  | .hbm, ⟨10, _⟩ => ⟨S1x12288, .f32⟩
  | .hbm, ⟨11, _⟩ => ⟨S1x4096, .f32⟩
  | .hbm, ⟨12, _⟩ => ⟨S4096, .f32⟩
  | .local _ .vmem, ⟨0, _⟩ => ⟨S8x2048, .f32⟩
  | .local _ .vmem, ⟨1, _⟩ => ⟨S1x2048x1024, .f32⟩
  | .local _ .vmem, ⟨2, _⟩ => ⟨S1x2048x1024, .f32⟩
  | .local _ .vmem, ⟨3, _⟩ => ⟨S1x1x1024, .f32⟩
  | .local _ .vmem, ⟨4, _⟩ => ⟨S1x1x1024, .f32⟩
  | .local _ .vmem, ⟨5, _⟩ => ⟨S8x1024, .f32⟩
  | .local _ .vmem, ⟨6, _⟩ => ⟨S8x1024, .f32⟩
  | _, _ => ⟨S1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference10Ideal.lean ====
abbrev S1x2048 : Shape := ⟨2, ![1, 2048]⟩
abbrev S2048 : Shape := ⟨1, ![2048]⟩
abbrev S2x2048x12288 : Shape := ⟨3, ![2, 2048, 12288]⟩
abbrev S2x12288 : Shape := ⟨2, ![2, 12288]⟩
abbrev S_ : Shape := ⟨0, ![]⟩
abbrev S1x2048x12288 : Shape := ⟨3, ![1, 2048, 12288]⟩
abbrev S2048x12288 : Shape := ⟨2, ![2048, 12288]⟩
abbrev S1x12288 : Shape := ⟨2, ![1, 12288]⟩
abbrev S12288 : Shape := ⟨1, ![12288]⟩
abbrev S2048x4096 : Shape := ⟨2, ![2048, 4096]⟩
abbrev S4096 : Shape := ⟨1, ![4096]⟩

abbrev nBuf : Space → Nat
  | .hbm => 37
  | .vmem => 0
  | .smem => 0
  | _ => 0

abbrev bufTy : (tb : Table) → Fin (tcTables nBuf tb) → BufTy
  | .hbm, ⟨0, _⟩ => ⟨S1x2048, .f32⟩
  | .hbm, ⟨1, _⟩ => ⟨S2048, .f32⟩
  | .hbm, ⟨2, _⟩ => ⟨S2x2048x12288, .f32⟩
  | .hbm, ⟨3, _⟩ => ⟨S2x12288, .f32⟩
  | .hbm, ⟨4, _⟩ => ⟨S1x2048, .f32⟩
  | .hbm, ⟨5, _⟩ => ⟨S1x2048, .f32⟩
  | .hbm, ⟨6, _⟩ => ⟨S_, .f32⟩
  | .hbm, ⟨7, _⟩ => ⟨S1x2048, .f32⟩
  | .hbm, ⟨8, _⟩ => ⟨S1x2048, .f32⟩
  | .hbm, ⟨9, _⟩ => ⟨S_, .f32⟩
  | .hbm, ⟨10, _⟩ => ⟨S1x2048, .f32⟩
  | .hbm, ⟨11, _⟩ => ⟨S1x2048, .f32⟩
  | .hbm, ⟨12, _⟩ => ⟨S1x2048, .f32⟩
  | .hbm, ⟨13, _⟩ => ⟨S2048, .f32⟩
  | .hbm, ⟨14, _⟩ => ⟨S2048, .f32⟩
  | .hbm, ⟨15, _⟩ => ⟨S_, .f32⟩
  | .hbm, ⟨16, _⟩ => ⟨S2048, .f32⟩
  | .hbm, ⟨17, _⟩ => ⟨S2048, .f32⟩
  | .hbm, ⟨18, _⟩ => ⟨S_, .f32⟩
  | .hbm, ⟨19, _⟩ => ⟨S2048, .f32⟩
  | .hbm, ⟨20, _⟩ => ⟨S2048, .f32⟩
  | .hbm, ⟨21, _⟩ => ⟨S2048, .f32⟩
  | .hbm, ⟨22, _⟩ => ⟨S1x2048x12288, .f32⟩
  | .hbm, ⟨23, _⟩ => ⟨S2048x12288, .f32⟩
  | .hbm, ⟨24, _⟩ => ⟨S1x12288, .f32⟩
  | .hbm, ⟨25, _⟩ => ⟨S1x12288, .f32⟩
  | .hbm, ⟨26, _⟩ => ⟨S12288, .f32⟩
  | .hbm, ⟨27, _⟩ => ⟨S1x12288, .f32⟩
  | .hbm, ⟨28, _⟩ => ⟨S1x12288, .f32⟩
  | .hbm, ⟨29, _⟩ => ⟨S1x2048x12288, .f32⟩
  | .hbm, ⟨30, _⟩ => ⟨S2048x12288, .f32⟩
  | .hbm, ⟨31, _⟩ => ⟨S2048x4096, .f32⟩
  | .hbm, ⟨32, _⟩ => ⟨S4096, .f32⟩
  | .hbm, ⟨33, _⟩ => ⟨S1x12288, .f32⟩
  | .hbm, ⟨34, _⟩ => ⟨S12288, .f32⟩
  | .hbm, ⟨35, _⟩ => ⟨S4096, .f32⟩
  | .hbm, ⟨36, _⟩ => ⟨S4096, .f32⟩
  | _, _ => ⟨S1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_call1_v0 : Ref sig .tc := ⟨.hbm, 13, rfl⟩
abbrev main_call1_v1 : Ref sig .tc := ⟨.hbm, 14, rfl⟩
abbrev main_call1_cst : Ref sig .tc := ⟨.hbm, 15, rfl⟩
abbrev main_call1_v2 : Ref sig .tc := ⟨.hbm, 16, rfl⟩
abbrev main_call1_v3 : Ref sig .tc := ⟨.hbm, 17, rfl⟩
abbrev main_call1_cst_0 : Ref sig .tc := ⟨.hbm, 18, rfl⟩
abbrev main_call1_v4 : Ref sig .tc := ⟨.hbm, 19, rfl⟩
abbrev main_call1_v5 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩

abbrev nD : Nat := 1
abbrev τ : Topo := Topo.v7x

variable {F : FTy → Type} [FloatOps F]
-- ==== Kernel11.lean ====
abbrev S1x256x2048 : Shape := ⟨3, ![1, 256, 2048]⟩
abbrev S2x2048 : Shape := ⟨2, ![2, 2048]⟩
abbrev S2048 : Shape := ⟨1, ![2048]⟩
abbrev S1x2048x3680 : Shape := ⟨3, ![1, 2048, 3680]⟩
abbrev S2048x3680 : Shape := ⟨2, ![2048, 3680]⟩
abbrev S2048x64 : Shape := ⟨2, ![2048, 64]⟩
abbrev S2048x1536 : Shape := ⟨2, ![2048, 1536]⟩
abbrev S2048x512 : Shape := ⟨2, ![2048, 512]⟩
abbrev S2048x2x2x16 : Shape := ⟨4, ![2048, 2, 2, 16]⟩
abbrev S2048x2x1x16 : Shape := ⟨4, ![2048, 2, 1, 16]⟩
abbrev S2048x2x16 : Shape := ⟨3, ![2048, 2, 16]⟩
abbrev S2048x32 : Shape := ⟨2, ![2048, 32]⟩
abbrev S_ : Shape := ⟨0, ![]⟩
abbrev S2048x96 : Shape := ⟨2, ![2048, 96]⟩
abbrev S2048x3840 : Shape := ⟨2, ![2048, 3840]⟩
abbrev S3840 : Shape := ⟨1, ![3840]⟩
abbrev S256x2048 : Shape := ⟨2, ![256, 2048]⟩
abbrev S1x2048 : Shape := ⟨2, ![1, 2048]⟩
abbrev S1x3840 : Shape := ⟨2, ![1, 3840]⟩
abbrev S256x3840 : Shape := ⟨2, ![256, 3840]⟩
abbrev S2048x768 : Shape := ⟨2, ![2048, 768]⟩
abbrev S1x768 : Shape := ⟨2, ![1, 768]⟩
abbrev S256x768 : Shape := ⟨2, ![256, 768]⟩
abbrev S256 : Shape := ⟨1, ![256]⟩
abbrev S256x1 : Shape := ⟨2, ![256, 1]⟩
abbrev S256x1536 : Shape := ⟨2, ![256, 1536]⟩
abbrev S256x32 : Shape := ⟨2, ![256, 32]⟩
abbrev S256x576 : Shape := ⟨2, ![256, 576]⟩
abbrev S256x2144 : Shape := ⟨2, ![256, 2144]⟩
abbrev S1x256x2144 : Shape := ⟨3, ![1, 256, 2144]⟩

abbrev nBuf : Space → Nat
  | .hbm => 40
  | .vmem => 11
  | .smem => 0
  | _ => 0

abbrev bufTy : (tb : Table) → Fin (tcTables nBuf tb) → BufTy
  | .hbm, ⟨0, _⟩ => ⟨S1x256x2048, .f32⟩
  | .hbm, ⟨1, _⟩ => ⟨S2x2048, .f32⟩
  | .hbm, ⟨2, _⟩ => ⟨S2048, .f32⟩
  | .hbm, ⟨3, _⟩ => ⟨S2048, .f32⟩
  | .hbm, ⟨4, _⟩ => ⟨S1x2048x3680, .f32⟩
  | .hbm, ⟨5, _⟩ => ⟨S2048x3680, .f32⟩
  | .hbm, ⟨6, _⟩ => ⟨S2048x64, .f32⟩
  | .hbm, ⟨7, _⟩ => ⟨S2048x1536, .f32⟩
  | .hbm, ⟨8, _⟩ => ⟨S2048x1536, .f32⟩
  | .hbm, ⟨9, _⟩ => ⟨S2048x512, .f32⟩
  | .hbm, ⟨10, _⟩ => ⟨S2048x2x2x16, .f32⟩
  | .hbm, ⟨11, _⟩ => ⟨S2048x2x1x16, .f32⟩
  | .hbm, ⟨12, _⟩ => ⟨S2048x2x16, .f32⟩
  | .hbm, ⟨13, _⟩ => ⟨S2048x2x16, .f32⟩
  | .hbm, ⟨14, _⟩ => ⟨S2048x2x1x16, .f32⟩
  | .hbm, ⟨15, _⟩ => ⟨S2048x2x16, .f32⟩
  | .hbm, ⟨16, _⟩ => ⟨S2048x2x1x16, .f32⟩
  | .hbm, ⟨17, _⟩ => ⟨S2048x2x1x16, .f32⟩
  | .hbm, ⟨18, _⟩ => ⟨S2048x2x2x16, .f32⟩
  | .hbm, ⟨19, _⟩ => ⟨S2048x64, .f32⟩
  | .hbm, ⟨20, _⟩ => ⟨S2048x32, .f32⟩
  | .hbm, ⟨21, _⟩ => ⟨S_, .f32⟩
  | .hbm, ⟨22, _⟩ => ⟨S2048x96, .f32⟩
  | .hbm, ⟨23, _⟩ => ⟨S2048x3840, .f32⟩
  | .hbm, ⟨24, _⟩ => ⟨S2048x3840, .bf16⟩
  | .hbm, ⟨25, _⟩ => ⟨S_, .f32⟩
  | .hbm, ⟨26, _⟩ => ⟨S3840, .f32⟩
  | .hbm, ⟨27, _⟩ => ⟨S256x2048, .f32⟩
  | .hbm, ⟨28, _⟩ => ⟨S1x2048, .f32⟩
  | .hbm, ⟨29, _⟩ => ⟨S2048, .f32⟩
  | .hbm, ⟨30, _⟩ => ⟨S1x2048, .f32⟩
  | .hbm, ⟨31, _⟩ => ⟨S1x2048, .f32⟩
  | .hbm, ⟨32, _⟩ => ⟨S1x2048, .f32⟩
  | .hbm, ⟨33, _⟩ => ⟨S1x3840, .f32⟩
  | .hbm, ⟨34, _⟩ => ⟨S256x3840, .f32⟩
  | .hbm, ⟨35, _⟩ => ⟨S256x1536, .f32⟩
  | .hbm, ⟨36, _⟩ => ⟨S256x32, .f32⟩
  | .hbm, ⟨37, _⟩ => ⟨S256x576, .f32⟩
  | .hbm, ⟨38, _⟩ => ⟨S256x2144, .f32⟩
  | .hbm, ⟨39, _⟩ => ⟨S1x256x2144, .f32⟩
  | .local _ .vmem, ⟨0, _⟩ => ⟨S256x2048, .f32⟩
  | .local _ .vmem, ⟨1, _⟩ => ⟨S1x2048, .f32⟩
  | .local _ .vmem, ⟨2, _⟩ => ⟨S1x2048, .f32⟩
  | .local _ .vmem, ⟨3, _⟩ => ⟨S1x2048, .f32⟩
  | .local _ .vmem, ⟨4, _⟩ => ⟨S2048x768, .bf16⟩
  | .local _ .vmem, ⟨5, _⟩ => ⟨S2048x768, .bf16⟩
  | .local _ .vmem, ⟨6, _⟩ => ⟨S1x768, .f32⟩
  | .local _ .vmem, ⟨7, _⟩ => ⟨S1x768, .f32⟩
  | .local _ .vmem, ⟨8, _⟩ => ⟨S256x768, .f32⟩
  | .local _ .vmem, ⟨9, _⟩ => ⟨S256x768, .f32⟩
  | .local _ .vmem, ⟨10, _⟩ => ⟨S256x2048, .bf16⟩
  | _, _ => ⟨S1x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_0 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![1, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference11Ideal.lean ====
abbrev S1x256x2048 : Shape := ⟨3, ![1, 256, 2048]⟩
abbrev S2x2048 : Shape := ⟨2, ![2, 2048]⟩
abbrev S2048 : Shape := ⟨1, ![2048]⟩
abbrev S1x2048x3680 : Shape := ⟨3, ![1, 2048, 3680]⟩
abbrev S1x2048 : Shape := ⟨2, ![1, 2048]⟩
abbrev S_ : Shape := ⟨0, ![]⟩
abbrev S1x256 : Shape := ⟨2, ![1, 256]⟩
abbrev S1x256x1 : Shape := ⟨3, ![1, 256, 1]⟩
abbrev S1x1x2048 : Shape := ⟨3, ![1, 1, 2048]⟩
abbrev S2048x3680 : Shape := ⟨2, ![2048, 3680]⟩
abbrev S2048x2144 : Shape := ⟨2, ![2048, 2144]⟩
abbrev S1x256x2144 : Shape := ⟨3, ![1, 256, 2144]⟩

abbrev nBuf : Space → Nat
  | .hbm => 35
  | .vmem => 0
  | .smem => 0
  | _ => 0

abbrev bufTy : (tb : Table) → Fin (tcTables nBuf tb) → BufTy
  | .hbm, ⟨0, _⟩ => ⟨S1x256x2048, .f32⟩
  | .hbm, ⟨1, _⟩ => ⟨S2x2048, .f32⟩
  | .hbm, ⟨2, _⟩ => ⟨S2048, .f32⟩
  | .hbm, ⟨3, _⟩ => ⟨S2048, .f32⟩
  | .hbm, ⟨4, _⟩ => ⟨S1x2048x3680, .f32⟩
  | .hbm, ⟨5, _⟩ => ⟨S1x2048, .f32⟩
  | .hbm, ⟨6, _⟩ => ⟨S2048, .f32⟩
  | .hbm, ⟨7, _⟩ => ⟨S1x256x2048, .f32⟩
  | .hbm, ⟨8, _⟩ => ⟨S_, .f32⟩
  | .hbm, ⟨9, _⟩ => ⟨S1x256, .f32⟩
  | .hbm, ⟨10, _⟩ => ⟨S1x256x1, .f32⟩
  | .hbm, ⟨11, _⟩ => ⟨S_, .f32⟩
  | .hbm, ⟨12, _⟩ => ⟨S1x256x1, .f32⟩
  | .hbm, ⟨13, _⟩ => ⟨S1x256x1, .f32⟩
  | .hbm, ⟨14, _⟩ => ⟨S_, .f32⟩
  | .hbm, ⟨15, _⟩ => ⟨S1x256x1, .f32⟩
  | .hbm, ⟨16, _⟩ => ⟨S1x256x1, .f32⟩
  | .hbm, ⟨17, _⟩ => ⟨S1x256x1, .f32⟩
  | .hbm, ⟨18, _⟩ => ⟨S1x256x2048, .f32⟩
  | .hbm, ⟨19, _⟩ => ⟨S1x256x2048, .f32⟩
  | .hbm, ⟨20, _⟩ => ⟨S1x1x2048, .f32⟩
  | .hbm, ⟨21, _⟩ => ⟨S1x256x2048, .f32⟩
  | .hbm, ⟨22, _⟩ => ⟨S1x256x2048, .f32⟩
  | .hbm, ⟨23, _⟩ => ⟨S_, .f32⟩
  | .hbm, ⟨24, _⟩ => ⟨S2048, .f32⟩
  | .hbm, ⟨25, _⟩ => ⟨S2048, .f32⟩
  | .hbm, ⟨26, _⟩ => ⟨S1x1x2048, .f32⟩
  | .hbm, ⟨27, _⟩ => ⟨S1x256x2048, .f32⟩
  | .hbm, ⟨28, _⟩ => ⟨S1x256x2048, .f32⟩
  | .hbm, ⟨29, _⟩ => ⟨S1x1x2048, .f32⟩
  | .hbm, ⟨30, _⟩ => ⟨S1x256x2048, .f32⟩
  | .hbm, ⟨31, _⟩ => ⟨S1x256x2048, .f32⟩
  | .hbm, ⟨32, _⟩ => ⟨S2048x3680, .f32⟩
  | .hbm, ⟨33, _⟩ => ⟨S2048x2144, .f32⟩
  | .hbm, ⟨34, _⟩ => ⟨S1x256x2144, .f32⟩
  | _, _ => ⟨S1x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]
-- ==== Proof.Conds.lean ====
/- When the branches of the attention kernel's body are taken: the first point of a query tile's run of fourteen, the odd
   points between, the even points between, and the last point of the run. -/
module

public import proofs.«01_k».proof.Proof.Gen.KernelIdeal.Skeleton
public import proofs.«01_k».proof.Proof.Gen.KernelIdeal.Frame
public import Idealize.ShloMosaic.Lib.WordCmp

@[expose] public section

set_option maxRecDepth 16384

noncomputable section

namespace Cert.KernelIdeal.Attn

open Idealize.ShloMosaic Idealize.ShloMosaic.TcCoe Idealize.ShloMosaic.Tactic
open Idealize.SL Idealize.SL.Sem
open Cert.KernelIdeal.Gen

/-- The first point of a run: the running maximum and sums are reset. -/
abbrev isFirst (i : grid0.Coords) : Prop := (Scalar.cmpi .ne (Scalar.extui (Scalar.cmpi .eq (BitVec.ofNat 32 (i 2).val) 0#32)) 0#32) = 1#1
/-- An odd point between: the scores kept in the first buffer are used, the second is filled. -/
abbrev isOdd (i : grid0.Coords) : Prop := (Scalar.cmpi .ne (Scalar.extui (Scalar.andi (Scalar.andi (Scalar.cmpi .sgt (BitVec.ofNat 32 (i 2).val) 0#32) (Scalar.cmpi .slt (BitVec.ofNat 32 (i 2).val) 13#32)) (Scalar.cmpi .eq (Scalar.select (Scalar.andi (Scalar.xori (Scalar.cmpi .slt (Scalar.remsi (BitVec.ofNat 32 (i 2).val) (Scalar.select (Scalar.cmpi .eq 2#32 0#32) 1#32 2#32)) 0#32) (Scalar.cmpi .slt (Scalar.select (Scalar.cmpi .eq 2#32 0#32) 1#32 2#32) 0#32)) (Scalar.cmpi .ne (Scalar.remsi (BitVec.ofNat 32 (i 2).val) (Scalar.select (Scalar.cmpi .eq 2#32 0#32) 1#32 2#32)) 0#32)) (Scalar.addi (Scalar.remsi (BitVec.ofNat 32 (i 2).val) (Scalar.select (Scalar.cmpi .eq 2#32 0#32) 1#32 2#32)) (Scalar.select (Scalar.cmpi .eq 2#32 0#32) 1#32 2#32)) (Scalar.remsi (BitVec.ofNat 32 (i 2).val) (Scalar.select (Scalar.cmpi .eq 2#32 0#32) 1#32 2#32))) 1#32))) 0#32) = 1#1
/-- An even point between: the scores kept in the second buffer are used, the first is filled. -/
abbrev isEven (i : grid0.Coords) : Prop := (Scalar.cmpi .ne (Scalar.extui (Scalar.andi (Scalar.andi (Scalar.cmpi .sgt (BitVec.ofNat 32 (i 2).val) 0#32) (Scalar.cmpi .slt (BitVec.ofNat 32 (i 2).val) 13#32)) (Scalar.cmpi .eq (Scalar.select (Scalar.andi (Scalar.xori (Scalar.cmpi .slt (Scalar.remsi (BitVec.ofNat 32 (i 2).val) (Scalar.select (Scalar.cmpi .eq 2#32 0#32) 1#32 2#32)) 0#32) (Scalar.cmpi .slt (Scalar.select (Scalar.cmpi .eq 2#32 0#32) 1#32 2#32) 0#32)) (Scalar.cmpi .ne (Scalar.remsi (BitVec.ofNat 32 (i 2).val) (Scalar.select (Scalar.cmpi .eq 2#32 0#32) 1#32 2#32)) 0#32)) (Scalar.addi (Scalar.remsi (BitVec.ofNat 32 (i 2).val) (Scalar.select (Scalar.cmpi .eq 2#32 0#32) 1#32 2#32)) (Scalar.select (Scalar.cmpi .eq 2#32 0#32) 1#32 2#32)) (Scalar.remsi (BitVec.ofNat 32 (i 2).val) (Scalar.select (Scalar.cmpi .eq 2#32 0#32) 1#32 2#32))) 0#32))) 0#32) = 1#1
/-- The last point of a run: the last scores are used and the tile is written. -/
abbrev isLast (i : grid0.Coords) : Prop := k0_cond4 i = 1#1

theorem isFirst_iff (t : Fin cfg0.N) : isFirst (grid0.coords t) ↔ t.val % 14 = 0 :=
  (by decide +kernel : ∀ t : Fin grid0.N, isFirst (grid0.coords t) ↔ t.val % 14 = 0) t

theorem isOdd_iff (t : Fin cfg0.N) : isOdd (grid0.coords t) ↔ (t.val % 14 % 2 = 1 ∧ t.val % 14 ≠ 13) :=
  (by decide +kernel : ∀ t : Fin grid0.N, isOdd (grid0.coords t) ↔ (t.val % 14 % 2 = 1 ∧ t.val % 14 ≠ 13)) t

theorem isEven_iff (t : Fin cfg0.N) : isEven (grid0.coords t) ↔ (t.val % 14 % 2 = 0 ∧ t.val % 14 ≠ 0) :=
  (by decide +kernel : ∀ t : Fin grid0.N, isEven (grid0.coords t) ↔ (t.val % 14 % 2 = 0 ∧ t.val % 14 ≠ 0)) t

theorem isLast_iff (t : Fin cfg0.N) : isLast (grid0.coords t) ↔ t.val % 14 = 13 :=
  (by decide +kernel : ∀ t : Fin grid0.N, isLast (grid0.coords t) ↔ t.val % 14 = 13) t

/-- The output window is written at a run's last point only. -/
theorem idle_iff (t : Fin cfg0.N) : cfg0.idle 3 (grid0.coords t) = decide (t.val % 14 ≠ 13) :=
  (by decide +kernel : ∀ t : Fin cfg0.N, cfg0.idle 3 (grid0.coords t) = decide (t.val % 14 ≠ 13)) t

end Cert.KernelIdeal.Attn

end
-- ==== Proof.Body.lean ====
/- What the attention kernel's body does at one point, in its four cases, over any float values: from the blocks in its windows and
   the contents of its scratch, the scratch and the output block it leaves. -/
module

public import proofs.«01_k».proof.Proof.Conds
public import Idealize.ShloMosaic.Lib.Pipeline.FrameBody
public import Idealize.ShloMosaic.Lib.Pipeline.ValueKit
public import Idealize.ShloMosaic.Lib.VecWindow
public import Idealize.ShloMosaic.Lib.Tactic

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

/-- A load of a whole buffer reads its contents. -/
theorem load_whole {s : Shape} {e : EltTy} (v : View sig .tc .vmem s e) (f : v.ty.Contents (Elt F)) {off : Fin s.rank → ℕ}
    (inb : ∀ a, off a + s.size a ≤ s.size a) :
    v.readAt (Elt F) (Rect.unit off (no_index s.size) inb).toLoadRect f = v.read (Elt F) f := View.readAt_full v f inb

/-- A load of a whole buffer after a store of the whole reads what was stored. -/
theorem load_stored {s : Shape} {e : EltTy} (v : View sig .tc .vmem s e) {off off' : Fin s.rank → ℕ}
    (inb : ∀ a, off a + s.size a ≤ s.size a) (inb' : ∀ a, off' a + s.size a ≤ s.size a)
    (w : s.Idx → Elt F e) (L : List (View.Piece (Elt F) s e)) :
    v.readCov ((⟨Rect.unit off' (no_index s.size) inb', w⟩ : View.Piece (Elt F) s e) :: L) (Rect.unit off (no_index s.size) inb).toLoadRect = w :=
  View.readCov_full v inb inb' w L

/-- The scores of a query tile against a key tile. -/
abbrev score (q : Vec F S2048x256 .bf16) (k : Vec F S1280x256 .bf16) : Vec F S2048x1280 .f32 := k0_pay17 q k
/-- The new running maximum. -/
abbrev newMax (s : Vec F S2048x1280 .f32) (m : Vec F S2048x1 .f32) : Vec F S2048x1 .f32 := k0_pay3 s m
/-- The new running sums. -/
abbrev newAcc (s : Vec F S2048x1280 .f32) (m : Vec F S2048x1 .f32) (v : Vec F S1280x128 .bf16) (a : Vec F S2048x256 .f32) :
    Vec F S2048x256 .f32 := k0_pay2 s m v a

set_option maxHeartbeats 1600000 in
/-- A first point: the maximum and the sums are reset, the scores of the first key tile are kept in the first buffer. -/
theorem body_first (c : Dev nD) (i : grid0.Coords) (arg3 : Memref sig .tc .vmem S2048x256 .bf16) (harg3 : arg3.IsWhole) (arg4 : Memref sig .tc .vmem S1280x256 .bf16) (harg4 : arg4.IsWhole) (arg5 : Memref sig .tc .vmem S1280x128 .bf16) (harg5 : arg5.IsWhole) (arg6 : Memref sig .tc .vmem S2048x128 .bf16) (harg6 : arg6.IsWhole) (arg7 : Memref sig .tc .vmem S2048x1280 .f32) (harg7 : arg7.IsWhole) (arg8 : Memref sig .tc .vmem S2048x1280 .f32) (harg8 : arg8.IsWhole) (arg9 : Memref sig .tc .vmem S2048x1 .f32) (harg9 : arg9.IsWhole) (arg10 : Memref sig .tc .vmem S2048x256 .f32) (harg10 : arg10.IsWhole) (hc0 : isFirst i) (hc1 : ¬isOdd i) (hc2 : ¬isEven i) (hc3 : ¬isLast i)
    (q : Vec F S2048x256 .bf16) (k : Vec F S1280x256 .bf16) (v : Vec F S1280x128 .bf16) (o : Vec F S2048x128 .bf16) (s : Vec F S2048x1280 .f32) (mx : Vec F S2048x1 .f32) (a : Vec F S2048x256 .f32)
    (E : Set ℕ) (K : PUnit → sProp 𝕄) :
    iprop(owns (c : Thread nD τ) arg3 fullShare q ∗ owns (c : Thread nD τ) arg4 fullShare k ∗ owns (c : Thread nD τ) arg5 fullShare v ∗ owns (c : Thread nD τ) arg6 fullShare o ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg3 fullShare q ∗ owns (c : Thread nD τ) arg4 fullShare k ∗ owns (c : Thread nD τ) arg5 fullShare v ∗ owns (c : Thread nD τ) arg6 fullShare o ∗ owns (c : Thread nD τ) arg7 fullShare (score q k) ∗ (∃ d, owns (c : Thread nD τ) arg8 fullShare d) ∗ owns (c : Thread nD τ) arg9 fullShare k0_pay15 ∗ owns (c : Thread nD τ) arg10 fullShare k0_pay16) -∗ K ⟨⟩))
      ⊢ wp frame (wpE (defs₀ (F := F)) Variants.none c none) E (cc0_mla_attention i arg3 harg3 arg4 harg4 arg5 harg5 arg6 harg6 arg7 harg7 arg8 harg8 arg9 harg9 arg10 harg10) K := by
  simp only [cc0_mla_attention_eq_skeleton]; unfold cc0_mla_attention_skel
  simp only [k0_part4_eq_skeleton]
  unfold owns
  iintro ⟨⟨%f0, %hf0, H0⟩, ⟨%f1, %hf1, H1⟩, ⟨%f2, %hf2, H2⟩, ⟨%f3, %hf3, H3⟩, ⟨%d4, %f4, %hf4, H4⟩, ⟨%d5, %f5, %hf5, H5⟩, ⟨%d6, %f6, %hf6, H6⟩, ⟨%d7, %f7, %hf7, H7⟩, Hk⟩
  obtain rfl := harg3.eq_unread hf0; obtain rfl := harg4.eq_unread hf1; obtain rfl := harg5.eq_unread hf2; obtain rfl := harg6.eq_unread hf3
  sl_exec (disch := first | sl_exact hc0 | sl_exact hc1 | sl_exact hc2 | sl_exact hc3)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr
    swap; · iexact H4
    ipureintro
    refine (View.read_writes_full _ _ _ _ _).trans ?_
    try simp only [load_whole, load_stored, harg3.read_unread, harg4.read_unread, harg5.read_unread, harg7.read_unread, harg8.read_unread, harg9.read_unread, harg10.read_unread]
    all_goals rfl
  isplitl [H5]
  · iexists _; iexists _; isplitr; · ipureintro; exact hf5
    iexact H5
  isplitl [H6]
  · iexists _; isplitr
    swap; · iexact H6
    ipureintro
    refine (View.read_writes_full _ _ _ _ _).trans ?_
    try simp only [load_whole, load_stored, harg3.read_unread, harg4.read_unread, harg5.read_unread, harg7.read_unread, harg8.read_unread, harg9.read_unread, harg10.read_unread]
    all_goals rfl
  · iexists _; isplitr
    swap; · iexact H7
    ipureintro
    refine (View.read_writes_full _ _ _ _ _).trans ?_
    try simp only [load_whole, load_stored, harg3.read_unread, harg4.read_unread, harg5.read_unread, harg7.read_unread, harg8.read_unread, harg9.read_unread, harg10.read_unread]
    all_goals rfl

set_option maxHeartbeats 1600000 in
/-- An odd point: the scores of the first buffer are used, the second is filled. -/
theorem body_odd (c : Dev nD) (i : grid0.Coords) (arg3 : Memref sig .tc .vmem S2048x256 .bf16) (harg3 : arg3.IsWhole) (arg4 : Memref sig .tc .vmem S1280x256 .bf16) (harg4 : arg4.IsWhole) (arg5 : Memref sig .tc .vmem S1280x128 .bf16) (harg5 : arg5.IsWhole) (arg6 : Memref sig .tc .vmem S2048x128 .bf16) (harg6 : arg6.IsWhole) (arg7 : Memref sig .tc .vmem S2048x1280 .f32) (harg7 : arg7.IsWhole) (arg8 : Memref sig .tc .vmem S2048x1280 .f32) (harg8 : arg8.IsWhole) (arg9 : Memref sig .tc .vmem S2048x1 .f32) (harg9 : arg9.IsWhole) (arg10 : Memref sig .tc .vmem S2048x256 .f32) (harg10 : arg10.IsWhole) (hc0 : ¬isFirst i) (hc1 : isOdd i) (hc2 : ¬isEven i) (hc3 : ¬isLast i)
    (q : Vec F S2048x256 .bf16) (k : Vec F S1280x256 .bf16) (v : Vec F S1280x128 .bf16) (o : Vec F S2048x128 .bf16) (s : Vec F S2048x1280 .f32) (mx : Vec F S2048x1 .f32) (a : Vec F S2048x256 .f32)
    (E : Set ℕ) (K : PUnit → sProp 𝕄) :
    iprop(owns (c : Thread nD τ) arg3 fullShare q ∗ owns (c : Thread nD τ) arg4 fullShare k ∗ owns (c : Thread nD τ) arg5 fullShare v ∗ owns (c : Thread nD τ) arg6 fullShare o ∗ owns (c : Thread nD τ) arg7 fullShare s ∗ (∃ d, owns (c : Thread nD τ) arg8 fullShare d) ∗ owns (c : Thread nD τ) arg9 fullShare mx ∗ owns (c : Thread nD τ) arg10 fullShare a
        ∗ (iprop(owns (c : Thread nD τ) arg3 fullShare q ∗ owns (c : Thread nD τ) arg4 fullShare k ∗ owns (c : Thread nD τ) arg5 fullShare v ∗ owns (c : Thread nD τ) arg6 fullShare o ∗ owns (c : Thread nD τ) arg7 fullShare s ∗ owns (c : Thread nD τ) arg8 fullShare (score q k) ∗ owns (c : Thread nD τ) arg9 fullShare (newMax s mx) ∗ owns (c : Thread nD τ) arg10 fullShare (newAcc s mx v a)) -∗ K ⟨⟩))
      ⊢ wp frame (wpE (defs₀ (F := F)) Variants.none c none) E (cc0_mla_attention i arg3 harg3 arg4 harg4 arg5 harg5 arg6 harg6 arg7 harg7 arg8 harg8 arg9 harg9 arg10 harg10) K := by
  simp only [cc0_mla_attention_eq_skeleton]; unfold cc0_mla_attention_skel
  simp only [k0_part4_eq_skeleton, k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, %hf5, H5⟩, ⟨%f6, %hf6, H6⟩, ⟨%f7, %hf7, H7⟩, Hk⟩
  obtain rfl := harg3.eq_unread hf0; obtain rfl := harg4.eq_unread hf1; obtain rfl := harg5.eq_unread hf2; obtain rfl := harg6.eq_unread hf3; obtain rfl := harg7.eq_unread hf4; obtain rfl := harg9.eq_unread hf6; obtain rfl := harg10.eq_unread hf7
  sl_exec (disch := first | sl_exact hc0 | sl_exact hc1 | sl_exact hc2 | sl_exact hc3)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr
    swap; · iexact H5
    ipureintro
    refine (View.read_writes_full _ _ _ _ _).trans ?_
    unfold body_odd.sl.r body_odd.sl.r_1 body_odd.sl.cst_37
    try simp only [load_whole, load_stored, harg3.read_unread, harg4.read_unread, harg5.read_unread, harg7.read_unread, harg8.read_unread, harg9.read_unread, harg10.read_unread]
    all_goals rfl
  isplitl [H6]
  · iexists _; isplitr
    swap; · iexact H6
    ipureintro
    refine (View.read_writes_full _ _ _ _ _).trans ?_
    try simp only [load_whole, load_stored, harg3.read_unread, harg4.read_unread, harg5.read_unread, harg7.read_unread, harg8.read_unread, harg9.read_unread, harg10.read_unread]
    all_goals rfl
  · iexists _; isplitr
    swap; · iexact H7
    ipureintro
    refine (View.read_writes_full _ _ _ _ _).trans ?_
    try simp only [load_whole, load_stored, harg3.read_unread, harg4.read_unread, harg5.read_unread, harg7.read_unread, harg8.read_unread, harg9.read_unread, harg10.read_unread]
    all_goals rfl

set_option maxHeartbeats 1600000 in
/-- An even point: the scores of the second buffer are used, the first is filled. -/
theorem body_even (c : Dev nD) (i : grid0.Coords) (arg3 : Memref sig .tc .vmem S2048x256 .bf16) (harg3 : arg3.IsWhole) (arg4 : Memref sig .tc .vmem S1280x256 .bf16) (harg4 : arg4.IsWhole) (arg5 : Memref sig .tc .vmem S1280x128 .bf16) (harg5 : arg5.IsWhole) (arg6 : Memref sig .tc .vmem S2048x128 .bf16) (harg6 : arg6.IsWhole) (arg7 : Memref sig .tc .vmem S2048x1280 .f32) (harg7 : arg7.IsWhole) (arg8 : Memref sig .tc .vmem S2048x1280 .f32) (harg8 : arg8.IsWhole) (arg9 : Memref sig .tc .vmem S2048x1 .f32) (harg9 : arg9.IsWhole) (arg10 : Memref sig .tc .vmem S2048x256 .f32) (harg10 : arg10.IsWhole) (hc0 : ¬isFirst i) (hc1 : ¬isOdd i) (hc2 : isEven i) (hc3 : ¬isLast i)
    (q : Vec F S2048x256 .bf16) (k : Vec F S1280x256 .bf16) (v : Vec F S1280x128 .bf16) (o : Vec F S2048x128 .bf16) (s : Vec F S2048x1280 .f32) (mx : Vec F S2048x1 .f32) (a : Vec F S2048x256 .f32)
    (E : Set ℕ) (K : PUnit → sProp 𝕄) :
    iprop(owns (c : Thread nD τ) arg3 fullShare q ∗ owns (c : Thread nD τ) arg4 fullShare k ∗ owns (c : Thread nD τ) arg5 fullShare v ∗ owns (c : Thread nD τ) arg6 fullShare o ∗ (∃ d, owns (c : Thread nD τ) arg7 fullShare d) ∗ owns (c : Thread nD τ) arg8 fullShare s ∗ owns (c : Thread nD τ) arg9 fullShare mx ∗ owns (c : Thread nD τ) arg10 fullShare a
        ∗ (iprop(owns (c : Thread nD τ) arg3 fullShare q ∗ owns (c : Thread nD τ) arg4 fullShare k ∗ owns (c : Thread nD τ) arg5 fullShare v ∗ owns (c : Thread nD τ) arg6 fullShare o ∗ owns (c : Thread nD τ) arg7 fullShare (score q k) ∗ owns (c : Thread nD τ) arg8 fullShare s ∗ owns (c : Thread nD τ) arg9 fullShare (newMax s mx) ∗ owns (c : Thread nD τ) arg10 fullShare (newAcc s mx v a)) -∗ K ⟨⟩))
      ⊢ wp frame (wpE (defs₀ (F := F)) Variants.none c none) E (cc0_mla_attention i arg3 harg3 arg4 harg4 arg5 harg5 arg6 harg6 arg7 harg7 arg8 harg8 arg9 harg9 arg10 harg10) K := by
  simp only [cc0_mla_attention_eq_skeleton]; unfold cc0_mla_attention_skel
  simp only [k0_part4_eq_skeleton, k0_part2_eq_skeleton]
  unfold owns
  iintro ⟨⟨%f0, %hf0, H0⟩, ⟨%f1, %hf1, H1⟩, ⟨%f2, %hf2, H2⟩, ⟨%f3, %hf3, H3⟩, ⟨%d4, %f4, %hf4, H4⟩, ⟨%f5, %hf5, H5⟩, ⟨%f6, %hf6, H6⟩, ⟨%f7, %hf7, H7⟩, Hk⟩
  obtain rfl := harg3.eq_unread hf0; obtain rfl := harg4.eq_unread hf1; obtain rfl := harg5.eq_unread hf2; obtain rfl := harg6.eq_unread hf3; obtain rfl := harg8.eq_unread hf5; obtain rfl := harg9.eq_unread hf6; obtain rfl := harg10.eq_unread hf7
  sl_exec (disch := first | sl_exact hc0 | sl_exact hc1 | sl_exact hc2 | sl_exact hc3)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr
    swap; · iexact H4
    ipureintro
    refine (View.read_writes_full _ _ _ _ _).trans ?_
    unfold body_even.sl.r body_even.sl.r_1 body_even.sl.cst_37
    try simp only [load_whole, load_stored, harg3.read_unread, harg4.read_unread, harg5.read_unread, harg7.read_unread, harg8.read_unread, harg9.read_unread, harg10.read_unread]
    all_goals rfl
  isplitl [H5]
  · iexists _; isplitr; · ipureintro; exact harg8.read_unread _
    iexact H5
  isplitl [H6]
  · iexists _; isplitr
    swap; · iexact H6
    ipureintro
    refine (View.read_writes_full _ _ _ _ _).trans ?_
    try simp only [load_whole, load_stored, harg3.read_unread, harg4.read_unread, harg5.read_unread, harg7.read_unread, harg8.read_unread, harg9.read_unread, harg10.read_unread]
    all_goals rfl
  · iexists _; isplitr
    swap; · iexact H7
    ipureintro
    refine (View.read_writes_full _ _ _ _ _).trans ?_
    try simp only [load_whole, load_stored, harg3.read_unread, harg4.read_unread, harg5.read_unread, harg7.read_unread, harg8.read_unread, harg9.read_unread, harg10.read_unread]
    all_goals rfl

set_option maxHeartbeats 1600000 in
/-- A last point: the scores of the first buffer are used, then the sums are divided by the denominators and stored. -/
theorem body_last (c : Dev nD) (i : grid0.Coords) (arg3 : Memref sig .tc .vmem S2048x256 .bf16) (harg3 : arg3.IsWhole) (arg4 : Memref sig .tc .vmem S1280x256 .bf16) (harg4 : arg4.IsWhole) (arg5 : Memref sig .tc .vmem S1280x128 .bf16) (harg5 : arg5.IsWhole) (arg6 : Memref sig .tc .vmem S2048x128 .bf16) (harg6 : arg6.IsWhole) (arg7 : Memref sig .tc .vmem S2048x1280 .f32) (harg7 : arg7.IsWhole) (arg8 : Memref sig .tc .vmem S2048x1280 .f32) (harg8 : arg8.IsWhole) (arg9 : Memref sig .tc .vmem S2048x1 .f32) (harg9 : arg9.IsWhole) (arg10 : Memref sig .tc .vmem S2048x256 .f32) (harg10 : arg10.IsWhole) (hc0 : ¬isFirst i) (hc1 : ¬isOdd i) (hc2 : ¬isEven i) (hc3 : isLast i)
    (q : Vec F S2048x256 .bf16) (k : Vec F S1280x256 .bf16) (v : Vec F S1280x128 .bf16) (o : Vec F S2048x128 .bf16) (s : Vec F S2048x1280 .f32) (mx : Vec F S2048x1 .f32) (a : Vec F S2048x256 .f32)
    (E : Set ℕ) (K : PUnit → sProp 𝕄) :
    iprop(owns (c : Thread nD τ) arg3 fullShare q ∗ owns (c : Thread nD τ) arg4 fullShare k ∗ owns (c : Thread nD τ) arg5 fullShare v ∗ owns (c : Thread nD τ) arg6 fullShare o ∗ owns (c : Thread nD τ) arg7 fullShare s ∗ (∃ d, owns (c : Thread nD τ) arg8 fullShare d) ∗ owns (c : Thread nD τ) arg9 fullShare mx ∗ owns (c : Thread nD τ) arg10 fullShare a
        ∗ (iprop(owns (c : Thread nD τ) arg3 fullShare q ∗ owns (c : Thread nD τ) arg4 fullShare k ∗ owns (c : Thread nD τ) arg5 fullShare v ∗ owns (c : Thread nD τ) arg6 fullShare (k0_pay14 (newAcc s mx v a)) ∗ owns (c : Thread nD τ) arg7 fullShare s ∗ (∃ d, owns (c : Thread nD τ) arg8 fullShare d) ∗ owns (c : Thread nD τ) arg9 fullShare (newMax s mx) ∗ owns (c : Thread nD τ) arg10 fullShare (newAcc s mx v a)) -∗ K ⟨⟩))
      ⊢ wp frame (wpE (defs₀ (F := F)) Variants.none c none) E (cc0_mla_attention i arg3 harg3 arg4 harg4 arg5 harg5 arg6 harg6 arg7 harg7 arg8 harg8 arg9 harg9 arg10 harg10) K := by
  simp only [cc0_mla_attention_eq_skeleton]; unfold cc0_mla_attention_skel
  simp only [k0_part4_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, %hf5, H5⟩, ⟨%f6, %hf6, H6⟩, ⟨%f7, %hf7, H7⟩, Hk⟩
  obtain rfl := harg3.eq_unread hf0; obtain rfl := harg4.eq_unread hf1; obtain rfl := harg5.eq_unread hf2; obtain rfl := harg6.eq_unread hf3; obtain rfl := harg7.eq_unread hf4; obtain rfl := harg9.eq_unread hf6; obtain rfl := harg10.eq_unread hf7
  sl_exec (disch := first | sl_exact hc0 | sl_exact hc1 | sl_exact hc2 | sl_exact hc3)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr
    swap; · iexact H3
    ipureintro
    refine (View.read_writes_full _ _ _ _ _).trans ?_
    unfold body_last.sl.r body_last.sl.v69 body_last.sl.H7_1
    try simp only [load_whole, load_stored, harg3.read_unread, harg4.read_unread, harg5.read_unread, harg7.read_unread, harg8.read_unread, harg9.read_unread, harg10.read_unread]
    all_goals rfl
  isplitl [H4]
  · iexists _; isplitr; · ipureintro; exact harg7.read_unread _
    iexact H4
  isplitl [H5]
  · iexists _; iexists _; isplitr; · ipureintro; exact hf5
    iexact H5
  isplitl [H6]
  · iexists _; isplitr
    swap; · iexact H6
    ipureintro
    refine (View.read_writes_full _ _ _ _ _).trans ?_
    try simp only [load_whole, load_stored, harg3.read_unread, harg4.read_unread, harg5.read_unread, harg7.read_unread, harg8.read_unread, harg9.read_unread, harg10.read_unread]
    all_goals rfl
  · iexists _; isplitr
    swap; · iexact H7
    ipureintro
    refine (View.read_writes_full _ _ _ _ _).trans ?_
    try simp only [load_whole, load_stored, harg3.read_unread, harg4.read_unread, harg5.read_unread, harg7.read_unread, harg8.read_unread, harg9.read_unread, harg10.read_unread]
    all_goals rfl

end Cert.KernelIdeal.Attn

end
-- ==== Proof.Run.lean ====
/- The run of the attention call over any float values: what its scratch holds after each point, the pipeline's proof data, the
   body's obligation at every point, and the run of the program with the counters at zero. -/
module

public import proofs.«01_k».proof.Proof.Body

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem N_eq : cfg0.N = 896 := N_0

/-- The `n`-th point of the grid. -/
def pt (n : ℕ) : Fin cfg0.N := ⟨n % cfg0.N, Nat.mod_lt _ (by rw [N_eq]; decide)⟩

theorem pt_val (t : Fin cfg0.N) : pt t.val = t := Fin.ext (Nat.mod_eq_of_lt t.isLt)

/-- The query, key and value tiles in the windows at the `n`-th point. -/
def qB (c : Dev nD) (n : ℕ) : Vec F S2048x256 .bf16 := iblk m c 0 (pt n)
def kB (c : Dev nD) (n : ℕ) : Vec F S1280x256 .bf16 := iblk m c 1 (pt n)
def vB (c : Dev nD) (n : ℕ) : Vec F S1280x128 .bf16 := iblk m c 2 (pt n)

/-- What the scratch holds after the `n`-th point: the newest scores, the running maximum, the running sums. -/
def st (c : Dev nD) : ℕ → Vec F S2048x1280 .f32 × Vec F S2048x1 .f32 × Vec F S2048x256 .f32
  | 0 => (score (qB m c 0) (kB m c 0), k0_pay15, k0_pay16)
  | n + 1 =>
    if (n + 1) % 14 = 0 then (score (qB m c (n + 1)) (kB m c (n + 1)), k0_pay15, k0_pay16)
    else (score (qB m c (n + 1)) (kB m c (n + 1)), newMax (st c n).1 (st c n).2.1,
      newAcc (st c n).1 (st c n).2.1 (vB m c (n + 1)) (st c n).2.2)

theorem st_first (c : Dev nD) (n : ℕ) (h : n % 14 = 0) : st m c n = (score (qB m c n) (kB m c n), k0_pay15, k0_pay16) := by
  cases n with
  | zero => rfl
  | succ n => rw [st, if_pos h]

theorem st_next (c : Dev nD) (n : ℕ) (h : ¬n % 14 = 0) :
    st m c n = (score (qB m c n) (kB m c n), newMax (st m c (n - 1)).1 (st m c (n - 1)).2.1,
      newAcc (st m c (n - 1)).1 (st m c (n - 1)).2.1 (vB m c n) (st m c (n - 1)).2.2) := by
  cases n with
  | zero => exact absurd rfl h
  | succ n => rw [st, if_neg h]; rfl

/-- The scratch buffers. -/
abbrev sc0 : Memref sig .tc .vmem S2048x1280 .f32 := Memref.whole cc0_scratch0
abbrev sc1 : Memref sig .tc .vmem S2048x1280 .f32 := Memref.whole cc0_scratch1
abbrev sc2 : Memref sig .tc .vmem S2048x1 .f32 := Memref.whole cc0_scratch2
abbrev sc3 : Memref sig .tc .vmem S2048x256 .f32 := Memref.whole cc0_scratch3

theorem PhiA_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d)) ∗ (∃ r, prngReg c r)) := by
  unfold Pipeline.ΦA; rw [scopedRest0_eq]; simp only [sc0, sc1, sc2, sc3, owns_whole]; try rfl

/-- The invariant before position `n`: at the start of a run the scratch at anything; before an odd point the scores in the
    first buffer, before an even one in the second, beside the running maximum and sums. -/
def Inv (c : Dev nD) (n : ℕ) : sProp 𝕄 :=
  if n % 14 = 0 then Pipeline.ΦA spec0 c
  else if n % 14 % 2 = 1 then
    iprop(iprop(owns (c : Thread nD τ) sc0 fullShare (st m c (n - 1)).1 ∗ (∃ d, owns (c : Thread nD τ) sc1 fullShare d) ∗ owns (c : Thread nD τ) sc2 fullShare (st m c (n - 1)).2.1 ∗ owns (c : Thread nD τ) sc3 fullShare (st m c (n - 1)).2.2) ∗ (∃ r, prngReg c r))
  else
    iprop(iprop((∃ d, owns (c : Thread nD τ) sc0 fullShare d) ∗ owns (c : Thread nD τ) sc1 fullShare (st m c (n - 1)).1 ∗ owns (c : Thread nD τ) sc2 fullShare (st m c (n - 1)).2.1 ∗ owns (c : Thread nD τ) sc3 fullShare (st m c (n - 1)).2.2) ∗ (∃ r, prngReg c r))

theorem Inv_start (c : Dev nD) (n : ℕ) (h : n % 14 = 0) : Inv m c n = (Pipeline.ΦA spec0 c : sProp 𝕄) := if_pos h

theorem Inv_odd (c : Dev nD) (n : ℕ) (h : n % 14 % 2 = 1) :
    Inv m c n = iprop(iprop(owns (c : Thread nD τ) sc0 fullShare (st m c (n - 1)).1 ∗ (∃ d, owns (c : Thread nD τ) sc1 fullShare d) ∗ owns (c : Thread nD τ) sc2 fullShare (st m c (n - 1)).2.1 ∗ owns (c : Thread nD τ) sc3 fullShare (st m c (n - 1)).2.2) ∗ (∃ r, prngReg c r)) := by
  rw [Inv, if_neg (by omega), if_pos h]

theorem Inv_even (c : Dev nD) (n : ℕ) (h0 : ¬n % 14 = 0) (h : n % 14 % 2 = 0) :
    Inv m c n = iprop(iprop((∃ d, owns (c : Thread nD τ) sc0 fullShare d) ∗ owns (c : Thread nD τ) sc1 fullShare (st m c (n - 1)).1 ∗ owns (c : Thread nD τ) sc2 fullShare (st m c (n - 1)).2.1 ∗ owns (c : Thread nD τ) sc3 fullShare (st m c (n - 1)).2.2) ∗ (∃ r, prngReg c r)) := by
  rw [Inv, if_neg h0, if_neg (by omega)]

/-- The block a run's last point writes. -/
def outB (c : Dev nD) (n : ℕ) : Vec F S2048x128 .bf16 := k0_pay14 (st m c n).2.2

/-- The pipeline's proof data: every input block left in place, the output block the divided sums, the invariant above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outB m c t.val
  Φ t := Inv m c t.val
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = Inv m c t.val := rfl
theorem Phi_succ (c : Dev nD) (t : Fin cfg0.N) : (dats m 0 c).Φ t.succ = Inv m c (t.val + 1) := rfl

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = outB m c t.val := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-- What the body is called with at a point, and what it returns. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

theorem leaves_0 (c : Dev nD) (t : Fin cfg0.N) : (dats m 0 c).leavesExact 0 t = owns (c : Thread nD τ) (st0_0 t) fullShare (iblk m c 0 t) := by
  unfold Dat.leavesExact; rw [show cfg0.idle 0 (grid0.coords t) = false from rfl, after_0]
theorem leaves_1 (c : Dev nD) (t : Fin cfg0.N) : (dats m 0 c).leavesExact 1 t = owns (c : Thread nD τ) (st0_1 t) fullShare (iblk m c 1 t) := by
  unfold Dat.leavesExact; rw [show cfg0.idle 1 (grid0.coords t) = false from rfl, after_1]
theorem leaves_2 (c : Dev nD) (t : Fin cfg0.N) : (dats m 0 c).leavesExact 2 t = owns (c : Thread nD τ) (st0_2 t) fullShare (iblk m c 2 t) := by
  unfold Dat.leavesExact; rw [show cfg0.idle 2 (grid0.coords t) = false from rfl, after_2]
theorem leaves_3 (c : Dev nD) (t : Fin cfg0.N) (h : t.val % 14 = 13) : (dats m 0 c).leavesExact 3 t = owns (c : Thread nD τ) (st0_3 t) fullShare (outB m c t.val) := by
  unfold Dat.leavesExact; rw [show cfg0.idle 3 (grid0.coords t) = false from by rw [idle_iff]; simp [h], after_3]

theorem not_flushed (t : Fin cfg0.N) (h : ¬t.val % 14 = 13) : (cfg0.win 3).flush t = false := by
  rw [← Bool.not_eq_true, flush0_3]; exact h
theorem idle_3 (t : Fin cfg0.N) (h : ¬t.val % 14 = 13) : cfg0.idle 3 (grid0.coords t) = true := by
  rw [idle_iff]; simpa using h

set_option maxHeartbeats 3200000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).owesAt () t.succ = (dats m 0 c).owesAt () t.castSucc from rfl, Phi_castSucc, Phi_succ, leaves_0, leaves_1, leaves_2]
  have eq : qB m c t.val = iblk m c 0 t := by rw [qB, pt_val]
  have ek : kB m c t.val = iblk m c 1 t := by rw [kB, pt_val]
  have ev : vB m c t.val = iblk m c 2 t := by rw [vB, pt_val]
  by_cases h0 : t.val % 14 = 0
  · rw [Dat.leavesExact_idle (dats m 0 c) 3 t (idle_3 t (by omega)) (not_flushed t (by omega)), Inv_start m c _ h0, PhiA_eq,
      Inv_odd m c _ (by omega), Nat.add_sub_cancel, st_first m c _ h0, eq, ek]
    iintro ⟨⟨⟨HS0, HS1, HS2, HS3⟩, Hg⟩, Ho, ⟨%d0, H0⟩, ⟨%d1, H1⟩, ⟨%d2, H2⟩, ⟨%d3, H3⟩⟩
    iapply (body_first c (grid0.coords t) _ _ _ _ _ _ _ _ _ _ _ _ _ _ _ _ ((isFirst_iff t).mpr h0)
      (fun h => by have := (isOdd_iff t).mp h; omega) (fun h => by have := (isEven_iff t).mp h; omega) (fun h => by have := (isLast_iff t).mp h; omega)
      (iblk m c 0 t) (iblk m c 1 t) (iblk m c 2 t) ((dats m 0 c).before 3 t d3) (score (iblk m c 0 t) (iblk m c 1 t)) k0_pay15 k0_pay16 Set.univ _)
    isplitl [H0]; · iexact H0
    isplitl [H1]; · iexact H1
    isplitl [H2]; · iexact H2
    isplitl [H3]; · iexact H3
    isplitl [HS0]; · iexact HS0
    isplitl [HS1]; · iexact HS1
    isplitl [HS2]; · iexact HS2
    isplitl [HS3]; · iexact HS3
    iintro ⟨H0, H1, H2, H3, HS0, HS1, HS2, HS3⟩
    isplitl [HS0 HS1 HS2 HS3 Hg]
    · isplitl [HS0 HS1 HS2 HS3]
      · isplitl [HS0]; · iexact HS0
        isplitl [HS1]; · iexact HS1
        isplitl [HS2]; · iexact HS2
        iexact HS3
      iexact Hg
    isplitl [Ho]; · iexact Ho
    isplitl [H0]; · iexact H0
    isplitl [H1]; · iexact H1
    isplitl [H2]; · iexact H2
    iexists _; iexact H3
  by_cases h13 : t.val % 14 = 13
  · rw [leaves_3 m c t h13, Inv_odd m c _ (by omega), Inv_start m c _ (by omega), PhiA_eq, outB, st_next m c _ h0, ev]
    iintro ⟨⟨⟨HS0, HS1, HS2, HS3⟩, Hg⟩, Ho, ⟨%d0, H0⟩, ⟨%d1, H1⟩, ⟨%d2, H2⟩, ⟨%d3, H3⟩⟩
    iapply (body_last c (grid0.coords t) _ _ _ _ _ _ _ _ _ _ _ _ _ _ _ _ (fun h => h0 ((isFirst_iff t).mp h))
      (fun h => by have := (isOdd_iff t).mp h; omega) (fun h => by have := (isEven_iff t).mp h; omega) ((isLast_iff t).mpr h13)
      (iblk m c 0 t) (iblk m c 1 t) (iblk m c 2 t) ((dats m 0 c).before 3 t d3) _ _ _ Set.univ _)
    isplitl [H0]; · iexact H0
    isplitl [H1]; · iexact H1
    isplitl [H2]; · iexact H2
    isplitl [H3]; · iexact H3
    isplitl [HS0]; · iexact HS0
    isplitl [HS1]; · iexact HS1
    isplitl [HS2]; · iexact HS2
    isplitl [HS3]; · iexact HS3
    iintro ⟨H0, H1, H2, H3, HS0, HS1, HS2, HS3⟩
    isplitl [HS0 HS1 HS2 HS3 Hg]
    · isplitl [HS0 HS1 HS2 HS3]
      · isplitl [HS0]; · iexists _; iexact HS0
        isplitl [HS1]; · iexact HS1
        isplitl [HS2]; · iexists _; iexact HS2
        iexists _; iexact HS3
      iexact Hg
    isplitl [Ho]; · iexact Ho
    isplitl [H0]; · iexact H0
    isplitl [H1]; · iexact H1
    isplitl [H2]; · iexact H2
    iexact H3
  rw [Dat.leavesExact_idle (dats m 0 c) 3 t (idle_3 t (by omega)) (not_flushed t (by omega))]
  by_cases ho : t.val % 14 % 2 = 1
  · rw [Inv_odd m c _ ho, Inv_even m c (t.val + 1) (by omega) (by omega), Nat.add_sub_cancel, st_next m c _ h0, eq, ek, ev]
    iintro ⟨⟨⟨HS0, HS1, HS2, HS3⟩, Hg⟩, Ho, ⟨%d0, H0⟩, ⟨%d1, H1⟩, ⟨%d2, H2⟩, ⟨%d3, H3⟩⟩
    iapply (body_odd c (grid0.coords t) _ _ _ _ _ _ _ _ _ _ _ _ _ _ _ _ (fun h => h0 ((isFirst_iff t).mp h))
      ((isOdd_iff t).mpr ⟨ho, h13⟩) (fun h => by have := (isEven_iff t).mp h; omega) (fun h => h13 ((isLast_iff t).mp h))
      (iblk m c 0 t) (iblk m c 1 t) (iblk m c 2 t) ((dats m 0 c).before 3 t d3) _ _ _ Set.univ _)
    isplitl [H0]; · iexact H0
    isplitl [H1]; · iexact H1
    isplitl [H2]; · iexact H2
    isplitl [H3]; · iexact H3
    isplitl [HS0]; · iexact HS0
    isplitl [HS1]; · iexact HS1
    isplitl [HS2]; · iexact HS2
    isplitl [HS3]; · iexact HS3
    iintro ⟨H0, H1, H2, H3, HS0, HS1, HS2, HS3⟩
    isplitl [HS0 HS1 HS2 HS3 Hg]
    · isplitl [HS0 HS1 HS2 HS3]
      · isplitl [HS0]; · iexists _; iexact HS0
        isplitl [HS1]; · iexact HS1
        isplitl [HS2]; · iexact HS2
        iexact HS3
      iexact Hg
    isplitl [Ho]; · iexact Ho
    isplitl [H0]; · iexact H0
    isplitl [H1]; · iexact H1
    isplitl [H2]; · iexact H2
    iexists _; iexact H3
  · rw [Inv_even m c _ h0 (by omega), Inv_odd m c (t.val + 1) (by omega), Nat.add_sub_cancel, st_next m c _ h0, eq, ek, ev]
    iintro ⟨⟨⟨HS0, HS1, HS2, HS3⟩, Hg⟩, Ho, ⟨%d0, H0⟩, ⟨%d1, H1⟩, ⟨%d2, H2⟩, ⟨%d3, H3⟩⟩
    iapply (body_even c (grid0.coords t) _ _ _ _ _ _ _ _ _ _ _ _ _ _ _ _ (fun h => h0 ((isFirst_iff t).mp h))
      (fun h => ho ((isOdd_iff t).mp h).1) ((isEven_iff t).mpr ⟨by omega, h0⟩) (fun h => h13 ((isLast_iff t).mp h))
      (iblk m c 0 t) (iblk m c 1 t) (iblk m c 2 t) ((dats m 0 c).before 3 t d3) _ _ _ Set.univ _)
    isplitl [H0]; · iexact H0
    isplitl [H1]; · iexact H1
    isplitl [H2]; · iexact H2
    isplitl [H3]; · iexact H3
    isplitl [HS0]; · iexact HS0
    isplitl [HS1]; · iexact HS1
    isplitl [HS2]; · iexact HS2
    isplitl [HS3]; · iexact HS3
    iintro ⟨H0, H1, H2, H3, HS0, HS1, HS2, HS3⟩
    isplitl [HS0 HS1 HS2 HS3 Hg]
    · isplitl [HS0 HS1 HS2 HS3]
      · isplitl [HS0]; · iexact HS0
        isplitl [HS1]; · iexists _; iexact HS1
        isplitl [HS2]; · iexact HS2
        iexact HS3
      iexact Hg
    isplitl [Ho]; · iexact Ho
    isplitl [H0]; · iexact H0
    isplitl [H1]; · iexact H1
    isplitl [H2]; · iexact H2
    iexists _; iexact H3

theorem body_row (t : Fin cfg0.N) :
    defs₀ (F := F) .tc cfg0.body (cfg0.bodyArgs t (cfg0.slots t)) = bodyAt0 t := by
  unfold defs₀; rw [Defs.onTc_tc]

/-- The body's obligation at every point. -/
theorem obligation (c : Dev nD) : BodyObligation (dats (F := F) m 0 c) (defs₀ (F := F)) Variants.none () Set.univ := fun t => by
  rw [bigSep_W0, bigSep_W0, body_row]
  exact triple_restated (sound_body m c t) rfl .rfl fun _ => .rfl

theorem inv_in (c : Dev nD) : Pipeline.ΦA spec0 c ⊢ (dats m 0 c).Φ 0 := by
  rw [show (dats m 0 c).Φ 0 = Inv m c 0 from rfl, Inv_start m c 0 rfl]
  try exact Idealize.SL.BI.Entails.refl _

theorem inv_out (c : Dev nD) : (dats m 0 c).Φ (Fin.last cfg0.N) ⊢ Pipeline.ΦA spec0 c := by
  rw [show (dats m 0 c).Φ (Fin.last cfg0.N) = Inv m c cfg0.N from rfl, Inv_start m c _ (by rw [N_eq])]
  try exact Idealize.SL.BI.Entails.refl _

set_option backward.isDefEq.respectTransparency.types false in
/-- The run: every array of the pipeline ends as the proof data says, every other array unchanged, every counter at zero. -/
theorem run_main : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hin := inv_in m) (hout := inv_out m)

/-- The arguments end unchanged and every counter at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.KernelIdeal.Attn

end
-- ==== Proof.Final.lean ====
/- The result array after the run: every entry is read off the output block of the last point of its run. -/
module

public import proofs.«01_k».proof.Proof.Run
public import Idealize.ShloMosaic.Lib.Pipeline.ValueKit

@[expose] public section

set_option maxRecDepth 16384

noncomputable section

namespace Cert.KernelIdeal.Attn

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ) (ρ : Dev nD → PrngReg)

/-- The run (a head and a query tile) an entry of the result belongs to. -/
def runOf (i : S16384x1024.Idx) : ℕ := (i 0).val / 2048 + 8 * ((i 1).val / 128)

/-- The result: entry `(row, column)` is the entry `(row mod 2048, column mod 128)` of the block its run ends with. -/
def G (c : Dev nD) : Buf (Elt F) ((c : Thread nD τ).loc main_v19) := fun i =>
  outB m c (14 * runOf i + 13) (ix2 ⟨(i 0).val % 2048, Nat.mod_lt _ (by decide)⟩ ⟨(i 1).val % 128, Nat.mod_lt _ (by decide)⟩)

/-- The windows' blocks at every point. -/
theorem idx : ∀ t : Fin cfg0.N,
    win0_0.index t = ![t.val / 14 % 8, t.val / 112]
    ∧ win0_1.index t = ![min (t.val % 14) 12, t.val / 112]
    ∧ win0_2.index t = ![t.val % 14 - 1, t.val / 112]
    ∧ win0_3.index t = ![t.val / 14 % 8, t.val / 112] :=
  (by decide +kernel : ∀ t : Fin grid0.N, _)

theorem final (c : Dev nD) : (dats m 0 c).arrAt 3 cfg0.N = G m c := by
  refine (dats m 0 c).arrAt_eq_of_covers 3 _ (by decide +kernel) fun t ht y => ?_
  have hm : t.val % 14 = 13 := (flush0_3 t).mp ht
  blk_simp
  rw [after_3]
  have hy0 : (y 0).val < 2048 := (y 0).isLt
  have hy1 : (y 1).val < 128 := (y 1).isLt
  have b0 : (((cfg0.win 3).blk t).view.emb y 0).val = win0_3.index t (0 : Fin 2) * 2048 + 1 * (y 0).val := rfl
  have b1 : (((cfg0.win 3).blk t).view.emb y 1).val = win0_3.index t (1 : Fin 2) * 128 + 1 * (y 1).val := rfl
  have e0 : win0_3.index t (0 : Fin 2) = t.val / 14 % 8 := by rw [(idx t).2.2.2]; rfl
  have e1 : win0_3.index t (1 : Fin 2) = t.val / 112 := by rw [(idx t).2.2.2]; rfl
  have hr : 14 * runOf (((cfg0.win 3).blk t).view.emb y) + 13 = t.val := by
    unfold runOf; rw [b0, b1, e0, e1]; omega
  have key : ∀ n (i : S2048x128.Idx) (_ : n = t.val) (_ : i = y), outB m c t.val y = outB m c n i := by rintro _ _ rfl rfl; rfl
  refine key _ _ hr ?_
  funext a; apply Fin.ext
  match a with
  | ⟨0, _⟩ => show (((cfg0.win 3).blk t).view.emb y 0).val % 2048 = (y 0).val; rw [b0]; omega
  | ⟨1, _⟩ => show (((cfg0.win 3).blk t).view.emb y 1).val % 128 = (y 1).val; rw [b1]; omega

/-- The run with the result named and the arguments unchanged. -/
theorem run : θ_run defs (onTc (τ := τ) (main (F := F))) ⟨m, fun _ => 0, ρ⟩ fun r => ∀ c : Dev nD,
      r.2.mem ((c : Thread nD τ).loc main_v19) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h.1.1 c).1 3).trans (final m c), h.2.1 c⟩) (θ_run_and (run_main m ρ) (frame_run m ρ))

end Cert.KernelIdeal.Attn

end
-- ==== Proof.Entry.lean ====
/- What the attention call's three arrays hold when it starts: the scaled and padded queries, the padded keys, the values. -/
module

public import proofs.«01_k».proof.Proof.Final
public import Idealize.ShloMosaic.Lib.Pointwise
public import Idealize.ShloMosaic.Lib.Claim

@[expose] public section

set_option maxRecDepth 16384

noncomputable section

namespace Cert.KernelIdeal.Attn

open Idealize.ShloMosaic Idealize.ShloMosaic.TcCoe Idealize.SL.Sem
open Cert.KernelIdeal Cert.KernelIdeal.Gen

variable (m : (ℓ : Loc nD τ sig) → Buf (Elt Ideal) ℓ)

/-- The argument arrays. -/
abbrev Qa (c : Dev nD) : FVec Ideal S1x16384x8x192 .f32 := m ((c : Thread nD τ).loc main_arg0)
abbrev Ka (c : Dev nD) : FVec Ideal S1x16640x8x192 .f32 := m ((c : Thread nD τ).loc main_arg1)
abbrev Va (c : Dev nD) : FVec Ideal S1x16640x8x128 .f32 := m ((c : Thread nD τ).loc main_arg2)

/-- The scale of the queries, over the reals `1 / √192 / log 2`. -/
def scl : EReal := Ideal.div (Ideal.div (Ideal.ofBits .f32 0x3F800000#32) (Ideal.sqrt (Ideal.ofBits .f32 0x43400000#32))) (Ideal.log (Ideal.ofBits .f32 0x40000000#32))

/-- The scaled and padded queries. -/
def Qp (Q : FVec Ideal S1x16384x8x192 .f32) (r : Fin 16384) (h : Fin 8) (l : Fin 256) : EReal :=
  if hl : l.val < 192 then Q (ix4 0 r h ⟨l.val, hl⟩) * scl else 0
/-- The padded keys. -/
def Kp (K : FVec Ideal S1x16640x8x192 .f32) (r : Fin 16640) (h : Fin 8) (l : Fin 256) : EReal :=
  if hl : l.val < 192 then K (ix4 0 r h ⟨l.val, hl⟩) else 0

theorem entry_q (c : Dev nD) (r : Fin 16384) (h : Fin 8) (l : Fin 256) :
    (show FVec Ideal S16384x2048 .bf16 from V m c main_v11) (ix2 r ⟨h.val * 256 + l.val, by omega⟩) = Qp (Qa m c) r h l := by
  entry_read
  pointwise [Qp, scl]
  have e1 : (h.val * 256 + l.val) % 256 = l.val := by omega
  have e2 : (h.val * 256 + l.val) / 256 = h.val := by omega
  simp only [e1, e2]

theorem entry_k (c : Dev nD) (r : Fin 16640) (h : Fin 8) (l : Fin 256) :
    (show FVec Ideal S16640x2048 .bf16 from V m c main_v15) (ix2 r ⟨h.val * 256 + l.val, by omega⟩) = Kp (Ka m c) r h l := by
  entry_read
  pointwise [Kp]
  have e1 : (h.val * 256 + l.val) % 256 = l.val := by omega
  have e2 : (h.val * 256 + l.val) / 256 = h.val := by omega
  simp only [e1, e2]

theorem entry_v (c : Dev nD) (r : Fin 16640) (h : Fin 8) (d : Fin 128) :
    (show FVec Ideal S16640x1024 .bf16 from V m c main_v18) (ix2 r ⟨h.val * 128 + d.val, by omega⟩) = Va m c (ix4 0 r h d) := by
  entry_read
  pointwise

end Cert.KernelIdeal.Attn

end
-- ==== Proof.Payload.lean ====
/- The attention body's payloads over the reals, read at one index. -/
module

public import proofs.«01_k».proof.Proof.Body
public import Idealize.ShloMosaic.Lib.Pointwise

@[expose] public section

set_option maxRecDepth 16384

noncomputable section

namespace Cert.KernelIdeal.Attn

open Idealize.ShloMosaic Idealize.ShloMosaic.TcCoe Idealize.SL.Sem
open Cert.KernelIdeal Cert.KernelIdeal.Gen

/-- The pattern of minus infinity denotes the bottom of the extended reals. -/
theorem ofBits_bot : Ideal.ofBits .f32 0xFF800000#32 = ⊥ := by simp [Ideal.ofBits, Ideal.ieee]

theorem score_at (q : Vec Ideal S2048x256 .bf16) (k : Vec Ideal S1280x256 .bf16) (r : Fin 2048) (x : Fin 1280) :
    score q k (ix2 r x) = ∑ l : Fin 256, q (ix2 r l) * k (ix2 x l) := by
  pointwise [score, k0_pay17]

theorem start_max (r : Fin 2048) : (k0_pay15 (F := Ideal)) (ix2 r 0) = ⊥ := by
  pointwise [k0_pay15, ofBits_bot]

theorem start_acc (r : Fin 2048) (l : Fin 256) : (k0_pay16 (F := Ideal)) (ix2 r l) = 0 := by
  pointwise [k0_pay16]

theorem newMax_at (s : Vec Ideal S2048x1280 .f32) (m : Vec Ideal S2048x1 .f32) (r : Fin 2048) :
    newMax s m (ix2 r 0) = max (m (ix2 r 0)) (Finset.univ.fold max ⊥ fun x : Fin 1280 => s (ix2 r x)) := by
  pointwise [newMax, k0_pay3, k0_pay1, ofBits_bot]

theorem newAcc_at (s : Vec Ideal S2048x1280 .f32) (m : Vec Ideal S2048x1 .f32) (v : Vec Ideal S1280x128 .bf16)
    (a : Vec Ideal S2048x256 .f32) (r : Fin 2048) (d : Fin 128) :
    newAcc s m v a (ix2 r ⟨d.val, by omega⟩) = Ideal.exp2 (m (ix2 r 0) - newMax s m (ix2 r 0)) * a (ix2 r ⟨d.val, by omega⟩)
      + ∑ x : Fin 1280, Ideal.exp2 (s (ix2 r x) - newMax s m (ix2 r 0)) * v (ix2 x d) := by
  pointwise [newAcc, newMax, k0_pay2, k0_pay3]
  rfl

theorem newAcc_den (s : Vec Ideal S2048x1280 .f32) (m : Vec Ideal S2048x1 .f32) (v : Vec Ideal S1280x128 .bf16)
    (a : Vec Ideal S2048x256 .f32) (r : Fin 2048) :
    newAcc s m v a (ix2 r ⟨128, by decide⟩) = Ideal.exp2 (m (ix2 r 0) - newMax s m (ix2 r 0)) * a (ix2 r ⟨128, by decide⟩)
      + ∑ x : Fin 1280, Ideal.exp2 (s (ix2 r x) - newMax s m (ix2 r 0)) * 1 := by
  pointwise [newAcc, newMax, k0_pay2, k0_pay3]
  rfl

theorem out_at (a : Vec Ideal S2048x256 .f32) (r : Fin 2048) (d : Fin 128) :
    (k0_pay14 a : Vec Ideal S2048x128 .bf16) (ix2 r d) = Ideal.div (a (ix2 r ⟨d.val, by omega⟩)) (a (ix2 r ⟨128, by decide⟩)) := by
  pointwise [k0_pay14]

end Cert.KernelIdeal.Attn

end
-- ==== Proof.Flash.lean ====
/- The online softmax over the extended reals: a running maximum and running sums, rescaled at each block, end as the weighted
   sum by the softmax weights. -/
module

public import Idealize.ShloMosaic.PureOps.Ideal

@[expose] public section

set_option maxRecDepth 16384

noncomputable section

namespace Cert.Flash

open Idealize.ShloMosaic

theorem coe_max (a b : ℝ) : ((max a b : ℝ) : EReal) = max (a : EReal) b := EReal.coe_strictMono.monotone.map_max

theorem two_pos_rpow (x : ℝ) : 0 < Real.rpow 2 x := Real.rpow_pos_of_pos (by norm_num) x

/-- The maximum of finitely many reals, at least one of them, is a real. -/
theorem fold_max_real {ι : Type} [Fintype ι] [Nonempty ι] (f : ι → ℝ) :
    ∃ M : ℝ, (Finset.univ.fold max (⊥ : EReal) fun x => (f x : EReal)) = M := by
  classical
  have key : ∀ s : Finset ι, s.Nonempty → ∃ M : ℝ, (s.fold max (⊥ : EReal) fun x => (f x : EReal)) = M := by
    intro s hs
    induction hs using Finset.Nonempty.cons_induction with
    | singleton a => exact ⟨f a, by simp⟩
    | cons a s ha hs ih =>
      obtain ⟨M, hM⟩ := ih
      refine ⟨max (f a) M, ?_⟩
      rw [Finset.fold_cons, hM, coe_max]
  exact key _ Finset.univ_nonempty

/-- A nonnegative real distributes over a sum of extended reals. -/
theorem mul_sum {ι : Type} (s : Finset ι) {c : ℝ} (hc : 0 ≤ c) (f : ι → EReal) :
    (c : EReal) * ∑ x ∈ s, f x = ∑ x ∈ s, (c : EReal) * f x := by
  classical
  induction s using Finset.induction_on with
  | empty => simp
  | insert a s ha ih =>
    rw [Finset.sum_insert ha, Finset.sum_insert ha,
      EReal.left_distrib_of_nonneg_of_ne_top (EReal.coe_nonneg.mpr hc) (EReal.coe_ne_top c), ih]

theorem sum_mul {ι : Type} (s : Finset ι) {c : ℝ} (hc : 0 ≤ c) (f : ι → EReal) :
    (∑ x ∈ s, f x) * (c : EReal) = ∑ x ∈ s, f x * (c : EReal) := by
  rw [mul_comm, mul_sum s hc]; exact Finset.sum_congr rfl fun _ _ => mul_comm _ _

theorem coe_sum {ι : Type} (s : Finset ι) (f : ι → ℝ) : ((∑ x ∈ s, f x : ℝ) : EReal) = ∑ x ∈ s, (f x : EReal) := by
  classical
  induction s using Finset.induction_on with
  | empty => simp
  | insert a s ha ih => rw [Finset.sum_insert ha, Finset.sum_insert ha, EReal.coe_add, ih]

variable {n : ℕ} [NeZero n]

/-- The running maximum after one block or more is a real. -/
theorem max_real (J : ℕ) (s : ℕ → Fin n → ℝ) (m : ℕ → EReal) (h0 : m 0 = ⊥)
    (hm : ∀ j < J, m (j + 1) = max (m j) (Finset.univ.fold max ⊥ fun x => (s j x : EReal))) :
    ∀ j < J, ∃ M : ℝ, m (j + 1) = M := by
  intro j
  induction j with
  | zero =>
    intro h
    obtain ⟨M, hM⟩ := fold_max_real (s 0)
    exact ⟨M, by rw [hm 0 h, h0, hM]; simp⟩
  | succ j ih =>
    intro h
    obtain ⟨M, hM⟩ := fold_max_real (s (j + 1))
    obtain ⟨M', hM'⟩ := ih (by omega)
    exact ⟨max M' M, by rw [hm _ h, hM', hM, coe_max]⟩

/-- The running sum after one block or more: every block seen so far, weighted by the powers of two over the newest maximum. -/
theorem acc_real (J : ℕ) (s : ℕ → Fin n → ℝ) (v : ℕ → Fin n → EReal) (m a : ℕ → EReal) (h0 : m 0 = ⊥) (a0 : a 0 = 0)
    (hm : ∀ j < J, ∃ M : ℝ, m (j + 1) = M)
    (ha : ∀ j < J, a (j + 1) = Ideal.exp2 (m j - m (j + 1)) * a j + ∑ x, Ideal.exp2 ((s j x : EReal) - m (j + 1)) * v j x) :
    ∀ j < J, ∀ M : ℝ, m (j + 1) = M →
      a (j + 1) = ∑ i ∈ Finset.range (j + 1), ∑ x, ((Real.rpow 2 (s i x - M) : ℝ) : EReal) * v i x := by
  intro j
  induction j with
  | zero =>
    intro h M hM
    rw [ha 0 h, a0, mul_zero, zero_add, Finset.sum_range_one, hM]
    refine Finset.sum_congr rfl fun x _ => ?_
    rw [← EReal.coe_sub, Ideal.exp2_coe]
  | succ j ih =>
    intro h M hM
    obtain ⟨M', hM'⟩ := hm j (by omega)
    rw [ha _ h, hM, hM', ih (by omega) M' hM', ← EReal.coe_sub, Ideal.exp2_coe, Finset.sum_range_succ _ (j + 1),
      mul_sum _ (two_pos_rpow _).le]
    congr 1
    · refine Finset.sum_congr rfl fun i _ => ?_
      rw [mul_sum _ (two_pos_rpow _).le]
      refine Finset.sum_congr rfl fun x _ => ?_
      rw [← mul_assoc, ← EReal.coe_mul]
      congr 2
      show (2 : ℝ) ^ (M' - M) * 2 ^ (s i x - M') = 2 ^ (s i x - M)
      rw [← Real.rpow_add (by norm_num)]; congr 1; ring
/-- The softmax weight of one score among all. -/
def weight {ι : Type} [Fintype ι] (t : ι → ℝ) (k : ι) : ℝ := Real.exp (t k) / ∑ k', Real.exp (t k')

/-- Scores in units of `log 2`, shifted by any real, have the softmax weights. -/
theorem weight_two {ι : Type} [Fintype ι] (s t : ι → ℝ) (h : ∀ k, s k * Real.log 2 = t k) (M : ℝ) (k : ι) :
    Real.rpow 2 (s k - M) / ∑ k', Real.rpow 2 (s k' - M) = weight t k := by
  have e : ∀ k, Real.rpow 2 (s k - M) = Real.exp (t k) * Real.exp (-(M * Real.log 2)) := by
    intro k
    show (2 : ℝ) ^ (s k - M) = _
    rw [Real.rpow_def_of_pos (by norm_num), ← Real.exp_add, ← h]
    congr 1; ring
  simp only [e, weight, ← Finset.sum_mul]
  exact mul_div_mul_right _ _ (Real.exp_ne_zero _)

/-- Scores shifted by any real have the softmax weights. -/
theorem weight_shift {ι : Type} [Fintype ι] (t : ι → ℝ) (M : ℝ) (k : ι) :
    Real.exp (t k - M) / ∑ k', Real.exp (t k' - M) = weight t k := by
  simp only [weight, sub_eq_add_neg, Real.exp_add, ← Finset.sum_mul]
  exact mul_div_mul_right _ _ (Real.exp_ne_zero _)

/-- A weighted sum divided by the sum of its positive weights is the sum by the divided weights. -/
theorem div_sum {ι : Type} [Fintype ι] [Nonempty ι] (w : ι → ℝ) (hw : ∀ k, 0 < w k) (v : ι → EReal) :
    Ideal.div (∑ k, (w k : EReal) * v k) (∑ k, (w k : EReal) * 1) = ∑ k, ((w k / ∑ k', w k' : ℝ) : EReal) * v k := by
  have hp : 0 < ∑ k, w k := Finset.sum_pos (fun k _ => hw k) Finset.univ_nonempty
  simp only [mul_one]
  rw [← coe_sum, Ideal.div_coe hp.ne', sum_mul _ (by positivity)]
  refine Finset.sum_congr rfl fun k _ => ?_
  rw [mul_right_comm, ← EReal.coe_mul, mul_one_div]

end Cert.Flash

end
-- ==== Proof.Common.lean ====
/- The attention over the reals, which both programs compute: the scores of a query against every key, their softmax weights, the
   weighted sum of the values; and the constants of the two scales. -/
module

public import proofs.«01_k».proof.Proof.Flash
public import Idealize.ShloMosaic.Lib.Pointwise
public import Idealize.ShloMosaic.Lib.IdealHost

@[expose] public section

set_option maxRecDepth 16384

noncomputable section

namespace Cert.Flash

open Idealize.ShloMosaic

abbrev QS : Shape := ⟨4, ![1, 16384, 8, 192]⟩
abbrev KS : Shape := ⟨4, ![1, 16640, 8, 192]⟩
abbrev VS : Shape := ⟨4, ![1, 16640, 8, 128]⟩

theorem ofBits_192 : Ideal.ofBits .f32 0x43400000#32 = ((192 : ℝ) : EReal) := by
  simp [Ideal.ofBits, Ideal.ieee]; rw [← EReal.coe_mul]; norm_num
theorem ofBits_2 : Ideal.ofBits .f32 0x40000000#32 = ((2 : ℝ) : EReal) := by
  simp [Ideal.ofBits, Ideal.ieee]; rw [← EReal.coe_mul]; norm_num

/-- One over the root of 192. -/
theorem scale_real : Ideal.div 1 (Ideal.sqrt (Ideal.ofBits .f32 0x43400000#32)) = ((1 / Real.sqrt 192 : ℝ) : EReal) := by
  rw [ofBits_192, Ideal.sqrt_coe, if_neg (by norm_num), Ideal.div_coe (by positivity), one_mul]

/-- One over the root of 192 and over the logarithm of 2. -/
theorem scale_two_real : Ideal.div (Ideal.div 1 (Ideal.sqrt (Ideal.ofBits .f32 0x43400000#32))) (Ideal.log (Ideal.ofBits .f32 0x40000000#32))
    = ((1 / Real.sqrt 192 * (1 / Real.log 2) : ℝ) : EReal) := by
  rw [scale_real, ofBits_2, Ideal.log_coe, if_neg (by norm_num), Ideal.div_coe (Real.log_pos (by norm_num)).ne', EReal.coe_mul]

/-- The score of query `r` of head `h` against key `k`. -/
def sc (Q : QS.Idx → ℝ) (K : KS.Idx → ℝ) (r : Fin 16384) (h : Fin 8) (k : Fin 16640) : ℝ :=
  (∑ l : Fin 192, Q (ix4 0 r h l) * K (ix4 0 k h l)) * (1 / Real.sqrt 192)

/-- The attention: the values weighted by the softmax of the scores. -/
def attn (Q : QS.Idx → ℝ) (K : KS.Idx → ℝ) (V : VS.Idx → EReal) (r : Fin 16384) (h : Fin 8) (d : Fin 128) : EReal :=
  ∑ k : Fin 16640, (weight (sc Q K r h) k : EReal) * V (ix4 0 k h d)

/-- A sum over 256 lanes that vanishes past the 192nd. -/
theorem sum_pad (f : Fin 192 → EReal) :
    ∑ l : Fin 256, (if hl : l.val < 192 then f ⟨l.val, hl⟩ else 0) = ∑ l : Fin 192, f l := by
  rw [show (∑ l : Fin 256, (if hl : l.val < 192 then f ⟨l.val, hl⟩ else 0))
      = ∑ l : Fin (192 + 64), (if hl : l.val < 192 then f ⟨l.val, hl⟩ else 0) from rfl, Fin.sum_univ_add]
  simp

end Cert.Flash

end
-- ==== Proof.KernelValue.lean ====
/- The attention call's result over the reals: for finite queries and keys, the attention of its arguments. -/
module

public import proofs.«01_k».proof.Proof.Entry
public import proofs.«01_k».proof.Proof.Payload
public import proofs.«01_k».proof.Proof.Common

@[expose] public section

set_option maxRecDepth 16384

noncomputable section

namespace Cert.KernelIdeal.Attn

open Idealize.ShloMosaic Idealize.ShloMosaic.TcCoe Idealize.SL.Sem
open Cert.KernelIdeal Cert.KernelIdeal.Gen Cert.Flash

variable (m : (ℓ : Loc nD τ sig) → Buf (Elt Ideal) ℓ)

theorem pt_run (b j : ℕ) (hb : b < 64) (hj : j < 14) : (pt (14 * b + j)).val = 14 * b + j := by
  show (14 * b + j) % cfg0.N = _
  rw [N_eq]; omega

/-- The query tile at a point of run `b`. -/
theorem qB_at (c : Dev nD) (b j : ℕ) (hb : b < 64) (hj : j < 14) (r : Fin 2048) (l : Fin 256) :
    qB m c (14 * b + j) (ix2 r l) = Qp (Qa m c) ⟨b % 8 * 2048 + r.val, by omega⟩ ⟨b / 8, by omega⟩ l := by
  rw [← entry_q]
  have hv := pt_run b j hb hj
  unfold qB
  blk_ext [iblk, idx (pt (14 * b + j)), hv]

/-- The key tile at point `j` of run `b`. -/
theorem kB_at (c : Dev nD) (b j : ℕ) (hb : b < 64) (hj : j < 14) (x : Fin 1280) (l : Fin 256) :
    kB m c (14 * b + j) (ix2 x l) = Kp (Ka m c) ⟨min j 12 * 1280 + x.val, by omega⟩ ⟨b / 8, by omega⟩ l := by
  rw [← entry_k]
  have hv := pt_run b j hb hj
  unfold kB
  blk_ext [iblk, idx (pt (14 * b + j)), hv]

/-- The value tile at point `j` of run `b`. -/
theorem vB_at (c : Dev nD) (b j : ℕ) (hb : b < 64) (hj : j < 14) (x : Fin 1280) (d : Fin 128) :
    vB m c (14 * b + j) (ix2 x d) = Va m c (ix4 0 ⟨(j - 1) * 1280 + x.val, by omega⟩ ⟨b / 8, by omega⟩ d) := by
  rw [← entry_v]
  have hv := pt_run b j hb hj
  unfold vB
  blk_ext [iblk, idx (pt (14 * b + j)), hv]

/-- The row of the result that row `r` of run `b` is, and its head. -/
def row (b : ℕ) (r : Fin 2048) : Fin 16384 := ⟨b % 8 * 2048 + r.val, by omega⟩
def head (b : ℕ) (hb : b < 64) : Fin 8 := ⟨b / 8, by omega⟩
/-- Key `x` of tile `j`. -/
def key (j : ℕ) (x : Fin 1280) : Fin 16640 := ⟨min j 12 * 1280 + x.val, by omega⟩

section Row

variable (c : Dev nD) (Q : QS.Idx → ℝ) (K : KS.Idx → ℝ) (hQ : ∀ i, Qa m c i = (Q i : EReal)) (hK : ∀ i, Ka m c i = (K i : EReal))
variable (b : ℕ) (hb : b < 64) (r : Fin 2048)

/-- The scores the kernel computes, in units of `log 2`. -/
def sTwo (Q : QS.Idx → ℝ) (K : KS.Idx → ℝ) (r : Fin 16384) (h : Fin 8) (k : Fin 16640) : ℝ := Cert.Flash.sc Q K r h k * (1 / Real.log 2)

theorem sTwo_log (Q : QS.Idx → ℝ) (K : KS.Idx → ℝ) (r : Fin 16384) (h : Fin 8) (k : Fin 16640) :
    sTwo Q K r h k * Real.log 2 = Cert.Flash.sc Q K r h k := by
  have h2 : Real.log 2 ≠ 0 := (Real.log_pos (by norm_num)).ne'
  rw [sTwo, mul_assoc, one_div_mul_cancel h2, mul_one]

include hQ hK in
/-- The padded product is the real score. -/
theorem dot_real (R : Fin 16384) (h : Fin 8) (k : Fin 16640) :
    ∑ l : Fin 256, Qp (Qa m c) R h l * Kp (Ka m c) k h l = (sTwo Q K R h k : EReal) := by
  have e : ∀ l : Fin 256, Qp (Qa m c) R h l * Kp (Ka m c) k h l
      = if hl : l.val < 192 then (((Q (ix4 0 R h ⟨l.val, hl⟩) * (1 / Real.sqrt 192 * (1 / Real.log 2))) * K (ix4 0 k h ⟨l.val, hl⟩) : ℝ) : EReal) else 0 := by
    intro l
    unfold Qp Kp
    by_cases hl : l.val < 192
    · rw [dif_pos hl, dif_pos hl, dif_pos hl, hQ, hK, scl, Ideal.ofBits_one_f32, scale_two_real]; simp only [EReal.coe_mul]
    · rw [dif_neg hl, dif_neg hl, dif_neg hl, mul_zero]
  rw [Finset.sum_congr rfl fun l _ => e l,
    sum_pad fun l => (((Q (ix4 0 R h l) * (1 / Real.sqrt 192 * (1 / Real.log 2))) * K (ix4 0 k h l) : ℝ) : EReal), ← coe_sum]
  congr 1
  rw [sTwo, sc, Finset.sum_mul, Finset.sum_mul]
  exact Finset.sum_congr rfl fun l _ => by ring

include hQ hK in
theorem st_scores (j : ℕ) (hj : j < 14) (x : Fin 1280) :
    (st m c (14 * b + j)).1 (ix2 r x) = (sTwo Q K (row b r) (head b hb) (key j x) : EReal) := by
  have e : (st m c (14 * b + j)).1 = score (qB m c (14 * b + j)) (kB m c (14 * b + j)) := by
    by_cases h : (14 * b + j) % 14 = 0
    · rw [st_first m c _ h]
    · rw [st_next m c _ h]
  rw [e, score_at, ← dot_real m c Q K hQ hK]
  exact Finset.sum_congr rfl fun l _ => by rw [qB_at m c b j hb hj, kB_at m c b j hb hj]; rfl

/-- The running maximum and the running sums of the row. -/
def mm (j : ℕ) : EReal := (st m c (14 * b + j)).2.1 (ix2 r 0)
def aa (l : Fin 256) (j : ℕ) : EReal := (st m c (14 * b + j)).2.2 (ix2 r l)

theorem mm_zero : mm m c b r 0 = ⊥ := by
  rw [mm, st_first m c _ (by omega)]; exact start_max r

theorem aa_zero (l : Fin 256) : aa m c b r l 0 = 0 := by
  rw [aa, st_first m c _ (by omega)]; exact start_acc r l

theorem mm_next (j : ℕ) (hj : j < 13) :
    mm m c b r (j + 1) = newMax (st m c (14 * b + j)).1 (st m c (14 * b + j)).2.1 (ix2 r 0) := by
  rw [mm, st_next m c _ (by omega), show 14 * b + (j + 1) - 1 = 14 * b + j from by omega]

include hQ hK in
theorem mm_succ (j : ℕ) (hj : j < 13) :
    mm m c b r (j + 1) = max (mm m c b r j) (Finset.univ.fold max ⊥ fun x => (sTwo Q K (row b r) (head b hb) (key j x) : EReal)) := by
  rw [mm_next m c b r j hj, newMax_at]
  simp only [st_scores m c Q K hQ hK b hb r j (by omega)]
  rfl

include hQ hK in
theorem aa_succ (d : Fin 128) (j : ℕ) (hj : j < 13) :
    aa m c b r ⟨d.val, by omega⟩ (j + 1) = Ideal.exp2 (mm m c b r j - mm m c b r (j + 1)) * aa m c b r ⟨d.val, by omega⟩ j
      + ∑ x, Ideal.exp2 ((sTwo Q K (row b r) (head b hb) (key j x) : EReal) - mm m c b r (j + 1)) * Va m c (ix4 0 (key j x) (head b hb) d) := by
  rw [mm_next m c b r j hj, aa, st_next m c _ (by omega), show 14 * b + (j + 1) - 1 = 14 * b + j from by omega]
  refine (newAcc_at _ _ _ _ r d).trans ?_
  simp only [st_scores m c Q K hQ hK b hb r j (by omega), vB_at m c b (j + 1) hb (by omega)]
  have hk : ∀ x : Fin 1280, (⟨(j + 1 - 1) * 1280 + x.val, by omega⟩ : Fin 16640) = key j x := fun x => Fin.ext (by
    show (j + 1 - 1) * 1280 + x.val = min j 12 * 1280 + x.val
    rw [Nat.add_sub_cancel, Nat.min_eq_left (by omega)])
  simp only [hk]
  rfl

include hQ hK in
theorem den_succ (j : ℕ) (hj : j < 13) :
    aa m c b r ⟨128, by decide⟩ (j + 1) = Ideal.exp2 (mm m c b r j - mm m c b r (j + 1)) * aa m c b r ⟨128, by decide⟩ j
      + ∑ x, Ideal.exp2 ((sTwo Q K (row b r) (head b hb) (key j x) : EReal) - mm m c b r (j + 1)) * 1 := by
  rw [mm_next m c b r j hj, aa, st_next m c _ (by omega), show 14 * b + (j + 1) - 1 = 14 * b + j from by omega]
  refine (newAcc_den _ _ _ _ r).trans ?_
  simp only [st_scores m c Q K hQ hK b hb r j (by omega)]
  rfl

/-- The thirteen tiles are all the keys. -/
theorem sum_keys (f : Fin 16640 → EReal) : ∑ i ∈ Finset.range 13, ∑ x : Fin 1280, f (key i x) = ∑ k : Fin 16640, f k := by
  rw [Finset.sum_range, Fin.sum_univ_tiles 13 1280 rfl f]
  refine Finset.sum_congr rfl fun i _ => Finset.sum_congr rfl fun x _ => congrArg f (Fin.ext ?_)
  show min i.val 12 * 1280 + x.val = i.val * 1280 + x.val
  rw [Nat.min_eq_left (by omega)]

include hQ hK in
/-- The block a run ends with is the attention of its rows. -/
theorem out_eq (d : Fin 128) :
    outB m c (14 * b + 13) (ix2 r d) = attn Q K (Va m c) (row b r) (head b hb) d := by
  have hmax := max_real 13 (fun j x => sTwo Q K (row b r) (head b hb) (key j x)) (mm m c b r) (mm_zero m c b r)
    (mm_succ m c Q K hQ hK b hb r)
  obtain ⟨M, hM⟩ := hmax 12 (by omega)
  have hacc := acc_real 13 (fun j x => sTwo Q K (row b r) (head b hb) (key j x)) (fun j x => Va m c (ix4 0 (key j x) (head b hb) d))
    (mm m c b r) (aa m c b r ⟨d.val, by omega⟩) (mm_zero m c b r) (aa_zero m c b r _) hmax (aa_succ m c Q K hQ hK b hb r d) 12 (by omega) M hM
  have hden := acc_real 13 (fun j x => sTwo Q K (row b r) (head b hb) (key j x)) (fun _ _ => 1)
    (mm m c b r) (aa m c b r ⟨128, by decide⟩) (mm_zero m c b r) (aa_zero m c b r _) hmax (den_succ m c Q K hQ hK b hb r) 12 (by omega) M hM
  rw [sum_keys fun k => ((Real.rpow 2 (sTwo Q K (row b r) (head b hb) k - M) : ℝ) : EReal) * Va m c (ix4 0 k (head b hb) d)] at hacc
  rw [sum_keys fun k => ((Real.rpow 2 (sTwo Q K (row b r) (head b hb) k - M) : ℝ) : EReal) * 1] at hden
  have e : outB m c (14 * b + 13) (ix2 r d) = Ideal.div (aa m c b r ⟨d.val, by omega⟩ 13) (aa m c b r ⟨128, by decide⟩ 13) := out_at _ r d
  rw [e, hacc, hden, div_sum _ fun k => two_pos_rpow _, attn]
  refine Finset.sum_congr rfl fun k _ => ?_
  rw [weight_two _ (sc Q K (row b r) (head b hb)) (sTwo_log Q K (row b r) (head b hb))]

end Row

/-- The result array, entry by entry, is the attention of the arguments. -/
theorem G_eq (c : Dev nD) (Q : QS.Idx → ℝ) (K : KS.Idx → ℝ) (hQ : ∀ i, Qa m c i = (Q i : EReal)) (hK : ∀ i, Ka m c i = (K i : EReal))
    (R : Fin 16384) (C : Fin 1024) :
    (show FVec Ideal S16384x1024 .bf16 from G m c) (ix2 R C) = attn Q K (Va m c) R ⟨C.val / 128, by omega⟩ ⟨C.val % 128, Nat.mod_lt _ (by decide)⟩ := by
  have hb : R.val / 2048 + 8 * (C.val / 128) < 64 := by omega
  refine (out_eq m c Q K hQ hK (R.val / 2048 + 8 * (C.val / 128)) hb ⟨R.val % 2048, Nat.mod_lt _ (by decide)⟩ ⟨C.val % 128, Nat.mod_lt _ (by decide)⟩).trans ?_
  congr 1
  · apply Fin.ext; show (R.val / 2048 + 8 * (C.val / 128)) % 8 * 2048 + R.val % 2048 = R.val; omega
  · apply Fin.ext; show (R.val / 2048 + 8 * (C.val / 128)) / 8 = C.val / 128; omega

end Cert.KernelIdeal.Attn

end
-- ==== Proof.RefValue.lean ====
/- The reference's result over the reals: for finite queries and keys, the attention of its arguments. -/
module

public import proofs.«01_k».proof.Proof.Common
public import proofs.«01_k».proof.Proof.Payload
public import proofs.«01_k».proof.Proof.Gen.ReferenceIdeal.Run

@[expose] public section

set_option maxRecDepth 16384

noncomputable section

namespace Cert.ReferenceIdeal.Attn

open Idealize.ShloMosaic Idealize.ShloMosaic.TcCoe Idealize.SL.Sem
open Cert.ReferenceIdeal Cert.ReferenceIdeal.Gen Cert.Flash

/-- The scores of every query against every key. -/
def Sc (q : FVec Ideal S1x16384x8x192 .f32) (k : FVec Ideal S1x16640x8x192 .f32) : FVec Ideal S1x8x16384x16640 .f32 :=
  mulf (Host.dotGeneral dot_S1x16384x8x192_S1x16640x8x192_S1x8x16384x16640_3_3_1_1_02_02 none q k) (broadcastInDim S1x8x16384x16640 ![] bcast_S_S1x8x16384x16640 (Host.divf (constant S_ .f32 0x3F800000#32) (Host.sqrt (constant S_ .f32 0x43400000#32))))

/-- The greatest score of every query. -/
def Mx (s : FVec Ideal S1x8x16384x16640 .f32) : FVec Ideal S1x8x16384 .f32 :=
  maximumf (broadcastInDim S1x8x16384 ![] bcast_S_S1x8x16384 (constant S_ .f32 0xFF800000#32)) (Host.reduce FloatOps.maximumf s (constant S_ .f32 0xFF800000#32) reducesTo_S1x8x16384x16640_S1x8x16384_d3 h_S_)

/-- The exponentials of the shifted scores. -/
def Ex (s : FVec Ideal S1x8x16384x16640 .f32) : FVec Ideal S1x8x16384x16640 .f32 :=
  Host.exp (subf s (broadcastInDim S1x8x16384x16640 ![0, 1, 2, 3] bcast_S1x8x16384x1_S1x8x16384x16640_0_1_2_3 (broadcastInDim S1x8x16384x1 ![0, 1, 2] bcast_S1x8x16384_S1x8x16384x1_0_1_2 (Mx s))))

/-- The softmax of the scores. -/
def Pr (e : FVec Ideal S1x8x16384x16640 .f32) : FVec Ideal S1x8x16384x16640 .f32 :=
  Host.divf e (broadcastInDim S1x8x16384x16640 ![0, 1, 2, 3] bcast_S1x8x16384x1_S1x8x16384x16640_0_1_2_3 (broadcastInDim S1x8x16384x1 ![0, 1, 2] bcast_S1x8x16384_S1x8x16384x1_0_1_2 (Host.reduceAdd e (constant S_ .f32 0x00000000#32) reducesTo_S1x8x16384x16640_S1x8x16384_d3 h_S_)))

/-- The reference's result. -/
def REF (q : FVec Ideal S1x16384x8x192 .f32) (k : FVec Ideal S1x16640x8x192 .f32) (v : FVec Ideal S1x16640x8x128 .f32) : FVec Ideal S16384x1024 .bf16 :=
  truncf .bf16 (shapeCast S16384x1024 (transpose S1x16384x8x128 [0, 3, 1, 2] (Host.dotGeneral dot_S1x16640x8x128_S1x8x16384x16640_S1x8x128x16384_1_3_3_2_02_01 none v (Pr (Ex (Sc q k)))) transposes_S1x8x128x16384_S1x16384x8x128_0_3_1_2) shapeCasts_S1x16384x8x128_S16384x1024) bitsLt_bf16_f32

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v19) = REF (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Cert.ReferenceIdeal.Value.run m ρ

/-- The arguments end unchanged and every counter at zero. -/
theorem frame_run (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0 := by
  exact (θ_run defs _ _).mono (fun r h => ⟨fun c => (h c).2, Idealize.ShloMosaic.sem_eq_zero_of_no_sems (by decide) r.2⟩) (run m ρ)

variable (q : FVec Ideal S1x16384x8x192 .f32) (k : FVec Ideal S1x16640x8x192 .f32) (v : FVec Ideal S1x16640x8x128 .f32)

theorem Sc_at (h : Fin 8) (r : Fin 16384) (x : Fin 16640) :
    Sc q k (ix4 0 h r x) = (∑ l : Fin 192, q (ix4 0 r h l) * k (ix4 0 x h l)) * Ideal.div 1 (Ideal.sqrt (Ideal.ofBits .f32 0x43400000#32)) := by
  pointwise [Sc]

theorem fold_at (s : FVec Ideal S1x8x16384x16640 .f32) (z : FVec Ideal S_ .f32) (h : Fin 8) (r : Fin 16384) :
    Host.reduce FloatOps.maximumf s z reducesTo_S1x8x16384x16640_S1x8x16384_d3 h_S_ (ix3 0 h r)
      = Finset.univ.fold max (z (Shape.Idx.first h_S_)) fun x : Fin 16640 => s (ix4 0 h r x) := by
  rw [Host.reduce_eq_fold]
  exact Shape.ReducesTo.fold_fiber_r4_a3 _ _ _ _ _

theorem Mx_at (s : FVec Ideal S1x8x16384x16640 .f32) (h : Fin 8) (r : Fin 16384) :
    Mx s (ix3 0 h r) = max ⊥ (Finset.univ.fold max ⊥ fun x : Fin 16640 => s (ix4 0 h r x)) := by
  have hb : (broadcastInDim S1x8x16384 ![] bcast_S_S1x8x16384 (constant (F := Ideal) S_ .f32 0xFF800000#32)) (ix3 0 h r) = ⊥ := by
    pointwise [Cert.KernelIdeal.Attn.ofBits_bot]
  have hc : (constant (F := Ideal) S_ .f32 0xFF800000#32) (Shape.Idx.first h_S_) = ⊥ := by
    pointwise [Cert.KernelIdeal.Attn.ofBits_bot]
  unfold Mx
  rw [maximumf_apply, hb, fold_at, hc, Ideal.maximumf_def]

theorem Ex_at (s : FVec Ideal S1x8x16384x16640 .f32) (h : Fin 8) (r : Fin 16384) (x : Fin 16640) :
    Ex s (ix4 0 h r x) = Ideal.exp (s (ix4 0 h r x) - Mx s (ix3 0 h r)) := by
  pointwise [Ex]

theorem Pr_at (e : FVec Ideal S1x8x16384x16640 .f32) (h : Fin 8) (r : Fin 16384) (x : Fin 16640) :
    Pr e (ix4 0 h r x) = Ideal.div (e (ix4 0 h r x)) (∑ y : Fin 16640, e (ix4 0 h r y)) := by
  pointwise [Pr]

theorem REF_at (R : Fin 16384) (C : Fin 1024) :
    REF q k v (ix2 R C) = ∑ x : Fin 16640, v (ix4 0 x ⟨C.val / 128, by omega⟩ ⟨C.val % 128, Nat.mod_lt _ (by decide)⟩)
      * Pr (Ex (Sc q k)) (ix4 0 ⟨C.val / 128, by omega⟩ R x) := by
  pointwise [REF]

variable (Q : QS.Idx → ℝ) (K : KS.Idx → ℝ) (hQ : ∀ i, q i = (Q i : EReal)) (hK : ∀ i, k i = (K i : EReal))

include hQ hK in
theorem Sc_real (h : Fin 8) (r : Fin 16384) (x : Fin 16640) : Sc q k (ix4 0 h r x) = (sc Q K r h x : EReal) := by
  rw [Sc_at, scale_real, sc, EReal.coe_mul, coe_sum]
  congr 1
  exact Finset.sum_congr rfl fun l _ => by rw [hQ, hK, EReal.coe_mul]

include hQ hK in
theorem Pr_real (h : Fin 8) (r : Fin 16384) (x : Fin 16640) :
    Pr (Ex (Sc q k)) (ix4 0 h r x) = (weight (sc Q K r h) x : EReal) := by
  obtain ⟨M, hM⟩ := fold_max_real (sc Q K r h)
  have hE : ∀ y, Ex (Sc q k) (ix4 0 h r y) = (Real.exp (sc Q K r h y - M) : EReal) := by
    intro y
    rw [Ex_at, Mx_at]
    simp only [Sc_real q k Q K hQ hK]
    rw [hM, max_eq_right bot_le, ← EReal.coe_sub, Ideal.exp_coe]
  have hp : 0 < ∑ y, Real.exp (sc Q K r h y - M) := Finset.sum_pos (fun _ _ => Real.exp_pos _) Finset.univ_nonempty
  rw [Pr_at]
  simp only [hE]
  rw [← coe_sum, Ideal.div_coe hp.ne', ← EReal.coe_mul, mul_one_div, weight_shift]

include hQ hK in
/-- The reference's result, entry by entry, is the attention of the arguments. -/
theorem REF_eq (R : Fin 16384) (C : Fin 1024) :
    REF q k v (ix2 R C) = attn Q K v R ⟨C.val / 128, by omega⟩ ⟨C.val % 128, Nat.mod_lt _ (by decide)⟩ := by
  rw [REF_at, attn]
  exact Finset.sum_congr rfl fun x _ => by rw [Pr_real q k Q K hQ hK, mul_comm]

end Cert.ReferenceIdeal.Attn

end
-- ==== Proof.Finite.lean ====
/- The precondition read: where it holds, every query and every key is a real. -/
module

public import proofs.«01_k».proof.Defs
public import proofs.«01_k».proof.Proof.Common
public import Idealize.ShloMosaic.Lib.Pointwise

@[expose] public section

set_option maxRecDepth 16384

noncomputable section

namespace Cert.Pre_finite_qk

open Idealize.ShloMosaic Cert.Flash

/-- The side conditions of the precondition's operations. -/
instance facts : Cert.Pre_finite_qk.Facts where
  bcast_S_S1x16384x8x192 := by decide
  bcast_S_S1x16640x8x192 := by decide

theorem ofBits_top : Ideal.ofBits .f32 0x7F800000#32 = ⊤ := by simp [Ideal.ofBits, Ideal.ieee]

theorem real_of_abs {x : EReal} (h : max x (-x) < ⊤) : ((x.toReal : ℝ) : EReal) = x := by
  apply EReal.coe_toReal
  · rintro rfl; simp at h
  · rintro rfl; simp at h

variable (q : FVec Ideal S1x16384x8x192 .f32) (k : FVec Ideal S1x16640x8x192 .f32) (v : FVec Ideal S1x16640x8x128 .f32)

theorem real_q (h : (fn q k v).1 = fun _ => 1#1) (i : S1x16384x8x192.Idx) : q i = (((q i).toReal : ℝ) : EReal) := by
  have hi := congrFun h i
  have e : (fn q k v).1 i = cmpf .olt (Host.absf q) (broadcastInDim S1x16384x8x192 ![] facts.bcast_S_S1x16384x8x192 (constant S_ .f32 0x7F800000#32)) i := rfl
  rw [e] at hi
  pointwise [ofBits_top] at hi
  have hb : decide ((FloatOps.absf (q i : EReal) : EReal) < ⊤) = true := by
    cases hd : decide ((FloatOps.absf (q i : EReal) : EReal) < ⊤)
    · rw [show decide (FloatOps.absf (q i) < ⊤) = false from hd] at hi; exact absurd hi (by decide)
    · rfl
  exact (real_of_abs (of_decide_eq_true hb)).symm

theorem real_k (h : (fn q k v).2 = fun _ => 1#1) (i : S1x16640x8x192.Idx) : k i = (((k i).toReal : ℝ) : EReal) := by
  have hi := congrFun h i
  have e : (fn q k v).2 i = cmpf .olt (Host.absf k) (broadcastInDim S1x16640x8x192 ![] facts.bcast_S_S1x16640x8x192 (constant S_ .f32 0x7F800000#32)) i := rfl
  rw [e] at hi
  pointwise [ofBits_top] at hi
  have hb : decide ((FloatOps.absf (k i : EReal) : EReal) < ⊤) = true := by
    cases hd : decide ((FloatOps.absf (k i : EReal) : EReal) < ⊤)
    · rw [show decide (FloatOps.absf (k i) < ⊤) = false from hd] at hi; exact absurd hi (by decide)
    · rfl
  exact (real_of_abs (of_decide_eq_true hb)).symm

end Cert.Pre_finite_qk

end
-- ==== Proof.Same.lean ====
/- The program printed for the hardware's words and the one printed for the reals have one text: their bodies, their tables
   and their mains are the same terms. -/
module

public import proofs.«01_k».proof.Proof.Gen.Kernel
public import proofs.«01_k».proof.Proof.Gen.KernelIdeal

@[expose] public section

set_option maxRecDepth 16384

namespace Cert.Proof.Same

open Idealize.ShloMosaic Idealize.SL.Sem

variable {F : FTy → Type} [FloatOps F] [Cert.Kernel.Facts] [Cert.KernelIdeal.Facts]

theorem body : Cert.Kernel.cc0_mla_attention (F := F) = Cert.KernelIdeal.cc0_mla_attention (F := F) := rfl

theorem defs₀ : Cert.Kernel.defs₀ (F := F) = Cert.KernelIdeal.defs₀ (F := F) := by
  unfold Cert.Kernel.defs₀ Cert.KernelIdeal.defs₀
  congr 1
  funext l a
  match l, a with
  | 0, (t, s) => rfl

theorem defs : Cert.Kernel.defs (F := F) = Cert.KernelIdeal.defs (F := F) := by
  unfold Cert.Kernel.defs Cert.KernelIdeal.defs
  rw [defs₀]; rfl

theorem main : Cert.Kernel.main (F := F) = Cert.KernelIdeal.main (F := F) := rfl

end Cert.Proof.Same

end
-- ==== Proof.Spec.lean ====
/- The mathematics of the calls beside the attention, over the extended reals: the modulated root-mean-square norm of a row, the sigmoid
   gate, and sums of a few tiles as one sum. -/
module

public import Idealize.ShloMosaic.Lib.Pointwise
public import Idealize.ShloMosaic.Lib.IdealHost

@[expose] public section

noncomputable section

namespace Cert.Spec

open Idealize.ShloMosaic

/-- One over the root of the mean square of a row (`n` is the row's length, as a constant of the programs). -/
def rms {N : ℕ} (n : EReal) (x : Fin N → EReal) : EReal :=
  Ideal.rsqrt (Ideal.div (∑ l, x l * x l) n + Ideal.ofBits .f32 0x358637BD#32)

/-- Entry `l` of the normed row, scaled by a weight. -/
def normed {N : ℕ} (n : EReal) (x w : Fin N → EReal) (l : Fin N) : EReal := x l * rms n x * w l

/-- The length 2048 of a row, as the programs write it. -/
abbrev c2048 : EReal := Ideal.ofBits .f32 0x45000000#32

/-- Entry `l` of the normed row, scaled and shifted. -/
def modnorm {N : ℕ} (x w sc sh : Fin N → EReal) (l : Fin N) : EReal :=
  normed c2048 x w l * (1 + sc l) + sh l

/-- `x` times its sigmoid. -/
def silu (x : EReal) : EReal := x * Ideal.div 1 (1 + Ideal.exp (-x))

end Cert.Spec

end
-- ==== Proof.FfnBody.lean ====
/- The feed-forward call: what one grid point leaves in the normed rows, in the running sums and in the output block. -/
module

public import proofs.«01_k».proof.Proof.Spec
public import proofs.«01_k».proof.Proof.Gen.Kernel2Ideal.Value
public import Idealize.ShloMosaic.Lib.Pipeline.ValueKit

@[expose] public section

set_option maxRecDepth 16384

noncomputable section

namespace Cert.Kernel2Ideal.Ffn

open Idealize.ShloMosaic Idealize.ShloMosaic.TcCoe Idealize.SL.Sem
open Cert.Kernel2Ideal Cert.Kernel2Ideal.Gen Cert.Spec

section Points

variable {F : FTy → Type} [FloatOps F]
variable (m : (ℓ : Loc nD τ sig) → Buf (Elt F) ℓ)

/-- A scratch read whole is what was put there. -/
theorem read0 (X : Vec F S512x2048 .bf16) :
    View.read (Elt F) (View.whole cc0_scratch0) ((Memref.isWhole_whole cc0_scratch0).unread X) = X :=
  (Memref.isWhole_whole cc0_scratch0).read_unread X
theorem read1 (X : Vec F S512x2048 .f32) :
    View.read (Elt F) (View.whole cc0_scratch1) ((Memref.isWhole_whole cc0_scratch1).unread X) = X :=
  (Memref.isWhole_whole cc0_scratch1).read_unread X

/-- The first point of a run norms the rows. -/
theorem xn_first (c : Dev nD) (t : Fin cfg0.N) (h0 : t.val % 11 = 0) (h1 : ¬t.val % 11 = 10) :
    (outsAt0 m c t.val t.isLt).2.1 = k0_pay2 (iblk m c 0 t) (iblk m c 1 t) (iblk m c 2 t) (iblk m c 3 t) := by
  rw [outsAt0_A m c t h0 h1]; frame_out

/-- The first point of a run adds the first tile to zeros. -/
theorem acc_first (c : Dev nD) (t : Fin cfg0.N) (h0 : t.val % 11 = 0) (h1 : ¬t.val % 11 = 10) :
    (outsAt0 m c t.val t.isLt).2.2 = k0_pay4 (k0_pay2 (iblk m c 0 t) (iblk m c 1 t) (iblk m c 2 t) (iblk m c 3 t))
      (iblk m c 5 t) (iblk m c 6 t) k0_pay3 (iblk m c 7 t) := by
  rw [outsAt0_A m c t h0 h1]; frame_out

/-- The other points keep the normed rows. -/
theorem xn_next (c : Dev nD) (n : ℕ) (h : n + 1 < cfg0.N) (h0 : ¬(n + 1) % 11 = 0) :
    (outsAt0 m c (n + 1) h).2.1 = (outsAt0 m c n (Nat.lt_of_succ_lt h)).2.1 := by
  by_cases h1 : (n + 1) % 11 = 10
  · rw [outsAt0_C m c ⟨n + 1, h⟩ h0 h1]; rfl
  · rw [outsAt0_B m c ⟨n + 1, h⟩ h0 h1]; rfl

/-- The other points add their tile to the running sums. -/
theorem acc_next (c : Dev nD) (n : ℕ) (h : n + 1 < cfg0.N) (h0 : ¬(n + 1) % 11 = 0) :
    (outsAt0 m c (n + 1) h).2.2 = k0_pay4 (outsAt0 m c n (Nat.lt_of_succ_lt h)).2.1
      (iblk m c 5 ⟨n + 1, h⟩) (iblk m c 6 ⟨n + 1, h⟩) (outsAt0 m c n (Nat.lt_of_succ_lt h)).2.2 (iblk m c 7 ⟨n + 1, h⟩) := by
  by_cases h1 : (n + 1) % 11 = 10
  · rw [outsAt0_C m c ⟨n + 1, h⟩ h0 h1]; frame_out; simp only [read0, read1]; rfl
  · rw [outsAt0_B m c ⟨n + 1, h⟩ h0 h1]; frame_out; simp only [read0, read1]; rfl

/-- The last point of a run writes the norm of the residual sum. -/
theorem out_last (c : Dev nD) (t : Fin cfg0.N) (h0 : ¬t.val % 11 = 0) (h1 : t.val % 11 = 10) :
    (outsAt0 m c t.val t.isLt).1 = k0_pay1 (iblk m c 0 t) (iblk m c 4 t) (outsAt0 m c t.val t.isLt).2.2 (iblk m c 8 t) := by
  rw [outsAt0_C m c t h0 h1]; frame_out

end Points

theorem norm_at (x : Vec Ideal S512x2048 .f32) (w sh sc : Vec Ideal S1x2048 .f32) (r : Fin 512) (l : Fin 2048) :
    (k0_pay2 x w sh sc : Vec Ideal S512x2048 .bf16) (ix2 r l)
      = modnorm (fun l => x (ix2 r l)) (fun l => w (ix2 0 l)) (fun l => sc (ix2 0 l)) (fun l => sh (ix2 0 l)) l := by
  pointwise [k0_pay2, modnorm, normed, rms]

theorem zero_at (r : Fin 512) (l : Fin 2048) : (k0_pay3 (F := Ideal)) (ix2 r l) = 0 := by
  pointwise [k0_pay3]

theorem tile_at (xn : Vec Ideal S512x2048 .bf16) (w1 w3 : Vec Ideal S1x2048x512 .bf16) (a : Vec Ideal S512x2048 .f32)
    (w2 : Vec Ideal S1x512x2048 .bf16) (r : Fin 512) (l : Fin 2048) :
    (k0_pay4 xn w1 w3 a w2 : Vec Ideal S512x2048 .f32) (ix2 r l)
      = a (ix2 r l) + ∑ k : Fin 512, silu (∑ j : Fin 2048, xn (ix2 r j) * w1 (ix3 0 j k)) * (∑ j : Fin 2048, xn (ix2 r j) * w3 (ix3 0 j k)) * w2 (ix3 0 k l) := by
  pointwise [k0_pay4, silu]
  simp only [zero_sub]

theorem last_at (x : Vec Ideal S512x2048 .f32) (g : Vec Ideal S1x2048 .f32) (a : Vec Ideal S512x2048 .f32) (w : Vec Ideal S1x2048 .f32)
    (r : Fin 512) (l : Fin 2048) :
    (k0_pay1 x g a w : Vec Ideal S512x2048 .f32) (ix2 r l)
      = normed c2048 (fun l => x (ix2 r l) + g (ix2 0 l) * a (ix2 r l)) (fun l => w (ix2 0 l)) l := by
  pointwise [k0_pay1, normed, rms]

end Cert.Kernel2Ideal.Ffn

end
-- ==== Proof.FfnValue.lean ====
/- The feed-forward call's result, entry by entry: the norm of the residual sum with the gated feed-forward of the modulated norm. -/
module

public import proofs.«01_k».proof.Proof.FfnBody
public import Idealize.ShloMosaic.Lib.Claim

@[expose] public section

set_option maxRecDepth 16384

noncomputable section

namespace Cert.Spec

open Idealize.ShloMosaic

abbrev FX : Shape := ⟨3, ![1, 16384, 2048]⟩
abbrev FN : Shape := ⟨2, ![2, 2048]⟩
abbrev FV : Shape := ⟨3, ![1, 1, 2048]⟩
abbrev FW : Shape := ⟨3, ![2, 2048, 5632]⟩
abbrev FD : Shape := ⟨3, ![2, 5632, 2048]⟩
abbrev FF : Shape := ⟨1, ![2048]⟩

variable (x : FX.Idx → EReal) (nw : FN.Idx → EReal) (sh sc g : FV.Idx → EReal) (w1 w3 : FW.Idx → EReal) (w2 : FD.Idx → EReal) (fw : FF.Idx → EReal)

/-- The modulated norm of row `R`. -/
def ffnNorm (R : Fin 16384) (l : Fin 2048) : EReal :=
  modnorm (fun l => x (ix3 0 R l)) (fun l => nw (ix2 1 l)) (fun l => sc (ix3 0 0 l)) (fun l => sh (ix3 0 0 l)) l

/-- Entry `(k, l)` of the gated product of row `R`. -/
def ffnTerm (R : Fin 16384) (l : Fin 2048) (k : Fin 5632) : EReal :=
  silu (∑ j : Fin 2048, ffnNorm x nw sh sc R j * w1 (ix3 1 j k)) * (∑ j : Fin 2048, ffnNorm x nw sh sc R j * w3 (ix3 1 j k)) * w2 (ix3 1 k l)

/-- The residual sum. -/
def ffnRes (R : Fin 16384) (l : Fin 2048) : EReal :=
  x (ix3 0 R l) + g (ix3 0 0 l) * ∑ k : Fin 5632, ffnTerm x nw sh sc w1 w3 w2 R l k

/-- The result. -/
def ffnOut (R : Fin 16384) (l : Fin 2048) : EReal :=
  normed c2048 (ffnRes x nw sh sc g w1 w3 w2 R) (fun l => fw (ix1 l)) l

end Cert.Spec

namespace Cert.Kernel2Ideal.Ffn

open Idealize.ShloMosaic Idealize.ShloMosaic.TcCoe Idealize.SL.Sem
open Cert.Kernel2Ideal Cert.Kernel2Ideal.Gen Cert.Spec

variable (m : (ℓ : Loc nD τ sig) → Buf (Elt Ideal) ℓ) (ρ : Dev nD → PrngReg)

abbrev X0 (c : Dev nD) : FVec Ideal S1x16384x2048 .f32 := m ((c : Thread nD τ).loc main_arg0)
abbrev X1 (c : Dev nD) : FVec Ideal S2x2048 .f32 := m ((c : Thread nD τ).loc main_arg1)
abbrev X2 (c : Dev nD) : FVec Ideal S1x1x2048 .f32 := m ((c : Thread nD τ).loc main_arg2)
abbrev X3 (c : Dev nD) : FVec Ideal S1x1x2048 .f32 := m ((c : Thread nD τ).loc main_arg3)
abbrev X4 (c : Dev nD) : FVec Ideal S1x1x2048 .f32 := m ((c : Thread nD τ).loc main_arg4)
abbrev X5 (c : Dev nD) : FVec Ideal S2x2048x5632 .f32 := m ((c : Thread nD τ).loc main_arg5)
abbrev X6 (c : Dev nD) : FVec Ideal S2x2048x5632 .f32 := m ((c : Thread nD τ).loc main_arg6)
abbrev X7 (c : Dev nD) : FVec Ideal S2x5632x2048 .f32 := m ((c : Thread nD τ).loc main_arg7)
abbrev X8 (c : Dev nD) : FVec Ideal S2048 .f32 := m ((c : Thread nD τ).loc main_arg8)

/-- The windows' blocks at every point. -/
theorem idx : ∀ t : Fin cfg0.N,
    win0_0.index t = ![t.val / 11, 0] ∧ win0_1.index t = ![0, 0] ∧ win0_2.index t = ![0, 0] ∧ win0_3.index t = ![0, 0]
    ∧ win0_4.index t = ![0, 0] ∧ win0_5.index t = ![1, 0, t.val % 11] ∧ win0_6.index t = ![1, 0, t.val % 11]
    ∧ win0_7.index t = ![1, t.val % 11, 0] ∧ win0_8.index t = ![0, 0] ∧ win0_9.index t = ![t.val / 11, 0] :=
  (by decide +kernel : ∀ t : Fin grid0.N, _)

section Entry
variable (c : Dev nD)

theorem entry0 (r : Fin 16384) (l : Fin 2048) : (show FVec Ideal S16384x2048 .f32 from V m c main_v3) (ix2 r l) = X0 m c (ix3 0 r l) := by
  entry_read; pointwise
theorem entry1 (l : Fin 2048) : (show FVec Ideal S1x2048 .f32 from V m c main_v9) (ix2 0 l) = X1 m c (ix2 1 l) := by
  entry_read; pointwise
theorem entry2 (l : Fin 2048) : (show FVec Ideal S1x2048 .f32 from V m c main_v6) (ix2 0 l) = X2 m c (ix3 0 0 l) := by
  entry_read; pointwise
theorem entry3 (l : Fin 2048) : (show FVec Ideal S1x2048 .f32 from V m c main_v7) (ix2 0 l) = X3 m c (ix3 0 0 l) := by
  entry_read; pointwise
theorem entry4 (l : Fin 2048) : (show FVec Ideal S1x2048 .f32 from V m c main_v8) (ix2 0 l) = X4 m c (ix3 0 0 l) := by
  entry_read; pointwise
theorem entry5 (j : Fin 2048) (k : Fin 5632) : (show FVec Ideal S2x2048x5632 .bf16 from V m c main_v0) (ix3 1 j k) = X5 m c (ix3 1 j k) := by
  entry_read; pointwise
theorem entry6 (j : Fin 2048) (k : Fin 5632) : (show FVec Ideal S2x2048x5632 .bf16 from V m c main_v1) (ix3 1 j k) = X6 m c (ix3 1 j k) := by
  entry_read; pointwise
theorem entry7 (k : Fin 5632) (l : Fin 2048) : (show FVec Ideal S2x5632x2048 .bf16 from V m c main_v2) (ix3 1 k l) = X7 m c (ix3 1 k l) := by
  entry_read; pointwise
theorem entry8 (l : Fin 2048) : (show FVec Ideal S1x2048 .f32 from V m c main_v10) (ix2 0 l) = X8 m c (ix1 l) := by
  entry_read; pointwise

variable (t : Fin cfg0.N)

theorem N_eq : cfg0.N = 352 := N_0

theorem row_lt (t : Fin cfg0.N) (r : Fin 512) : t.val / 11 * 512 + r.val < 16384 := by
  have := lt_of_lt_of_eq t.isLt N_eq; omega
theorem col_lt (t : Fin cfg0.N) (k : Fin 512) : t.val % 11 * 512 + k.val < 5632 := by omega

/-- The row of the result that row `r` of point `t` is. -/
def row (t : Fin cfg0.N) (r : Fin 512) : Fin 16384 := ⟨t.val / 11 * 512 + r.val, row_lt t r⟩
/-- The inner column that column `k` of point `t`'s tile is. -/
def col (t : Fin cfg0.N) (k : Fin 512) : Fin 5632 := ⟨t.val % 11 * 512 + k.val, col_lt t k⟩

theorem blk0 (r : Fin 512) (l : Fin 2048) : (show Vec Ideal S512x2048 .f32 from iblk m c 0 t) (ix2 r l) = X0 m c (ix3 0 (row t r) l) := by
  rw [← entry0]; blk_ext [iblk, idx t, row]
theorem blk1 (l : Fin 2048) : (show Vec Ideal S1x2048 .f32 from iblk m c 1 t) (ix2 0 l) = X1 m c (ix2 1 l) := by
  rw [← entry1]; blk_ext [iblk, idx t]
theorem blk2 (l : Fin 2048) : (show Vec Ideal S1x2048 .f32 from iblk m c 2 t) (ix2 0 l) = X2 m c (ix3 0 0 l) := by
  rw [← entry2]; blk_ext [iblk, idx t]
theorem blk3 (l : Fin 2048) : (show Vec Ideal S1x2048 .f32 from iblk m c 3 t) (ix2 0 l) = X3 m c (ix3 0 0 l) := by
  rw [← entry3]; blk_ext [iblk, idx t]
theorem blk4 (l : Fin 2048) : (show Vec Ideal S1x2048 .f32 from iblk m c 4 t) (ix2 0 l) = X4 m c (ix3 0 0 l) := by
  rw [← entry4]; blk_ext [iblk, idx t]
theorem blk5 (j : Fin 2048) (k : Fin 512) : (show Vec Ideal S1x2048x512 .bf16 from iblk m c 5 t) (ix3 0 j k) = X5 m c (ix3 1 j (col t k)) := by
  rw [← entry5]; blk_ext [iblk, idx t, col]
theorem blk6 (j : Fin 2048) (k : Fin 512) : (show Vec Ideal S1x2048x512 .bf16 from iblk m c 6 t) (ix3 0 j k) = X6 m c (ix3 1 j (col t k)) := by
  rw [← entry6]; blk_ext [iblk, idx t, col]
theorem blk7 (k : Fin 512) (l : Fin 2048) : (show Vec Ideal S1x512x2048 .bf16 from iblk m c 7 t) (ix3 0 k l) = X7 m c (ix3 1 (col t k) l) := by
  rw [← entry7]; blk_ext [iblk, idx t, col]
theorem blk8 (l : Fin 2048) : (show Vec Ideal S1x2048 .f32 from iblk m c 8 t) (ix2 0 l) = X8 m c (ix1 l) := by
  rw [← entry8]; blk_ext [iblk, idx t]

end Entry

variable (c : Dev nD)

/-- The specification at the call's arguments. -/
abbrev nrm := ffnNorm (X0 m c) (X1 m c) (X2 m c) (X3 m c)
abbrev trm := ffnTerm (X0 m c) (X1 m c) (X2 m c) (X3 m c) (X5 m c) (X6 m c) (X7 m c)
abbrev res := ffnOut (X0 m c) (X1 m c) (X2 m c) (X3 m c) (X4 m c) (X5 m c) (X6 m c) (X7 m c) (X8 m c)

/-- The rows normed at point `t`. -/
theorem norm_blk (t : Fin cfg0.N) (r : Fin 512) (l : Fin 2048) :
    (k0_pay2 (iblk m c 0 t) (iblk m c 1 t) (iblk m c 2 t) (iblk m c 3 t) : Vec Ideal S512x2048 .bf16) (ix2 r l) = nrm m c (row t r) l := by
  refine (norm_at _ _ _ _ r l).trans ?_
  unfold nrm ffnNorm
  congr 1
  · funext l; exact blk0 m c t r l
  · funext l; exact blk1 m c t l
  · funext l; exact blk3 m c t l
  · funext l; exact blk2 m c t l

/-- One tile's part of the sum. -/
theorem tile_blk (t : Fin cfg0.N) (xn : Vec Ideal S512x2048 .bf16) (a : Vec Ideal S512x2048 .f32) (r : Fin 512) (l : Fin 2048)
    (hx : ∀ j, xn (ix2 r j) = nrm m c (row t r) j) :
    (k0_pay4 xn (iblk m c 5 t) (iblk m c 6 t) a (iblk m c 7 t) : Vec Ideal S512x2048 .f32) (ix2 r l)
      = a (ix2 r l) + ∑ k : Fin 512, trm m c (row t r) l (col t k) := by
  refine (tile_at _ _ _ _ _ r l).trans (congrArg (a (ix2 r l) + ·) (Finset.sum_congr rfl fun k _ => ?_))
  unfold trm ffnTerm
  refine congr (congrArg _ (congr (congrArg _ (congrArg silu ?_)) ?_)) (blk7 m c t k l)
  · exact Finset.sum_congr rfl fun j _ => congr (congrArg _ (hx j)) (blk5 m c t j k)
  · exact Finset.sum_congr rfl fun j _ => congr (congrArg _ (hx j)) (blk6 m c t j k)

theorem row_succ (n : ℕ) (h : n + 1 < cfg0.N) (h0 : ¬(n + 1) % 11 = 0) (r : Fin 512) :
    row ⟨n, Nat.lt_of_succ_lt h⟩ r = row ⟨n + 1, h⟩ r := by
  apply Fin.ext; show n / 11 * 512 + r.val = (n + 1) / 11 * 512 + r.val; omega

/-- The normed rows, at every point. -/
theorem xn_eq : ∀ (n : ℕ) (h : n < cfg0.N) (r : Fin 512) (l : Fin 2048),
    (outsAt0 m c n h).2.1 (ix2 r l) = nrm m c (row ⟨n, h⟩ r) l
  | 0, h, r, l => (congrFun (xn_first m c ⟨0, h⟩ rfl (show ¬0 % 11 = 10 by omega)) (ix2 r l)).trans (norm_blk m c _ r l)
  | n + 1, h, r, l => by
    by_cases h0 : (n + 1) % 11 = 0
    · exact (congrFun (xn_first m c ⟨n + 1, h⟩ h0 (show ¬(n + 1) % 11 = 10 by omega)) (ix2 r l)).trans (norm_blk m c _ r l)
    · rw [xn_next m c n h h0, xn_eq n _ r l, row_succ n h h0 r]

/-- The part of the sum that tile `s` gives. -/
def part (R : Fin 16384) (l : Fin 2048) (s : ℕ) : EReal :=
  ∑ k : Fin 512, if h : s * 512 + k.val < 5632 then trm m c R l ⟨s * 512 + k.val, h⟩ else 0

theorem part_eq (t : Fin cfg0.N) (R : Fin 16384) (l : Fin 2048) :
    ∑ k : Fin 512, trm m c R l (col t k) = part m c R l (t.val % 11) :=
  Finset.sum_congr rfl fun k _ => by rw [dif_pos (col_lt t k)]; rfl

/-- The running sums, at every point. -/
theorem acc_eq : ∀ (n : ℕ) (h : n < cfg0.N) (r : Fin 512) (l : Fin 2048),
    (outsAt0 m c n h).2.2 (ix2 r l) = ∑ s ∈ Finset.range (n % 11 + 1), part m c (row ⟨n, h⟩ r) l s
  | 0, h, r, l => by
    refine (congrFun (acc_first m c ⟨0, h⟩ rfl (show ¬0 % 11 = 10 by omega)) (ix2 r l)).trans ?_
    rw [tile_blk m c ⟨0, h⟩ _ _ r l (fun j => norm_blk m c _ r j), zero_at, zero_add, part_eq]
    exact (Finset.sum_range_one _).symm
  | n + 1, h, r, l => by
    by_cases h0 : (n + 1) % 11 = 0
    · refine (congrFun (acc_first m c ⟨n + 1, h⟩ h0 (show ¬(n + 1) % 11 = 10 by omega)) (ix2 r l)).trans ?_
      rw [tile_blk m c ⟨n + 1, h⟩ _ _ r l (fun j => norm_blk m c _ r j), zero_at, zero_add, part_eq]
      show part m c _ l ((n + 1) % 11) = _
      rw [h0]; exact (Finset.sum_range_one _).symm
    · rw [acc_next m c n h h0, tile_blk m c ⟨n + 1, h⟩ _ _ r l (fun j => (xn_eq m c n _ r j).trans (by rw [row_succ n h h0 r])),
        acc_eq n _ r l, row_succ n h h0 r, part_eq]
      show _ + part m c _ l ((n + 1) % 11) = _
      rw [show (n + 1) % 11 = n % 11 + 1 from by omega, Finset.sum_range_succ (n := n % 11 + 1)]

/-- The eleven tiles are all the inner columns. -/
theorem parts (R : Fin 16384) (l : Fin 2048) : ∑ s ∈ Finset.range 11, part m c R l s = ∑ k : Fin 5632, trm m c R l k := by
  rw [Finset.sum_range, Fin.sum_univ_tiles 11 512 rfl (trm m c R l)]
  refine Finset.sum_congr rfl fun s _ => Finset.sum_congr rfl fun k _ => ?_
  exact dif_pos (show s.val * 512 + k.val < 5632 by omega)

/-- The block a run ends with. -/
theorem out_eq (t : Fin cfg0.N) (h1 : t.val % 11 = 10) (r : Fin 512) (l : Fin 2048) :
    (outsAt0 m c t.val t.isLt).1 (ix2 r l) = res m c (row t r) l := by
  rw [out_last m c t (by omega) h1]
  refine (last_at _ _ _ _ r l).trans ?_
  unfold res ffnOut
  congr 1
  · funext l
    unfold ffnRes
    refine congr (congrArg _ (blk0 m c t r l)) (congr (congrArg _ (blk4 m c t l)) ?_)
    rw [acc_eq, h1]; exact parts m c _ l
  · funext l; exact blk8 m c t l

theorem entry_eq (t : Fin cfg0.N) (h1 : t.val % 11 = 10) (y : S512x2048.Idx) (R : Fin 16384) (C : Fin 2048)
    (hR : t.val / 11 * 512 + (y 0).val = R.val) (hC : (y 1).val = C.val) : (outsAt0 m c t.val t.isLt).1 y = res m c R C := by
  obtain rfl : row t (y 0) = R := Fin.ext hR
  obtain rfl : y 1 = C := Fin.ext hC
  exact (congrArg (outsAt0 m c t.val t.isLt).1 (eq_ix2 (n0 := 512) (n1 := 2048) y)).trans (out_eq m c t h1 _ _)

/-- The result array. -/
theorem final : (dats m 0 c).arrAt 9 cfg0.N = (show FVec Ideal S16384x2048 .f32 from fun i => res m c (i 0) (i 1)) := by
  refine (dats m 0 c).arrAt_eq_of_covers 9 _ (by decide +kernel) fun t ht y => ?_
  have hm : t.val % 11 = 10 := (flush0_9 t).mp ht
  blk_simp
  rw [after0_9]
  have e := (idx t).2.2.2.2.2.2.2.2.2
  have b0 : (((cfg0.win 9).blk t).view.emb y 0).val = win0_9.index t (0 : Fin 2) * 512 + 1 * (y 0).val := rfl
  have b1 : (((cfg0.win 9).blk t).view.emb y 1).val = win0_9.index t (1 : Fin 2) * 2048 + 1 * (y 1).val := rfl
  have e0 : win0_9.index t (0 : Fin 2) = t.val / 11 := by rw [e]; rfl
  have e1 : win0_9.index t (1 : Fin 2) = 0 := by rw [e]; rfl
  rw [e0] at b0; rw [e1] at b1
  refine entry_eq m c t hm y _ _ ?_ ?_
  · exact Eq.trans (by omega) b0.symm
  · exact Eq.trans (by omega) b1.symm

end Cert.Kernel2Ideal.Ffn

end
-- ==== Proof.FfnRef.lean ====
/- The feed-forward reference's result over the extended reals, entry by entry. -/
module

public import proofs.«01_k».proof.Proof.FfnValue
public import proofs.«01_k».proof.Proof.Gen.Reference2Ideal.Run

@[expose] public section

set_option maxRecDepth 16384

noncomputable section

namespace Cert.Reference2Ideal.Ffn

open Idealize.ShloMosaic Idealize.ShloMosaic.TcCoe Idealize.SL.Sem
open Cert.Reference2Ideal Cert.Reference2Ideal.Gen Cert.Spec

/-- Every row over the root of its mean square. -/
def Rms (x : FVec Ideal S1x16384x2048 .f32) : FVec Ideal S1x16384x2048 .f32 :=
  mulf x (broadcastInDim S1x16384x2048 ![0, 1, 2] bcast_S1x16384x1_S1x16384x2048_0_1_2 (Host.rsqrt (addf (Host.divf (broadcastInDim S1x16384x1 ![0, 1] bcast_S1x16384_S1x16384x1_0_1 (Host.reduceAdd (mulf x x) (constant S_ .f32 0x00000000#32) reducesTo_S1x16384x2048_S1x16384_d2 h_S_)) (broadcastInDim S1x16384x1 ![] bcast_S_S1x16384x1 (constant S_ .f32 0x45000000#32))) (broadcastInDim S1x16384x1 ![] bcast_S_S1x16384x1 (constant S_ .f32 0x358637BD#32)))))

/-- The modulated norm. -/
def Mod (y : FVec Ideal S1x16384x2048 .f32) (nw : FVec Ideal S2x2048 .f32) (sh sc : FVec Ideal S1x1x2048 .f32) : FVec Ideal S1x16384x2048 .f32 :=
  addf (mulf (mulf y (broadcastInDim S1x16384x2048 ![0, 1, 2] bcast_S1x1x2048_S1x16384x2048_0_1_2 (broadcastInDim S1x1x2048 ![2] bcast_S2048_S1x1x2048_2 (shapeCast _ (extractStridedSlice S1x2048 ![1, 0] nw slices_S2x2048_S1x2048_1_0) shapeCasts_S1x2048_S2048)))) (broadcastInDim S1x16384x2048 ![0, 1, 2] bcast_S1x1x2048_S1x16384x2048_0_1_2 (addf (broadcastInDim S1x1x2048 ![] bcast_S_S1x1x2048 (constant S_ .f32 0x3F800000#32)) sc))) (broadcastInDim S1x16384x2048 ![0, 1, 2] bcast_S1x1x2048_S1x16384x2048_0_1_2 sh)

/-- The rows times an inner matrix. -/
def Up (u : FVec Ideal S1x16384x2048 .f32) (w : FVec Ideal S2x2048x5632 .f32) : FVec Ideal S1x16384x5632 .f32 :=
  Host.dotGeneral dot_S1x16384x2048_S2048x5632_S1x16384x5632_2_0_01_1_n_n none u (shapeCast _ (extractStridedSlice S1x2048x5632 ![1, 0, 0] w slices_S2x2048x5632_S1x2048x5632_1_0_0) shapeCasts_S1x2048x5632_S2048x5632)

/-- The gated product. -/
def Gt (a b : FVec Ideal S1x16384x5632 .f32) : FVec Ideal S1x16384x5632 .f32 :=
  mulf (mulf a (Host.divf (broadcastInDim S1x16384x5632 ![] bcast_S_S1x16384x5632 (constant S_ .f32 0x3F800000#32)) (addf (broadcastInDim S1x16384x5632 ![] bcast_S_S1x16384x5632 (constant S_ .f32 0x3F800000#32)) (Host.exp (Host.negf a))))) b

/-- The residual sum. -/
def Res (x : FVec Ideal S1x16384x2048 .f32) (g : FVec Ideal S1x1x2048 .f32) (h : FVec Ideal S1x16384x5632 .f32) (w : FVec Ideal S2x5632x2048 .f32) : FVec Ideal S1x16384x2048 .f32 :=
  addf x (mulf (broadcastInDim S1x16384x2048 ![0, 1, 2] bcast_S1x1x2048_S1x16384x2048_0_1_2 g) (Host.dotGeneral dot_S1x16384x5632_S5632x2048_S1x16384x2048_2_0_01_1_n_n none h (shapeCast _ (extractStridedSlice S1x5632x2048 ![1, 0, 0] w slices_S2x5632x2048_S1x5632x2048_1_0_0) shapeCasts_S1x5632x2048_S5632x2048)))

/-- The weighted norm of the residual sum, as a matrix. -/
def Fin' (y : FVec Ideal S1x16384x2048 .f32) (fw : FVec Ideal S2048 .f32) : FVec Ideal S16384x2048 .f32 :=
  shapeCast _ (mulf y (broadcastInDim S1x16384x2048 ![0, 1, 2] bcast_S1x1x2048_S1x16384x2048_0_1_2 (broadcastInDim S1x1x2048 ![2] bcast_S2048_S1x1x2048_2 fw))) shapeCasts_S1x16384x2048_S16384x2048

/-- The reference's result. -/
def REF (x : FVec Ideal S1x16384x2048 .f32) (nw : FVec Ideal S2x2048 .f32) (sh sc g : FVec Ideal S1x1x2048 .f32)
    (w1 w3 : FVec Ideal S2x2048x5632 .f32) (w2 : FVec Ideal S2x5632x2048 .f32) (fw : FVec Ideal S2048 .f32) : FVec Ideal S16384x2048 .f32 :=
  Fin' (Rms (Res x g (Gt (Up (Mod (Rms x) nw sh sc) w1) (Up (Mod (Rms x) nw sh sc) w3)) w2)) fw

theorem out_named (m : (ℓ : Loc nD τ sig) → Buf (Elt Ideal) ℓ) (c : Dev nD) :
    Value.res_main_v48 m c = REF (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8)) := by
  unfold Value.res_main_v48 REF Fin' Res Gt Up Mod Rms
  rfl

/-- The arguments end unchanged and every counter at zero. -/
theorem frame_run (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0 :=
  (θ_run defs _ _).mono (fun r h => ⟨fun c => (h c).2, Idealize.ShloMosaic.sem_eq_zero_of_no_sems (by decide) r.2⟩) (Value.run m ρ)

section At

theorem Rms_at (x : FVec Ideal S1x16384x2048 .f32) (R : Fin 16384) (l : Fin 2048) :
    Rms x (ix3 0 R l) = x (ix3 0 R l) * rms c2048 (fun l => x (ix3 0 R l)) := by
  pointwise [Rms, rms]

theorem Mod_at (y : FVec Ideal S1x16384x2048 .f32) (nw : FVec Ideal S2x2048 .f32) (sh sc : FVec Ideal S1x1x2048 .f32) (R : Fin 16384) (l : Fin 2048) :
    Mod y nw sh sc (ix3 0 R l) = y (ix3 0 R l) * nw (ix2 1 l) * (1 + sc (ix3 0 0 l)) + sh (ix3 0 0 l) := by
  pointwise [Mod]

theorem Up_at (u : FVec Ideal S1x16384x2048 .f32) (w : FVec Ideal S2x2048x5632 .f32) (R : Fin 16384) (k : Fin 5632) :
    Up u w (ix3 0 R k) = ∑ j : Fin 2048, u (ix3 0 R j) * w (ix3 1 j k) := by
  pointwise [Up]

theorem Gt_at (a b : FVec Ideal S1x16384x5632 .f32) (R : Fin 16384) (k : Fin 5632) :
    Gt a b (ix3 0 R k) = silu (a (ix3 0 R k)) * b (ix3 0 R k) := by
  pointwise [Gt, silu]

theorem Res_at (x : FVec Ideal S1x16384x2048 .f32) (g : FVec Ideal S1x1x2048 .f32) (h : FVec Ideal S1x16384x5632 .f32) (w : FVec Ideal S2x5632x2048 .f32)
    (R : Fin 16384) (l : Fin 2048) :
    Res x g h w (ix3 0 R l) = x (ix3 0 R l) + g (ix3 0 0 l) * ∑ k : Fin 5632, h (ix3 0 R k) * w (ix3 1 k l) := by
  pointwise [Res]

theorem Fin_at (y : FVec Ideal S1x16384x2048 .f32) (fw : FVec Ideal S2048 .f32) (R : Fin 16384) (l : Fin 2048) :
    Fin' y fw (ix2 R l) = y (ix3 0 R l) * fw (ix1 l) := by
  pointwise [Fin']

end At

/-- The reference's result, entry by entry. -/
theorem REF_eq (x : FVec Ideal S1x16384x2048 .f32) (nw : FVec Ideal S2x2048 .f32) (sh sc g : FVec Ideal S1x1x2048 .f32)
    (w1 w3 : FVec Ideal S2x2048x5632 .f32) (w2 : FVec Ideal S2x5632x2048 .f32) (fw : FVec Ideal S2048 .f32) (R : Fin 16384) (l : Fin 2048) :
    REF x nw sh sc g w1 w3 w2 fw (ix2 R l) = ffnOut x nw sh sc g w1 w3 w2 fw R l := by
  have hu : ∀ l, Mod (Rms x) nw sh sc (ix3 0 R l) = ffnNorm x nw sh sc R l := by
    intro l; rw [Mod_at, Rms_at]; rfl
  have hr : ∀ l, Res x g (Gt (Up (Mod (Rms x) nw sh sc) w1) (Up (Mod (Rms x) nw sh sc) w3)) w2 (ix3 0 R l) = ffnRes x nw sh sc g w1 w3 w2 R l := by
    intro l
    rw [Res_at]
    simp only [Gt_at, Up_at, hu]
    rfl
  rw [REF, Fin_at, Rms_at]
  simp only [hr]
  rfl

end Cert.Reference2Ideal.Ffn

end
-- ==== Proof.ConvBody.lean ====
/- The Hyena input projection with its short convolution: what one grid point leaves in the normed rows, in the rows beside them and
   in the output block. -/
module

public import proofs.«01_k».proof.Proof.Spec
public import proofs.«01_k».proof.Proof.Gen.Kernel3Ideal.Frame
public import Idealize.ShloMosaic.Lib.Pipeline.ValueKit
public import Idealize.ShloMosaic.Lib.Pointwise

@[expose] public section

set_option maxRecDepth 16384

noncomputable section

namespace Cert.Kernel3Ideal.Conv

open Idealize.ShloMosaic Idealize.ShloMosaic.TcCoe Idealize.SL.Sem
open Cert.Kernel3Ideal Cert.Kernel3Ideal.Gen Cert.Spec

section Points

variable {F : FTy → Type} [FloatOps F]
variable (m : (ℓ : Loc nD τ sig) → Buf (Elt F) ℓ)

/-- A scratch read whole is what was put there. -/
theorem read0 (X : Vec F S1024x2048 .bf16) :
    View.read (Elt F) (View.whole cc0_scratch0) ((Memref.isWhole_whole cc0_scratch0).unread X) = X :=
  (Memref.isWhole_whole cc0_scratch0).read_unread X
theorem read1 (X : Vec F S16x2048 .bf16) :
    View.read (Elt F) (View.whole cc0_scratch1) ((Memref.isWhole_whole cc0_scratch1).unread X) = X :=
  (Memref.isWhole_whole cc0_scratch1).read_unread X

/-- The first point of a run norms its rows. -/
theorem xn_first (c : Dev nD) (t : Fin cfg0.N) (h0 : t.val % 8 = 0) :
    (outsAt0 m c t.val t.isLt).2.1 = k0_pay5 (iblk m c 3 t) (iblk m c 4 t) (iblk m c 5 t) (iblk m c 0 t) := by
  rw [outsAt0_A m c t h0]; frame_out

/-- The other points keep the normed rows. -/
theorem xn_next (c : Dev nD) (n : ℕ) (h : n + 1 < cfg0.N) (h0 : ¬(n + 1) % 8 = 0) :
    (outsAt0 m c (n + 1) h).2.1 = (outsAt0 m c n (Nat.lt_of_succ_lt h)).2.1 := by
  rw [outsAt0_B m c ⟨n + 1, h⟩ h0]; rfl

theorem xh_next (c : Dev nD) (n : ℕ) (h : n + 1 < cfg0.N) (h0 : ¬(n + 1) % 8 = 0) :
    (outsAt0 m c (n + 1) h).2.2 = (outsAt0 m c n (Nat.lt_of_succ_lt h)).2.2 := by
  rw [outsAt0_B m c ⟨n + 1, h⟩ h0]; rfl

/-- The first point of a run norms the eight rows before its rows and the eight after. -/
theorem xh_first (c : Dev nD) (t : Fin cfg0.N) (h0 : t.val % 8 = 0) (y : S16x2048.Idx) :
    (outsAt0 m c t.val t.isLt).2.2 y
      = if (y 0).val < 8 then
          k0_pay8 (k0_pay2 (iblk m c 3 t)) (k0_pay3 (iblk m c 4 t)) (k0_pay4 (iblk m c 5 t)) (k0_pay6 (iblk m c 1 t)) (k0_pay7 (iblk m c 1 t))
            (ix2 ⟨(y 0).val % 8, Nat.mod_lt _ (by decide)⟩ (y 1))
        else k0_pay9 (k0_pay2 (iblk m c 3 t)) (k0_pay3 (iblk m c 4 t)) (k0_pay4 (iblk m c 5 t)) (iblk m c 2 t)
            (ix2 ⟨(y 0).val % 8, Nat.mod_lt _ (by decide)⟩ (y 1)) := by
  rw [outsAt0_A m c t h0]; frame_out
  canon_tiles x e
  · have hy : ¬ (y 0).val < 8 := by simp only [e0]; omega
    rw [if_neg hy]
    congr 1
    refine (eq_ix2 (n0 := 8) (n1 := 2048) x).trans (congr (congrArg ix2 (Fin.ext ?_)) (Fin.ext e1.symm))
    show (x 0).val = (y 0).val % 8
    omega
  · have hy : (y 0).val < 8 := by simp only [e0]; omega
    rw [if_pos hy]
    congr 1
    refine (eq_ix2 (n0 := 8) (n1 := 2048) x).trans (congr (congrArg ix2 (Fin.ext ?_)) (Fin.ext e1.symm))
    show (x 0).val = (y 0).val % 8
    omega

theorem xh_before (c : Dev nD) (t : Fin cfg0.N) (h0 : t.val % 8 = 0) (l : Fin 2048) :
    (outsAt0 m c t.val t.isLt).2.2 (ix2 7 l)
      = k0_pay8 (k0_pay2 (iblk m c 3 t)) (k0_pay3 (iblk m c 4 t)) (k0_pay4 (iblk m c 5 t)) (k0_pay6 (iblk m c 1 t)) (k0_pay7 (iblk m c 1 t)) (ix2 7 l) := by
  have h : ((ix2 (n0 := 16) (n1 := 2048) 7 l) 0).val = 7 := rfl
  have hi : (⟨((ix2 (n0 := 16) (n1 := 2048) 7 l) 0).val % 8, Nat.mod_lt _ (by decide)⟩ : Fin 8) = 7 := Fin.ext (by rw [h]; rfl)
  rw [xh_first m c t h0 (ix2 7 l), if_pos (lt_of_eq_of_lt h (by decide)), hi, show (ix2 (n0 := 16) (n1 := 2048) 7 l) 1 = l from rfl]

theorem xh_after (c : Dev nD) (t : Fin cfg0.N) (h0 : t.val % 8 = 0) (l : Fin 2048) :
    (outsAt0 m c t.val t.isLt).2.2 (ix2 8 l)
      = k0_pay9 (k0_pay2 (iblk m c 3 t)) (k0_pay3 (iblk m c 4 t)) (k0_pay4 (iblk m c 5 t)) (iblk m c 2 t) (ix2 0 l) := by
  have h : ((ix2 (n0 := 16) (n1 := 2048) 8 l) 0).val = 8 := rfl
  have hi : (⟨((ix2 (n0 := 16) (n1 := 2048) 8 l) 0).val % 8, Nat.mod_lt _ (by decide)⟩ : Fin 8) = 0 := Fin.ext (by rw [h]; rfl)
  rw [xh_first m c t h0 (ix2 8 l), if_neg (fun h' => absurd (lt_of_eq_of_lt h.symm h') (by decide)), hi, show (ix2 (n0 := 16) (n1 := 2048) 8 l) 1 = l from rfl]

/-- What a point writes. -/
abbrev pay (c : Dev nD) (t : Fin cfg0.N) (xn : Vec F S1024x2048 .bf16) (xh : Vec F S16x2048 .bf16) (w0 w1 w2 : Vec F S1x768 .f32) : Vec F S1024x768 .f32 :=
  k0_pay1 (k0_pay12 (iblk m c 6 t) (iblk m c 7 t) xn) (k0_pay14 (grid0.coords t) (iblk m c 6 t) (iblk m c 7 t) xn xh)
    (k0_pay15 (grid0.coords t) (iblk m c 6 t) (iblk m c 7 t) xn xh) w0 w1 w2 (iblk m c 9 t)

theorem out_all (c : Dev nD) (t : Fin cfg0.N) :
    ∃ w0 w1 w2 : Vec F S1x768 .f32, (outsAt0 m c t.val t.isLt).1 = pay m c t (outsAt0 m c t.val t.isLt).2.1 (outsAt0 m c t.val t.isLt).2.2 w0 w1 w2
      ∧ (∀ j, w0 (ix2 0 j) = (show Vec F S3x768 .f32 from iblk m c 8 t) (ix2 0 j))
      ∧ (∀ j, w1 (ix2 0 j) = (show Vec F S3x768 .f32 from iblk m c 8 t) (ix2 1 j))
      ∧ (∀ j, w2 (ix2 0 j) = (show Vec F S3x768 .f32 from iblk m c 8 t) (ix2 2 j)) := by
  refine ⟨View.ld (iblk m c 8 t) (Rect.unit ![0, 0] ![1, 768] inb_S3x768_S1x768_0_0), View.ld (iblk m c 8 t) (Rect.unit ![1, 0] ![1, 768] inb_S3x768_S1x768_1_0),
    View.ld (iblk m c 8 t) (Rect.unit ![2, 0] ![1, 768] inb_S3x768_S1x768_2_0), ?_, fun j => ?_, fun j => ?_, fun j => ?_⟩
  · by_cases h0 : t.val % 8 = 0
    · rw [outsAt0_A m c t h0]; frame_out
      refine congrArg (fun xh : Vec F S16x2048 .bf16 => pay m c t (k0_pay5 (iblk m c 3 t) (iblk m c 4 t) (iblk m c 5 t) (iblk m c 0 t)) xh
        (View.ld (iblk m c 8 t) (Rect.unit ![0, 0] ![1, 768] inb_S3x768_S1x768_0_0)) (View.ld (iblk m c 8 t) (Rect.unit ![1, 0] ![1, 768] inb_S3x768_S1x768_1_0))
        (View.ld (iblk m c 8 t) (Rect.unit ![2, 0] ![1, 768] inb_S3x768_S1x768_2_0))) ?_
      exact (View.readCov_eq_canon' _ _ _).trans (View.ld_unit_zero (S := S16x2048) (off := ![0, 0]) (by decide) inb_S16x2048_S16x2048_0_0 _)
    · rw [outsAt0_B m c t h0]; frame_out; simp only [read0, read1]; rfl
  · pointwise []
  · pointwise []
  · pointwise []

end Points

end Cert.Kernel3Ideal.Conv

end
-- ==== Proof.ConvPay.lean ====
/- The Hyena input projection with its short convolution: the formulas of one grid point over the reals. -/
module

public import proofs.«01_k».proof.Proof.ConvBody

@[expose] public section

set_option maxRecDepth 16384

noncomputable section

namespace Cert.Kernel3Ideal.Conv

open Idealize.ShloMosaic Idealize.ShloMosaic.TcCoe Idealize.SL.Sem
open Cert.Kernel3Ideal Cert.Kernel3Ideal.Gen Cert.Spec

/-- A normed row of the point's rows. -/
theorem pay5_at (w sh sc : Vec Ideal S1x2048 .f32) (x : Vec Ideal S1024x2048 .f32) (r : Fin 1024) (l : Fin 2048) :
    (k0_pay5 w sh sc x : Vec Ideal S1024x2048 .bf16) (ix2 r l)
      = modnorm (fun l => x (ix2 r l)) (fun l => w (ix2 0 l)) (fun l => sc (ix2 0 l)) (fun l => sh (ix2 0 l)) l := by
  pointwise [k0_pay5, k0_pay2, k0_pay3, k0_pay4, c2048, modnorm, normed, rms]

/-- A normed row of the rows before. -/
theorem pay8_at (w sh sc : Vec Ideal S1x2048 .f32) (x : Vec Ideal S8x2048 .f32) (r : Fin 8) (l : Fin 2048) :
    (k0_pay8 (k0_pay2 w) (k0_pay3 sh) (k0_pay4 sc) (k0_pay6 x) (k0_pay7 x) : Vec Ideal S8x2048 .bf16) (ix2 r l)
      = modnorm (fun l => x (ix2 r l)) (fun l => w (ix2 0 l)) (fun l => sc (ix2 0 l)) (fun l => sh (ix2 0 l)) l := by
  pointwise [k0_pay8, k0_pay2, k0_pay3, k0_pay4, k0_pay6, k0_pay7, modnorm, normed, rms]

/-- A normed row of the rows after. -/
theorem pay9_at (w sh sc : Vec Ideal S1x2048 .f32) (x : Vec Ideal S8x2048 .f32) (r : Fin 8) (l : Fin 2048) :
    (k0_pay9 (k0_pay2 w) (k0_pay3 sh) (k0_pay4 sc) x : Vec Ideal S8x2048 .bf16) (ix2 r l)
      = modnorm (fun l => x (ix2 r l)) (fun l => w (ix2 0 l)) (fun l => sc (ix2 0 l)) (fun l => sh (ix2 0 l)) l := by
  pointwise [k0_pay9, k0_pay2, k0_pay3, k0_pay4, modnorm, normed, rms]

/-- A projected row. -/
theorem pay12_at (w : Vec Ideal S2048x768 .bf16) (b : Vec Ideal S1x768 .f32) (x : Vec Ideal S1024x2048 .bf16) (r : Fin 1024) (k : Fin 768) :
    (k0_pay12 w b x : Vec Ideal S1024x768 .f32) (ix2 r k) = (∑ j : Fin 2048, x (ix2 r j) * w (ix2 j k)) + b (ix2 0 k) := by
  pointwise [k0_pay12, k0_pay10, k0_pay11]

theorem pay13_at (w : Vec Ideal S2048x768 .bf16) (b : Vec Ideal S1x768 .f32) (x : Vec Ideal S16x2048 .bf16) (r : Fin 16) (k : Fin 768) :
    (k0_pay13 w b x : Vec Ideal S16x768 .f32) (ix2 r k) = (∑ j : Fin 2048, x (ix2 r j) * w (ix2 j k)) + b (ix2 0 k) := by
  pointwise [k0_pay13, k0_pay10, k0_pay11]

/-- A choice on an equality of two words. -/
theorem sel_eq {α : Type} (n k : Nat) (hn : n < 2 ^ 32) (hk : k < 2 ^ 32) (a b : α) :
    Scalar.select (IntOp.cmpi .eq (BitVec.ofNat 32 n) (BitVec.ofNat 32 k)) a b = if n = k then a else b := by
  rw [WordCmp.cmpi_eq_ofNat hn hk, WordCmp.select_ofBool]
  simp only [decide_eq_true_eq]

/-- The row before row `r`. -/
theorem pay14_at (i : grid0.Coords) (I : Nat) (hI : (i 0).val = I) (hb : I < 16) (w : Vec Ideal S2048x768 .bf16) (b : Vec Ideal S1x768 .f32)
    (x : Vec Ideal S1024x2048 .bf16) (xh : Vec Ideal S16x2048 .bf16) (r : Fin 1024) (k : Fin 768) :
    (k0_pay14 i w b x xh : Vec Ideal S1024x768 .f32) (ix2 r k)
      = if r.val = 0 then (if I = 0 then 0 else (k0_pay13 w b xh : Vec Ideal S16x768 .f32) (ix2 7 k))
        else (k0_pay12 w b x : Vec Ideal S1024x768 .f32) (ix2 ⟨(r.val + 1024 - 1) % 1024, Nat.mod_lt _ (by decide)⟩ k) := by
  unfold k0_pay14
  rw [hI]
  pointwise []
  rw [sel_eq r.val 0 (by omega) (by decide)]
  refine if_congr Iff.rfl ?_ rfl
  exact sel_eq I 0 (by omega) (by decide) _ _

/-- The row after row `r`. -/
theorem pay15_at (i : grid0.Coords) (I : Nat) (hI : (i 0).val = I) (hb : I < 16) (w : Vec Ideal S2048x768 .bf16) (b : Vec Ideal S1x768 .f32)
    (x : Vec Ideal S1024x2048 .bf16) (xh : Vec Ideal S16x2048 .bf16) (r : Fin 1024) (k : Fin 768) :
    (k0_pay15 i w b x xh : Vec Ideal S1024x768 .f32) (ix2 r k)
      = if r.val = 1023 then (if I = 15 then 0 else (k0_pay13 w b xh : Vec Ideal S16x768 .f32) (ix2 8 k))
        else (k0_pay12 w b x : Vec Ideal S1024x768 .f32) (ix2 ⟨(r.val + 1024 - 1023) % 1024, Nat.mod_lt _ (by decide)⟩ k) := by
  unfold k0_pay15
  rw [hI]
  pointwise []
  rw [sel_eq r.val 1023 (by omega) (by decide)]
  refine if_congr Iff.rfl ?_ rfl
  exact sel_eq I 15 (by omega) (by decide) _ _

theorem pay1_at (y yp yn : FVec Ideal S1024x768 .f32) (w0 w1 w2 b : Vec Ideal S1x768 .f32) (r : Fin 1024) (k : Fin 768) :
    (k0_pay1 y yp yn w0 w1 w2 b : Vec Ideal S1024x768 .f32) (ix2 r k)
      = yp (ix2 r k) * w0 (ix2 0 k) + y (ix2 r k) * w1 (ix2 0 k) + yn (ix2 r k) * w2 (ix2 0 k) + b (ix2 0 k) := by
  pointwise [k0_pay1]

end Cert.Kernel3Ideal.Conv

end
-- ==== Proof.ConvValue.lean ====
/- The Hyena input projection with its short convolution: what the call's result holds, entry by entry. -/
module

public import proofs.«01_k».proof.Proof.ConvPay
public import Idealize.ShloMosaic.Lib.Claim

@[expose] public section

set_option maxRecDepth 16384

noncomputable section

namespace Cert.Spec

open Idealize.ShloMosaic

variable (x : (⟨3, ![1, 16384, 2048]⟩ : Shape).Idx → EReal) (nw : (⟨2, ![2, 2048]⟩ : Shape).Idx → EReal) (sh sc : (⟨3, ![1, 1, 2048]⟩ : Shape).Idx → EReal)
  (w : (⟨3, ![1, 2048, 6144]⟩ : Shape).Idx → EReal) (b : (⟨2, ![1, 6144]⟩ : Shape).Idx → EReal)
  (cw : (⟨3, ![1, 3, 6144]⟩ : Shape).Idx → EReal) (cb : (⟨2, ![1, 6144]⟩ : Shape).Idx → EReal)

/-- The modulated norm of row `R`, with the second layer's weight. -/
def convNorm (R : Fin 16384) (l : Fin 2048) : EReal :=
  modnorm (fun l => x (ix3 0 R l)) (fun l => nw (ix2 1 l)) (fun l => sc (ix3 0 0 l)) (fun l => sh (ix3 0 0 l)) l

/-- The projection of row `R`. -/
def convProj (R : Fin 16384) (k : Fin 6144) : EReal :=
  (∑ j : Fin 2048, convNorm x nw sh sc R j * w (ix3 0 j k)) + b (ix2 0 k)

/-- The projection of the row before `R`; before the first row there is zero. -/
def convPrev (R : Fin 16384) (k : Fin 6144) : EReal :=
  if R.val = 0 then 0 else convProj x nw sh sc w b ⟨R.val - 1, by omega⟩ k

/-- The projection of the row after `R`; after the last row there is zero. -/
def convNext (R : Fin 16384) (k : Fin 6144) : EReal :=
  if R.val = 16383 then 0 else convProj x nw sh sc w b ⟨(R.val + 1) % 16384, Nat.mod_lt _ (by decide)⟩ k

/-- The result: each column's three neighbours weighted, and the bias. -/
def convRes (R : Fin 16384) (k : Fin 6144) : EReal :=
  convPrev x nw sh sc w b R k * cw (ix3 0 0 k) + convProj x nw sh sc w b R k * cw (ix3 0 1 k)
    + convNext x nw sh sc w b R k * cw (ix3 0 2 k) + cb (ix2 0 k)

end Cert.Spec

namespace Cert.Kernel3Ideal.Conv

open Idealize.ShloMosaic Idealize.ShloMosaic.TcCoe Idealize.SL.Sem
open Cert.Kernel3Ideal Cert.Kernel3Ideal.Gen Cert.Spec

variable (m : (ℓ : Loc nD τ sig) → Buf (Elt Ideal) ℓ) (ρ : Dev nD → PrngReg)

abbrev X0 (c : Dev nD) : FVec Ideal S1x16384x2048 .f32 := m ((c : Thread nD τ).loc main_arg0)
abbrev X1 (c : Dev nD) : FVec Ideal S2x2048 .f32 := m ((c : Thread nD τ).loc main_arg1)
abbrev X2 (c : Dev nD) : FVec Ideal S1x1x2048 .f32 := m ((c : Thread nD τ).loc main_arg2)
abbrev X3 (c : Dev nD) : FVec Ideal S1x1x2048 .f32 := m ((c : Thread nD τ).loc main_arg3)
abbrev X4 (c : Dev nD) : FVec Ideal S1x2048x6144 .f32 := m ((c : Thread nD τ).loc main_arg4)
abbrev X5 (c : Dev nD) : FVec Ideal S1x6144 .f32 := m ((c : Thread nD τ).loc main_arg5)
abbrev X6 (c : Dev nD) : FVec Ideal S1x3x6144 .f32 := m ((c : Thread nD τ).loc main_arg6)
abbrev X7 (c : Dev nD) : FVec Ideal S1x6144 .f32 := m ((c : Thread nD τ).loc main_arg7)

/-- The windows' blocks at every point. -/
theorem idx : ∀ t : Fin cfg0.N,
    win0_0.index t = ![t.val / 8, 0] ∧ win0_1.index t = ![t.val / 8 * 128 - 1, 0] ∧ win0_2.index t = ![min ((t.val / 8 + 1) * 128) 2047, 0]
    ∧ win0_3.index t = ![0, 0] ∧ win0_4.index t = ![0, 0] ∧ win0_5.index t = ![0, 0] ∧ win0_6.index t = ![0, t.val % 8]
    ∧ win0_7.index t = ![0, t.val % 8] ∧ win0_8.index t = ![0, t.val % 8] ∧ win0_9.index t = ![0, t.val % 8]
    ∧ win0_10.index t = ![t.val / 8, t.val % 8] ∧ (grid0.coords t 0).val = t.val / 8 :=
  (by decide +kernel : ∀ t : Fin grid0.N, _)

section Entry
variable (c : Dev nD)

theorem entry0 (r : Fin 16384) (l : Fin 2048) : (show FVec Ideal S16384x2048 .f32 from V m c main_v0) (ix2 r l) = X0 m c (ix3 0 r l) := by
  entry_read; pointwise
theorem entry3 (l : Fin 2048) : (show FVec Ideal S1x2048 .f32 from V m c main_v10) (ix2 0 l) = X1 m c (ix2 1 l) := by
  entry_read; pointwise
theorem entry4 (l : Fin 2048) : (show FVec Ideal S1x2048 .f32 from V m c main_v3) (ix2 0 l) = X2 m c (ix3 0 0 l) := by
  entry_read; pointwise
theorem entry5 (l : Fin 2048) : (show FVec Ideal S1x2048 .f32 from V m c main_v4) (ix2 0 l) = X3 m c (ix3 0 0 l) := by
  entry_read; pointwise
theorem entry6 (j : Fin 2048) (k : Fin 6144) : (show FVec Ideal S2048x6144 .bf16 from V m c main_v6) (ix2 j k) = X4 m c (ix3 0 j k) := by
  entry_read; pointwise
theorem entry7 (k : Fin 6144) : (show FVec Ideal S1x6144 .f32 from V m c main_v11) (ix2 0 k) = X5 m c (ix2 0 k) := by
  entry_read; pointwise
theorem entry8 (a : Fin 3) (k : Fin 6144) : (show FVec Ideal S3x6144 .f32 from V m c main_v8) (ix2 a k) = X6 m c (ix3 0 a k) := by
  entry_read; pointwise
theorem entry9 (k : Fin 6144) : (show FVec Ideal S1x6144 .f32 from V m c main_v12) (ix2 0 k) = X7 m c (ix2 0 k) := by
  entry_read; pointwise

variable (t : Fin cfg0.N)

theorem N_eq : cfg0.N = 128 := N_0

theorem row_lt (t : Fin cfg0.N) (r : Fin 1024) : t.val / 8 * 1024 + r.val < 16384 := by
  have := lt_of_lt_of_eq t.isLt N_eq; omega
theorem col_lt (t : Fin cfg0.N) (k : Fin 768) : t.val % 8 * 768 + k.val < 6144 := by omega

/-- The row of the result that row `r` of point `t` is. -/
def row (t : Fin cfg0.N) (r : Fin 1024) : Fin 16384 := ⟨t.val / 8 * 1024 + r.val, row_lt t r⟩
/-- The column of the result that column `k` of point `t` is. -/
def col (t : Fin cfg0.N) (k : Fin 768) : Fin 6144 := ⟨t.val % 8 * 768 + k.val, col_lt t k⟩
/-- The row before the rows of point `t`. -/
def before (t : Fin cfg0.N) : Fin 16384 := ⟨t.val / 8 * 1024 - 1, by have := lt_of_lt_of_eq t.isLt N_eq; omega⟩
/-- The row after the rows of point `t`. -/
def after (t : Fin cfg0.N) : Fin 16384 := ⟨(t.val / 8 + 1) * 1024 % 16384, Nat.mod_lt _ (by decide)⟩

theorem blk0 (r : Fin 1024) (l : Fin 2048) : (show Vec Ideal S1024x2048 .f32 from iblk m c 0 t) (ix2 r l) = X0 m c (ix3 0 (row t r) l) := by
  rw [← entry0]; blk_ext [iblk, idx t, row]
theorem blk1 (h : t.val / 8 ≠ 0) (l : Fin 2048) : (show Vec Ideal S8x2048 .f32 from iblk m c 1 t) (ix2 7 l) = X0 m c (ix3 0 (before t) l) := by
  rw [← entry0]; blk_ext [iblk, idx t, before]
theorem blk2 (h : t.val / 8 ≠ 15) (l : Fin 2048) : (show Vec Ideal S8x2048 .f32 from iblk m c 2 t) (ix2 0 l) = X0 m c (ix3 0 (after t) l) := by
  have := lt_of_lt_of_eq t.isLt N_eq
  rw [← entry0]; blk_ext [iblk, idx t, after]
theorem blk3 (l : Fin 2048) : (show Vec Ideal S1x2048 .f32 from iblk m c 3 t) (ix2 0 l) = X1 m c (ix2 1 l) := by
  rw [← entry3]; blk_ext [iblk, idx t]
theorem blk4 (l : Fin 2048) : (show Vec Ideal S1x2048 .f32 from iblk m c 4 t) (ix2 0 l) = X2 m c (ix3 0 0 l) := by
  rw [← entry4]; blk_ext [iblk, idx t]
theorem blk5 (l : Fin 2048) : (show Vec Ideal S1x2048 .f32 from iblk m c 5 t) (ix2 0 l) = X3 m c (ix3 0 0 l) := by
  rw [← entry5]; blk_ext [iblk, idx t]
theorem blk6 (j : Fin 2048) (k : Fin 768) : (show Vec Ideal S2048x768 .bf16 from iblk m c 6 t) (ix2 j k) = X4 m c (ix3 0 j (col t k)) := by
  rw [← entry6]; blk_ext [iblk, idx t, col]
theorem blk7 (k : Fin 768) : (show Vec Ideal S1x768 .f32 from iblk m c 7 t) (ix2 0 k) = X5 m c (ix2 0 (col t k)) := by
  rw [← entry7]; blk_ext [iblk, idx t, col]
theorem blk8 (a : Fin 3) (k : Fin 768) : (show Vec Ideal S3x768 .f32 from iblk m c 8 t) (ix2 a k) = X6 m c (ix3 0 a (col t k)) := by
  rw [← entry8]; blk_ext [iblk, idx t, col]
theorem blk9 (k : Fin 768) : (show Vec Ideal S1x768 .f32 from iblk m c 9 t) (ix2 0 k) = X7 m c (ix2 0 (col t k)) := by
  rw [← entry9]; blk_ext [iblk, idx t, col]

end Entry

variable (c : Dev nD)

/-- The specification at the call's arguments. -/
abbrev nrm := convNorm (X0 m c) (X1 m c) (X2 m c) (X3 m c)
abbrev prj := convProj (X0 m c) (X1 m c) (X2 m c) (X3 m c) (X4 m c) (X5 m c)
abbrev res := convRes (X0 m c) (X1 m c) (X2 m c) (X3 m c) (X4 m c) (X5 m c) (X6 m c) (X7 m c)

/-- The modulated norm of a row that the point reads as `x`. -/
theorem norm_blk (t : Fin cfg0.N) (R : Fin 16384) (x : Fin 2048 → EReal) (hx : ∀ l, x l = X0 m c (ix3 0 R l)) (l : Fin 2048) :
    modnorm x (fun l => (show Vec Ideal S1x2048 .f32 from iblk m c 3 t) (ix2 0 l)) (fun l => (show Vec Ideal S1x2048 .f32 from iblk m c 5 t) (ix2 0 l))
      (fun l => (show Vec Ideal S1x2048 .f32 from iblk m c 4 t) (ix2 0 l)) l = nrm m c R l := by
  unfold nrm convNorm
  congr 1
  · funext l; exact hx l
  · funext l; exact blk3 m c t l
  · funext l; exact blk5 m c t l
  · funext l; exact blk4 m c t l

/-- The normed rows after a run's first point. -/
theorem first_eq (t : Fin cfg0.N) (h0 : t.val % 8 = 0) :
    (∀ (r : Fin 1024) (l : Fin 2048), (outsAt0 m c t.val t.isLt).2.1 (ix2 r l) = nrm m c (row t r) l)
    ∧ (t.val / 8 ≠ 0 → ∀ l : Fin 2048, (outsAt0 m c t.val t.isLt).2.2 (ix2 7 l) = nrm m c (before t) l)
    ∧ (t.val / 8 ≠ 15 → ∀ l : Fin 2048, (outsAt0 m c t.val t.isLt).2.2 (ix2 8 l) = nrm m c (after t) l) := by
  refine ⟨fun r l => ?_, fun h l => ?_, fun h l => ?_⟩
  · refine (congrFun (xn_first m c t h0) (ix2 r l)).trans ((pay5_at _ _ _ _ r l).trans ?_)
    exact norm_blk m c t _ _ (fun l => blk0 m c t r l) l
  · refine (xh_before m c t h0 l).trans ((pay8_at _ _ _ _ 7 l).trans ?_)
    exact norm_blk m c t _ _ (fun l => blk1 m c t h l) l
  · refine (xh_after m c t h0 l).trans ((pay9_at _ _ _ _ 0 l).trans ?_)
    exact norm_blk m c t _ _ (fun l => blk2 m c t h l) l

/-- The normed rows, at every point. -/
theorem normed_eq : ∀ (n : ℕ) (h : n < cfg0.N),
    (∀ (r : Fin 1024) (l : Fin 2048), (outsAt0 m c n h).2.1 (ix2 r l) = nrm m c (row ⟨n, h⟩ r) l)
    ∧ (n / 8 ≠ 0 → ∀ l : Fin 2048, (outsAt0 m c n h).2.2 (ix2 7 l) = nrm m c (before ⟨n, h⟩) l)
    ∧ (n / 8 ≠ 15 → ∀ l : Fin 2048, (outsAt0 m c n h).2.2 (ix2 8 l) = nrm m c (after ⟨n, h⟩) l)
  | 0, h => first_eq m c ⟨0, h⟩ rfl
  | n + 1, h => by
    by_cases h0 : (n + 1) % 8 = 0
    · exact first_eq m c ⟨n + 1, h⟩ h0
    · have e : n / 8 = (n + 1) / 8 := by omega
      have er : ∀ r, row ⟨n, Nat.lt_of_succ_lt h⟩ r = row ⟨n + 1, h⟩ r := fun r => Fin.ext (by show n / 8 * 1024 + r.val = (n + 1) / 8 * 1024 + r.val; rw [e])
      have eb : before ⟨n, Nat.lt_of_succ_lt h⟩ = before ⟨n + 1, h⟩ := Fin.ext (by show n / 8 * 1024 - 1 = (n + 1) / 8 * 1024 - 1; rw [e])
      have ea : after ⟨n, Nat.lt_of_succ_lt h⟩ = after ⟨n + 1, h⟩ := Fin.ext (by show (n / 8 + 1) * 1024 % 16384 = ((n + 1) / 8 + 1) * 1024 % 16384; rw [e])
      obtain ⟨p, q, s⟩ := normed_eq n (Nat.lt_of_succ_lt h)
      rw [xn_next m c n h h0, xh_next m c n h h0, ← e, ← eb, ← ea]
      exact ⟨fun r l => (p r l).trans (by rw [er r]), q, s⟩

/-- A projected row, from its normed row. -/
theorem proj_blk (t : Fin cfg0.N) (R : Fin 16384) (x : Fin 2048 → EReal) (hx : ∀ j, x j = nrm m c R j) (k : Fin 768) :
    (∑ j : Fin 2048, x j * (show Vec Ideal S2048x768 .bf16 from iblk m c 6 t) (ix2 j k)) + (show Vec Ideal S1x768 .f32 from iblk m c 7 t) (ix2 0 k)
      = prj m c R (col t k) := by
  unfold prj convProj
  refine congr (congrArg _ (Finset.sum_congr rfl fun j _ => ?_)) (blk7 m c t k)
  exact congr (congrArg _ (hx j)) (blk6 m c t j k)

/-- The block a point writes. -/
theorem out_eq (t : Fin cfg0.N) (r : Fin 1024) (k : Fin 768) :
    (outsAt0 m c t.val t.isLt).1 (ix2 r k) = res m c (row t r) (col t k) := by
  have hN := lt_of_lt_of_eq t.isLt N_eq
  have hR : (row t r).val = t.val / 8 * 1024 + r.val := rfl
  obtain ⟨w0, w1, w2, e, h0, h1, h2⟩ := out_all m c t
  obtain ⟨p, q, s⟩ := normed_eq m c t.val t.isLt
  have hy : ∀ r : Fin 1024, (k0_pay12 (iblk m c 6 t) (iblk m c 7 t) (outsAt0 m c t.val t.isLt).2.1 : Vec Ideal S1024x768 .f32) (ix2 r k) = prj m c (row t r) (col t k) :=
    fun r => (pay12_at _ _ _ r k).trans (proj_blk m c t _ _ (fun j => p r j) k)
  refine (congrFun e (ix2 r k)).trans ((pay1_at _ _ _ _ _ _ _ r k).trans ?_)
  unfold res convRes
  refine congr (congrArg _ (congr (congrArg _ (congr (congrArg _ (congr (congrArg _ ?_) ((h0 k).trans (blk8 m c t 0 k)))) (congr (congrArg _ (hy r)) ((h1 k).trans (blk8 m c t 1 k)))))
    (congr (congrArg _ ?_) ((h2 k).trans (blk8 m c t 2 k))))) (blk9 m c t k)
  · refine (pay14_at _ (t.val / 8) (idx t).2.2.2.2.2.2.2.2.2.2.2 (by omega) _ _ _ _ r k).trans ?_
    unfold convPrev
    by_cases hr : r.val = 0
    · rw [if_pos hr]
      by_cases hi : t.val / 8 = 0
      · rw [if_pos hi, if_pos (show (row t r).val = 0 by omega)]
      · rw [if_neg hi, if_neg (show ¬(row t r).val = 0 by omega)]
        refine ((pay13_at _ _ _ 7 k).trans (proj_blk m c t _ _ (fun j => q hi j) k)).trans (congrArg (fun R => prj m c R (col t k)) (Fin.ext ?_))
        show t.val / 8 * 1024 - 1 = t.val / 8 * 1024 + r.val - 1
        omega
    · rw [if_neg hr, if_neg (show ¬(row t r).val = 0 by omega)]
      refine (hy _).trans (congrArg (fun R => prj m c R (col t k)) (Fin.ext ?_))
      show t.val / 8 * 1024 + (r.val + 1024 - 1) % 1024 = t.val / 8 * 1024 + r.val - 1
      omega
  · refine (pay15_at _ (t.val / 8) (idx t).2.2.2.2.2.2.2.2.2.2.2 (by omega) _ _ _ _ r k).trans ?_
    unfold convNext
    by_cases hr : r.val = 1023
    · rw [if_pos hr]
      by_cases hi : t.val / 8 = 15
      · rw [if_pos hi, if_pos (show (row t r).val = 16383 by omega)]
      · rw [if_neg hi, if_neg (show ¬(row t r).val = 16383 by omega)]
        refine ((pay13_at _ _ _ 8 k).trans (proj_blk m c t _ _ (fun j => s hi j) k)).trans (congrArg (fun R => prj m c R (col t k)) (Fin.ext ?_))
        show (t.val / 8 + 1) * 1024 % 16384 = (t.val / 8 * 1024 + r.val + 1) % 16384
        omega
    · rw [if_neg hr, if_neg (show ¬(row t r).val = 16383 by omega)]
      refine (hy _).trans (congrArg (fun R => prj m c R (col t k)) (Fin.ext ?_))
      show t.val / 8 * 1024 + (r.val + 1024 - 1023) % 1024 = (t.val / 8 * 1024 + r.val + 1) % 16384
      omega

theorem entry_eq (t : Fin cfg0.N) (y : S1024x768.Idx) (R : Fin 16384) (C : Fin 6144)
    (hR : t.val / 8 * 1024 + (y 0).val = R.val) (hC : t.val % 8 * 768 + (y 1).val = C.val) : (outsAt0 m c t.val t.isLt).1 y = res m c R C := by
  obtain rfl : row t (y 0) = R := Fin.ext hR
  obtain rfl : col t (y 1) = C := Fin.ext hC
  exact (congrArg (outsAt0 m c t.val t.isLt).1 (eq_ix2 (n0 := 1024) (n1 := 768) y)).trans (out_eq m c t _ _)

/-- The result array. -/
theorem final : (dats m 0 c).arrAt 10 cfg0.N = (show FVec Ideal S16384x6144 .f32 from fun i => res m c (i 0) (i 1)) := by
  refine (dats m 0 c).arrAt_eq_of_covers 10 _ (by decide +kernel) fun t ht y => ?_
  blk_simp
  rw [after0_10]
  have e := (idx t).2.2.2.2.2.2.2.2.2.2.1
  have b0 : (((cfg0.win 10).blk t).view.emb y 0).val = win0_10.index t (0 : Fin 2) * 1024 + 1 * (y 0).val := rfl
  have b1 : (((cfg0.win 10).blk t).view.emb y 1).val = win0_10.index t (1 : Fin 2) * 768 + 1 * (y 1).val := rfl
  have e0 : win0_10.index t (0 : Fin 2) = t.val / 8 := by rw [e]; rfl
  have e1 : win0_10.index t (1 : Fin 2) = t.val % 8 := by rw [e]; rfl
  rw [e0] at b0; rw [e1] at b1
  refine entry_eq m c t y _ _ ?_ ?_
  · exact Eq.trans (by omega) b0.symm
  · exact Eq.trans (by omega) b1.symm

/-- Every execution leaves the result and changes no argument. -/
theorem run : θ_run defs (onTc (τ := τ) (main (F := Ideal))) ⟨m, fun _ => 0, ρ⟩ fun r => ∀ c : Dev nD,
      r.2.mem ((c.tc : Thread nD τ).loc main_v13) = (show FVec Ideal S16384x6144 .f32 from fun i => res m c (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h c => ⟨((h.1 c).1 10).trans (final m c), h.2 c⟩) (θ_run_and (run_main m ρ) (unchanged m ρ))

end Cert.Kernel3Ideal.Conv

end
-- ==== Proof.ConvRef.lean ====
/- The reference of the Hyena input projection with its short convolution over the extended reals, entry by entry. -/
module

public import proofs.«01_k».proof.Proof.ConvValue
public import proofs.«01_k».proof.Proof.Gen.Reference3Ideal.Run
public import Idealize.ShloMosaic.Lib.IdealHost

@[expose] public section

set_option maxRecDepth 16384

noncomputable section

namespace Cert.Reference3Ideal.Conv

open Idealize.ShloMosaic Idealize.ShloMosaic.TcCoe Idealize.SL.Sem
open Cert.Reference3Ideal Cert.Reference3Ideal.Gen Cert.Spec

/-- Every row over the root of its mean square. -/
def Rms (x : FVec Ideal S1x16384x2048 .f32) : FVec Ideal S1x16384x2048 .f32 :=
  mulf x (broadcastInDim S1x16384x2048 ![0, 1, 2] bcast_S1x16384x1_S1x16384x2048_0_1_2 (Host.rsqrt (addf (Host.divf (broadcastInDim S1x16384x1 ![0, 1] bcast_S1x16384_S1x16384x1_0_1 (Host.reduceAdd (mulf x x) (constant S_ .f32 0x00000000#32) reducesTo_S1x16384x2048_S1x16384_d2 h_S_)) (broadcastInDim S1x16384x1 ![] bcast_S_S1x16384x1 (constant S_ .f32 0x45000000#32))) (broadcastInDim S1x16384x1 ![] bcast_S_S1x16384x1 (constant S_ .f32 0x358637BD#32)))))

/-- The modulated norm. -/
def Mod (y : FVec Ideal S1x16384x2048 .f32) (nw : FVec Ideal S2x2048 .f32) (sh sc : FVec Ideal S1x1x2048 .f32) : FVec Ideal S1x16384x2048 .f32 :=
  addf (mulf (mulf y (broadcastInDim S1x16384x2048 ![0, 1, 2] bcast_S1x1x2048_S1x16384x2048_0_1_2 (broadcastInDim S1x1x2048 ![2] bcast_S2048_S1x1x2048_2 (shapeCast _ (extractStridedSlice S1x2048 ![1, 0] nw slices_S2x2048_S1x2048_1_0) shapeCasts_S1x2048_S2048)))) (broadcastInDim S1x16384x2048 ![0, 1, 2] bcast_S1x1x2048_S1x16384x2048_0_1_2 (addf (broadcastInDim S1x1x2048 ![] bcast_S_S1x1x2048 (constant S_ .f32 0x3F800000#32)) sc))) (broadcastInDim S1x16384x2048 ![0, 1, 2] bcast_S1x1x2048_S1x16384x2048_0_1_2 sh)

/-- The projection with its bias. -/
def Proj (u : FVec Ideal S1x16384x2048 .f32) (w : FVec Ideal S1x2048x6144 .f32) (b : FVec Ideal S1x6144 .f32) : FVec Ideal S1x16384x6144 .f32 :=
  addf (Host.dotGeneral dot_S1x16384x2048_S2048x6144_S1x16384x6144_2_0_01_1_n_n none u (shapeCast _ w shapeCasts_S1x2048x6144_S2048x6144)) (broadcastInDim S1x16384x6144 ![0, 1, 2] bcast_S1x1x6144_S1x16384x6144_0_1_2 (broadcastInDim S1x1x6144 ![2] bcast_S6144_S1x1x6144_2 (shapeCast _ b shapeCasts_S1x6144_S6144)))

/-- The projection with a row of zeros before and one after. -/
def Pad (p : FVec Ideal S1x16384x6144 .f32) : FVec Ideal S1x16386x6144 .f32 :=
  pad S1x16386x6144 ![0, 1, 0] ![0, 1, 0] ![0, 0, 0] p (sitofp .f32 (constantI S_ 32 0#32)) pads_S1x16384x6144_S1x16386x6144_000_110_000 h_S_

/-- The three weighted neighbours and the bias. -/
def Taps (q : FVec Ideal S1x16386x6144 .f32) (cw : FVec Ideal S1x3x6144 .f32) (cb : FVec Ideal S1x6144 .f32) : FVec Ideal S16384x6144 .f32 :=
  shapeCast _ (addf (addf (addf
    (mulf (extractStridedSlice S1x16384x6144 ![0, 0, 0] q slices_S1x16386x6144_S1x16384x6144_0_0_0) (broadcastInDim S1x16384x6144 ![0, 1, 2] bcast_S1x1x6144_S1x16384x6144_0_1_2 (broadcastInDim S1x1x6144 ![2] bcast_S6144_S1x1x6144_2 (shapeCast _ (extractStridedSlice S1x6144 ![0, 0] (shapeCast _ cw shapeCasts_S1x3x6144_S3x6144) slices_S3x6144_S1x6144_0_0) shapeCasts_S1x6144_S6144))))
    (mulf (extractStridedSlice S1x16384x6144 ![0, 1, 0] q slices_S1x16386x6144_S1x16384x6144_0_1_0) (broadcastInDim S1x16384x6144 ![0, 1, 2] bcast_S1x1x6144_S1x16384x6144_0_1_2 (broadcastInDim S1x1x6144 ![2] bcast_S6144_S1x1x6144_2 (shapeCast _ (extractStridedSlice S1x6144 ![1, 0] (shapeCast _ cw shapeCasts_S1x3x6144_S3x6144) slices_S3x6144_S1x6144_1_0) shapeCasts_S1x6144_S6144)))))
    (mulf (extractStridedSlice S1x16384x6144 ![0, 2, 0] q slices_S1x16386x6144_S1x16384x6144_0_2_0) (broadcastInDim S1x16384x6144 ![0, 1, 2] bcast_S1x1x6144_S1x16384x6144_0_1_2 (broadcastInDim S1x1x6144 ![2] bcast_S6144_S1x1x6144_2 (shapeCast _ (extractStridedSlice S1x6144 ![2, 0] (shapeCast _ cw shapeCasts_S1x3x6144_S3x6144) slices_S3x6144_S1x6144_2_0) shapeCasts_S1x6144_S6144)))))
    (broadcastInDim S1x16384x6144 ![0, 1, 2] bcast_S1x1x6144_S1x16384x6144_0_1_2 (broadcastInDim S1x1x6144 ![2] bcast_S6144_S1x1x6144_2 (shapeCast _ cb shapeCasts_S1x6144_S6144)))) shapeCasts_S1x16384x6144_S16384x6144

/-- The reference's result. -/
def REF (x : FVec Ideal S1x16384x2048 .f32) (nw : FVec Ideal S2x2048 .f32) (sh sc : FVec Ideal S1x1x2048 .f32) (w : FVec Ideal S1x2048x6144 .f32)
    (b : FVec Ideal S1x6144 .f32) (cw : FVec Ideal S1x3x6144 .f32) (cb : FVec Ideal S1x6144 .f32) : FVec Ideal S16384x6144 .f32 :=
  Taps (Pad (Proj (Mod (Rms x) nw sh sc) w b)) cw cb

theorem out_named (m : (ℓ : Loc nD τ sig) → Buf (Elt Ideal) ℓ) (c : Dev nD) :
    Value.res_main_v53 m c = REF (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) := by
  unfold Value.res_main_v53 REF Taps Pad Proj Mod Rms
  rfl

/-- Every execution leaves the result and changes no argument. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v53) = REF (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h c => ⟨(h c).1.trans (out_named m c), (h c).2⟩) (Value.run m ρ)

section At

theorem Rms_at (x : FVec Ideal S1x16384x2048 .f32) (R : Fin 16384) (l : Fin 2048) :
    Rms x (ix3 0 R l) = x (ix3 0 R l) * rms c2048 (fun l => x (ix3 0 R l)) := by
  pointwise [Rms, rms]

theorem Mod_at (y : FVec Ideal S1x16384x2048 .f32) (nw : FVec Ideal S2x2048 .f32) (sh sc : FVec Ideal S1x1x2048 .f32) (R : Fin 16384) (l : Fin 2048) :
    Mod y nw sh sc (ix3 0 R l) = y (ix3 0 R l) * nw (ix2 1 l) * (1 + sc (ix3 0 0 l)) + sh (ix3 0 0 l) := by
  pointwise [Mod]

theorem Proj_at (u : FVec Ideal S1x16384x2048 .f32) (w : FVec Ideal S1x2048x6144 .f32) (b : FVec Ideal S1x6144 .f32) (R : Fin 16384) (k : Fin 6144) :
    Proj u w b (ix3 0 R k) = (∑ j : Fin 2048, u (ix3 0 R j) * w (ix3 0 j k)) + b (ix2 0 k) := by
  pointwise [Proj]

theorem Taps_at (q : FVec Ideal S1x16386x6144 .f32) (cw : FVec Ideal S1x3x6144 .f32) (cb : FVec Ideal S1x6144 .f32) (R : Fin 16384) (k : Fin 6144) :
    Taps q cw cb (ix2 R k) = q (ix3 0 ⟨R.val, by omega⟩ k) * cw (ix3 0 0 k) + q (ix3 0 ⟨1 + R.val, by omega⟩ k) * cw (ix3 0 1 k)
      + q (ix3 0 ⟨2 + R.val, by omega⟩ k) * cw (ix3 0 2 k) + cb (ix2 0 k) := by
  pointwise [Taps]

theorem sitofp_zero : (FloatOps.sitofp (F := Ideal) FTy.f32 (0#32 : BitVec 32) : EReal) = 0 := by
  show ((((0#32 : BitVec 32).toInt : ℤ) : ℝ) : EReal) = 0
  simp

theorem Pad_at (p : FVec Ideal S1x16384x6144 .f32) (R : Fin 16386) (k : Fin 6144) :
    Pad p (ix3 0 R k) = if h : 1 ≤ R.val ∧ R.val - 1 < 16384 then p (ix3 0 ⟨R.val - 1, by omega⟩ k) else 0 := by
  have e : (FloatOps.sitofp (F := Ideal) FTy.f32 (0#32 : BitVec 32) : EReal) = 0 := sitofp_zero
  rw [← e]
  pointwise [Pad]

end At

/-- The reference's result, entry by entry. -/
theorem REF_eq (x : FVec Ideal S1x16384x2048 .f32) (nw : FVec Ideal S2x2048 .f32) (sh sc : FVec Ideal S1x1x2048 .f32) (w : FVec Ideal S1x2048x6144 .f32)
    (b : FVec Ideal S1x6144 .f32) (cw : FVec Ideal S1x3x6144 .f32) (cb : FVec Ideal S1x6144 .f32) (R : Fin 16384) (k : Fin 6144) :
    REF x nw sh sc w b cw cb (ix2 R k) = convRes x nw sh sc w b cw cb R k := by
  have hu : ∀ R l, Mod (Rms x) nw sh sc (ix3 0 R l) = convNorm x nw sh sc R l := by
    intro R l; rw [Mod_at, Rms_at]; rfl
  have hp : ∀ R k, Proj (Mod (Rms x) nw sh sc) w b (ix3 0 R k) = convProj x nw sh sc w b R k := by
    intro R k; rw [Proj_at]; simp only [hu]; rfl
  rw [REF, Taps_at, Pad_at, Pad_at, Pad_at]
  simp only [hp]
  unfold convRes
  refine congrArg (· + cb (ix2 0 k)) (congr (congrArg _ (congr (congrArg _ (congrArg (· * cw (ix3 0 0 k)) ?_)) (congrArg (· * cw (ix3 0 1 k)) ?_)))
    (congrArg (· * cw (ix3 0 2 k)) ?_))
  · unfold convPrev
    by_cases h : R.val = 0
    · rw [dif_neg (fun h' => absurd (show 1 ≤ R.val from h'.1) (by omega)), if_pos h]
    · rw [dif_pos (⟨by show 1 ≤ R.val; omega, by show R.val - 1 < 16384; omega⟩), if_neg h]
  · rw [dif_pos (⟨by show 1 ≤ 1 + R.val; omega, by show 1 + R.val - 1 < 16384; omega⟩)]
    exact congrArg (fun R => convProj x nw sh sc w b R k) (Fin.ext (show 1 + R.val - 1 = R.val by omega))
  · unfold convNext
    by_cases h : R.val = 16383
    · rw [dif_neg (fun h' => absurd (show 2 + R.val - 1 < 16384 from h'.2) (by omega)), if_pos h]
    · rw [dif_pos (⟨by show 1 ≤ 2 + R.val; omega, by show 2 + R.val - 1 < 16384; omega⟩), if_neg h]
      exact congrArg (fun R => convProj x nw sh sc w b R k) (Fin.ext (show 2 + R.val - 1 = (R.val + 1) % 16384 by omega))

end Cert.Reference3Ideal.Conv

end
-- ==== Proof.ProjBody.lean ====
/- The mixed layer's input projection: what one grid point leaves in the normed rows and in the output block. -/
module

public import proofs.«01_k».proof.Proof.Spec
public import proofs.«01_k».proof.Proof.Gen.Kernel4Ideal.Frame
public import Idealize.ShloMosaic.Lib.Pipeline.ValueKit
public import Idealize.ShloMosaic.Lib.Pointwise

@[expose] public section

set_option maxRecDepth 16384

noncomputable section

namespace Cert.Kernel4Ideal.Proj

open Idealize.ShloMosaic Idealize.ShloMosaic.TcCoe Idealize.SL.Sem
open Cert.Kernel4Ideal Cert.Kernel4Ideal.Gen Cert.Spec

section Points

variable {F : FTy → Type} [FloatOps F]
variable (m : (ℓ : Loc nD τ sig) → Buf (Elt F) ℓ)

/-- The scratch read whole is what was put there. -/
theorem read0 (X : Vec F S1024x2048 .bf16) :
    View.read (Elt F) (View.whole cc0_scratch0) ((Memref.isWhole_whole cc0_scratch0).unread X) = X :=
  (Memref.isWhole_whole cc0_scratch0).read_unread X

/-- The first point of a run norms its rows. -/
theorem xn_first (c : Dev nD) (t : Fin cfg0.N) (h0 : t.val % 5 = 0) :
    (outsAt0 m c t.val t.isLt).2 = k0_pay1 (iblk m c 0 t) (iblk m c 1 t) (iblk m c 2 t) (iblk m c 3 t) := by
  rw [outsAt0_A m c t h0]; frame_out

/-- The other points keep the normed rows. -/
theorem xn_next (c : Dev nD) (n : ℕ) (h : n + 1 < cfg0.N) (h0 : ¬(n + 1) % 5 = 0) :
    (outsAt0 m c (n + 1) h).2 = (outsAt0 m c n (Nat.lt_of_succ_lt h)).2 := by
  rw [outsAt0_B m c ⟨n + 1, h⟩ h0]; rfl

/-- What a point writes. -/
theorem out_all (c : Dev nD) (t : Fin cfg0.N) :
    (outsAt0 m c t.val t.isLt).1 = k0_pay2 (outsAt0 m c t.val t.isLt).2 (iblk m c 4 t) (iblk m c 5 t) := by
  by_cases h0 : t.val % 5 = 0
  · rw [outsAt0_A m c t h0]; frame_out
  · rw [outsAt0_B m c t h0]; frame_out; simp only [read0]; rfl

end Points

/-- A normed row of the point's rows. -/
theorem pay1_at (x : Vec Ideal S1024x2048 .f32) (w sh sc : Vec Ideal S1x2048 .f32) (r : Fin 1024) (l : Fin 2048) :
    (k0_pay1 x w sh sc : Vec Ideal S1024x2048 .bf16) (ix2 r l)
      = modnorm (fun l => x (ix2 r l)) (fun l => w (ix2 0 l)) (fun l => sc (ix2 0 l)) (fun l => sh (ix2 0 l)) l := by
  pointwise [k0_pay1, c2048, modnorm, normed, rms]

/-- A projected row. -/
theorem pay2_at (x : Vec Ideal S1024x2048 .bf16) (w : Vec Ideal S2048x768 .bf16) (b : Vec Ideal S1x768 .f32) (r : Fin 1024) (k : Fin 768) :
    (k0_pay2 x w b : Vec Ideal S1024x768 .f32) (ix2 r k) = (∑ j : Fin 2048, x (ix2 r j) * w (ix2 j k)) + b (ix2 0 k) := by
  pointwise [k0_pay2]

end Cert.Kernel4Ideal.Proj

end
-- ==== Proof.ProjValue.lean ====
/- The mixed layer's input projection: what the program's result holds, entry by entry. -/
module

public import proofs.«01_k».proof.Proof.ProjBody
public import Idealize.ShloMosaic.Lib.Claim
public import Idealize.ShloMosaic.Lib.StableHlo.RunRead

@[expose] public section

set_option maxRecDepth 16384

noncomputable section

namespace Cert.Spec

open Idealize.ShloMosaic

variable (x : (⟨3, ![1, 16384, 2048]⟩ : Shape).Idx → EReal) (nw : (⟨2, ![2, 2048]⟩ : Shape).Idx → EReal) (sh sc : (⟨3, ![1, 1, 2048]⟩ : Shape).Idx → EReal)
  (w : (⟨3, ![1, 2048, 3680]⟩ : Shape).Idx → EReal)

/-- The modulated norm of row `R`, with the first layer's weight. -/
def projNorm (R : Fin 16384) (l : Fin 2048) : EReal :=
  modnorm (fun l => x (ix3 0 R l)) (fun l => nw (ix2 0 l)) (fun l => sc (ix3 0 0 l)) (fun l => sh (ix3 0 0 l)) l

/-- The projection of row `R`. -/
def projRes (R : Fin 16384) (k : Fin 3680) : EReal :=
  ∑ j : Fin 2048, projNorm x nw sh sc R j * w (ix3 0 j k)

end Cert.Spec

namespace Cert.Kernel4Ideal.Proj

open Idealize.ShloMosaic Idealize.ShloMosaic.TcCoe Idealize.SL.Sem
open Cert.Kernel4Ideal Cert.Kernel4Ideal.Gen Cert.Spec

variable (m : (ℓ : Loc nD τ sig) → Buf (Elt Ideal) ℓ) (ρ : Dev nD → PrngReg)

abbrev X0 (c : Dev nD) : FVec Ideal S1x16384x2048 .f32 := m ((c : Thread nD τ).loc main_arg0)
abbrev X1 (c : Dev nD) : FVec Ideal S2x2048 .f32 := m ((c : Thread nD τ).loc main_arg1)
abbrev X2 (c : Dev nD) : FVec Ideal S1x1x2048 .f32 := m ((c : Thread nD τ).loc main_arg2)
abbrev X3 (c : Dev nD) : FVec Ideal S1x1x2048 .f32 := m ((c : Thread nD τ).loc main_arg3)
abbrev X4 (c : Dev nD) : FVec Ideal S1x2048x3680 .f32 := m ((c : Thread nD τ).loc main_arg4)

/-- The windows' blocks at every point. -/
theorem idx : ∀ t : Fin cfg0.N,
    win0_0.index t = ![t.val / 5, 0] ∧ win0_1.index t = ![0, 0] ∧ win0_2.index t = ![0, 0] ∧ win0_3.index t = ![0, 0]
    ∧ win0_4.index t = ![0, t.val % 5] ∧ win0_5.index t = ![0, t.val % 5] ∧ win0_6.index t = ![t.val / 5, t.val % 5] :=
  (by decide +kernel : ∀ t : Fin grid0.N, _)

section Entry
variable (c : Dev nD)

/-- An array at the call, after the host operations before it. -/
theorem V_eq (b : Ref sig .tc) : V m c b = StableHlo.after hostOps0 (fun b => m (c, b)) (Proc.devRef .tc b) := by
  rfl

/-- The columns of the weights in the order the call reads them, and its bias. -/
abbrev W (c : Dev nD) : FVec Ideal S2048x3840 .bf16 := V m c main_v18
abbrev B (c : Dev nD) : FVec Ideal S1x3840 .f32 := V m c main_v26

theorem entry0 (r : Fin 16384) (l : Fin 2048) : (show FVec Ideal S16384x2048 .f32 from V m c main_v20) (ix2 r l) = X0 m c (ix3 0 r l) := by
  rw [V_eq]; entry_read; pointwise
theorem entry1 (l : Fin 2048) : (show FVec Ideal S1x2048 .f32 from V m c main_v25) (ix2 0 l) = X1 m c (ix2 0 l) := by
  rw [V_eq]; entry_read; pointwise
theorem entry2 (l : Fin 2048) : (show FVec Ideal S1x2048 .f32 from V m c main_v23) (ix2 0 l) = X2 m c (ix3 0 0 l) := by
  rw [V_eq]; entry_read; pointwise
theorem entry3 (l : Fin 2048) : (show FVec Ideal S1x2048 .f32 from V m c main_v24) (ix2 0 l) = X3 m c (ix3 0 0 l) := by
  rw [V_eq]; entry_read; pointwise
theorem entry5 (k : Fin 3840) : B m c (ix2 0 k) = 0 := by
  unfold B; rw [V_eq]; entry_read; pointwise
/-- The seven column blocks side by side. -/
def cat (a0 a1 : FVec Ideal S2048x1536 .f32) (a2 : FVec Ideal S2048x512 .f32) (a3 a4 : FVec Ideal S2048x64 .f32) (a5 : FVec Ideal S2048x32 .f32)
    (a6 : FVec Ideal S2048x96 .f32) : FVec Ideal S2048x3840 .f32 :=
  concatenate S2048x3840 1 [⟨S2048x1536, a0⟩, ⟨S2048x1536, a1⟩, ⟨S2048x512, a2⟩, ⟨S2048x64, a3⟩, ⟨S2048x64, a4⟩, ⟨S2048x32, a5⟩, ⟨S2048x96, a6⟩]
    concatenates_S2048x1536_S2048x1536_S2048x512_S2048x64_S2048x64_S2048x32_S2048x96_S2048x3840_d1

section Cat
variable (a0 a1 : FVec Ideal S2048x1536 .f32) (a2 : FVec Ideal S2048x512 .f32) (a3 a4 : FVec Ideal S2048x64 .f32) (a5 : FVec Ideal S2048x32 .f32)
    (a6 : FVec Ideal S2048x96 .f32) (j : Fin 2048)

theorem cat0 (k : Fin 1536) (K : Fin 3840) (h : 0 + k.val = K.val) : cat a0 a1 a2 a3 a4 a5 a6 (ix2 j K) = a0 (ix2 j k) :=
  concatenate_apply_piece (t := S2048x3840) 1 _ _ (ix2 j K) 0 (by simp) S2048x1536 a0 rfl rfl 0 rfl (ix2 j k) (fun | ⟨0, _⟩, _ => rfl | ⟨1, _⟩, hb => absurd rfl hb) h
theorem cat1 (k : Fin 1536) (K : Fin 3840) (h : 1536 + k.val = K.val) : cat a0 a1 a2 a3 a4 a5 a6 (ix2 j K) = a1 (ix2 j k) :=
  concatenate_apply_piece (t := S2048x3840) 1 _ _ (ix2 j K) 1 (by simp) S2048x1536 a1 rfl rfl 1536 rfl (ix2 j k) (fun | ⟨0, _⟩, _ => rfl | ⟨1, _⟩, hb => absurd rfl hb) h
theorem cat2 (k : Fin 512) (K : Fin 3840) (h : 3072 + k.val = K.val) : cat a0 a1 a2 a3 a4 a5 a6 (ix2 j K) = a2 (ix2 j k) :=
  concatenate_apply_piece (t := S2048x3840) 1 _ _ (ix2 j K) 2 (by simp) S2048x512 a2 rfl rfl 3072 rfl (ix2 j k) (fun | ⟨0, _⟩, _ => rfl | ⟨1, _⟩, hb => absurd rfl hb) h
theorem cat3 (k : Fin 64) (K : Fin 3840) (h : 3584 + k.val = K.val) : cat a0 a1 a2 a3 a4 a5 a6 (ix2 j K) = a3 (ix2 j k) :=
  concatenate_apply_piece (t := S2048x3840) 1 _ _ (ix2 j K) 3 (by simp) S2048x64 a3 rfl rfl 3584 rfl (ix2 j k) (fun | ⟨0, _⟩, _ => rfl | ⟨1, _⟩, hb => absurd rfl hb) h
theorem cat5 (k : Fin 32) (K : Fin 3840) (h : 3712 + k.val = K.val) : cat a0 a1 a2 a3 a4 a5 a6 (ix2 j K) = a5 (ix2 j k) :=
  concatenate_apply_piece (t := S2048x3840) 1 _ _ (ix2 j K) 5 (by simp) S2048x32 a5 rfl rfl 3712 rfl (ix2 j k) (fun | ⟨0, _⟩, _ => rfl | ⟨1, _⟩, hb => absurd rfl hb) h
end Cat

/-- The weights as a matrix. -/
abbrev Mat (c : Dev nD) : FVec Ideal S2048x3680 .f32 := shapeCast _ (X4 m c) shapeCasts_S1x2048x3680_S2048x3680

theorem W_eq : ∃ (e : FVec Ideal S2048x64 .f32) (g : FVec Ideal S2048x96 .f32), W m c = truncf .bf16 (cat
    (extractStridedSlice S2048x1536 ![0, 0] (Mat m c) slices_S2048x3680_S2048x1536_0_0)
    (extractStridedSlice S2048x1536 ![0, 1536] (Mat m c) slices_S2048x3680_S2048x1536_0_1536)
    (extractStridedSlice S2048x512 ![0, 3104] (Mat m c) slices_S2048x3680_S2048x512_0_3104)
    (extractStridedSlice S2048x64 ![0, 3616] (Mat m c) slices_S2048x3680_S2048x64_0_3616) e
    (extractStridedSlice S2048x32 ![0, 3072] (Mat m c) slices_S2048x3680_S2048x32_0_3072) g) bitsLt_bf16_f32 := by
  unfold W
  rw [V_eq]; after_reads_simp
  unfold cat
  exact ⟨_, _, rfl⟩

variable (t : Fin cfg0.N)

theorem N_eq : cfg0.N = 80 := N_0

theorem row_lt (t : Fin cfg0.N) (r : Fin 1024) : t.val / 5 * 1024 + r.val < 16384 := by
  have := lt_of_lt_of_eq t.isLt N_eq; omega
theorem col_lt (t : Fin cfg0.N) (k : Fin 768) : t.val % 5 * 768 + k.val < 3840 := by omega

/-- The row of the call's result that row `r` of point `t` is. -/
def row (t : Fin cfg0.N) (r : Fin 1024) : Fin 16384 := ⟨t.val / 5 * 1024 + r.val, row_lt t r⟩
/-- The column of the call's result that column `k` of point `t` is. -/
def col (t : Fin cfg0.N) (k : Fin 768) : Fin 3840 := ⟨t.val % 5 * 768 + k.val, col_lt t k⟩

theorem blk0 (r : Fin 1024) (l : Fin 2048) : (show Vec Ideal S1024x2048 .f32 from iblk m c 0 t) (ix2 r l) = X0 m c (ix3 0 (row t r) l) := by
  rw [← entry0]; blk_ext [iblk, idx t, row]
theorem blk1 (l : Fin 2048) : (show Vec Ideal S1x2048 .f32 from iblk m c 1 t) (ix2 0 l) = X1 m c (ix2 0 l) := by
  rw [← entry1]; blk_ext [iblk, idx t]
theorem blk2 (l : Fin 2048) : (show Vec Ideal S1x2048 .f32 from iblk m c 2 t) (ix2 0 l) = X2 m c (ix3 0 0 l) := by
  rw [← entry2]; blk_ext [iblk, idx t]
theorem blk3 (l : Fin 2048) : (show Vec Ideal S1x2048 .f32 from iblk m c 3 t) (ix2 0 l) = X3 m c (ix3 0 0 l) := by
  rw [← entry3]; blk_ext [iblk, idx t]
theorem blk4 (j : Fin 2048) (k : Fin 768) : (show Vec Ideal S2048x768 .bf16 from iblk m c 4 t) (ix2 j k) = W m c (ix2 j (col t k)) := by
  blk_ext [iblk, idx t, col]
theorem blk5 (k : Fin 768) : (show Vec Ideal S1x768 .f32 from iblk m c 5 t) (ix2 0 k) = B m c (ix2 0 (col t k)) := by
  blk_ext [iblk, idx t, col]

end Entry

variable (c : Dev nD)

/-- The specification at the program's arguments. -/
abbrev nrm := projNorm (X0 m c) (X1 m c) (X2 m c) (X3 m c)
abbrev res := projRes (X0 m c) (X1 m c) (X2 m c) (X3 m c) (X4 m c)

/-- What the call's array holds. -/
def raw (R : Fin 16384) (C : Fin 3840) : EReal := (∑ j : Fin 2048, nrm m c R j * W m c (ix2 j C)) + B m c (ix2 0 C)

/-- The normed rows after a run's first point. -/
theorem first_eq (t : Fin cfg0.N) (h0 : t.val % 5 = 0) (r : Fin 1024) (l : Fin 2048) :
    (outsAt0 m c t.val t.isLt).2 (ix2 r l) = nrm m c (row t r) l := by
  refine (congrFun (xn_first m c t h0) (ix2 r l)).trans ((pay1_at _ _ _ _ r l).trans ?_)
  unfold nrm projNorm
  congr 1
  · funext l; exact blk0 m c t r l
  · funext l; exact blk1 m c t l
  · funext l; exact blk3 m c t l
  · funext l; exact blk2 m c t l

/-- The normed rows, at every point. -/
theorem normed_eq : ∀ (n : ℕ) (h : n < cfg0.N) (r : Fin 1024) (l : Fin 2048), (outsAt0 m c n h).2 (ix2 r l) = nrm m c (row ⟨n, h⟩ r) l
  | 0, h => first_eq m c ⟨0, h⟩ rfl
  | n + 1, h => by
    by_cases h0 : (n + 1) % 5 = 0
    · exact first_eq m c ⟨n + 1, h⟩ h0
    · have e : n / 5 = (n + 1) / 5 := by omega
      have er : ∀ r, row ⟨n, Nat.lt_of_succ_lt h⟩ r = row ⟨n + 1, h⟩ r := fun r => Fin.ext (by show n / 5 * 1024 + r.val = (n + 1) / 5 * 1024 + r.val; rw [e])
      rw [xn_next m c n h h0]
      exact fun r l => (normed_eq n (Nat.lt_of_succ_lt h) r l).trans (by rw [er r])

/-- The block a point writes. -/
theorem out_eq (t : Fin cfg0.N) (r : Fin 1024) (k : Fin 768) :
    (outsAt0 m c t.val t.isLt).1 (ix2 r k) = raw m c (row t r) (col t k) := by
  refine (congrFun (out_all m c t) (ix2 r k)).trans ((pay2_at _ _ _ r k).trans ?_)
  unfold raw
  refine congr (congrArg _ (Finset.sum_congr rfl fun j _ => ?_)) (blk5 m c t k)
  exact congr (congrArg _ (normed_eq m c t.val t.isLt r j)) (blk4 m c t j k)

theorem entry_eq (t : Fin cfg0.N) (y : S1024x768.Idx) (R : Fin 16384) (C : Fin 3840)
    (hR : t.val / 5 * 1024 + (y 0).val = R.val) (hC : t.val % 5 * 768 + (y 1).val = C.val) : (outsAt0 m c t.val t.isLt).1 y = raw m c R C := by
  obtain rfl : row t (y 0) = R := Fin.ext hR
  obtain rfl : col t (y 1) = C := Fin.ext hC
  exact (congrArg (outsAt0 m c t.val t.isLt).1 (eq_ix2 (n0 := 1024) (n1 := 768) y)).trans (out_eq m c t _ _)

/-- The call's array. -/
theorem final : (dats m 0 c).arrAt 6 cfg0.N = (show FVec Ideal S16384x3840 .f32 from fun i => raw m c (i 0) (i 1)) := by
  refine (dats m 0 c).arrAt_eq_of_covers 6 _ (by decide +kernel) fun t ht y => ?_
  blk_simp
  rw [after0_6]
  have e := (idx t).2.2.2.2.2.2
  have b0 : (((cfg0.win 6).blk t).view.emb y 0).val = win0_6.index t (0 : Fin 2) * 1024 + 1 * (y 0).val := rfl
  have b1 : (((cfg0.win 6).blk t).view.emb y 1).val = win0_6.index t (1 : Fin 2) * 768 + 1 * (y 1).val := rfl
  have e0 : win0_6.index t (0 : Fin 2) = t.val / 5 := by rw [e]; rfl
  have e1 : win0_6.index t (1 : Fin 2) = t.val % 5 := by rw [e]; rfl
  rw [e0] at b0; rw [e1] at b1
  refine entry_eq m c t y _ _ ?_ ?_
  · exact Eq.trans (by omega) b0.symm
  · exact Eq.trans (by omega) b1.symm

/-! ## The columns of the weights -/

section Cols
variable (j : Fin 2048)

theorem W_a (C : Fin 3680) (K : Fin 3840) (h : C.val < 3072) (hK : K.val = C.val) : W m c (ix2 j K) = X4 m c (ix3 0 j C) := by
  obtain ⟨e, g, hW⟩ := W_eq m c
  rw [hW]
  by_cases h1 : C.val < 1536
  · refine (cat0 _ _ _ _ _ _ _ j ⟨C.val, h1⟩ K (by show 0 + C.val = K.val; omega)).trans ?_
    pointwise
  · obtain ⟨d, hd⟩ : ∃ d : Fin 1536, 1536 + d.val = C.val := ⟨⟨C.val - 1536, by omega⟩, by show 1536 + (C.val - 1536) = C.val; omega⟩
    refine (cat1 _ _ _ _ _ _ _ j d K (by omega)).trans ?_
    rw [← show (⟨1536 + d.val, by omega⟩ : Fin 3680) = C from Fin.ext hd]
    pointwise

theorem W_b (C : Fin 3680) (K : Fin 3840) (h : 3104 ≤ C.val) (hK : K.val + 32 = C.val) : W m c (ix2 j K) = X4 m c (ix3 0 j C) := by
  obtain ⟨e, g, hW⟩ := W_eq m c
  rw [hW]
  by_cases h1 : C.val < 3616
  · obtain ⟨d, hd⟩ : ∃ d : Fin 512, 3104 + d.val = C.val := ⟨⟨C.val - 3104, by omega⟩, by show 3104 + (C.val - 3104) = C.val; omega⟩
    refine (cat2 _ _ _ _ _ _ _ j d K (by omega)).trans ?_
    rw [← show (⟨3104 + d.val, by omega⟩ : Fin 3680) = C from Fin.ext hd]
    pointwise
  · obtain ⟨d, hd⟩ : ∃ d : Fin 64, 3616 + d.val = C.val := ⟨⟨C.val - 3616, by omega⟩, by show 3616 + (C.val - 3616) = C.val; omega⟩
    refine (cat3 _ _ _ _ _ _ _ j d K (by omega)).trans ?_
    rw [← show (⟨3616 + d.val, by omega⟩ : Fin 3680) = C from Fin.ext hd]
    pointwise

theorem W_c (C : Fin 3680) (K : Fin 3840) (h : 3072 ≤ C.val) (h' : C.val < 3104) (hK : K.val = C.val + 640) : W m c (ix2 j K) = X4 m c (ix3 0 j C) := by
  obtain ⟨e, g, hW⟩ := W_eq m c
  rw [hW]
  obtain ⟨d, hd⟩ : ∃ d : Fin 32, 3072 + d.val = C.val := ⟨⟨C.val - 3072, by omega⟩, by show 3072 + (C.val - 3072) = C.val; omega⟩
  refine (cat5 _ _ _ _ _ _ _ j d K (by omega)).trans ?_
  rw [← show (⟨3072 + d.val, by omega⟩ : Fin 3680) = C from Fin.ext hd]
  pointwise

end Cols

/-- A column of the call's array whose weights are column `C` of the argument's. -/
theorem raw_eq (R : Fin 16384) (C : Fin 3680) (K : Fin 3840) (h : ∀ j, W m c (ix2 j K) = X4 m c (ix3 0 j C)) : raw m c R K = res m c R C := by
  unfold raw res projRes
  rw [entry5, add_zero]
  exact Finset.sum_congr rfl fun j _ => congrArg _ (h j)

/-! ## The host operations after the call -/

/-- The columns put back in order. -/
def back (p : FVec Ideal S16384x3840 .f32) : FVec Ideal S1x16384x3680 .f32 :=
  broadcastInDim S1x16384x3680 ![1, 2] bcast_S16384x3680_S1x16384x3680_1_2
    (concatenate S16384x3680 1 [⟨S16384x3072, extractStridedSlice S16384x3072 ![0, 0] p slices_S16384x3840_S16384x3072_0_0⟩,
      ⟨S16384x32, extractStridedSlice S16384x32 ![0, 3712] p slices_S16384x3840_S16384x32_0_3712⟩,
      ⟨S16384x576, extractStridedSlice S16384x576 ![0, 3072] p slices_S16384x3840_S16384x576_0_3072⟩] concatenates_S16384x3072_S16384x32_S16384x576_S16384x3680_d1)

theorem back_at (p : FVec Ideal S16384x3840 .f32) (R : Fin 16384) (C : Fin 3680) (K : Fin 3840)
    (h : (C.val < 3072 ∧ K.val = C.val) ∨ (3072 ≤ C.val ∧ C.val < 3104 ∧ K.val = C.val + 640) ∨ (3104 ≤ C.val ∧ K.val + 32 = C.val)) :
    back p (ix3 0 R C) = p (ix2 R K) := by
  unfold back
  pointwise
  by_cases h1 : C.val < 3072
  · rw [dif_pos h1]
    exact congrArg (fun k => p (ix2 R k)) (Fin.ext (show C.val = K.val by omega))
  · rw [dif_neg h1]
    by_cases h2 : C.val - 3072 < 32
    · rw [dif_pos h2]
      exact congrArg (fun k => p (ix2 R k)) (Fin.ext (show 3712 + (C.val - 3072) = K.val by omega))
    · rw [dif_neg h2]
      exact congrArg (fun k => p (ix2 R k)) (Fin.ext (show 3072 + (C.val - 3072 - 32) = K.val by omega))

theorem after_eq (Z : Valuation τ sig (Elt Ideal)) :
    StableHlo.after (hostOps1 (F := Ideal)) Z (Proc.devRef .tc main_v32) = back (Z (Proc.devRef .tc main_v27)) := by
  after_reads_simp
  unfold back
  rfl

theorem tail_eq : Pipeline.afterTail₀ cfgs (dats m) 0 (V0 m) [hostOps1] c main_v32 = back ((dats m 0 c).arrAt 6 cfg0.N) :=
  (after_eq _).trans (congrArg back (Pipeline.withArrays_arr (cfgs 0).spec (by decide) c (V0 m c) _ 6))

/-- The program's result, entry by entry. -/
theorem back_eq (R : Fin 16384) (C : Fin 3680) : back ((dats m 0 c).arrAt 6 cfg0.N) (ix3 0 R C) = res m c R C := by
  rw [final]
  by_cases h1 : C.val < 3072
  · refine (back_at _ R C ⟨C.val, by omega⟩ (Or.inl ⟨h1, rfl⟩)).trans ?_
    exact raw_eq m c R C _ fun j => W_a m c j C _ h1 rfl
  · by_cases h2 : C.val < 3104
    · refine (back_at _ R C ⟨C.val + 640, by omega⟩ (Or.inr (Or.inl ⟨by omega, h2, rfl⟩))).trans ?_
      exact raw_eq m c R C _ fun j => W_c m c j C _ (by omega) h2 rfl
    · have h3 : C.val - 32 + 32 = C.val := by omega
      refine (back_at _ R C ⟨C.val - 32, by omega⟩ (Or.inr (Or.inr ⟨by omega, h3⟩))).trans ?_
      exact raw_eq m c R C _ fun j => W_b m c j C _ (by omega) h3

theorem out_named : back ((dats m 0 c).arrAt 6 cfg0.N) = (show FVec Ideal S1x16384x3680 .f32 from fun i => res m c (i 1) (i 2)) := by
  funext i
  have e : i = ix3 (n0 := 1) (n1 := 16384) (n2 := 3680) 0 (i 1) (i 2) :=
    (eq_ix3 i).trans (congrArg (fun a => ix3 (n0 := 1) (n1 := 16384) (n2 := 3680) a (i 1) (i 2)) (Subsingleton.elim (α := Fin 1) _ _))
  exact (congrArg (back ((dats m 0 c).arrAt 6 cfg0.N)) e).trans (back_eq m c (i 1) (i 2))

/-- Every execution leaves the result and changes no argument. -/
theorem run : θ_run defs (onTc (τ := τ) (main (F := Ideal))) ⟨m, fun _ => 0, ρ⟩ fun r => ∀ c : Dev nD,
      r.2.mem ((c.tc : Thread nD τ).loc main_v32) = (show FVec Ideal S1x16384x3680 .f32 from fun i => res m c (i 1) (i 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨((h.1 c).2 main_v32 (by decide)).trans ((tail_eq m c).trans (out_named m c)), h.2 c⟩) (θ_run_and (run_main m ρ) (unchanged m ρ))

end Cert.Kernel4Ideal.Proj

end
-- ==== Proof.ProjRef.lean ====
/- The reference of the mixed layer's input projection over the extended reals, entry by entry. -/
module

public import proofs.«01_k».proof.Proof.ProjValue
public import proofs.«01_k».proof.Proof.Gen.Reference4Ideal.Run
public import Idealize.ShloMosaic.Lib.IdealHost

@[expose] public section

set_option maxRecDepth 16384

noncomputable section

namespace Cert.Reference4Ideal.Proj

open Idealize.ShloMosaic Idealize.ShloMosaic.TcCoe Idealize.SL.Sem
open Cert.Reference4Ideal Cert.Reference4Ideal.Gen Cert.Spec

/-- Every row over the root of its mean square. -/
def Rms (x : FVec Ideal S1x16384x2048 .f32) : FVec Ideal S1x16384x2048 .f32 :=
  mulf x (broadcastInDim S1x16384x2048 ![0, 1, 2] bcast_S1x16384x1_S1x16384x2048_0_1_2 (Host.rsqrt (addf (Host.divf (broadcastInDim S1x16384x1 ![0, 1] bcast_S1x16384_S1x16384x1_0_1 (Host.reduceAdd (mulf x x) (constant S_ .f32 0x00000000#32) reducesTo_S1x16384x2048_S1x16384_d2 h_S_)) (broadcastInDim S1x16384x1 ![] bcast_S_S1x16384x1 (constant S_ .f32 0x45000000#32))) (broadcastInDim S1x16384x1 ![] bcast_S_S1x16384x1 (constant S_ .f32 0x358637BD#32)))))

/-- The modulated norm. -/
def Mod (y : FVec Ideal S1x16384x2048 .f32) (nw : FVec Ideal S2x2048 .f32) (sh sc : FVec Ideal S1x1x2048 .f32) : FVec Ideal S1x16384x2048 .f32 :=
  addf (mulf (mulf y (broadcastInDim S1x16384x2048 ![0, 1, 2] bcast_S1x1x2048_S1x16384x2048_0_1_2 (broadcastInDim S1x1x2048 ![2] bcast_S2048_S1x1x2048_2 (shapeCast _ (extractStridedSlice S1x2048 ![0, 0] nw slices_S2x2048_S1x2048_0_0) shapeCasts_S1x2048_S2048)))) (broadcastInDim S1x16384x2048 ![0, 1, 2] bcast_S1x1x2048_S1x16384x2048_0_1_2 (addf (broadcastInDim S1x1x2048 ![] bcast_S_S1x1x2048 (constant S_ .f32 0x3F800000#32)) sc))) (broadcastInDim S1x16384x2048 ![0, 1, 2] bcast_S1x1x2048_S1x16384x2048_0_1_2 sh)

/-- The projection. -/
def Prod (u : FVec Ideal S1x16384x2048 .f32) (w : FVec Ideal S1x2048x3680 .f32) : FVec Ideal S1x16384x3680 .f32 :=
  Host.dotGeneral dot_S1x16384x2048_S2048x3680_S1x16384x3680_2_0_01_1_n_n none u (shapeCast _ w shapeCasts_S1x2048x3680_S2048x3680)

/-- The reference's result. -/
def REF (x : FVec Ideal S1x16384x2048 .f32) (nw : FVec Ideal S2x2048 .f32) (sh sc : FVec Ideal S1x1x2048 .f32) (w : FVec Ideal S1x2048x3680 .f32) :
    FVec Ideal S1x16384x3680 .f32 :=
  Prod (Mod (Rms x) nw sh sc) w

/-- Every execution leaves the result and changes no argument. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v22) = REF (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h c).1.trans (by unfold REF Prod Mod Rms; rfl), (h c).2⟩) (Value.run m ρ)

theorem Rms_at (x : FVec Ideal S1x16384x2048 .f32) (R : Fin 16384) (l : Fin 2048) :
    Rms x (ix3 0 R l) = x (ix3 0 R l) * rms c2048 (fun l => x (ix3 0 R l)) := by
  pointwise [Rms, rms]

theorem Mod_at (y : FVec Ideal S1x16384x2048 .f32) (nw : FVec Ideal S2x2048 .f32) (sh sc : FVec Ideal S1x1x2048 .f32) (R : Fin 16384) (l : Fin 2048) :
    Mod y nw sh sc (ix3 0 R l) = y (ix3 0 R l) * nw (ix2 0 l) * (1 + sc (ix3 0 0 l)) + sh (ix3 0 0 l) := by
  pointwise [Mod]

theorem Prod_at (u : FVec Ideal S1x16384x2048 .f32) (w : FVec Ideal S1x2048x3680 .f32) (R : Fin 16384) (k : Fin 3680) :
    Prod u w (ix3 0 R k) = ∑ j : Fin 2048, u (ix3 0 R j) * w (ix3 0 j k) := by
  pointwise [Prod]

/-- The reference's result, entry by entry. -/
theorem REF_eq (x : FVec Ideal S1x16384x2048 .f32) (nw : FVec Ideal S2x2048 .f32) (sh sc : FVec Ideal S1x1x2048 .f32) (w : FVec Ideal S1x2048x3680 .f32)
    (R : Fin 16384) (k : Fin 3680) : REF x nw sh sc w (ix3 0 R k) = projRes x nw sh sc w R k := by
  have hu : ∀ R l, Mod (Rms x) nw sh sc (ix3 0 R l) = projNorm x nw sh sc R l := by
    intro R l; rw [Mod_at, Rms_at]; rfl
  rw [REF, Prod_at]
  simp only [hu]
  rfl

/-- The same at an index. -/
theorem REF_idx (x : FVec Ideal S1x16384x2048 .f32) (nw : FVec Ideal S2x2048 .f32) (sh sc : FVec Ideal S1x1x2048 .f32) (w : FVec Ideal S1x2048x3680 .f32)
    (i : S1x16384x3680.Idx) : REF x nw sh sc w i = projRes x nw sh sc w (i 1) (i 2) := by
  have hi : i = ix3 (n0 := 1) (n1 := 16384) (n2 := 3680) 0 (i 1) (i 2) :=
    (eq_ix3 (n0 := 1) (n1 := 16384) (n2 := 3680) i).trans
      (congrArg (fun a : Fin 1 => ix3 (n0 := 1) (n1 := 16384) (n2 := 3680) a (i 1) (i 2)) (Subsingleton.elim (α := Fin 1) _ _))
  exact (congrArg (REF x nw sh sc w) hi).trans (REF_eq x nw sh sc w (i 1) (i 2))

end Cert.Reference4Ideal.Proj

end
-- ==== Proof.OutValue.lean ====
/- The hyena layer's output projection with its residual: what the call's result holds, entry by entry, and the same of the reference. -/
module

public import proofs.«01_k».proof.Proof.Gen.Kernel5Ideal.Value
public import proofs.«01_k».proof.Proof.Gen.Reference5Ideal.Run
public import Idealize.ShloMosaic.Lib.Pipeline.ValueKit
public import Idealize.ShloMosaic.Lib.Pointwise
public import Idealize.ShloMosaic.Lib.IdealHost
public import Idealize.ShloMosaic.Lib.Claim

@[expose] public section

set_option maxRecDepth 16384

noncomputable section

namespace Cert.Kernel5Ideal.Out

open Idealize.ShloMosaic Idealize.ShloMosaic.TcCoe Idealize.SL.Sem
open Cert.Kernel5Ideal Cert.Kernel5Ideal.Gen

/-- The result: the residual plus the gate times the projected row and its bias. -/
def outRes (y : FVec Ideal S1x16384x2048 .f32) (w : FVec Ideal S1x2048x2048 .f32) (b : FVec Ideal S1x2048 .f32) (x : FVec Ideal S1x16384x2048 .f32)
    (g : FVec Ideal S1x1x2048 .f32) (R : Fin 16384) (l : Fin 2048) : EReal :=
  x (ix3 0 R l) + g (ix3 0 0 l) * ((∑ j : Fin 2048, y (ix3 0 R j) * w (ix3 0 j l)) + b (ix2 0 l))

variable (m : (ℓ : Loc nD τ sig) → Buf (Elt Ideal) ℓ)

abbrev X0 (c : Dev nD) : FVec Ideal S1x16384x2048 .f32 := m ((c : Thread nD τ).loc main_arg0)
abbrev X1 (c : Dev nD) : FVec Ideal S1x2048x2048 .f32 := m ((c : Thread nD τ).loc main_arg1)
abbrev X2 (c : Dev nD) : FVec Ideal S1x2048 .f32 := m ((c : Thread nD τ).loc main_arg2)
abbrev X3 (c : Dev nD) : FVec Ideal S1x16384x2048 .f32 := m ((c : Thread nD τ).loc main_arg3)
abbrev X4 (c : Dev nD) : FVec Ideal S1x1x2048 .f32 := m ((c : Thread nD τ).loc main_arg4)

/-- The windows' blocks at every point. -/
theorem idx : ∀ t : Fin cfg0.N,
    win0_0.index t = ![t.val, 0] ∧ win0_1.index t = ![0, 0] ∧ win0_2.index t = ![0, 0] ∧ win0_3.index t = ![t.val, 0]
    ∧ win0_4.index t = ![0, 0] ∧ win0_5.index t = ![t.val, 0] :=
  (by decide +kernel : ∀ t : Fin grid0.N, _)

variable (c : Dev nD)

theorem entry0 (r : Fin 16384) (l : Fin 2048) : (show FVec Ideal S16384x2048 .f32 from V m c main_v0) (ix2 r l) = X0 m c (ix3 0 r l) := by
  entry_read; pointwise
theorem entry1 (j l : Fin 2048) : (show FVec Ideal S2048x2048 .bf16 from V m c main_v2) (ix2 j l) = X1 m c (ix3 0 j l) := by
  entry_read; pointwise
theorem entry2 (l : Fin 2048) : (show FVec Ideal S1x2048 .f32 from V m c main_v6) (ix2 0 l) = X2 m c (ix2 0 l) := by
  entry_read; pointwise
theorem entry3 (r : Fin 16384) (l : Fin 2048) : (show FVec Ideal S16384x2048 .f32 from V m c main_v4) (ix2 r l) = X3 m c (ix3 0 r l) := by
  entry_read; pointwise
theorem entry4 (l : Fin 2048) : (show FVec Ideal S1x2048 .f32 from V m c main_v5) (ix2 0 l) = X4 m c (ix3 0 0 l) := by
  entry_read; pointwise

/-- The row of the result that row `r` of point `t` is. -/
def row (t : Fin cfg0.N) (r : Fin 512) : Fin 16384 := ⟨t.val * 512 + r.val, by have := lt_of_lt_of_eq t.isLt (N_0 : cfg0.N = 32); omega⟩

variable (t : Fin cfg0.N)

theorem blk0 (r : Fin 512) (l : Fin 2048) : (show Vec Ideal S512x2048 .f32 from iblk m c 0 t) (ix2 r l) = X0 m c (ix3 0 (row t r) l) := by
  rw [← entry0]; blk_ext [iblk, idx t, row]
theorem blk1 (j l : Fin 2048) : (show Vec Ideal S2048x2048 .bf16 from iblk m c 1 t) (ix2 j l) = X1 m c (ix3 0 j l) := by
  rw [← entry1]; blk_ext [iblk, idx t]
theorem blk2 (l : Fin 2048) : (show Vec Ideal S1x2048 .f32 from iblk m c 2 t) (ix2 0 l) = X2 m c (ix2 0 l) := by
  rw [← entry2]; blk_ext [iblk, idx t]
theorem blk3 (r : Fin 512) (l : Fin 2048) : (show Vec Ideal S512x2048 .f32 from iblk m c 3 t) (ix2 r l) = X3 m c (ix3 0 (row t r) l) := by
  rw [← entry3]; blk_ext [iblk, idx t, row]
theorem blk4 (l : Fin 2048) : (show Vec Ideal S1x2048 .f32 from iblk m c 4 t) (ix2 0 l) = X4 m c (ix3 0 0 l) := by
  rw [← entry4]; blk_ext [iblk, idx t]

theorem pay_at (x : Vec Ideal S512x2048 .f32) (g : Vec Ideal S1x2048 .f32) (y : Vec Ideal S512x2048 .f32) (w : Vec Ideal S2048x2048 .bf16)
    (b : Vec Ideal S1x2048 .f32) (r : Fin 512) (l : Fin 2048) :
    (k0_pay1 x g y w b : Vec Ideal S512x2048 .f32) (ix2 r l)
      = x (ix2 r l) + g (ix2 0 l) * ((∑ j : Fin 2048, y (ix2 r j) * w (ix2 j l)) + b (ix2 0 l)) := by
  pointwise [k0_pay1]

abbrev res := outRes (X0 m c) (X1 m c) (X2 m c) (X3 m c) (X4 m c)

theorem out_eq (r : Fin 512) (l : Fin 2048) :
    (k0_pay1 (iblk m c 3 t) (iblk m c 4 t) (iblk m c 0 t) (iblk m c 1 t) (iblk m c 2 t) : Vec Ideal S512x2048 .f32) (ix2 r l) = res m c (row t r) l := by
  refine (pay_at _ _ _ _ _ r l).trans ?_
  unfold res outRes
  refine congr (congrArg _ (blk3 m c t r l)) (congr (congrArg _ (blk4 m c t l)) (congr (congrArg _ ?_) (blk2 m c t l)))
  exact Finset.sum_congr rfl fun j _ => congr (congrArg _ (blk0 m c t r j)) (blk1 m c t j l)

theorem entry_eq (y : S512x2048.Idx) (R : Fin 16384) (C : Fin 2048) (hR : t.val * 512 + (y 0).val = R.val) (hC : (y 1).val = C.val) :
    (k0_pay1 (iblk m c 3 t) (iblk m c 4 t) (iblk m c 0 t) (iblk m c 1 t) (iblk m c 2 t) : Vec Ideal S512x2048 .f32) y = res m c R C := by
  obtain rfl : row t (y 0) = R := Fin.ext hR
  obtain rfl : y 1 = C := Fin.ext hC
  exact (congrArg (k0_pay1 (iblk m c 3 t) (iblk m c 4 t) (iblk m c 0 t) (iblk m c 1 t) (iblk m c 2 t) : Vec Ideal S512x2048 .f32)
    (eq_ix2 (n0 := 512) (n1 := 2048) y)).trans (out_eq m c t _ _)

theorem after_eq : (dats m 0 c).after 5 t = (k0_pay1 (iblk m c 3 t) (iblk m c 4 t) (iblk m c 0 t) (iblk m c 1 t) (iblk m c 2 t) : Vec Ideal S512x2048 .f32) := by
  rw [after0_5]; frame_out

/-- The result array. -/
theorem final : (dats m 0 c).arrAt 5 cfg0.N = (show FVec Ideal S16384x2048 .f32 from fun i => res m c (i 0) (i 1)) := by
  refine (dats m 0 c).arrAt_eq_of_covers 5 _ (by decide +kernel) fun t ht y => ?_
  blk_simp
  rw [after_eq]
  have e := (idx t).2.2.2.2.2
  have b0 : (((cfg0.win 5).blk t).view.emb y 0).val = win0_5.index t (0 : Fin 2) * 512 + 1 * (y 0).val := rfl
  have b1 : (((cfg0.win 5).blk t).view.emb y 1).val = win0_5.index t (1 : Fin 2) * 2048 + 1 * (y 1).val := rfl
  have e0 : win0_5.index t (0 : Fin 2) = t.val := by rw [e]; rfl
  have e1 : win0_5.index t (1 : Fin 2) = 0 := by rw [e]; rfl
  rw [e0] at b0; rw [e1] at b1
  refine entry_eq m c t y _ _ ?_ ?_
  · exact Eq.trans (by omega) b0.symm
  · exact Eq.trans (by omega) b1.symm

end Cert.Kernel5Ideal.Out

namespace Cert.Reference5Ideal.Out

open Idealize.ShloMosaic Idealize.ShloMosaic.TcCoe Idealize.SL.Sem
open Cert.Reference5Ideal Cert.Reference5Ideal.Gen Cert.Kernel5Ideal.Out

/-- The reference's result. -/
def REF (y : FVec Ideal S1x16384x2048 .f32) (w : FVec Ideal S1x2048x2048 .f32) (b : FVec Ideal S1x2048 .f32) (x : FVec Ideal S1x16384x2048 .f32)
    (g : FVec Ideal S1x1x2048 .f32) : FVec Ideal S16384x2048 .f32 :=
  shapeCast _ (addf x (mulf (broadcastInDim S1x16384x2048 ![0, 1, 2] bcast_S1x1x2048_S1x16384x2048_0_1_2 g) (addf (Host.dotGeneral dot_S1x16384x2048_S2048x2048_S1x16384x2048_2_0_01_1_n_n none y (shapeCast _ w shapeCasts_S1x2048x2048_S2048x2048)) (broadcastInDim S1x16384x2048 ![0, 1, 2] bcast_S1x1x2048_S1x16384x2048_0_1_2 (broadcastInDim S1x1x2048 ![2] bcast_S2048_S1x1x2048_2 (shapeCast _ b shapeCasts_S1x2048_S2048)))))) shapeCasts_S1x16384x2048_S16384x2048

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v9) = REF (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  Value.run m ρ

theorem REF_eq (y : FVec Ideal S1x16384x2048 .f32) (w : FVec Ideal S1x2048x2048 .f32) (b : FVec Ideal S1x2048 .f32) (x : FVec Ideal S1x16384x2048 .f32)
    (g : FVec Ideal S1x1x2048 .f32) (R : Fin 16384) (l : Fin 2048) : REF y w b x g (ix2 R l) = outRes y w b x g R l := by
  pointwise [REF, outRes]

end Cert.Reference5Ideal.Out

end
-- ==== Proof.MergeBody.lean ====
/- The mixed layer's output projection: what one grid point writes. -/
module

public import proofs.«01_k».proof.Proof.Spec
public import proofs.«01_k».proof.Proof.Gen.Kernel6Ideal.Frame
public import Idealize.ShloMosaic.Lib.Pipeline.ValueKit
public import Idealize.ShloMosaic.Lib.Pointwise

@[expose] public section

set_option maxRecDepth 16384

noncomputable section

namespace Cert.Kernel6Ideal.Merge

open Idealize.ShloMosaic Idealize.ShloMosaic.TcCoe Idealize.SL.Sem
open Cert.Kernel6Ideal Cert.Kernel6Ideal.Gen Cert.Spec

section Points

variable {F : FTy → Type} [FloatOps F]
variable (m : (ℓ : Loc nD τ sig) → Buf (Elt F) ℓ)

/-- The gated heads of a point's rows. -/
abbrev gy (c : Dev nD) (t : Fin cfg0.N) : FVec F S256x1024 .f32 :=
  k0_pay5 (iblk m c 1 t) (iblk m c 2 t) (iblk m c 5 t) (X0_3 m c t) (X0_4 m c t)

/-- The norm's weights of the first group of columns and of the second. -/
abbrev nw0 (c : Dev nD) (t : Fin cfg0.N) : Vec F S1x512 .f32 := View.ld (iblk m c 6 t) (Rect.unit ![0, 0] ![1, 512] inb_S1x1024_S1x512_0_0)
abbrev nw1 (c : Dev nD) (t : Fin cfg0.N) : Vec F S1x512 .f32 := View.ld (iblk m c 6 t) (Rect.unit ![0, 512] ![1, 512] inb_S1x1024_S1x512_0_512)

/-- What the point stores of the first group of normed columns, and of the second. -/
abbrev norm0 (c : Dev nD) (t : Fin cfg0.N) : FVec F S256x512 .bf16 :=
  k0_pay1 (k0_pay6 (iblk m c 1 t) (iblk m c 2 t) (iblk m c 5 t) (X0_3 m c t) (X0_4 m c t)) (nw0 m c t)
abbrev norm1 (c : Dev nD) (t : Fin cfg0.N) : FVec F S256x512 .bf16 := k0_pay2 (gy m c t) (nw1 m c t)

/-- What a point writes, from the merged rows; and the merged rows, in their three column ranges. -/
theorem out_all (c : Dev nD) (t : Fin cfg0.N) :
    ∃ A : Vec F S256x2048 .bf16, outsAt0 m c t = k0_pay3 (iblk m c 8 t) (iblk m c 9 t) A (iblk m c 7 t)
      ∧ ∀ y : S256x2048.Idx, A y
          = if (y 1).val < 1024 then k0_pay4 (iblk m c 0 t) (ix2 (y 0) ⟨(y 1).val % 1024, Nat.mod_lt _ (by decide)⟩)
            else if (y 1).val < 1536 then norm0 m c t (ix2 (y 0) ⟨(y 1).val % 512, Nat.mod_lt _ (by decide)⟩)
            else norm1 m c t (ix2 (y 0) ⟨(y 1).val % 512, Nat.mod_lt _ (by decide)⟩) := by
  refine ⟨View.canon [⟨Rect.unit ![0, 1536] ![256, 512] inb_S256x2048_S256x512_0_1536, norm1 m c t⟩,
      ⟨Rect.unit ![0, 1024] ![256, 512] inb_S256x2048_S256x512_0_1024, norm0 m c t⟩,
      ⟨Rect.unit ![0, 0] ![256, 1024] inb_S256x2048_S256x1024_0_0, k0_pay4 (iblk m c 0 t)⟩], ?_, fun y => ?_⟩
  · unfold outsAt0 out0_A_10
    frame_out
    refine congrArg (fun A : Vec F S256x2048 .bf16 => k0_pay3 (iblk m c 8 t) (iblk m c 9 t) A (iblk m c 7 t)) ?_
    exact (View.readCov_eq_canon' _ _ _).trans (View.ld_unit_zero (S := S256x2048) (off := ![0, 0]) (by decide) inb_S256x2048_S256x2048_0_0 _)
  · have b0 := (y 0).isLt
    have b1 := (y 1).isLt
    change (y 0).val < 256 at b0
    change (y 1).val < 2048 at b1
    have hcover : ∃ p ∈ ([⟨Rect.unit ![0, 1536] ![256, 512] inb_S256x2048_S256x512_0_1536, norm1 m c t⟩,
        ⟨Rect.unit ![0, 1024] ![256, 512] inb_S256x2048_S256x512_0_1024, norm0 m c t⟩,
        ⟨Rect.unit ![0, 0] ![256, 1024] inb_S256x2048_S256x1024_0_0, k0_pay4 (iblk m c 0 t)⟩] : List (View.Piece (Elt F) S256x2048 .bf16)),
        y ∈ p.1.set := by
      by_cases h1 : (y 1).val < 1024
      · exact ⟨_, List.mem_cons_of_mem _ (List.mem_cons_of_mem _ List.mem_cons_self), (Rect.mem_set_unit (inb := inb_S256x2048_S256x1024_0_0)).mpr
          (Fin.forall_fin_two.mpr ⟨⟨Nat.zero_le _, by simpa using b0⟩, ⟨Nat.zero_le _, by simpa using h1⟩⟩)⟩
      · by_cases h2 : (y 1).val < 1536
        · exact ⟨_, List.mem_cons_of_mem _ List.mem_cons_self, (Rect.mem_set_unit (inb := inb_S256x2048_S256x512_0_1024)).mpr
            (Fin.forall_fin_two.mpr ⟨⟨Nat.zero_le _, by simpa using b0⟩, ⟨Nat.le_of_not_lt h1, h2⟩⟩)⟩
        · exact ⟨_, List.mem_cons_self, (Rect.mem_set_unit (inb := inb_S256x2048_S256x512_0_1536)).mpr
            (Fin.forall_fin_two.mpr ⟨⟨Nat.zero_le _, by simpa using b0⟩, ⟨Nat.le_of_not_lt h2, b1⟩⟩)⟩
    canon_tiles x e using hcover
    · have hy : ¬ (y 1).val < 1024 := by simp only [e1]; omega
      have hy' : ¬ (y 1).val < 1536 := by simp only [e1]; omega
      rw [if_neg hy, if_neg hy']
      congr 1
      refine (eq_ix2 (n0 := 256) (n1 := 512) x).trans (congr (congrArg ix2 (Fin.ext ?_)) (Fin.ext ?_))
      · show (x 0).val = (y 0).val
        omega
      · show (x 1).val = (y 1).val % 512
        omega
    · have hy : ¬ (y 1).val < 1024 := by simp only [e1]; omega
      have hy' : (y 1).val < 1536 := by simp only [e1]; omega
      rw [if_neg hy, if_pos hy']
      congr 1
      refine (eq_ix2 (n0 := 256) (n1 := 512) x).trans (congr (congrArg ix2 (Fin.ext ?_)) (Fin.ext ?_))
      · show (x 0).val = (y 0).val
        omega
      · show (x 1).val = (y 1).val % 512
        omega
    · have hy : (y 1).val < 1024 := by simp only [e1]; omega
      rw [if_pos hy]
      congr 1
      refine (eq_ix2 (n0 := 256) (n1 := 1024) x).trans (congr (congrArg ix2 (Fin.ext ?_)) (Fin.ext ?_))
      · show (x 0).val = (y 0).val
        omega
      · show (x 1).val = (y 1).val % 1024
        omega

end Points

/-- The length 512 of a group's row, as the programs write it. -/
abbrev c512 : EReal := Ideal.ofBits .f32 0x44000000#32

section AtIndex

variable (yf yb : Vec Ideal S256x1024 .f32) (dsk : Vec Ideal S1x1024 .f32) (xs z : Vec Ideal S256x1024 .f32)

theorem gate_at (r : Fin 256) (l : Fin 1024) :
    (k0_pay5 yf yb dsk xs z : FVec Ideal S256x1024 .f32) (ix2 r l)
      = (yf (ix2 r l) + yb (ix2 r l) + dsk (ix2 0 l) * xs (ix2 r l)) * silu (z (ix2 r l)) := by
  pointwise [k0_pay5, silu]
  simp only [zero_sub]

theorem norm0_at (nw : Vec Ideal S1x512 .f32) (r : Fin 256) (p : Fin 512) :
    (k0_pay1 (k0_pay6 yf yb dsk xs z) nw : FVec Ideal S256x512 .bf16) (ix2 r p)
      = normed c512 (fun p : Fin 512 => (k0_pay5 yf yb dsk xs z : FVec Ideal S256x1024 .f32) (ix2 r ⟨p.val, by omega⟩)) (fun p => nw (ix2 0 p)) p := by
  have h : (k0_pay6 yf yb dsk xs z : FVec Ideal S256x512 .f32) (ix2 r p)
      = (k0_pay5 yf yb dsk xs z : FVec Ideal S256x1024 .f32) (ix2 r ⟨p.val, by omega⟩)
        * rms c512 (fun p : Fin 512 => (k0_pay5 yf yb dsk xs z : FVec Ideal S256x1024 .f32) (ix2 r ⟨p.val, by omega⟩)) := by
    unfold k0_pay6
    generalize (k0_pay5 yf yb dsk xs z : FVec Ideal S256x1024 .f32) = G
    pointwise [rms, c512]
  have h' : ∀ u : FVec Ideal S256x512 .f32, (k0_pay1 u nw : FVec Ideal S256x512 .bf16) (ix2 r p) = u (ix2 r p) * nw (ix2 0 p) := by
    intro u; pointwise [k0_pay1]
  rw [h', h]; rfl

theorem norm1_at (G : FVec Ideal S256x1024 .f32) (nw : Vec Ideal S1x512 .f32) (r : Fin 256) (p : Fin 512) :
    (k0_pay2 G nw : FVec Ideal S256x512 .bf16) (ix2 r p)
      = normed c512 (fun p : Fin 512 => G (ix2 r ⟨512 + p.val, by omega⟩)) (fun p => nw (ix2 0 p)) p := by
  pointwise [k0_pay2, normed, rms, c512]

theorem out_at (x : Vec Ideal S256x2048 .f32) (g : Vec Ideal S1x2048 .f32) (A : Vec Ideal S256x2048 .bf16) (w : Vec Ideal S2048x2048 .bf16)
    (r : Fin 256) (l : Fin 2048) :
    (k0_pay3 x g A w : FVec Ideal S256x2048 .f32) (ix2 r l) = x (ix2 r l) + g (ix2 0 l) * ∑ j : Fin 2048, A (ix2 r j) * w (ix2 j l) := by
  pointwise [k0_pay3]

theorem heads_at (o : Vec Ideal S256x1024 .bf16) (r : Fin 256) (l : Fin 1024) : (k0_pay4 o : FVec Ideal S256x1024 .bf16) (ix2 r l) = o (ix2 r l) := by
  pointwise [k0_pay4]

end AtIndex

end Cert.Kernel6Ideal.Merge

end
-- ==== Proof.MergeValue.lean ====
/- The mixed layer's output projection: what the call's result holds, entry by entry, in the arrays it is given. -/
module

public import proofs.«01_k».proof.Proof.MergeBody
public import Idealize.ShloMosaic.Lib.IdealHost
public import Idealize.ShloMosaic.Lib.Claim

@[expose] public section

set_option maxRecDepth 16384

noncomputable section

namespace Cert.Kernel6Ideal.Merge

open Idealize.ShloMosaic Idealize.ShloMosaic.TcCoe Idealize.SL.Sem
open Cert.Kernel6Ideal Cert.Kernel6Ideal.Gen Cert.Spec

/-! ## The result, in the arrays -/

/-- Entry `l` of row `R` of the state-space heads: both directions and the skip, times the gate. -/
def mergeGate (yf yb : FVec Ideal S1x16384x2x8x64 .f32) (xbc : FVec Ideal S1x16384x1536 .f32) (z : FVec Ideal S1x16384x1024 .f32)
    (d : FVec Ideal S1x2x16 .f32) (R : Fin 16384) (l : Fin 1024) : EReal :=
  (yf (ix5 0 R ⟨l.val / 512, by omega⟩ ⟨l.val / 64 % 8, by omega⟩ ⟨l.val % 64, by omega⟩)
      + yb (ix5 0 R ⟨l.val / 512, by omega⟩ ⟨l.val / 64 % 8, by omega⟩ ⟨l.val % 64, by omega⟩)
    + (d (ix3 0 0 ⟨l.val / 64, by omega⟩) + d (ix3 0 1 ⟨l.val / 64, by omega⟩)) * xbc (ix3 0 R ⟨l.val, by omega⟩))
  * silu (z (ix3 0 R l))

/-- The gated heads normed over each group of 512 columns. -/
def mergeNorm (yf yb : FVec Ideal S1x16384x2x8x64 .f32) (xbc : FVec Ideal S1x16384x1536 .f32) (z : FVec Ideal S1x16384x1024 .f32)
    (d : FVec Ideal S1x2x16 .f32) (nw : FVec Ideal S1x1024 .f32) (R : Fin 16384) (g : Fin 2) (p : Fin 512) : EReal :=
  normed c512 (fun p : Fin 512 => mergeGate yf yb xbc z d R ⟨g.val * 512 + p.val, by omega⟩) (fun p => nw (ix2 0 ⟨g.val * 512 + p.val, by omega⟩)) p

/-- The row that is projected: the attention's heads, then the normed state-space heads. -/
def mergeRow (o : FVec Ideal S1x16384x8x128 .f32) (yf yb : FVec Ideal S1x16384x2x8x64 .f32) (xbc : FVec Ideal S1x16384x1536 .f32)
    (z : FVec Ideal S1x16384x1024 .f32) (d : FVec Ideal S1x2x16 .f32) (nw : FVec Ideal S1x1024 .f32) (R : Fin 16384) (j : Fin 2048) : EReal :=
  if h : j.val < 1024 then o (ix4 0 R ⟨j.val / 128, by omega⟩ ⟨j.val % 128, by omega⟩)
  else mergeNorm yf yb xbc z d nw R ⟨(j.val - 1024) / 512, by omega⟩ ⟨(j.val - 1024) % 512, by omega⟩

/-- The result: the residual plus the gate times the projected row. -/
def mergeRes (o : FVec Ideal S1x16384x8x128 .f32) (yf yb : FVec Ideal S1x16384x2x8x64 .f32) (xbc : FVec Ideal S1x16384x1536 .f32)
    (z : FVec Ideal S1x16384x1024 .f32) (d : FVec Ideal S1x2x16 .f32) (nw : FVec Ideal S1x1024 .f32) (w : FVec Ideal S1x2048x2048 .f32)
    (x : FVec Ideal S1x16384x2048 .f32) (g : FVec Ideal S1x1x2048 .f32) (R : Fin 16384) (l : Fin 2048) : EReal :=
  x (ix3 0 R l) + g (ix3 0 0 l) * ∑ j : Fin 2048, mergeRow o yf yb xbc z d nw R j * w (ix3 0 j l)

variable (m : (ℓ : Loc nD τ sig) → Buf (Elt Ideal) ℓ)

abbrev O (c : Dev nD) : FVec Ideal S1x16384x8x128 .f32 := m ((c : Thread nD τ).loc main_arg0)
abbrev Yf (c : Dev nD) : FVec Ideal S1x16384x2x8x64 .f32 := m ((c : Thread nD τ).loc main_arg1)
abbrev Yb (c : Dev nD) : FVec Ideal S1x16384x2x8x64 .f32 := m ((c : Thread nD τ).loc main_arg2)
abbrev Xbc (c : Dev nD) : FVec Ideal S1x16384x1536 .f32 := m ((c : Thread nD τ).loc main_arg3)
abbrev Z (c : Dev nD) : FVec Ideal S1x16384x1024 .f32 := m ((c : Thread nD τ).loc main_arg4)
abbrev Dsk (c : Dev nD) : FVec Ideal S1x2x16 .f32 := m ((c : Thread nD τ).loc main_arg5)
abbrev Nw (c : Dev nD) : FVec Ideal S1x1024 .f32 := m ((c : Thread nD τ).loc main_arg6)
abbrev W (c : Dev nD) : FVec Ideal S1x2048x2048 .f32 := m ((c : Thread nD τ).loc main_arg7)
abbrev X (c : Dev nD) : FVec Ideal S1x16384x2048 .f32 := m ((c : Thread nD τ).loc main_arg8)
abbrev Gt (c : Dev nD) : FVec Ideal S1x1x2048 .f32 := m ((c : Thread nD τ).loc main_arg9)

/-! ## The arrays the call is given -/

variable (c : Dev nD)

theorem entry0 (r : Fin 16384) (l : Fin 1024) : (show FVec Ideal S16384x1024 .bf16 from V m c main_v13) (ix2 r l)
    = O m c (ix4 0 r ⟨l.val / 128, by omega⟩ ⟨l.val % 128, by omega⟩) := by
  entry_read; pointwise
theorem entry1 (r : Fin 16384) (l : Fin 1024) : (show FVec Ideal S16384x1024 .f32 from V m c main_v14) (ix2 r l)
    = Yf m c (ix5 0 r ⟨l.val / 512, by omega⟩ ⟨l.val / 64 % 8, by omega⟩ ⟨l.val % 64, by omega⟩) := by
  entry_read; pointwise
theorem entry2 (r : Fin 16384) (l : Fin 1024) : (show FVec Ideal S16384x1024 .f32 from V m c main_v15) (ix2 r l)
    = Yb m c (ix5 0 r ⟨l.val / 512, by omega⟩ ⟨l.val / 64 % 8, by omega⟩ ⟨l.val % 64, by omega⟩) := by
  entry_read; pointwise
theorem entry3 (r : Fin 16384) (l : Fin 1536) : (show FVec Ideal S16384x1536 .f32 from V m c main_v16) (ix2 r l) = Xbc m c (ix3 0 r l) := by
  entry_read; pointwise
theorem entry4 (r : Fin 16384) (l : Fin 1024) : (show FVec Ideal S16384x3840 .f32 from V m c main_v11) (ix2 r ⟨l.val, by omega⟩) = Z m c (ix3 0 r l) := by
  entry_read; pointwise
theorem entry5 (l : Fin 1024) : (show FVec Ideal S1x1024 .f32 from V m c main_v8) (ix2 0 l)
    = Dsk m c (ix3 0 0 ⟨l.val / 64, by omega⟩) + Dsk m c (ix3 0 1 ⟨l.val / 64, by omega⟩) := by
  entry_read; pointwise
theorem entry6 (l : Fin 1024) : (show FVec Ideal S1x1024 .f32 from V m c main_v18) (ix2 0 l) = Nw m c (ix2 0 l) := by
  entry_read; pointwise
theorem entry7 (j l : Fin 2048) : (show FVec Ideal S2048x2048 .bf16 from V m c main_v20) (ix2 j l) = W m c (ix3 0 j l) := by
  entry_read; pointwise
theorem entry8 (r : Fin 16384) (l : Fin 2048) : (show FVec Ideal S16384x2048 .f32 from V m c main_v21) (ix2 r l) = X m c (ix3 0 r l) := by
  entry_read; pointwise
theorem entry9 (l : Fin 2048) : (show FVec Ideal S1x2048 .f32 from V m c main_v22) (ix2 0 l) = Gt m c (ix3 0 0 l) := by
  entry_read; pointwise

/-! ## The blocks of a point -/

/-- The windows' blocks at every point. -/
theorem idx : ∀ t : Fin cfg0.N,
    win0_0.index t = ![t.val, 0] ∧ win0_1.index t = ![t.val, 0] ∧ win0_2.index t = ![t.val, 0] ∧ win0_3.index t = ![t.val, 0]
    ∧ win0_4.index t = ![t.val, 0] ∧ win0_5.index t = ![0, 0] ∧ win0_6.index t = ![0, 0] ∧ win0_7.index t = ![0, 0]
    ∧ win0_8.index t = ![t.val, 0] ∧ win0_9.index t = ![0, 0] ∧ win0_10.index t = ![t.val, 0] :=
  (by decide +kernel : ∀ t : Fin grid0.N, _)

/-- The row of the result that row `r` of point `t` is. -/
def row (t : Fin cfg0.N) (r : Fin 256) : Fin 16384 := ⟨t.val * 256 + r.val, by have := lt_of_lt_of_eq t.isLt (N_0 : cfg0.N = 64); omega⟩

variable (t : Fin cfg0.N)

theorem blk0 (r : Fin 256) (l : Fin 1024) : (show Vec Ideal S256x1024 .bf16 from iblk m c 0 t) (ix2 r l)
    = O m c (ix4 0 (row t r) ⟨l.val / 128, by omega⟩ ⟨l.val % 128, by omega⟩) := by
  rw [← entry0]; blk_ext [iblk, idx t, row]
theorem blk1 (r : Fin 256) (l : Fin 1024) : (show Vec Ideal S256x1024 .f32 from iblk m c 1 t) (ix2 r l)
    = Yf m c (ix5 0 (row t r) ⟨l.val / 512, by omega⟩ ⟨l.val / 64 % 8, by omega⟩ ⟨l.val % 64, by omega⟩) := by
  rw [← entry1]; blk_ext [iblk, idx t, row]
theorem blk2 (r : Fin 256) (l : Fin 1024) : (show Vec Ideal S256x1024 .f32 from iblk m c 2 t) (ix2 r l)
    = Yb m c (ix5 0 (row t r) ⟨l.val / 512, by omega⟩ ⟨l.val / 64 % 8, by omega⟩ ⟨l.val % 64, by omega⟩) := by
  rw [← entry2]; blk_ext [iblk, idx t, row]
theorem blk3 (r : Fin 256) (l : Fin 1024) : (show Vec Ideal S256x1024 .f32 from X0_3 m c t) (ix2 r l) = Xbc m c (ix3 0 (row t r) ⟨l.val, by omega⟩) := by
  rw [← entry3]
  refine (dif_pos (moved0_3 t (ix2 (n0 := 256) (n1 := 1024) r l))).trans ?_
  blk_ext [iblk, idx t, row]
theorem blk4 (r : Fin 256) (l : Fin 1024) : (show Vec Ideal S256x1024 .f32 from X0_4 m c t) (ix2 r l) = Z m c (ix3 0 (row t r) l) := by
  rw [← entry4]
  refine (dif_pos (moved0_4 t (ix2 (n0 := 256) (n1 := 1024) r l))).trans ?_
  blk_ext [iblk, idx t, row]
theorem blk5 (l : Fin 1024) : (show Vec Ideal S1x1024 .f32 from iblk m c 5 t) (ix2 0 l)
    = Dsk m c (ix3 0 0 ⟨l.val / 64, by omega⟩) + Dsk m c (ix3 0 1 ⟨l.val / 64, by omega⟩) := by
  rw [← entry5]; blk_ext [iblk, idx t]
theorem blk6 (l : Fin 1024) : (show Vec Ideal S1x1024 .f32 from iblk m c 6 t) (ix2 0 l) = Nw m c (ix2 0 l) := by
  rw [← entry6]; blk_ext [iblk, idx t]
theorem blk7 (j l : Fin 2048) : (show Vec Ideal S2048x2048 .bf16 from iblk m c 7 t) (ix2 j l) = W m c (ix3 0 j l) := by
  rw [← entry7]; blk_ext [iblk, idx t]
theorem blk8 (r : Fin 256) (l : Fin 2048) : (show Vec Ideal S256x2048 .f32 from iblk m c 8 t) (ix2 r l) = X m c (ix3 0 (row t r) l) := by
  rw [← entry8]; blk_ext [iblk, idx t, row]
theorem blk9 (l : Fin 2048) : (show Vec Ideal S1x2048 .f32 from iblk m c 9 t) (ix2 0 l) = Gt m c (ix3 0 0 l) := by
  rw [← entry9]; blk_ext [iblk, idx t]

theorem nw0_at (p : Fin 512) : (nw0 m c t : Vec Ideal S1x512 .f32) (ix2 0 p) = Nw m c (ix2 0 ⟨0 * 512 + p.val, by omega⟩) := by
  rw [← blk6 m c t]; unfold nw0; pointwise []
theorem nw1_at (p : Fin 512) : (nw1 m c t : Vec Ideal S1x512 .f32) (ix2 0 p) = Nw m c (ix2 0 ⟨1 * 512 + p.val, by omega⟩) := by
  rw [← blk6 m c t]; unfold nw1; pointwise []

/-! ## The result of a point -/

theorem gy_eq (r : Fin 256) (l : Fin 1024) : (gy m c t : FVec Ideal S256x1024 .f32) (ix2 r l)
    = mergeGate (Yf m c) (Yb m c) (Xbc m c) (Z m c) (Dsk m c) (row t r) l := by
  refine (gate_at _ _ _ _ _ r l).trans ?_
  rw [show (iblk m c 1 t : Vec Ideal S256x1024 .f32) (ix2 r l) = _ from blk1 m c t r l,
    show (iblk m c 2 t : Vec Ideal S256x1024 .f32) (ix2 r l) = _ from blk2 m c t r l,
    show (iblk m c 5 t : Vec Ideal S1x1024 .f32) (ix2 0 l) = _ from blk5 m c t l,
    show (X0_3 m c t : Vec Ideal S256x1024 .f32) (ix2 r l) = _ from blk3 m c t r l,
    show (X0_4 m c t : Vec Ideal S256x1024 .f32) (ix2 r l) = _ from blk4 m c t r l]
  rfl

theorem norm0_eq (r : Fin 256) (p : Fin 512) : (norm0 m c t : FVec Ideal S256x512 .bf16) (ix2 r p)
    = mergeNorm (Yf m c) (Yb m c) (Xbc m c) (Z m c) (Dsk m c) (Nw m c) (row t r) 0 p := by
  refine (norm0_at _ _ _ _ _ _ r p).trans ?_
  unfold mergeNorm
  refine congr (congrArg₂ (normed (N := 512) c512) (funext fun p => ?_) (funext fun p => nw0_at m c t p)) rfl
  refine (gy_eq m c t r _).trans (congrArg _ (Fin.ext ?_))
  show p.val = 0 * 512 + p.val
  omega

theorem norm1_eq (r : Fin 256) (p : Fin 512) : (norm1 m c t : FVec Ideal S256x512 .bf16) (ix2 r p)
    = mergeNorm (Yf m c) (Yb m c) (Xbc m c) (Z m c) (Dsk m c) (Nw m c) (row t r) 1 p := by
  refine (norm1_at _ _ r p).trans ?_
  unfold mergeNorm
  refine congr (congrArg₂ (normed (N := 512) c512) (funext fun p => ?_) (funext fun p => nw1_at m c t p)) rfl
  refine (gy_eq m c t r _).trans (congrArg _ (Fin.ext ?_))
  show 512 + p.val = 1 * 512 + p.val
  omega

abbrev res := mergeRes (O m c) (Yf m c) (Yb m c) (Xbc m c) (Z m c) (Dsk m c) (Nw m c) (W m c) (X m c) (Gt m c)

theorem out_eq (r : Fin 256) (l : Fin 2048) : (outsAt0 m c t : Vec Ideal S256x2048 .f32) (ix2 r l) = res m c (row t r) l := by
  obtain ⟨A, hA, hy⟩ := out_all m c t
  rw [hA]
  refine (out_at _ _ A _ r l).trans ?_
  unfold res mergeRes
  refine congr (congrArg _ (blk8 m c t r l)) (congr (congrArg _ (blk9 m c t l)) (Finset.sum_congr rfl fun j _ => congr (congrArg _ ?_) (blk7 m c t j l)))
  refine (hy (ix2 r j)).trans ?_
  have e0 : (ix2 (n0 := 256) (n1 := 2048) r j) 0 = r := rfl
  have e1 : ((ix2 (n0 := 256) (n1 := 2048) r j) 1).val = j.val := rfl
  unfold mergeRow
  by_cases h1 : j.val < 1024
  · rw [if_pos (e1.symm ▸ h1), dif_pos h1]
    refine (heads_at _ _ _).trans ((blk0 m c t r _).trans ?_)
    have hm : j.val % 1024 = j.val := Nat.mod_eq_of_lt h1
    exact congrArg₂ (fun a b => O m c (ix4 0 (row t r) a b)) (Fin.ext (congrArg (· / 128) hm)) (Fin.ext (congrArg (· % 128) hm))
  · rw [if_neg (fun h => h1 (e1 ▸ h)), dif_neg h1]
    by_cases h2 : j.val < 1536
    · rw [if_pos (e1.symm ▸ h2)]
      refine (norm0_eq m c t r _).trans ?_
      refine congrArg₂ (mergeNorm (Yf m c) (Yb m c) (Xbc m c) (Z m c) (Dsk m c) (Nw m c) (row t r)) (Fin.ext ?_) (Fin.ext ?_)
      · show 0 = (j.val - 1024) / 512
        omega
      · show j.val % 512 = (j.val - 1024) % 512
        omega
    · rw [if_neg (fun h => h2 (e1 ▸ h))]
      refine (norm1_eq m c t r _).trans ?_
      refine congrArg₂ (mergeNorm (Yf m c) (Yb m c) (Xbc m c) (Z m c) (Dsk m c) (Nw m c) (row t r)) (Fin.ext ?_) (Fin.ext ?_)
      · show 1 = (j.val - 1024) / 512
        omega
      · show j.val % 512 = (j.val - 1024) % 512
        omega

theorem entry_eq (y : S256x2048.Idx) (R : Fin 16384) (C : Fin 2048) (hR : t.val * 256 + (y 0).val = R.val) (hC : (y 1).val = C.val) :
    (outsAt0 m c t : Vec Ideal S256x2048 .f32) y = res m c R C := by
  obtain rfl : row t (y 0) = R := Fin.ext hR
  obtain rfl : y 1 = C := Fin.ext hC
  exact (congrArg (outsAt0 m c t : Vec Ideal S256x2048 .f32) (eq_ix2 (n0 := 256) (n1 := 2048) y)).trans (out_eq m c t _ _)

/-- The result array. -/
theorem final : (dats m 0 c).arrAt 10 cfg0.N = (show FVec Ideal S16384x2048 .f32 from fun i => res m c (i 0) (i 1)) := by
  refine (dats m 0 c).arrAt_eq_of_covers 10 _ (by decide +kernel) fun t ht y => ?_
  blk_simp
  rw [after0_10]
  have e := (idx t).2.2.2.2.2.2.2.2.2.2
  have b0 : (((cfg0.win 10).blk t).view.emb y 0).val = win0_10.index t (0 : Fin 2) * 256 + 1 * (y 0).val := rfl
  have b1 : (((cfg0.win 10).blk t).view.emb y 1).val = win0_10.index t (1 : Fin 2) * 2048 + 1 * (y 1).val := rfl
  have e0 : win0_10.index t (0 : Fin 2) = t.val := by rw [e]; rfl
  have e1 : win0_10.index t (1 : Fin 2) = 0 := by rw [e]; rfl
  rw [e0] at b0; rw [e1] at b1
  refine entry_eq m c t y _ _ ?_ ?_
  · exact Eq.trans (by omega) b0.symm
  · exact Eq.trans (by omega) b1.symm

end Cert.Kernel6Ideal.Merge

end
-- ==== Proof.MergeRef.lean ====
/- The mixed layer's output projection: what the reference's result holds, entry by entry. -/
module

public import proofs.«01_k».proof.Proof.MergeValue
public import proofs.«01_k».proof.Proof.Gen.Reference6Ideal.Run
public import Idealize.ShloMosaic.Lib.IdealHost

@[expose] public section

set_option maxRecDepth 16384

noncomputable section

namespace Cert.Reference6Ideal.Merge

open Idealize.ShloMosaic Idealize.ShloMosaic.TcCoe Idealize.SL.Sem
open Cert.Reference6Ideal Cert.Reference6Ideal.Gen Cert.Spec Cert.Kernel6Ideal.Merge

/-- Both directions of the scan and the skip. -/
def Skip (yf yb : FVec Ideal S1x16384x2x8x64 .f32) (xbc : FVec Ideal S1x16384x1536 .f32) (d : FVec Ideal S1x2x16 .f32) : FVec Ideal S1x16384x2x8x64 .f32 :=
  addf (addf yf yb) (mulf (broadcastInDim S1x16384x2x8x64 ![0, 1, 2, 3, 4] bcast_S1x1x2x8x1_S1x16384x2x8x64_0_1_2_3_4 (broadcastInDim S1x1x2x8x1 ![2, 3, 4] bcast_S2x8x1_S1x1x2x8x1_2_3_4 (broadcastInDim S2x8x1 ![0, 1] bcast_S2x8_S2x8x1_0_1 (addf (shapeCast _ (extractStridedSlice S1x2x8 ![0, 0, 0] (shapeCast _ (shapeCast _ d shapeCasts_S1x2x16_S2x16) shapeCasts_S2x16_S2x2x8) slices_S2x2x8_S1x2x8_0_0_0) shapeCasts_S1x2x8_S2x8) (shapeCast _ (extractStridedSlice S1x2x8 ![1, 0, 0] (shapeCast _ (shapeCast _ d shapeCasts_S1x2x16_S2x16) shapeCasts_S2x16_S2x2x8) slices_S2x2x8_S1x2x8_1_0_0) shapeCasts_S1x2x8_S2x8))))) (shapeCast _ (extractStridedSlice S1x16384x1024 ![0, 0, 0] xbc slices_S1x16384x1536_S1x16384x1024_0_0_0) shapeCasts_S1x16384x1024_S1x16384x2x8x64))

/-- The heads in their two groups, gated. -/
def Gated (y : FVec Ideal S1x16384x2x8x64 .f32) (z : FVec Ideal S1x16384x1024 .f32) : FVec Ideal S1x16384x2x512 .f32 :=
  mulf (shapeCast _ y shapeCasts_S1x16384x2x8x64_S1x16384x2x512) (mulf (shapeCast _ z shapeCasts_S1x16384x1024_S1x16384x2x512) (Host.divf (broadcastInDim S1x16384x2x512 ![] bcast_S_S1x16384x2x512 (constant S_ .f32 0x3F800000#32)) (addf (broadcastInDim S1x16384x2x512 ![] bcast_S_S1x16384x2x512 (constant S_ .f32 0x3F800000#32)) (Host.exp (Host.negf (shapeCast _ z shapeCasts_S1x16384x1024_S1x16384x2x512))))))

/-- The gated heads, normed over each group. -/
def Normed (u : FVec Ideal S1x16384x2x512 .f32) (nw : FVec Ideal S1x1024 .f32) : FVec Ideal S1x16384x1024 .f32 :=
  shapeCast _ (mulf (mulf u (broadcastInDim S1x16384x2x512 ![0, 1, 2, 3] bcast_S1x16384x2x1_S1x16384x2x512_0_1_2_3 (Host.rsqrt (addf (Host.divf (broadcastInDim S1x16384x2x1 ![0, 1, 2] bcast_S1x16384x2_S1x16384x2x1_0_1_2 (Host.reduceAdd (mulf u u) (constant S_ .f32 0x00000000#32) reducesTo_S1x16384x2x512_S1x16384x2_d3 h_S_)) (broadcastInDim S1x16384x2x1 ![] bcast_S_S1x16384x2x1 (constant S_ .f32 0x44000000#32))) (broadcastInDim S1x16384x2x1 ![] bcast_S_S1x16384x2x1 (constant S_ .f32 0x358637BD#32)))))) (broadcastInDim S1x16384x2x512 ![0, 1, 2, 3] bcast_S1x1x2x512_S1x16384x2x512_0_1_2_3 (broadcastInDim S1x1x2x512 ![2, 3] bcast_S2x512_S1x1x2x512_2_3 (shapeCast _ (shapeCast _ nw shapeCasts_S1x1024_S1024) shapeCasts_S1024_S2x512)))) shapeCasts_S1x16384x2x512_S1x16384x1024

/-- The row that is projected. -/
def Row (o : FVec Ideal S1x16384x8x128 .f32) (n : FVec Ideal S1x16384x1024 .f32) : FVec Ideal S1x16384x2048 .f32 :=
  concatenate S1x16384x2048 2 [⟨S1x16384x1024, (shapeCast _ o shapeCasts_S1x16384x8x128_S1x16384x1024)⟩, ⟨S1x16384x1024, n⟩] concatenates_S1x16384x1024_S1x16384x1024_S1x16384x2048_d2

/-- The projection, gated, on the residual. -/
def Proj (x : FVec Ideal S1x16384x2048 .f32) (g : FVec Ideal S1x1x2048 .f32) (a : FVec Ideal S1x16384x2048 .f32) (w : FVec Ideal S1x2048x2048 .f32) : FVec Ideal S16384x2048 .f32 :=
  shapeCast _ (addf x (mulf (broadcastInDim S1x16384x2048 ![0, 1, 2] bcast_S1x1x2048_S1x16384x2048_0_1_2 g) (Host.dotGeneral dot_S1x16384x2048_S2048x2048_S1x16384x2048_2_0_01_1_n_n none a (shapeCast _ w shapeCasts_S1x2048x2048_S2048x2048)))) shapeCasts_S1x16384x2048_S16384x2048

/-- The reference's result. -/
def REF (o : FVec Ideal S1x16384x8x128 .f32) (yf yb : FVec Ideal S1x16384x2x8x64 .f32) (xbc : FVec Ideal S1x16384x1536 .f32) (z : FVec Ideal S1x16384x1024 .f32) (d : FVec Ideal S1x2x16 .f32) (nw : FVec Ideal S1x1024 .f32)
    (w : FVec Ideal S1x2048x2048 .f32) (x : FVec Ideal S1x16384x2048 .f32) (g : FVec Ideal S1x1x2048 .f32) : FVec Ideal S16384x2048 .f32 :=
  Proj x g (Row o (Normed (Gated (Skip yf yb xbc d) z) nw)) w

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v42) = REF (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) (m ((c.tc : Thread nD τ).loc main_arg7))
        (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun r h c => ⟨(h c).1.trans (by unfold Value.res_main_v42 REF Proj Row Normed Gated Skip; rfl), (h c).2⟩) (Value.run m ρ)

theorem Skip_at (yf yb : FVec Ideal S1x16384x2x8x64 .f32) (xbc : FVec Ideal S1x16384x1536 .f32) (d : FVec Ideal S1x2x16 .f32) (R : Fin 16384) (k : Fin 2) (h : Fin 8) (e : Fin 64) :
    Skip yf yb xbc d (ix5 0 R k h e) = yf (ix5 0 R k h e) + yb (ix5 0 R k h e)
      + (d (ix3 0 0 ⟨k.val * 8 + h.val, by omega⟩) + d (ix3 0 1 ⟨k.val * 8 + h.val, by omega⟩)) * xbc (ix3 0 R ⟨k.val * 512 + h.val * 64 + e.val, by omega⟩) := by
  pointwise [Skip]

theorem Gated_at (y : FVec Ideal S1x16384x2x8x64 .f32) (z : FVec Ideal S1x16384x1024 .f32) (R : Fin 16384) (k : Fin 2) (p : Fin 512) :
    Gated y z (ix4 0 R k p) = y (ix5 0 R k ⟨p.val / 64, by omega⟩ ⟨p.val % 64, by omega⟩) * silu (z (ix3 0 R ⟨k.val * 512 + p.val, by omega⟩)) := by
  pointwise [Gated, silu]

theorem Normed_at (u : FVec Ideal S1x16384x2x512 .f32) (nw : FVec Ideal S1x1024 .f32) (R : Fin 16384) (l : Fin 1024) :
    Normed u nw (ix3 0 R l) = normed c512 (fun p : Fin 512 => u (ix4 0 R ⟨l.val / 512, by omega⟩ p)) (fun p => nw (ix2 0 ⟨l.val / 512 * 512 + p.val, by omega⟩))
      ⟨l.val % 512, by omega⟩ := by
  pointwise [Normed, normed, rms, c512]
  exact congrArg (fun a : Fin 1024 => _ * nw (ix2 0 a)) (Fin.ext (show l.val = l.val / 512 * 512 + l.val % 512 by omega))

theorem Row_at (o : FVec Ideal S1x16384x8x128 .f32) (n : FVec Ideal S1x16384x1024 .f32) (R : Fin 16384) (j : Fin 2048) :
    Row o n (ix3 0 R j) = if h : j.val < 1024 then o (ix4 0 R ⟨j.val / 128, by omega⟩ ⟨j.val % 128, by omega⟩)
      else n (ix3 0 R ⟨j.val - 1024, by omega⟩) := by
  pointwise [Row]

theorem Proj_at (x : FVec Ideal S1x16384x2048 .f32) (g : FVec Ideal S1x1x2048 .f32) (a : FVec Ideal S1x16384x2048 .f32) (w : FVec Ideal S1x2048x2048 .f32) (R : Fin 16384) (l : Fin 2048) :
    Proj x g a w (ix2 R l) = x (ix3 0 R l) + g (ix3 0 0 l) * ∑ j : Fin 2048, a (ix3 0 R j) * w (ix3 0 j l) := by
  pointwise [Proj]

/-- The gated heads, at a group and a column of it. -/
theorem Gated_eq (yf yb : FVec Ideal S1x16384x2x8x64 .f32) (xbc : FVec Ideal S1x16384x1536 .f32) (z : FVec Ideal S1x16384x1024 .f32) (d : FVec Ideal S1x2x16 .f32) (R : Fin 16384) (k : Fin 2) (p : Fin 512) :
    Gated (Skip yf yb xbc d) z (ix4 0 R k p) = mergeGate yf yb xbc z d R ⟨k.val * 512 + p.val, by omega⟩ := by
  rw [Gated_at, Skip_at]
  unfold mergeGate
  have h0 : (⟨(k.val * 512 + p.val) / 512, by omega⟩ : Fin 2) = k := Fin.ext (show (k.val * 512 + p.val) / 512 = k.val by omega)
  have h1 : (⟨(k.val * 512 + p.val) / 64 % 8, by omega⟩ : Fin 8) = ⟨p.val / 64, by omega⟩ := Fin.ext (show (k.val * 512 + p.val) / 64 % 8 = p.val / 64 by omega)
  have h2 : (⟨(k.val * 512 + p.val) % 64, by omega⟩ : Fin 64) = ⟨p.val % 64, by omega⟩ := Fin.ext (show (k.val * 512 + p.val) % 64 = p.val % 64 by omega)
  have h3 : (⟨(k.val * 512 + p.val) / 64, by omega⟩ : Fin 16) = ⟨k.val * 8 + p.val / 64, by omega⟩ :=
    Fin.ext (show (k.val * 512 + p.val) / 64 = k.val * 8 + p.val / 64 by omega)
  have h4 : (⟨k.val * 512 + p.val, by omega⟩ : Fin 1536) = ⟨k.val * 512 + p.val / 64 * 64 + p.val % 64, by omega⟩ :=
    Fin.ext (show k.val * 512 + p.val = k.val * 512 + p.val / 64 * 64 + p.val % 64 by omega)
  dsimp only
  rw [h0, h1, h2, h3, h4]

/-- The reference's result, entry by entry. -/
theorem REF_eq (o : FVec Ideal S1x16384x8x128 .f32) (yf yb : FVec Ideal S1x16384x2x8x64 .f32) (xbc : FVec Ideal S1x16384x1536 .f32) (z : FVec Ideal S1x16384x1024 .f32) (d : FVec Ideal S1x2x16 .f32) (nw : FVec Ideal S1x1024 .f32)
    (w : FVec Ideal S1x2048x2048 .f32) (x : FVec Ideal S1x16384x2048 .f32) (g : FVec Ideal S1x1x2048 .f32) (R : Fin 16384) (l : Fin 2048) : REF o yf yb xbc z d nw w x g (ix2 R l) = mergeRes o yf yb xbc z d nw w x g R l := by
  rw [REF, Proj_at]
  unfold mergeRes
  refine congrArg (fun s => x (ix3 0 R l) + g (ix3 0 0 l) * s) (Finset.sum_congr rfl fun j _ => congrArg (· * w (ix3 0 j l)) ?_)
  rw [Row_at]
  unfold mergeRow
  by_cases h : j.val < 1024
  · rw [dif_pos h, dif_pos h]
  · rw [dif_neg h, dif_neg h, Normed_at]
    simp only [Gated_eq]
    rfl

end Cert.Reference6Ideal.Merge

end
-- ==== Proof.KvBody.lean ====
/- The projection of keys and values: what one grid point writes. -/
module

public import proofs.«01_k».proof.Proof.MergeBody
public import proofs.«01_k».proof.Proof.Gen.Kernel7Ideal.Frame
public import Idealize.ShloMosaic.Lib.Pipeline.ValueKit
public import Idealize.ShloMosaic.Lib.Pointwise

@[expose] public section

set_option maxRecDepth 16384

noncomputable section

namespace Cert.Kernel7Ideal.Kv

open Idealize.ShloMosaic Idealize.ShloMosaic.TcCoe Idealize.SL.Sem
open Cert.Kernel7Ideal Cert.Kernel7Ideal.Gen Cert.Spec
open Cert.Kernel6Ideal.Merge (c512)

/-! ## The stored slices -/

section Slices
variable (B : FVec Ideal S256x2048 .bf16) (r : Fin 256) (d : Fin 128)

theorem key0_at : (k0_pay8 B : FVec Ideal S256x128 .bf16) (ix2 r d) = B (ix2 r ⟨0 + d.val, by omega⟩) := by pointwise [k0_pay8]
theorem key1_at : (k0_pay10 B : FVec Ideal S256x128 .bf16) (ix2 r d) = B (ix2 r ⟨256 + d.val, by omega⟩) := by pointwise [k0_pay10]
theorem key2_at : (k0_pay12 B : FVec Ideal S256x128 .bf16) (ix2 r d) = B (ix2 r ⟨512 + d.val, by omega⟩) := by pointwise [k0_pay12]
theorem key3_at : (k0_pay14 B : FVec Ideal S256x128 .bf16) (ix2 r d) = B (ix2 r ⟨768 + d.val, by omega⟩) := by pointwise [k0_pay14]
theorem key4_at : (k0_pay16 B : FVec Ideal S256x128 .bf16) (ix2 r d) = B (ix2 r ⟨1024 + d.val, by omega⟩) := by pointwise [k0_pay16]
theorem key5_at : (k0_pay18 B : FVec Ideal S256x128 .bf16) (ix2 r d) = B (ix2 r ⟨1280 + d.val, by omega⟩) := by pointwise [k0_pay18]
theorem key6_at : (k0_pay20 B : FVec Ideal S256x128 .bf16) (ix2 r d) = B (ix2 r ⟨1536 + d.val, by omega⟩) := by pointwise [k0_pay20]
theorem key7_at : (k0_pay22 B : FVec Ideal S256x128 .bf16) (ix2 r d) = B (ix2 r ⟨1792 + d.val, by omega⟩) := by pointwise [k0_pay22]
theorem val0_at : (k0_pay9 B : FVec Ideal S256x128 .bf16) (ix2 r d) = B (ix2 r ⟨128 + d.val, by omega⟩) := by pointwise [k0_pay9]
theorem val1_at : (k0_pay11 B : FVec Ideal S256x128 .bf16) (ix2 r d) = B (ix2 r ⟨384 + d.val, by omega⟩) := by pointwise [k0_pay11]
theorem val2_at : (k0_pay13 B : FVec Ideal S256x128 .bf16) (ix2 r d) = B (ix2 r ⟨640 + d.val, by omega⟩) := by pointwise [k0_pay13]
theorem val3_at : (k0_pay15 B : FVec Ideal S256x128 .bf16) (ix2 r d) = B (ix2 r ⟨896 + d.val, by omega⟩) := by pointwise [k0_pay15]
theorem val4_at : (k0_pay17 B : FVec Ideal S256x128 .bf16) (ix2 r d) = B (ix2 r ⟨1152 + d.val, by omega⟩) := by pointwise [k0_pay17]
theorem val5_at : (k0_pay19 B : FVec Ideal S256x128 .bf16) (ix2 r d) = B (ix2 r ⟨1408 + d.val, by omega⟩) := by pointwise [k0_pay19]
theorem val6_at : (k0_pay21 B : FVec Ideal S256x128 .bf16) (ix2 r d) = B (ix2 r ⟨1664 + d.val, by omega⟩) := by pointwise [k0_pay21]
theorem val7_at : (k0_pay23 B : FVec Ideal S256x128 .bf16) (ix2 r d) = B (ix2 r ⟨1920 + d.val, by omega⟩) := by pointwise [k0_pay23]

end Slices

/-! ## The pieces side by side -/

section Points

variable (m : (ℓ : Loc nD τ sig) → Buf (Elt Ideal) ℓ)

/-- The projected rows of a point: each head's key columns, then its value columns. -/
def proj (c : Dev nD) (t : Fin cfg0.N) : FVec Ideal S256x2048 .bf16 :=
  k0_pay1 (grid0.coords t) (X0_1 m c t) (X0_0 m c t) (iblk m c 6 t) (iblk m c 7 t)

/-- The rotary columns every head's key ends with, padded. -/
def tail (c : Dev nD) (t : Fin cfg0.N) : FVec Ideal S256x128 .bf16 :=
  k0_pay7 (Scalar.cmpi CmpIPredicate.sge (BitVec.ofNat 32 (grid0.coords t 0).val) 64#32) (k0_pay3 (grid0.coords t) (iblk m c 3 t) (iblk m c 2 t))
    (k0_pay4 (grid0.coords t) (iblk m c 3 t) (iblk m c 2 t) (iblk m c 4 t)) (k0_pay5 (grid0.coords t) (iblk m c 3 t) (iblk m c 2 t)) (k0_pay6 (iblk m c 5 t))

theorem out_k (c : Dev nD) (t : Fin cfg0.N) (y : S256x2048.Idx) :
    (outsAt0 m c t).1 y = if (y 1).val % 256 < 128 then proj m c t (ix2 (y 0) (y 1))
      else tail m c t (ix2 (y 0) ⟨(y 1).val % 128, Nat.mod_lt _ (by decide)⟩) := by
  unfold outsAt0 out0_A_8
  frame_out
  canon_tiles x e
  · have hy : ¬ (y 1).val % 256 < 128 := by simp only [e1]; omega
    rw [if_neg hy]
    refine congrArg (tail m c t) ((eq_ix2 (n0 := 256) (n1 := 128) x).trans (congr (congrArg ix2 (Fin.ext ?_)) (Fin.ext ?_)))
    · show (x 0).val = (y 0).val
      omega
    · show (x 1).val = (y 1).val % 128
      omega
  · have hy : (y 1).val % 256 < 128 := by simp only [e1]; omega
    rw [if_pos hy, eq_ix2 (n0 := 256) (n1 := 128) x]
    refine (key7_at _ _ _).trans (congrArg (proj m c t) (congr (congrArg ix2 (Fin.ext ?_)) (Fin.ext ?_)))
    · show (x 0).val = (y 0).val
      omega
    · show 1792 + (x 1).val = (y 1).val
      omega
  · have hy : ¬ (y 1).val % 256 < 128 := by simp only [e1]; omega
    rw [if_neg hy]
    refine congrArg (tail m c t) ((eq_ix2 (n0 := 256) (n1 := 128) x).trans (congr (congrArg ix2 (Fin.ext ?_)) (Fin.ext ?_)))
    · show (x 0).val = (y 0).val
      omega
    · show (x 1).val = (y 1).val % 128
      omega
  · have hy : (y 1).val % 256 < 128 := by simp only [e1]; omega
    rw [if_pos hy, eq_ix2 (n0 := 256) (n1 := 128) x]
    refine (key6_at _ _ _).trans (congrArg (proj m c t) (congr (congrArg ix2 (Fin.ext ?_)) (Fin.ext ?_)))
    · show (x 0).val = (y 0).val
      omega
    · show 1536 + (x 1).val = (y 1).val
      omega
  · have hy : ¬ (y 1).val % 256 < 128 := by simp only [e1]; omega
    rw [if_neg hy]
    refine congrArg (tail m c t) ((eq_ix2 (n0 := 256) (n1 := 128) x).trans (congr (congrArg ix2 (Fin.ext ?_)) (Fin.ext ?_)))
    · show (x 0).val = (y 0).val
      omega
    · show (x 1).val = (y 1).val % 128
      omega
  · have hy : (y 1).val % 256 < 128 := by simp only [e1]; omega
    rw [if_pos hy, eq_ix2 (n0 := 256) (n1 := 128) x]
    refine (key5_at _ _ _).trans (congrArg (proj m c t) (congr (congrArg ix2 (Fin.ext ?_)) (Fin.ext ?_)))
    · show (x 0).val = (y 0).val
      omega
    · show 1280 + (x 1).val = (y 1).val
      omega
  · have hy : ¬ (y 1).val % 256 < 128 := by simp only [e1]; omega
    rw [if_neg hy]
    refine congrArg (tail m c t) ((eq_ix2 (n0 := 256) (n1 := 128) x).trans (congr (congrArg ix2 (Fin.ext ?_)) (Fin.ext ?_)))
    · show (x 0).val = (y 0).val
      omega
    · show (x 1).val = (y 1).val % 128
      omega
  · have hy : (y 1).val % 256 < 128 := by simp only [e1]; omega
    rw [if_pos hy, eq_ix2 (n0 := 256) (n1 := 128) x]
    refine (key4_at _ _ _).trans (congrArg (proj m c t) (congr (congrArg ix2 (Fin.ext ?_)) (Fin.ext ?_)))
    · show (x 0).val = (y 0).val
      omega
    · show 1024 + (x 1).val = (y 1).val
      omega
  · have hy : ¬ (y 1).val % 256 < 128 := by simp only [e1]; omega
    rw [if_neg hy]
    refine congrArg (tail m c t) ((eq_ix2 (n0 := 256) (n1 := 128) x).trans (congr (congrArg ix2 (Fin.ext ?_)) (Fin.ext ?_)))
    · show (x 0).val = (y 0).val
      omega
    · show (x 1).val = (y 1).val % 128
      omega
  · have hy : (y 1).val % 256 < 128 := by simp only [e1]; omega
    rw [if_pos hy, eq_ix2 (n0 := 256) (n1 := 128) x]
    refine (key3_at _ _ _).trans (congrArg (proj m c t) (congr (congrArg ix2 (Fin.ext ?_)) (Fin.ext ?_)))
    · show (x 0).val = (y 0).val
      omega
    · show 768 + (x 1).val = (y 1).val
      omega
  · have hy : ¬ (y 1).val % 256 < 128 := by simp only [e1]; omega
    rw [if_neg hy]
    refine congrArg (tail m c t) ((eq_ix2 (n0 := 256) (n1 := 128) x).trans (congr (congrArg ix2 (Fin.ext ?_)) (Fin.ext ?_)))
    · show (x 0).val = (y 0).val
      omega
    · show (x 1).val = (y 1).val % 128
      omega
  · have hy : (y 1).val % 256 < 128 := by simp only [e1]; omega
    rw [if_pos hy, eq_ix2 (n0 := 256) (n1 := 128) x]
    refine (key2_at _ _ _).trans (congrArg (proj m c t) (congr (congrArg ix2 (Fin.ext ?_)) (Fin.ext ?_)))
    · show (x 0).val = (y 0).val
      omega
    · show 512 + (x 1).val = (y 1).val
      omega
  · have hy : ¬ (y 1).val % 256 < 128 := by simp only [e1]; omega
    rw [if_neg hy]
    refine congrArg (tail m c t) ((eq_ix2 (n0 := 256) (n1 := 128) x).trans (congr (congrArg ix2 (Fin.ext ?_)) (Fin.ext ?_)))
    · show (x 0).val = (y 0).val
      omega
    · show (x 1).val = (y 1).val % 128
      omega
  · have hy : (y 1).val % 256 < 128 := by simp only [e1]; omega
    rw [if_pos hy, eq_ix2 (n0 := 256) (n1 := 128) x]
    refine (key1_at _ _ _).trans (congrArg (proj m c t) (congr (congrArg ix2 (Fin.ext ?_)) (Fin.ext ?_)))
    · show (x 0).val = (y 0).val
      omega
    · show 256 + (x 1).val = (y 1).val
      omega
  · have hy : ¬ (y 1).val % 256 < 128 := by simp only [e1]; omega
    rw [if_neg hy]
    refine congrArg (tail m c t) ((eq_ix2 (n0 := 256) (n1 := 128) x).trans (congr (congrArg ix2 (Fin.ext ?_)) (Fin.ext ?_)))
    · show (x 0).val = (y 0).val
      omega
    · show (x 1).val = (y 1).val % 128
      omega
  · have hy : (y 1).val % 256 < 128 := by simp only [e1]; omega
    rw [if_pos hy, eq_ix2 (n0 := 256) (n1 := 128) x]
    refine (key0_at _ _ _).trans (congrArg (proj m c t) (congr (congrArg ix2 (Fin.ext ?_)) (Fin.ext ?_)))
    · show (x 0).val = (y 0).val
      omega
    · show 0 + (x 1).val = (y 1).val
      omega

theorem out_v (c : Dev nD) (t : Fin cfg0.N) (y : S256x1024.Idx) :
    (outsAt0 m c t).2 y = proj m c t (ix2 (y 0) ⟨(y 1).val / 128 * 256 + 128 + (y 1).val % 128, by have : (y 1).val < 1024 := (y 1).isLt; omega⟩) := by
  unfold outsAt0 out0_A_9
  frame_out
  canon_tiles x e
  · rw [eq_ix2 (n0 := 256) (n1 := 128) x]
    refine (val7_at _ _ _).trans (congrArg (proj m c t) (congr (congrArg ix2 (Fin.ext ?_)) (Fin.ext ?_)))
    · show (x 0).val = (y 0).val
      omega
    · show 1920 + (x 1).val = (y 1).val / 128 * 256 + 128 + (y 1).val % 128
      omega
  · rw [eq_ix2 (n0 := 256) (n1 := 128) x]
    refine (val6_at _ _ _).trans (congrArg (proj m c t) (congr (congrArg ix2 (Fin.ext ?_)) (Fin.ext ?_)))
    · show (x 0).val = (y 0).val
      omega
    · show 1664 + (x 1).val = (y 1).val / 128 * 256 + 128 + (y 1).val % 128
      omega
  · rw [eq_ix2 (n0 := 256) (n1 := 128) x]
    refine (val5_at _ _ _).trans (congrArg (proj m c t) (congr (congrArg ix2 (Fin.ext ?_)) (Fin.ext ?_)))
    · show (x 0).val = (y 0).val
      omega
    · show 1408 + (x 1).val = (y 1).val / 128 * 256 + 128 + (y 1).val % 128
      omega
  · rw [eq_ix2 (n0 := 256) (n1 := 128) x]
    refine (val4_at _ _ _).trans (congrArg (proj m c t) (congr (congrArg ix2 (Fin.ext ?_)) (Fin.ext ?_)))
    · show (x 0).val = (y 0).val
      omega
    · show 1152 + (x 1).val = (y 1).val / 128 * 256 + 128 + (y 1).val % 128
      omega
  · rw [eq_ix2 (n0 := 256) (n1 := 128) x]
    refine (val3_at _ _ _).trans (congrArg (proj m c t) (congr (congrArg ix2 (Fin.ext ?_)) (Fin.ext ?_)))
    · show (x 0).val = (y 0).val
      omega
    · show 896 + (x 1).val = (y 1).val / 128 * 256 + 128 + (y 1).val % 128
      omega
  · rw [eq_ix2 (n0 := 256) (n1 := 128) x]
    refine (val2_at _ _ _).trans (congrArg (proj m c t) (congr (congrArg ix2 (Fin.ext ?_)) (Fin.ext ?_)))
    · show (x 0).val = (y 0).val
      omega
    · show 640 + (x 1).val = (y 1).val / 128 * 256 + 128 + (y 1).val % 128
      omega
  · rw [eq_ix2 (n0 := 256) (n1 := 128) x]
    refine (val1_at _ _ _).trans (congrArg (proj m c t) (congr (congrArg ix2 (Fin.ext ?_)) (Fin.ext ?_)))
    · show (x 0).val = (y 0).val
      omega
    · show 384 + (x 1).val = (y 1).val / 128 * 256 + 128 + (y 1).val % 128
      omega
  · rw [eq_ix2 (n0 := 256) (n1 := 128) x]
    refine (val0_at _ _ _).trans (congrArg (proj m c t) (congr (congrArg ix2 (Fin.ext ?_)) (Fin.ext ?_)))
    · show (x 0).val = (y 0).val
      omega
    · show 128 + (x 1).val = (y 1).val / 128 * 256 + 128 + (y 1).val % 128
      omega

end Points

/-! ## The payloads at an index -/

/-- A point works on the context's rows from point 64. -/
theorem cond : ∀ t : Fin cfg0.N, Scalar.cmpi CmpIPredicate.sge (BitVec.ofNat 32 (grid0.coords t 0).val) 64#32 = if t.val < 64 then 0#1 else 1#1 :=
  (by decide +kernel : ∀ t : Fin grid0.N, _)

section AtIndex
variable (i : grid0.Coords) (xc xl : Vec Ideal S256x512 .f32) (nw : Vec Ideal S1x512 .f32) (w : Vec Ideal S512x2048 .bf16)
  (rc rl tc ts : Vec Ideal S256x128 .f32) (r : Fin 256)

theorem proj_lat (hb : Scalar.cmpi CmpIPredicate.sge (BitVec.ofNat 32 (i 0).val) 64#32 = 0#1) (k : Fin 2048) :
    (k0_pay1 i xc xl nw w : FVec Ideal S256x2048 .bf16) (ix2 r k)
      = ∑ j : Fin 512, normed c512 (fun l => xl (ix2 r l)) (fun l => nw (ix2 0 l)) j * w (ix2 j k) := by
  pointwise [k0_pay1, hb, normed, rms, c512]

theorem proj_ctx (hb : Scalar.cmpi CmpIPredicate.sge (BitVec.ofNat 32 (i 0).val) 64#32 = 1#1) (k : Fin 2048) :
    (k0_pay1 i xc xl nw w : FVec Ideal S256x2048 .bf16) (ix2 r k)
      = ∑ j : Fin 512, normed c512 (fun l => xc (ix2 r l)) (fun l => nw (ix2 0 l)) j * w (ix2 j k) := by
  pointwise [k0_pay1, hb, normed, rms, c512]

theorem tail_lat (hb : Scalar.cmpi CmpIPredicate.sge (BitVec.ofNat 32 (i 0).val) 64#32 = 0#1) (e : Fin 64) :
    (k0_pay7 (Scalar.cmpi CmpIPredicate.sge (BitVec.ofNat 32 (i 0).val) 64#32) (k0_pay3 i rc rl) (k0_pay4 i rc rl tc) (k0_pay5 i rc rl) (k0_pay6 ts) :
      FVec Ideal S256x128 .bf16) (ix2 r ⟨e.val, by omega⟩)
      = rl (ix2 r ⟨e.val, by omega⟩) * tc (ix2 r ⟨e.val, by omega⟩) + rl (ix2 r ⟨64 + e.val, by omega⟩) * ts (ix2 r ⟨e.val, by omega⟩) := by
  pointwise [k0_pay2, k0_pay3, k0_pay4, k0_pay5, k0_pay6, k0_pay7, hb]

theorem tail_ctx (hb : Scalar.cmpi CmpIPredicate.sge (BitVec.ofNat 32 (i 0).val) 64#32 = 1#1) (e : Fin 64) :
    (k0_pay7 (Scalar.cmpi CmpIPredicate.sge (BitVec.ofNat 32 (i 0).val) 64#32) (k0_pay3 i rc rl) (k0_pay4 i rc rl tc) (k0_pay5 i rc rl) (k0_pay6 ts) :
      FVec Ideal S256x128 .bf16) (ix2 r ⟨e.val, by omega⟩)
      = rc (ix2 r ⟨e.val, by omega⟩) := by
  pointwise [k0_pay2, k0_pay3, k0_pay4, k0_pay5, k0_pay6, k0_pay7, hb]

end AtIndex

end Cert.Kernel7Ideal.Kv

end
-- ==== Proof.KvEntry.lean ====
/- The projection of keys and values: its mathematics, and the arrays the call finds, entry by entry. -/
module

public import proofs.«01_k».proof.Proof.KvBody
public import Idealize.ShloMosaic.Lib.StableHlo.RunRead

@[expose] public section

set_option maxRecDepth 16384

noncomputable section

namespace Cert.Spec

open Idealize.ShloMosaic

/-- Rotary columns: two axes, each with its 16 first and its 16 second columns. The axis of a column, its frequency, and the two columns of its pair. -/
def rAxis (e : Fin 64) : Fin 2 := ⟨e.val / 32, by omega⟩
def rFreq (e : Fin 64) : Fin 16 := ⟨e.val % 16, by omega⟩
def rLo (e : Fin 64) : Fin 64 := ⟨e.val / 32 * 32 + e.val % 16, by omega⟩
def rHi (e : Fin 64) : Fin 64 := ⟨e.val / 32 * 32 + 16 + e.val % 16, by omega⟩

/-- A row turned by its angles. -/
def rope (x : Fin 64 → EReal) (cs sn : Fin 2 → Fin 16 → EReal) (e : Fin 64) : EReal :=
  if e.val / 16 % 2 = 0 then x (rLo e) * cs (rAxis e) (rFreq e) - x (rHi e) * sn (rAxis e) (rFreq e)
  else x (rLo e) * sn (rAxis e) (rFreq e) + x (rHi e) * cs (rAxis e) (rFreq e)

/-- The columns of a pair exchanged, the first one's sign turned. -/
def rSwap (x : Fin 64 → EReal) (e : Fin 64) : EReal := if e.val / 16 % 2 = 0 then -x (rHi e) else x (rLo e)

/-- The turned row from the row and its exchanged columns. -/
theorem rope_eq (x : Fin 64 → EReal) (cs sn : Fin 2 → Fin 16 → EReal) (e : Fin 64) :
    x e * cs (rAxis e) (rFreq e) + rSwap x e * sn (rAxis e) (rFreq e) = rope x cs sn e := by
  unfold rope rSwap
  by_cases h : e.val / 16 % 2 = 0
  · rw [if_pos h, if_pos h, sub_eq_add_neg, EReal.neg_mul, show rLo e = e from Fin.ext (by show e.val / 32 * 32 + e.val % 16 = e.val; omega)]
  · rw [if_neg h, if_neg h, add_comm, show rHi e = e from Fin.ext (by show e.val / 32 * 32 + 16 + e.val % 16 = e.val; omega)]

end Cert.Spec

namespace Cert.Kernel7Ideal.Kv

open Idealize.ShloMosaic Idealize.ShloMosaic.TcCoe Idealize.SL.Sem
open Cert.Kernel7Ideal Cert.Kernel7Ideal.Gen Cert.Spec

variable (m : (ℓ : Loc nD τ sig) → Buf (Elt Ideal) ℓ) (ρ : Dev nD → PrngReg)

abbrev X0 (c : Dev nD) : FVec Ideal S1x16384x512 .f32 := m ((c : Thread nD τ).loc main_arg0)
abbrev X1 (c : Dev nD) : FVec Ideal S1x16384x64 .f32 := m ((c : Thread nD τ).loc main_arg1)
abbrev X2 (c : Dev nD) : FVec Ideal S1x256x512 .f32 := m ((c : Thread nD τ).loc main_arg2)
abbrev X3 (c : Dev nD) : FVec Ideal S1x256x64 .f32 := m ((c : Thread nD τ).loc main_arg3)
abbrev X4 (c : Dev nD) : FVec Ideal S1x512 .f32 := m ((c : Thread nD τ).loc main_arg4)
abbrev X5 (c : Dev nD) : FVec Ideal S1x512x2048 .f32 := m ((c : Thread nD τ).loc main_arg5)
abbrev X6 (c : Dev nD) : FVec Ideal S16384x2x16 .f32 := m ((c : Thread nD τ).loc main_arg6)
abbrev X7 (c : Dev nD) : FVec Ideal S16384x2x16 .f32 := m ((c : Thread nD τ).loc main_arg7)

/-- An array at the call, after the host operations before it. -/
theorem V_eq (c : Dev nD) (b : Ref sig .tc) : V m c b = StableHlo.after hostOps0 (fun b => m (c, b)) (Proc.devRef .tc b) := by
  rfl

variable (c : Dev nD)

/-- The columns the call's first array holds side by side (the latents' rows). -/
def catL (z : FVec Ideal S16384x3072 .f32) (a : FVec Ideal S16384x512 .f32) (b d : FVec Ideal S16384x64 .f32) (z' : FVec Ideal S16384x128 .f32) : FVec Ideal S16384x3840 .f32 :=
  concatenate S16384x3840 1 [⟨S16384x3072, z⟩, ⟨S16384x512, a⟩, ⟨S16384x64, b⟩, ⟨S16384x64, d⟩, ⟨S16384x128, z'⟩]
    concatenates_S16384x3072_S16384x512_S16384x64_S16384x64_S16384x128_S16384x3840_d1

section CatL
variable (z : FVec Ideal S16384x3072 .f32) (a : FVec Ideal S16384x512 .f32) (b d : FVec Ideal S16384x64 .f32) (z' : FVec Ideal S16384x128 .f32) (R : Fin 16384)
theorem catL1 (k : Fin 512) (K : Fin 3840) (h : 3072 + k.val = K.val) : catL z a b d z' (ix2 R K) = a (ix2 R k) :=
  concatenate_apply_piece (t := S16384x3840) 1 _ _ (ix2 R K) 1 (by simp) S16384x512 a rfl rfl 3072 rfl (ix2 R k) (fun | ⟨0, _⟩, _ => rfl | ⟨1, _⟩, hb => absurd rfl hb) h
theorem catL2 (k : Fin 64) (K : Fin 3840) (h : 3584 + k.val = K.val) : catL z a b d z' (ix2 R K) = b (ix2 R k) :=
  concatenate_apply_piece (t := S16384x3840) 1 _ _ (ix2 R K) 2 (by simp) S16384x64 b rfl rfl 3584 rfl (ix2 R k) (fun | ⟨0, _⟩, _ => rfl | ⟨1, _⟩, hb => absurd rfl hb) h
theorem catL3 (k : Fin 64) (K : Fin 3840) (h : 3648 + k.val = K.val) : catL z a b d z' (ix2 R K) = d (ix2 R k) :=
  concatenate_apply_piece (t := S16384x3840) 1 _ _ (ix2 R K) 3 (by simp) S16384x64 d rfl rfl 3648 rfl (ix2 R k) (fun | ⟨0, _⟩, _ => rfl | ⟨1, _⟩, hb => absurd rfl hb) h
end CatL

/-- The columns the call's first array holds side by side (the context's rows). -/
def catC (z : FVec Ideal S256x3072 .f32) (a : FVec Ideal S256x512 .f32) (b d : FVec Ideal S256x64 .f32) (z' : FVec Ideal S256x128 .f32) : FVec Ideal S256x3840 .f32 :=
  concatenate S256x3840 1 [⟨S256x3072, z⟩, ⟨S256x512, a⟩, ⟨S256x64, b⟩, ⟨S256x64, d⟩, ⟨S256x128, z'⟩]
    concatenates_S256x3072_S256x512_S256x64_S256x64_S256x128_S256x3840_d1

section CatC
variable (z : FVec Ideal S256x3072 .f32) (a : FVec Ideal S256x512 .f32) (b d : FVec Ideal S256x64 .f32) (z' : FVec Ideal S256x128 .f32) (R : Fin 256)
theorem catC1 (k : Fin 512) (K : Fin 3840) (h : 3072 + k.val = K.val) : catC z a b d z' (ix2 R K) = a (ix2 R k) :=
  concatenate_apply_piece (t := S256x3840) 1 _ _ (ix2 R K) 1 (by simp) S256x512 a rfl rfl 3072 rfl (ix2 R k) (fun | ⟨0, _⟩, _ => rfl | ⟨1, _⟩, hb => absurd rfl hb) h
theorem catC2 (k : Fin 64) (K : Fin 3840) (h : 3584 + k.val = K.val) : catC z a b d z' (ix2 R K) = b (ix2 R k) :=
  concatenate_apply_piece (t := S256x3840) 1 _ _ (ix2 R K) 2 (by simp) S256x64 b rfl rfl 3584 rfl (ix2 R k) (fun | ⟨0, _⟩, _ => rfl | ⟨1, _⟩, hb => absurd rfl hb) h
theorem catC3 (k : Fin 64) (K : Fin 3840) (h : 3648 + k.val = K.val) : catC z a b d z' (ix2 R K) = d (ix2 R k) :=
  concatenate_apply_piece (t := S256x3840) 1 _ _ (ix2 R K) 3 (by simp) S256x64 d rfl rfl 3648 rfl (ix2 R k) (fun | ⟨0, _⟩, _ => rfl | ⟨1, _⟩, hb => absurd rfl hb) h
end CatC

/-- The exchanged rotary columns, as the host code builds them. -/
def swapped (x : FVec Ideal S1x16384x64 .f32) : FVec Ideal S16384x64 .f32 :=
  shapeCast _ (concatenate S16384x2x2x16 2 [⟨S16384x2x1x16, broadcastInDim S16384x2x1x16 ![0, 1, 3] bcast_S16384x2x16_S16384x2x1x16_0_1_3
      (Host.negf (shapeCast _ (extractStridedSlice S16384x2x1x16 ![0, 0, 1, 0] (shapeCast S16384x2x2x16 (shapeCast S16384x64 x shapeCasts_S1x16384x64_S16384x64) shapeCasts_S16384x64_S16384x2x2x16) slices_S16384x2x2x16_S16384x2x1x16_0_0_1_0) shapeCasts_S16384x2x1x16_S16384x2x16))⟩,
    ⟨S16384x2x1x16, broadcastInDim S16384x2x1x16 ![0, 1, 3] bcast_S16384x2x16_S16384x2x1x16_0_1_3
      (shapeCast _ (extractStridedSlice S16384x2x1x16 ![0, 0, 0, 0] (shapeCast S16384x2x2x16 (shapeCast S16384x64 x shapeCasts_S1x16384x64_S16384x64) shapeCasts_S16384x64_S16384x2x2x16) slices_S16384x2x2x16_S16384x2x1x16_0_0_0_0) shapeCasts_S16384x2x1x16_S16384x2x16)⟩]
    concatenates_S16384x2x1x16_S16384x2x1x16_S16384x2x2x16_d2) shapeCasts_S16384x2x2x16_S16384x64

theorem swapped_at (x : FVec Ideal S1x16384x64 .f32) (R : Fin 16384) (e : Fin 64) : swapped x (ix2 R e) = rSwap (fun e => x (ix3 0 R e)) e := by
  unfold rSwap
  by_cases h : e.val / 16 % 2 = 0
  · rw [if_pos h]
    pointwise [swapped, rHi]
    exact dif_pos (by omega)
  · rw [if_neg h]
    pointwise [swapped, rLo]
    exact dif_neg (by omega)

theorem V17_eq : ∃ (z : FVec Ideal S16384x3072 .f32) (z' : FVec Ideal S16384x128 .f32), (show FVec Ideal S16384x3840 .f32 from V m c main_v17)
    = catL z (shapeCast _ (X0 m c) shapeCasts_S1x16384x512_S16384x512) (shapeCast _ (X1 m c) shapeCasts_S1x16384x64_S16384x64)
      (shapeCast _ (broadcastInDim S1x16384x64 ![1, 2] bcast_S16384x64_S1x16384x64_1_2 (swapped (X1 m c))) shapeCasts_S1x16384x64_S16384x64) z' := by
  rw [V_eq]; after_reads_simp
  unfold catL swapped
  exact ⟨_, _, rfl⟩

theorem V35_eq : ∃ (z : FVec Ideal S256x3072 .f32) (d : FVec Ideal S256x64 .f32) (z' : FVec Ideal S256x128 .f32), (show FVec Ideal S256x3840 .f32 from V m c main_v35)
    = catC z (shapeCast _ (X2 m c) shapeCasts_S1x256x512_S256x512) (shapeCast _ (X3 m c) shapeCasts_S1x256x64_S256x64) d z' := by
  rw [V_eq]; after_reads_simp
  unfold catC
  exact ⟨_, _, _, rfl⟩

theorem e17_ckv (R : Fin 16384) (l : Fin 512) (K : Fin 3840) (h : 3072 + l.val = K.val) :
    (show FVec Ideal S16384x3840 .f32 from V m c main_v17) (ix2 R K) = X0 m c (ix3 0 R l) := by
  obtain ⟨z, z', e⟩ := V17_eq m c
  rw [e, catL1 _ _ _ _ _ R l K h]; pointwise
theorem e17_kr (R : Fin 16384) (e : Fin 64) (K : Fin 3840) (h : 3584 + e.val = K.val) :
    (show FVec Ideal S16384x3840 .f32 from V m c main_v17) (ix2 R K) = X1 m c (ix3 0 R e) := by
  obtain ⟨z, z', eq⟩ := V17_eq m c
  rw [eq, catL2 _ _ _ _ _ R e K h]; pointwise
theorem e17_sw (R : Fin 16384) (e : Fin 64) (K : Fin 3840) (h : 3648 + e.val = K.val) :
    (show FVec Ideal S16384x3840 .f32 from V m c main_v17) (ix2 R K) = rSwap (fun e => X1 m c (ix3 0 R e)) e := by
  obtain ⟨z, z', eq⟩ := V17_eq m c
  rw [eq, catL3 _ _ _ _ _ R e K h, ← swapped_at]
  generalize swapped (X1 m c) = y
  pointwise
theorem e35_ckv (R : Fin 256) (l : Fin 512) (K : Fin 3840) (h : 3072 + l.val = K.val) :
    (show FVec Ideal S256x3840 .f32 from V m c main_v35) (ix2 R K) = X2 m c (ix3 0 R l) := by
  obtain ⟨z, d, z', e⟩ := V35_eq m c
  rw [e, catC1 _ _ _ _ _ R l K h]; pointwise
theorem e35_kr (R : Fin 256) (e : Fin 64) (K : Fin 3840) (h : 3584 + e.val = K.val) :
    (show FVec Ideal S256x3840 .f32 from V m c main_v35) (ix2 R K) = X3 m c (ix3 0 R e) := by
  obtain ⟨z, d, z', eq⟩ := V35_eq m c
  rw [eq, catC2 _ _ _ _ _ R e K h]; pointwise
theorem e40 (R : Fin 16384) (e : Fin 64) : (show FVec Ideal S16384x128 .f32 from V m c main_v40) (ix2 R ⟨e.val, by omega⟩) = X6 m c (ix3 R (rAxis e) (rFreq e)) := by
  rw [V_eq]; entry_read; pointwise [rAxis, rFreq]
theorem e44 (R : Fin 16384) (e : Fin 64) : (show FVec Ideal S16384x128 .f32 from V m c main_v44) (ix2 R ⟨e.val, by omega⟩) = X7 m c (ix3 R (rAxis e) (rFreq e)) := by
  rw [V_eq]; entry_read; pointwise [rAxis, rFreq]
theorem e48 (l : Fin 512) : (show FVec Ideal S1x512 .f32 from V m c main_v48) (ix2 0 l) = X4 m c (ix2 0 l) := by
  rw [V_eq]; entry_read; pointwise
theorem e47 (j : Fin 512) (k : Fin 2048) : (show FVec Ideal S512x2048 .bf16 from V m c main_v47) (ix2 j k) = X5 m c (ix3 0 j k) := by
  rw [V_eq]; entry_read; pointwise

end Cert.Kernel7Ideal.Kv

end
-- ==== Proof.KvValue.lean ====
/- The projection of keys and values: what the program's two results hold, entry by entry. -/
module

public import proofs.«01_k».proof.Proof.KvEntry
public import Idealize.ShloMosaic.Lib.Claim

@[expose] public section

set_option maxRecDepth 16384

noncomputable section

namespace Cert.Spec

open Idealize.ShloMosaic
open Cert.Kernel6Ideal.Merge (c512)

/-- A normed row's projection. -/
def kvRow (x : Fin 512 → EReal) (nw : (⟨2, ![1, 512]⟩ : Shape).Idx → EReal) (w : (⟨3, ![1, 512, 2048]⟩ : Shape).Idx → EReal) (k : Fin 2048) : EReal :=
  ∑ j : Fin 512, normed c512 x (fun l => nw (ix2 0 l)) j * w (ix3 0 j k)

section Results
variable (x : (⟨3, ![1, 16384, 512]⟩ : Shape).Idx → EReal) (kr : (⟨3, ![1, 16384, 64]⟩ : Shape).Idx → EReal)
  (xc : (⟨3, ![1, 256, 512]⟩ : Shape).Idx → EReal) (krc : (⟨3, ![1, 256, 64]⟩ : Shape).Idx → EReal)
  (nw : (⟨2, ![1, 512]⟩ : Shape).Idx → EReal) (w : (⟨3, ![1, 512, 2048]⟩ : Shape).Idx → EReal)
  (cs sn : (⟨3, ![16384, 2, 16]⟩ : Shape).Idx → EReal)

/-- The projection of row `R`: the context's 256 rows first. -/
def kvProj (R : Fin 16640) (k : Fin 2048) : EReal :=
  if h : R.val < 256 then kvRow (fun l => xc (ix3 0 ⟨R.val, h⟩ l)) nw w k else kvRow (fun l => x (ix3 0 ⟨R.val - 256, by omega⟩ l)) nw w k

/-- The rotary columns of row `R`: the context's are not turned. -/
def kvRot (R : Fin 16640) (e : Fin 64) : EReal :=
  if h : R.val < 256 then krc (ix3 0 ⟨R.val, h⟩ e)
  else rope (fun e => kr (ix3 0 ⟨R.val - 256, by omega⟩ e)) (fun a f => cs (ix3 ⟨R.val - 256, by omega⟩ a f)) (fun a f => sn (ix3 ⟨R.val - 256, by omega⟩ a f)) e

/-- The keys: 128 projected columns, then 64 rotary ones. -/
def kvKey (R : Fin 16640) (h : Fin 8) (d : Fin 192) : EReal :=
  if hd : d.val < 128 then kvProj x xc nw w R ⟨h.val * 256 + d.val, by omega⟩ else kvRot kr krc cs sn R ⟨d.val - 128, by omega⟩

/-- The values: the other 128 projected columns. -/
def kvVal (R : Fin 16640) (h : Fin 8) (d : Fin 128) : EReal :=
  kvProj x xc nw w R ⟨h.val * 256 + 128 + d.val, by omega⟩

end Results

end Cert.Spec

namespace Cert.Kernel7Ideal.Kv

open Idealize.ShloMosaic Idealize.ShloMosaic.TcCoe Idealize.SL.Sem
open Cert.Kernel7Ideal Cert.Kernel7Ideal.Gen Cert.Spec
open Cert.Kernel6Ideal.Merge (c512)

variable (m : (ℓ : Loc nD τ sig) → Buf (Elt Ideal) ℓ) (ρ : Dev nD → PrngReg)

/-- The windows' blocks at every point. -/
theorem idx : ∀ t : Fin cfg0.N,
    (t.val < 64 → win0_0.index t = ![t.val, 6]) ∧ win0_1.index t = ![0, 6] ∧ (t.val < 64 → win0_2.index t = ![t.val, 28]) ∧ win0_3.index t = ![0, 28]
    ∧ (t.val < 64 → win0_4.index t = ![t.val, 0]) ∧ (t.val < 64 → win0_5.index t = ![t.val, 0]) ∧ win0_6.index t = ![0, 0] ∧ win0_7.index t = ![0, 0]
    ∧ win0_8.index t = ![t.val, 0] ∧ win0_9.index t = ![t.val, 0] :=
  (by decide +kernel : ∀ t : Fin grid0.N, _)

theorem N_eq : cfg0.N = 65 := N_0

variable (c : Dev nD)

/-! ## The blocks a point reads -/

section Blocks
variable (t : Fin cfg0.N)

/-- The latents' row that row `r` of point `t` is. -/
def row (t : Fin cfg0.N) (h : t.val < 64) (r : Fin 256) : Fin 16384 := ⟨t.val * 256 + r.val, by omega⟩

theorem blk0 (h : t.val < 64) (r : Fin 256) (l : Fin 512) : (show Vec Ideal S256x512 .f32 from X0_0 m c t) (ix2 r l) = X0 m c (ix3 0 (row t h r) l) := by
  rw [← e17_ckv m c (row t h r) l ⟨6 * 512 + l.val, by omega⟩ (by show 3072 + l.val = 6 * 512 + l.val; omega)]
  refine (dif_pos (moved0_0 t (ix2 (n0 := 256) (n1 := 512) r l))).trans ?_
  blk_ext [iblk, (idx t).1 h, row]
theorem blk1 (r : Fin 256) (l : Fin 512) : (show Vec Ideal S256x512 .f32 from X0_1 m c t) (ix2 r l) = X2 m c (ix3 0 r l) := by
  rw [← e35_ckv m c r l ⟨6 * 512 + l.val, by omega⟩ (by show 3072 + l.val = 6 * 512 + l.val; omega)]
  unfold X0_1 Pipeline.Window.fill
  refine (dif_pos (moved0_1 t (ix2 (n0 := 256) (n1 := 512) r l))).trans ?_
  blk_ext [iblk, (idx t).2.1]
theorem blk2 (h : t.val < 64) (r : Fin 256) (e : Fin 64) :
    (show Vec Ideal S256x128 .f32 from iblk m c 2 t) (ix2 r ⟨e.val, by omega⟩) = X1 m c (ix3 0 (row t h r) e) := by
  rw [← e17_kr m c (row t h r) e ⟨28 * 128 + e.val, by omega⟩ (by show 3584 + e.val = 28 * 128 + e.val; omega)]
  blk_ext [iblk, (idx t).2.2.1 h, row]
theorem blk2s (h : t.val < 64) (r : Fin 256) (e : Fin 64) :
    (show Vec Ideal S256x128 .f32 from iblk m c 2 t) (ix2 r ⟨64 + e.val, by omega⟩) = rSwap (fun e => X1 m c (ix3 0 (row t h r) e)) e := by
  rw [← e17_sw m c (row t h r) e ⟨28 * 128 + (64 + e.val), by omega⟩ (by show 3648 + e.val = 28 * 128 + (64 + e.val); omega)]
  blk_ext [iblk, (idx t).2.2.1 h, row]
theorem blk3 (r : Fin 256) (e : Fin 64) : (show Vec Ideal S256x128 .f32 from iblk m c 3 t) (ix2 r ⟨e.val, by omega⟩) = X3 m c (ix3 0 r e) := by
  rw [← e35_kr m c r e ⟨28 * 128 + e.val, by omega⟩ (by show 3584 + e.val = 28 * 128 + e.val; omega)]
  blk_ext [iblk, (idx t).2.2.2.1]
theorem blk4 (h : t.val < 64) (r : Fin 256) (e : Fin 64) :
    (show Vec Ideal S256x128 .f32 from iblk m c 4 t) (ix2 r ⟨e.val, by omega⟩) = X6 m c (ix3 (row t h r) (rAxis e) (rFreq e)) := by
  rw [← e40]; blk_ext [iblk, (idx t).2.2.2.2.1 h, row]
theorem blk5 (h : t.val < 64) (r : Fin 256) (e : Fin 64) :
    (show Vec Ideal S256x128 .f32 from iblk m c 5 t) (ix2 r ⟨e.val, by omega⟩) = X7 m c (ix3 (row t h r) (rAxis e) (rFreq e)) := by
  rw [← e44]; blk_ext [iblk, (idx t).2.2.2.2.2.1 h, row]
theorem blk6 (l : Fin 512) : (show Vec Ideal S1x512 .f32 from iblk m c 6 t) (ix2 0 l) = X4 m c (ix2 0 l) := by
  rw [← e48]; blk_ext [iblk, (idx t).2.2.2.2.2.2.1]
theorem blk7 (j : Fin 512) (k : Fin 2048) : (show Vec Ideal S512x2048 .bf16 from iblk m c 7 t) (ix2 j k) = X5 m c (ix3 0 j k) := by
  rw [← e47]; blk_ext [iblk, (idx t).2.2.2.2.2.2.2.1]

end Blocks

/-! ## What a point computes, in the arguments -/

/-- The row of the results that row `r` of point `t` is: the last point's rows are the context's, which come first. -/
def resRow (t : Fin cfg0.N) (r : Fin 256) : Fin 16640 := ⟨if t.val < 64 then 256 + t.val * 256 + r.val else r.val, by split <;> omega⟩

abbrev prj := kvProj (X0 m c) (X2 m c) (X4 m c) (X5 m c)
abbrev rot := kvRot (X1 m c) (X3 m c) (X6 m c) (X7 m c)
abbrev key := kvKey (X0 m c) (X1 m c) (X2 m c) (X3 m c) (X4 m c) (X5 m c) (X6 m c) (X7 m c)
abbrev val := kvVal (X0 m c) (X2 m c) (X4 m c) (X5 m c)

theorem cond_lat (t : Fin cfg0.N) (h : t.val < 64) : Scalar.cmpi CmpIPredicate.sge (BitVec.ofNat 32 (grid0.coords t 0).val) 64#32 = 0#1 :=
  (cond t).trans (if_pos h)
theorem cond_ctx (t : Fin cfg0.N) (h : ¬ t.val < 64) : Scalar.cmpi CmpIPredicate.sge (BitVec.ofNat 32 (grid0.coords t 0).val) 64#32 = 1#1 :=
  (cond t).trans (if_neg h)

theorem row_lat (t : Fin cfg0.N) (h : t.val < 64) (r : Fin 256) : (resRow t r).val = 256 + t.val * 256 + r.val := if_pos h
theorem row_ctx (t : Fin cfg0.N) (h : ¬ t.val < 64) (r : Fin 256) : (resRow t r).val = r.val := if_neg h

theorem proj_eq (t : Fin cfg0.N) (r : Fin 256) (k : Fin 2048) : proj m c t (ix2 r k) = prj m c (resRow t r) k := by
  unfold proj prj kvProj
  by_cases h : t.val < 64
  · have hr := row_lat t h r
    rw [dif_neg (by omega)]
    refine (proj_lat _ _ _ _ _ r (cond_lat t h) k).trans ?_
    unfold kvRow
    refine Finset.sum_congr rfl fun j _ => congr (congrArg _ ?_) (blk7 m c t j k)
    congr 1
    · funext l
      refine (blk0 m c t h r l).trans (congrArg (fun R => X0 m c (ix3 0 R l)) (Fin.ext ?_))
      show t.val * 256 + r.val = (resRow t r).val - 256
      omega
    · funext l; exact blk6 m c t l
  · have hr := row_ctx t h r
    rw [dif_pos (by omega)]
    refine (proj_ctx _ _ _ _ _ r (cond_ctx t h) k).trans ?_
    unfold kvRow
    refine Finset.sum_congr rfl fun j _ => congr (congrArg _ ?_) (blk7 m c t j k)
    congr 1
    · funext l
      exact (blk1 m c t r l).trans (congrArg (fun R => X2 m c (ix3 0 R l)) (Fin.ext hr.symm))
    · funext l; exact blk6 m c t l

theorem tail_eq' (t : Fin cfg0.N) (r : Fin 256) (e : Fin 64) : tail m c t (ix2 r ⟨e.val, by omega⟩) = rot m c (resRow t r) e := by
  unfold tail rot kvRot
  by_cases h : t.val < 64
  · have hr := row_lat t h r
    rw [dif_neg (by omega)]
    refine (tail_lat _ _ _ _ _ r (cond_lat t h) e).trans ?_
    have hR : row t h r = (⟨(resRow t r).val - 256, by omega⟩ : Fin 16384) := Fin.ext (by show t.val * 256 + r.val = (resRow t r).val - 256; omega)
    rw [← hR, ← rope_eq]
    exact congr (congrArg _ (congr (congrArg _ (blk2 m c t h r e)) (blk4 m c t h r e))) (congr (congrArg _ (blk2s m c t h r e)) (blk5 m c t h r e))
  · have hr := row_ctx t h r
    rw [dif_pos (by omega)]
    refine (tail_ctx _ _ _ _ _ r (cond_ctx t h) e).trans ((blk3 m c t r e).trans (congrArg (fun R => X3 m c (ix3 0 R e)) (Fin.ext hr.symm)))

theorem point_key (t : Fin cfg0.N) (r : Fin 256) (h : Fin 8) (d : Fin 192) :
    (outsAt0 m c t).1 (ix2 r ⟨h.val * 256 + d.val, by omega⟩) = key m c (resRow t r) h d := by
  refine (out_k m c t _).trans ?_
  unfold key kvKey
  by_cases hd : d.val < 128
  · have e : (h.val * 256 + d.val) % 256 < 128 := by omega
    rw [dif_pos hd]
    refine (if_pos e).trans ?_
    exact proj_eq m c t r ⟨h.val * 256 + d.val, by omega⟩
  · have e : ¬ (h.val * 256 + d.val) % 256 < 128 := by omega
    rw [dif_neg hd]
    refine (if_neg e).trans ?_
    refine Eq.trans (congrArg (fun k => tail m c t (ix2 r k)) (Fin.ext ?_)) (tail_eq' m c t r ⟨d.val - 128, by omega⟩)
    show (h.val * 256 + d.val) % 128 = d.val - 128
    omega

theorem point_val (t : Fin cfg0.N) (r : Fin 256) (h : Fin 8) (d : Fin 128) :
    (outsAt0 m c t).2 (ix2 r ⟨h.val * 128 + d.val, by omega⟩) = val m c (resRow t r) h d := by
  refine (out_v m c t _).trans ?_
  unfold val kvVal
  refine Eq.trans (congrArg (fun k => proj m c t (ix2 r k)) (Fin.ext ?_)) (proj_eq m c t r ⟨h.val * 256 + 128 + d.val, by omega⟩)
  show (h.val * 128 + d.val) / 128 * 256 + 128 + (h.val * 128 + d.val) % 128 = h.val * 256 + 128 + d.val
  omega

/-! ## The call's arrays -/

/-- The point that writes a row, and the row within its block. -/
def pt (R : Fin 16640) : Fin cfg0.N := ⟨R.val / 256, by rw [N_eq]; omega⟩
def rw' (R : Fin 16640) : Fin 256 := ⟨R.val % 256, by omega⟩

theorem k_eq (t : Fin cfg0.N) (y : S256x2048.Idx) (R : Fin 16640) (C : Fin 2048) (hR : t.val * 256 + (y 0).val = R.val) (hC : (y 1).val = C.val) :
    (outsAt0 m c t).1 y = (outsAt0 m c (pt R)).1 (ix2 (rw' R) C) := by
  have h0 : (y 0).val < 256 := (y 0).isLt
  obtain rfl : t = pt R := Fin.ext (by show t.val = R.val / 256; omega)
  refine congrArg _ ((eq_ix2 (n0 := 256) (n1 := 2048) y).trans (congr (congrArg ix2 (Fin.ext ?_)) (Fin.ext hC)))
  show (y 0).val = R.val % 256
  omega

theorem v_eq (t : Fin cfg0.N) (y : S256x1024.Idx) (R : Fin 16640) (C : Fin 1024) (hR : t.val * 256 + (y 0).val = R.val) (hC : (y 1).val = C.val) :
    (outsAt0 m c t).2 y = (outsAt0 m c (pt R)).2 (ix2 (rw' R) C) := by
  have h0 : (y 0).val < 256 := (y 0).isLt
  obtain rfl : t = pt R := Fin.ext (by show t.val = R.val / 256; omega)
  refine congrArg _ ((eq_ix2 (n0 := 256) (n1 := 1024) y).trans (congr (congrArg ix2 (Fin.ext ?_)) (Fin.ext hC)))
  show (y 0).val = R.val % 256
  omega

theorem final_k : (dats m 0 c).arrAt 8 cfg0.N = (show FVec Ideal S16640x2048 .bf16 from fun i => (outsAt0 m c (pt (i 0))).1 (ix2 (rw' (i 0)) (i 1))) := by
  refine (dats m 0 c).arrAt_eq_of_covers 8 _ (by decide +kernel) fun t ht y => ?_
  blk_simp
  rw [after0_8]
  have e := (idx t).2.2.2.2.2.2.2.2.1
  have b0 : (((cfg0.win 8).blk t).view.emb y 0).val = win0_8.index t (0 : Fin 2) * 256 + 1 * (y 0).val := rfl
  have b1 : (((cfg0.win 8).blk t).view.emb y 1).val = win0_8.index t (1 : Fin 2) * 2048 + 1 * (y 1).val := rfl
  have e0 : win0_8.index t (0 : Fin 2) = t.val := by rw [e]; rfl
  have e1 : win0_8.index t (1 : Fin 2) = 0 := by rw [e]; rfl
  rw [e0] at b0; rw [e1] at b1
  refine k_eq m c t y _ _ ?_ ?_
  · exact Eq.trans (by omega) b0.symm
  · exact Eq.trans (by omega) b1.symm

theorem final_v : (dats m 0 c).arrAt 9 cfg0.N = (show FVec Ideal S16640x1024 .bf16 from fun i => (outsAt0 m c (pt (i 0))).2 (ix2 (rw' (i 0)) (i 1))) := by
  refine (dats m 0 c).arrAt_eq_of_covers 9 _ (by decide +kernel) fun t ht y => ?_
  blk_simp
  rw [after0_9]
  have e := (idx t).2.2.2.2.2.2.2.2.2
  have b0 : (((cfg0.win 9).blk t).view.emb y 0).val = win0_9.index t (0 : Fin 2) * 256 + 1 * (y 0).val := rfl
  have b1 : (((cfg0.win 9).blk t).view.emb y 1).val = win0_9.index t (1 : Fin 2) * 1024 + 1 * (y 1).val := rfl
  have e0 : win0_9.index t (0 : Fin 2) = t.val := by rw [e]; rfl
  have e1 : win0_9.index t (1 : Fin 2) = 0 := by rw [e]; rfl
  rw [e0] at b0; rw [e1] at b1
  refine v_eq m c t y _ _ ?_ ?_
  · exact Eq.trans (by omega) b0.symm
  · exact Eq.trans (by omega) b1.symm

/-! ## The host operations after the call -/

/-- The keys: heads apart, their first 192 columns, the context's rows first. -/
def backK (p : FVec Ideal S16640x2048 .bf16) : FVec Ideal S1x16640x8x192 .bf16 :=
  broadcastInDim S1x16640x8x192 ![1, 2, 3] bcast_S16640x8x192_S1x16640x8x192_1_2_3
    (concatenate S16640x8x192 0 [⟨S256x8x192, extractStridedSlice S256x8x192 ![16384, 0, 0] (extractStridedSlice S16640x8x192 ![0, 0, 0] (shapeCast S16640x8x256 p shapeCasts_S16640x2048_S16640x8x256) slices_S16640x8x256_S16640x8x192_0_0_0) slices_S16640x8x192_S256x8x192_16384_0_0⟩,
      ⟨S16384x8x192, extractStridedSlice S16384x8x192 ![0, 0, 0] (extractStridedSlice S16640x8x192 ![0, 0, 0] (shapeCast S16640x8x256 p shapeCasts_S16640x2048_S16640x8x256) slices_S16640x8x256_S16640x8x192_0_0_0) slices_S16640x8x192_S16384x8x192_0_0_0⟩] concatenates_S256x8x192_S16384x8x192_S16640x8x192_d0)

/-- The values: heads apart, the context's rows first. -/
def backV (p : FVec Ideal S16640x1024 .bf16) : FVec Ideal S1x16640x8x128 .bf16 :=
  broadcastInDim S1x16640x8x128 ![1, 2, 3] bcast_S16640x8x128_S1x16640x8x128_1_2_3
    (concatenate S16640x8x128 0 [⟨S256x8x128, extractStridedSlice S256x8x128 ![16384, 0, 0] (shapeCast S16640x8x128 p shapeCasts_S16640x1024_S16640x8x128) slices_S16640x8x128_S256x8x128_16384_0_0⟩,
      ⟨S16384x8x128, extractStridedSlice S16384x8x128 ![0, 0, 0] (shapeCast S16640x8x128 p shapeCasts_S16640x1024_S16640x8x128) slices_S16640x8x128_S16384x8x128_0_0_0⟩] concatenates_S256x8x128_S16384x8x128_S16640x8x128_d0)

/-- The row of the call's arrays that holds row `R` of the results. -/
def src (R : Fin 16640) : Fin 16640 := ⟨if R.val < 256 then 16384 + R.val else R.val - 256, by split <;> omega⟩

theorem src_eq (R : Fin 16640) : resRow (pt (src R)) (rw' (src R)) = R := by
  refine Fin.ext ?_
  show (if (if R.val < 256 then 16384 + R.val else R.val - 256) / 256 < 64 then 256 + (if R.val < 256 then 16384 + R.val else R.val - 256) / 256 * 256 + (if R.val < 256 then 16384 + R.val else R.val - 256) % 256
    else (if R.val < 256 then 16384 + R.val else R.val - 256) % 256) = R.val
  split_ifs <;> omega

theorem backK_at (p : FVec Ideal S16640x2048 .bf16) (R : Fin 16640) (h : Fin 8) (d : Fin 192) :
    backK p (ix4 0 R h d) = p (ix2 (src R) ⟨h.val * 256 + d.val, by omega⟩) := by
  unfold backK
  pointwise
  by_cases hR : R.val < 256
  · rw [dif_pos hR]
    exact congrArg (fun R => p (ix2 R _)) (Fin.ext (show 16384 + R.val = if R.val < 256 then 16384 + R.val else R.val - 256 by rw [if_pos hR]))
  · rw [dif_neg hR]
    exact congrArg (fun R => p (ix2 R _)) (Fin.ext (show R.val - 256 = if R.val < 256 then 16384 + R.val else R.val - 256 by rw [if_neg hR]))

theorem backV_at (p : FVec Ideal S16640x1024 .bf16) (R : Fin 16640) (h : Fin 8) (d : Fin 128) :
    backV p (ix4 0 R h d) = p (ix2 (src R) ⟨h.val * 128 + d.val, by omega⟩) := by
  unfold backV
  pointwise
  by_cases hR : R.val < 256
  · rw [dif_pos hR]
    exact congrArg (fun R => p (ix2 R _)) (Fin.ext (show 16384 + R.val = if R.val < 256 then 16384 + R.val else R.val - 256 by rw [if_pos hR]))
  · rw [dif_neg hR]
    exact congrArg (fun R => p (ix2 R _)) (Fin.ext (show R.val - 256 = if R.val < 256 then 16384 + R.val else R.val - 256 by rw [if_neg hR]))

theorem after_k (Z : Valuation τ sig (Elt Ideal)) :
    StableHlo.after (hostOps1 (F := Ideal)) Z (Proc.devRef .tc main_v56) = backK (Z (Proc.devRef .tc main_v49_0)) := by
  after_reads_simp
  unfold backK
  rfl

theorem after_v (Z : Valuation τ sig (Elt Ideal)) :
    StableHlo.after (hostOps1 (F := Ideal)) Z (Proc.devRef .tc main_v60) = backV (Z (Proc.devRef .tc main_v49_1)) := by
  after_reads_simp
  unfold backV
  rfl

/-- Two windows on one array read it. -/
theorem shared (w w' : Fin 10) (hne : w ≠ w') (he : Pipeline.arrRef (cfgs 0).spec w = Pipeline.arrRef (cfgs 0).spec w') :
    (dats m 0 c).arrAt w cfg0.N = V0 m c (Proc.devRef .tc (Pipeline.arrRef (cfgs 0).spec w)) := by
  have hin : ((cfgs 0).win w).isOut = false :=
    (by decide +kernel : ∀ w w' : Fin 10, w ≠ w' → Pipeline.arrRef spec0 w = Pipeline.arrRef spec0 w' → (cfg0.win w).isOut = false) w w' hne he
  exact ((dats m 0 c).arrAt_in w hin _).trans (A_eq m c w)

theorem tail_k : Pipeline.afterTail₀ cfgs (dats m) 0 (V0 m) [hostOps1] c main_v56 = backK ((dats m 0 c).arrAt 8 cfg0.N) :=
  (after_k _).trans (congrArg backK (Pipeline.withArrays_arr_shared (cfgs 0).spec c (V0 m c) _ (shared m c) 8))

theorem tail_v : Pipeline.afterTail₀ cfgs (dats m) 0 (V0 m) [hostOps1] c main_v60 = backV ((dats m 0 c).arrAt 9 cfg0.N) :=
  (after_v _).trans (congrArg backV (Pipeline.withArrays_arr_shared (cfgs 0).spec c (V0 m c) _ (shared m c) 9))

theorem named_k : backK ((dats m 0 c).arrAt 8 cfg0.N) = (show FVec Ideal S1x16640x8x192 .bf16 from fun i => key m c (i 1) (i 2) (i 3)) := by
  rw [final_k]
  funext i
  have e : i = ix4 (n0 := 1) (n1 := 16640) (n2 := 8) (n3 := 192) 0 (i 1) (i 2) (i 3) :=
    (eq_ix4 i).trans (congrArg (fun a => ix4 (n0 := 1) (n1 := 16640) (n2 := 8) (n3 := 192) a (i 1) (i 2) (i 3)) (Subsingleton.elim (α := Fin 1) _ _))
  refine (congrArg (backK _) e).trans ((backK_at _ (i 1) (i 2) (i 3)).trans ((point_key m c _ _ (i 2) (i 3)).trans ?_))
  exact congrArg (fun R => key m c R (i 2) (i 3)) (src_eq (i 1))

theorem named_v : backV ((dats m 0 c).arrAt 9 cfg0.N) = (show FVec Ideal S1x16640x8x128 .bf16 from fun i => val m c (i 1) (i 2) (i 3)) := by
  rw [final_v]
  funext i
  have e : i = ix4 (n0 := 1) (n1 := 16640) (n2 := 8) (n3 := 128) 0 (i 1) (i 2) (i 3) :=
    (eq_ix4 i).trans (congrArg (fun a => ix4 (n0 := 1) (n1 := 16640) (n2 := 8) (n3 := 128) a (i 1) (i 2) (i 3)) (Subsingleton.elim (α := Fin 1) _ _))
  refine (congrArg (backV _) e).trans ((backV_at _ (i 1) (i 2) (i 3)).trans ((point_val m c _ _ (i 2) (i 3)).trans ?_))
  exact congrArg (fun R => val m c R (i 2) (i 3)) (src_eq (i 1))

/-- Every execution leaves the results and changes no argument. -/
theorem run : θ_run defs (onTc (τ := τ) (main (F := Ideal))) ⟨m, fun _ => 0, ρ⟩ fun r => ∀ c : Dev nD,
      r.2.mem ((c.tc : Thread nD τ).loc main_v56) = (show FVec Ideal S1x16640x8x192 .bf16 from fun i => key m c (i 1) (i 2) (i 3))
      ∧ r.2.mem ((c.tc : Thread nD τ).loc main_v60) = (show FVec Ideal S1x16640x8x128 .bf16 from fun i => val m c (i 1) (i 2) (i 3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h c => ⟨((h.1 c).2 main_v56 (by decide)).trans ((tail_k m c).trans (named_k m c)),
    ((h.1 c).2 main_v60 (by decide)).trans ((tail_v m c).trans (named_v m c)), h.2 c⟩) (θ_run_and (run_main m ρ) (unchanged m ρ))

end Cert.Kernel7Ideal.Kv

end
-- ==== Proof.KvRef.lean ====
/- The reference of the projection of keys and values over the extended reals, entry by entry. -/
module

public import proofs.«01_k».proof.Proof.KvValue
public import proofs.«01_k».proof.Proof.Gen.Reference7Ideal.Run
public import Idealize.ShloMosaic.Lib.IdealHost

@[expose] public section

set_option maxRecDepth 16384

noncomputable section

namespace Cert.Reference7Ideal.Kv

open Idealize.ShloMosaic Idealize.ShloMosaic.TcCoe Idealize.SL.Sem
open Cert.Reference7Ideal Cert.Reference7Ideal.Gen Cert.Spec
open Cert.Kernel6Ideal.Merge (c512)

/-- Every row over the root of its mean square, times the norm's weight (16384 rows). -/
def NormL (x : FVec Ideal S1x16384x512 .f32) (nw : FVec Ideal S1x512 .f32) : FVec Ideal S1x16384x512 .f32 :=
  mulf (mulf x (broadcastInDim S1x16384x512 ![0, 1, 2] bcast_S1x16384x1_S1x16384x512_0_1_2 (Host.rsqrt (addf (Host.divf (broadcastInDim S1x16384x1 ![0, 1] bcast_S1x16384_S1x16384x1_0_1 (Host.reduceAdd (mulf x x) (constant S_ .f32 0x00000000#32) reducesTo_S1x16384x512_S1x16384_d2 h_S_)) (broadcastInDim S1x16384x1 ![] bcast_S_S1x16384x1 (constant S_ .f32 0x44000000#32))) (broadcastInDim S1x16384x1 ![] bcast_S_S1x16384x1 (constant S_ .f32 0x358637BD#32)))))) (broadcastInDim S1x16384x512 ![0, 1, 2] bcast_S1x1x512_S1x16384x512_0_1_2 (broadcastInDim S1x1x512 ![2] bcast_S512_S1x1x512_2 (shapeCast _ nw shapeCasts_S1x512_S512)))

/-- The projection of the normed rows, heads apart. -/
def ProdL (u : FVec Ideal S1x16384x512 .f32) (w : FVec Ideal S1x512x2048 .f32) : FVec Ideal S1x16384x8x256 .f32 :=
  shapeCast _ (Host.dotGeneral dot_S1x16384x512_S512x2048_S1x16384x2048_2_0_01_1_n_n none u (shapeCast _ w shapeCasts_S1x512x2048_S512x2048)) shapeCasts_S1x16384x2048_S1x16384x8x256

/-- The keys: the heads' first columns, and the rotary columns for every head. -/
def KeyL (p : FVec Ideal S1x16384x8x256 .f32) (k : FVec Ideal S1x16384x64 .f32) : FVec Ideal S1x16384x8x192 .f32 :=
  concatenate S1x16384x8x192 3 [⟨S1x16384x8x128, (extractStridedSlice S1x16384x8x128 ![0, 0, 0, 0] p slices_S1x16384x8x256_S1x16384x8x128_0_0_0_0)⟩, ⟨S1x16384x8x64, (broadcastInDim S1x16384x8x64 ![0, 1, 2, 3] bcast_S1x16384x1x64_S1x16384x8x64_0_1_2_3 (broadcastInDim S1x16384x1x64 ![0, 1, 3] bcast_S1x16384x64_S1x16384x1x64_0_1_3 k))⟩] concatenates_S1x16384x8x128_S1x16384x8x64_S1x16384x8x192_d3

/-- The values: the heads' other columns. -/
def ValL (p : FVec Ideal S1x16384x8x256 .f32) : FVec Ideal S1x16384x8x128 .f32 :=
  extractStridedSlice S1x16384x8x128 ![0, 0, 0, 128] p slices_S1x16384x8x256_S1x16384x8x128_0_0_0_128

/-- Every row over the root of its mean square, times the norm's weight (256 rows). -/
def NormC (x : FVec Ideal S1x256x512 .f32) (nw : FVec Ideal S1x512 .f32) : FVec Ideal S1x256x512 .f32 :=
  mulf (mulf x (broadcastInDim S1x256x512 ![0, 1, 2] bcast_S1x256x1_S1x256x512_0_1_2 (Host.rsqrt (addf (Host.divf (broadcastInDim S1x256x1 ![0, 1] bcast_S1x256_S1x256x1_0_1 (Host.reduceAdd (mulf x x) (constant S_ .f32 0x00000000#32) reducesTo_S1x256x512_S1x256_d2 h_S_)) (broadcastInDim S1x256x1 ![] bcast_S_S1x256x1 (constant S_ .f32 0x44000000#32))) (broadcastInDim S1x256x1 ![] bcast_S_S1x256x1 (constant S_ .f32 0x358637BD#32)))))) (broadcastInDim S1x256x512 ![0, 1, 2] bcast_S1x1x512_S1x256x512_0_1_2 (broadcastInDim S1x1x512 ![2] bcast_S512_S1x1x512_2 (shapeCast _ nw shapeCasts_S1x512_S512)))

/-- The projection of the normed rows, heads apart. -/
def ProdC (u : FVec Ideal S1x256x512 .f32) (w : FVec Ideal S1x512x2048 .f32) : FVec Ideal S1x256x8x256 .f32 :=
  shapeCast _ (Host.dotGeneral dot_S1x256x512_S512x2048_S1x256x2048_2_0_01_1_n_n none u (shapeCast _ w shapeCasts_S1x512x2048_S512x2048)) shapeCasts_S1x256x2048_S1x256x8x256

/-- The keys: the heads' first columns, and the rotary columns for every head. -/
def KeyC (p : FVec Ideal S1x256x8x256 .f32) (k : FVec Ideal S1x256x64 .f32) : FVec Ideal S1x256x8x192 .f32 :=
  concatenate S1x256x8x192 3 [⟨S1x256x8x128, (extractStridedSlice S1x256x8x128 ![0, 0, 0, 0] p slices_S1x256x8x256_S1x256x8x128_0_0_0_0)⟩, ⟨S1x256x8x64, (broadcastInDim S1x256x8x64 ![0, 1, 2, 3] bcast_S1x256x1x64_S1x256x8x64_0_1_2_3 (broadcastInDim S1x256x1x64 ![0, 1, 3] bcast_S1x256x64_S1x256x1x64_0_1_3 k))⟩] concatenates_S1x256x8x128_S1x256x8x64_S1x256x8x192_d3

/-- The values: the heads' other columns. -/
def ValC (p : FVec Ideal S1x256x8x256 .f32) : FVec Ideal S1x256x8x128 .f32 :=
  extractStridedSlice S1x256x8x128 ![0, 0, 0, 128] p slices_S1x256x8x256_S1x256x8x128_0_0_0_128

/-- The first and the second columns of the rotary pairs. -/
def Lo (x : FVec Ideal S1x16384x64 .f32) : FVec Ideal S1x16384x2x16 .f32 :=
  shapeCast _ (extractStridedSlice S1x16384x2x1x16 ![0, 0, 0, 0, 0] (shapeCast _ x shapeCasts_S1x16384x64_S1x16384x2x2x16) slices_S1x16384x2x2x16_S1x16384x2x1x16_0_0_0_0_0) shapeCasts_S1x16384x2x1x16_S1x16384x2x16
def Hi (x : FVec Ideal S1x16384x64 .f32) : FVec Ideal S1x16384x2x16 .f32 :=
  shapeCast _ (extractStridedSlice S1x16384x2x1x16 ![0, 0, 0, 1, 0] (shapeCast _ x shapeCasts_S1x16384x64_S1x16384x2x2x16) slices_S1x16384x2x2x16_S1x16384x2x1x16_0_0_0_1_0) shapeCasts_S1x16384x2x1x16_S1x16384x2x16
/-- A table with the batch axis. -/
def Tab (t : FVec Ideal S16384x2x16 .f32) : FVec Ideal S1x16384x2x16 .f32 :=
  broadcastInDim S1x16384x2x16 ![1, 2, 3] bcast_S16384x2x16_S1x16384x2x16_1_2_3 t
/-- The pairs put together again. -/
def Pair (a b : FVec Ideal S1x16384x2x16 .f32) : FVec Ideal S1x16384x64 .f32 :=
  shapeCast _ (concatenate S1x16384x2x2x16 3 [⟨S1x16384x2x1x16, (broadcastInDim S1x16384x2x1x16 ![0, 1, 2, 4] bcast_S1x16384x2x16_S1x16384x2x1x16_0_1_2_4 a)⟩, ⟨S1x16384x2x1x16, (broadcastInDim S1x16384x2x1x16 ![0, 1, 2, 4] bcast_S1x16384x2x16_S1x16384x2x1x16_0_1_2_4 b)⟩] concatenates_S1x16384x2x1x16_S1x16384x2x1x16_S1x16384x2x2x16_d3) shapeCasts_S1x16384x2x2x16_S1x16384x64
/-- The rotary columns turned by the tables. -/
def Rope (x : FVec Ideal S1x16384x64 .f32) (cs sn : FVec Ideal S16384x2x16 .f32) : FVec Ideal S1x16384x64 .f32 :=
  Pair (subf (mulf (Lo x) (Tab cs)) (mulf (Hi x) (Tab sn))) (addf (mulf (Lo x) (Tab sn)) (mulf (Hi x) (Tab cs)))

/-- The rows of the context before the latents'. -/
def JoinK (a : FVec Ideal S1x256x8x192 .f32) (b : FVec Ideal S1x16384x8x192 .f32) : FVec Ideal S1x16640x8x192 .bf16 :=
  truncf .bf16 (concatenate S1x16640x8x192 1 [⟨S1x256x8x192, a⟩, ⟨S1x16384x8x192, b⟩] concatenates_S1x256x8x192_S1x16384x8x192_S1x16640x8x192_d1) bitsLt_bf16_f32
def JoinV (a : FVec Ideal S1x256x8x128 .f32) (b : FVec Ideal S1x16384x8x128 .f32) : FVec Ideal S1x16640x8x128 .bf16 :=
  truncf .bf16 (concatenate S1x16640x8x128 1 [⟨S1x256x8x128, a⟩, ⟨S1x16384x8x128, b⟩] concatenates_S1x256x8x128_S1x16384x8x128_S1x16640x8x128_d1) bitsLt_bf16_f32

/-- The reference's results. -/
def REFK (x : FVec Ideal S1x16384x512 .f32) (kr : FVec Ideal S1x16384x64 .f32) (xc : FVec Ideal S1x256x512 .f32) (krc : FVec Ideal S1x256x64 .f32)
    (nw : FVec Ideal S1x512 .f32) (w : FVec Ideal S1x512x2048 .f32) (cs sn : FVec Ideal S16384x2x16 .f32) : FVec Ideal S1x16640x8x192 .bf16 :=
  JoinK (KeyC (ProdC (NormC xc nw) w) krc) (KeyL (ProdL (NormL x nw) w) (Rope kr cs sn))
def REFV (x : FVec Ideal S1x16384x512 .f32) (xc : FVec Ideal S1x256x512 .f32) (nw : FVec Ideal S1x512 .f32) (w : FVec Ideal S1x512x2048 .f32) :
    FVec Ideal S1x16640x8x128 .bf16 :=
  JoinV (ValC (ProdC (NormC xc nw) w)) (ValL (ProdL (NormL x nw) w))

/-- Every execution leaves the results and changes no argument. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v64) = REFK (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v66) = REFV (m ((c.tc : Thread nD τ).loc main_arg0)) (m ((c.tc : Thread nD τ).loc main_arg2)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h c => ⟨(h c).1.trans (by unfold Value.res_main_v64 REFK JoinK KeyC KeyL ProdC ProdL NormC NormL Rope Pair Lo Hi Tab; rfl),
    (h c).2.1.trans (by unfold REFV JoinV ValC ValL ProdC ProdL NormC NormL; rfl), (h c).2.2⟩) (Value.run m ρ)

theorem NormL_at (x : FVec Ideal S1x16384x512 .f32) (nw : FVec Ideal S1x512 .f32) (R : Fin 16384) (l : Fin 512) :
    NormL x nw (ix3 0 R l) = normed c512 (fun l => x (ix3 0 R l)) (fun l => nw (ix2 0 l)) l := by
  pointwise [NormL, normed, rms, c512]

theorem ProdL_at (u : FVec Ideal S1x16384x512 .f32) (w : FVec Ideal S1x512x2048 .f32) (R : Fin 16384) (h : Fin 8) (d : Fin 256) :
    ProdL u w (ix4 0 R h d) = ∑ j : Fin 512, u (ix3 0 R j) * w (ix3 0 j ⟨h.val * 256 + d.val, by omega⟩) := by
  pointwise [ProdL]

theorem projL_at (x : FVec Ideal S1x16384x512 .f32) (nw : FVec Ideal S1x512 .f32) (w : FVec Ideal S1x512x2048 .f32) (R : Fin 16384) (h : Fin 8) (d : Fin 256) :
    ProdL (NormL x nw) w (ix4 0 R h d) = kvRow (fun l => x (ix3 0 R l)) nw w ⟨h.val * 256 + d.val, by omega⟩ := by
  rw [ProdL_at]; unfold kvRow
  exact Finset.sum_congr rfl fun j _ => congrArg (· * _) (NormL_at x nw R j)

theorem KeyL_at (p : FVec Ideal S1x16384x8x256 .f32) (k : FVec Ideal S1x16384x64 .f32) (R : Fin 16384) (h : Fin 8) (d : Fin 192) :
    KeyL p k (ix4 0 R h d) = if hd : d.val < 128 then p (ix4 0 R h ⟨d.val, by omega⟩) else k (ix3 0 R ⟨d.val - 128, by omega⟩) := by
  pointwise [KeyL]

theorem ValL_at (p : FVec Ideal S1x16384x8x256 .f32) (R : Fin 16384) (h : Fin 8) (d : Fin 128) :
    ValL p (ix4 0 R h d) = p (ix4 0 R h ⟨128 + d.val, by omega⟩) := by
  pointwise [ValL]

theorem NormC_at (x : FVec Ideal S1x256x512 .f32) (nw : FVec Ideal S1x512 .f32) (R : Fin 256) (l : Fin 512) :
    NormC x nw (ix3 0 R l) = normed c512 (fun l => x (ix3 0 R l)) (fun l => nw (ix2 0 l)) l := by
  pointwise [NormC, normed, rms, c512]

theorem ProdC_at (u : FVec Ideal S1x256x512 .f32) (w : FVec Ideal S1x512x2048 .f32) (R : Fin 256) (h : Fin 8) (d : Fin 256) :
    ProdC u w (ix4 0 R h d) = ∑ j : Fin 512, u (ix3 0 R j) * w (ix3 0 j ⟨h.val * 256 + d.val, by omega⟩) := by
  pointwise [ProdC]

theorem projC_at (x : FVec Ideal S1x256x512 .f32) (nw : FVec Ideal S1x512 .f32) (w : FVec Ideal S1x512x2048 .f32) (R : Fin 256) (h : Fin 8) (d : Fin 256) :
    ProdC (NormC x nw) w (ix4 0 R h d) = kvRow (fun l => x (ix3 0 R l)) nw w ⟨h.val * 256 + d.val, by omega⟩ := by
  rw [ProdC_at]; unfold kvRow
  exact Finset.sum_congr rfl fun j _ => congrArg (· * _) (NormC_at x nw R j)

theorem KeyC_at (p : FVec Ideal S1x256x8x256 .f32) (k : FVec Ideal S1x256x64 .f32) (R : Fin 256) (h : Fin 8) (d : Fin 192) :
    KeyC p k (ix4 0 R h d) = if hd : d.val < 128 then p (ix4 0 R h ⟨d.val, by omega⟩) else k (ix3 0 R ⟨d.val - 128, by omega⟩) := by
  pointwise [KeyC]

theorem ValC_at (p : FVec Ideal S1x256x8x256 .f32) (R : Fin 256) (h : Fin 8) (d : Fin 128) :
    ValC p (ix4 0 R h d) = p (ix4 0 R h ⟨128 + d.val, by omega⟩) := by
  pointwise [ValC]

theorem Lo_at (x : FVec Ideal S1x16384x64 .f32) (R : Fin 16384) (a : Fin 2) (f : Fin 16) : Lo x (ix4 0 R a f) = x (ix3 0 R ⟨a.val * 32 + f.val, by omega⟩) := by
  pointwise [Lo]
theorem Hi_at (x : FVec Ideal S1x16384x64 .f32) (R : Fin 16384) (a : Fin 2) (f : Fin 16) : Hi x (ix4 0 R a f) = x (ix3 0 R ⟨a.val * 32 + 16 + f.val, by omega⟩) := by
  pointwise [Hi]
theorem Tab_at (t : FVec Ideal S16384x2x16 .f32) (R : Fin 16384) (a : Fin 2) (f : Fin 16) : Tab t (ix4 0 R a f) = t (ix3 R a f) := by
  pointwise [Tab]
theorem Pair_at (a b : FVec Ideal S1x16384x2x16 .f32) (R : Fin 16384) (e : Fin 64) :
    Pair a b (ix3 0 R e) = if e.val / 16 % 2 = 0 then a (ix4 0 R (rAxis e) (rFreq e)) else b (ix4 0 R (rAxis e) (rFreq e)) := by
  by_cases h : e.val / 16 % 2 = 0
  · rw [if_pos h]
    pointwise [Pair, rAxis, rFreq]
    exact dif_pos (by omega)
  · rw [if_neg h]
    pointwise [Pair, rAxis, rFreq]
    exact dif_neg (by omega)
theorem Rope_at (x : FVec Ideal S1x16384x64 .f32) (cs sn : FVec Ideal S16384x2x16 .f32) (R : Fin 16384) (e : Fin 64) :
    Rope x cs sn (ix3 0 R e) = rope (fun e => x (ix3 0 R e)) (fun a f => cs (ix3 R a f)) (fun a f => sn (ix3 R a f)) e := by
  unfold Rope rope
  rw [Pair_at]
  refine if_congr Iff.rfl ?_ ?_
  · pointwise [Lo_at, Hi_at, Tab_at, rAxis, rFreq, rLo, rHi]
  · pointwise [Lo_at, Hi_at, Tab_at, rAxis, rFreq, rLo, rHi]

theorem JoinK_at (a : FVec Ideal S1x256x8x192 .f32) (b : FVec Ideal S1x16384x8x192 .f32) (R : Fin 16640) (h : Fin 8) (d : Fin 192) :
    JoinK a b (ix4 0 R h d) = if hR : R.val < 256 then a (ix4 0 ⟨R.val, hR⟩ h d) else b (ix4 0 ⟨R.val - 256, by omega⟩ h d) := by
  pointwise [JoinK]
theorem JoinV_at (a : FVec Ideal S1x256x8x128 .f32) (b : FVec Ideal S1x16384x8x128 .f32) (R : Fin 16640) (h : Fin 8) (d : Fin 128) :
    JoinV a b (ix4 0 R h d) = if hR : R.val < 256 then a (ix4 0 ⟨R.val, hR⟩ h d) else b (ix4 0 ⟨R.val - 256, by omega⟩ h d) := by
  pointwise [JoinV]

section Results
variable (x : FVec Ideal S1x16384x512 .f32) (kr : FVec Ideal S1x16384x64 .f32) (xc : FVec Ideal S1x256x512 .f32) (krc : FVec Ideal S1x256x64 .f32)
    (nw : FVec Ideal S1x512 .f32) (w : FVec Ideal S1x512x2048 .f32) (cs sn : FVec Ideal S16384x2x16 .f32)

/-- The reference's keys, entry by entry. -/
theorem REFK_eq (R : Fin 16640) (h : Fin 8) (d : Fin 192) : REFK x kr xc krc nw w cs sn (ix4 0 R h d) = kvKey x kr xc krc nw w cs sn R h d := by
  unfold REFK kvKey
  rw [JoinK_at]
  by_cases hR : R.val < 256
  · rw [dif_pos hR, KeyC_at]
    by_cases hd : d.val < 128
    · rw [dif_pos hd, dif_pos hd, projC_at]
      unfold kvProj; rw [dif_pos hR]
    · rw [dif_neg hd, dif_neg hd]
      unfold kvRot; rw [dif_pos hR]
  · rw [dif_neg hR, KeyL_at]
    by_cases hd : d.val < 128
    · rw [dif_pos hd, dif_pos hd, projL_at]
      unfold kvProj; rw [dif_neg hR]
    · rw [dif_neg hd, dif_neg hd, Rope_at]
      unfold kvRot; rw [dif_neg hR]

/-- The reference's values, entry by entry. -/
theorem REFV_eq (R : Fin 16640) (h : Fin 8) (d : Fin 128) : REFV x xc nw w (ix4 0 R h d) = kvVal x xc nw w R h d := by
  unfold REFV kvVal kvProj
  rw [JoinV_at]
  by_cases hR : R.val < 256
  · rw [dif_pos hR, dif_pos hR, ValC_at, projC_at]
    exact congrArg _ (Fin.ext (show h.val * 256 + (128 + d.val) = h.val * 256 + 128 + d.val by omega))
  · rw [dif_neg hR, dif_neg hR, ValL_at, projL_at]
    exact congrArg _ (Fin.ext (show h.val * 256 + (128 + d.val) = h.val * 256 + 128 + d.val by omega))

/-- The same at an index. -/
theorem REFK_idx (i : S1x16640x8x192.Idx) : REFK x kr xc krc nw w cs sn i = kvKey x kr xc krc nw w cs sn (i 1) (i 2) (i 3) := by
  have e : i = ix4 (n0 := 1) (n1 := 16640) (n2 := 8) (n3 := 192) 0 (i 1) (i 2) (i 3) :=
    (eq_ix4 i).trans (congrArg (fun a => ix4 (n0 := 1) (n1 := 16640) (n2 := 8) (n3 := 192) a (i 1) (i 2) (i 3)) (Subsingleton.elim (α := Fin 1) _ _))
  exact (congrArg (REFK x kr xc krc nw w cs sn) e).trans (REFK_eq x kr xc krc nw w cs sn (i 1) (i 2) (i 3))
theorem REFV_idx (i : S1x16640x8x128.Idx) : REFV x xc nw w i = kvVal x xc nw w (i 1) (i 2) (i 3) := by
  have e : i = ix4 (n0 := 1) (n1 := 16640) (n2 := 8) (n3 := 128) 0 (i 1) (i 2) (i 3) :=
    (eq_ix4 i).trans (congrArg (fun a => ix4 (n0 := 1) (n1 := 16640) (n2 := 8) (n3 := 128) a (i 1) (i 2) (i 3)) (Subsingleton.elim (α := Fin 1) _ _))
  exact (congrArg (REFV x xc nw w) e).trans (REFV_eq x xc nw w (i 1) (i 2) (i 3))

end Results

end Cert.Reference7Ideal.Kv

end
-- ==== Proof.QBody.lean ====
/- The projection of the queries: what one grid point writes. -/
module

public import proofs.«01_k».proof.Proof.MergeBody
public import proofs.«01_k».proof.Proof.Gen.Kernel8Ideal.Frame
public import Idealize.ShloMosaic.Lib.Pipeline.ValueKit
public import Idealize.ShloMosaic.Lib.Pointwise

@[expose] public section

set_option maxRecDepth 16384

noncomputable section

namespace Cert.Kernel8Ideal.Q

open Idealize.ShloMosaic Idealize.ShloMosaic.TcCoe Idealize.SL.Sem
open Cert.Kernel8Ideal Cert.Kernel8Ideal.Gen Cert.Spec
open Cert.Kernel6Ideal.Merge (c512)

/-! ## A head's columns -/

/-- An entry of a head: the row's product with a column times a table, and its product with a second column times a second table. -/
def mix (x : FVec Ideal S512x512 .bf16) (ta tb : FVec Ideal S512x256 .f32) (a b : Fin 512 → EReal) (r : Fin 512) (d : Fin 256) : EReal :=
  (∑ j : Fin 512, x (ix2 r j) * a j) * ta (ix2 r d) + (∑ j : Fin 512, x (ix2 r j) * b j) * tb (ix2 r d)

section Heads
variable (x0 : Vec Ideal S512x512 .f32) (nw : Vec Ideal S1x512 .f32) (x : FVec Ideal S512x512 .bf16) (ta tb : Vec Ideal S512x256 .f32)
  (a b : Vec Ideal S512x256 .bf16) (r : Fin 512) (d : Fin 256)

theorem norm_at (l : Fin 512) : (k0_pay2 x0 nw : FVec Ideal S512x512 .bf16) (ix2 r l) = normed c512 (fun l => x0 (ix2 r l)) (fun l => nw (ix2 0 l)) l := by
  pointwise [k0_pay2, normed, rms, c512]

theorem ta_eq : (k0_pay3 ta : FVec Ideal S512x256 .f32) = ta := by
  funext i; rw [eq_ix2 (n0 := 512) (n1 := 256) i]; pointwise [k0_pay3]
theorem tb_eq : (k0_pay4 tb : FVec Ideal S512x256 .f32) = tb := by
  funext i; rw [eq_ix2 (n0 := 512) (n1 := 256) i]; pointwise [k0_pay4]

theorem head0_at : (k0_pay5 x0 nw ta tb a b : FVec Ideal S512x256 .bf16) (ix2 r d) = mix (k0_pay2 x0 nw) ta tb (fun j => a (ix2 j d)) (fun j => b (ix2 j d)) r d := by
  generalize hx : (k0_pay2 x0 nw : FVec Ideal S512x512 .bf16) = x
  pointwise [k0_pay5, hx, ta_eq, tb_eq, mix]
theorem head1_at : (k0_pay7 (k0_pay2 x0 nw) (k0_pay4 tb) (k0_pay6 x0 nw ta a) b : FVec Ideal S512x256 .bf16) (ix2 r d) = mix (k0_pay2 x0 nw) ta tb (fun j => a (ix2 j d)) (fun j => b (ix2 j d)) r d := by
  generalize hx : (k0_pay2 x0 nw : FVec Ideal S512x512 .bf16) = x
  pointwise [k0_pay6, k0_pay7, hx, ta_eq, tb_eq, mix]
theorem head2_at : (k0_pay8 x (k0_pay3 ta) (k0_pay4 tb) a b : FVec Ideal S512x256 .bf16) (ix2 r d) = mix x ta tb (fun j => a (ix2 j d)) (fun j => b (ix2 j d)) r d := by
  pointwise [k0_pay8, ta_eq, tb_eq, mix]
theorem head3_at : (k0_pay9 x (k0_pay3 ta) (k0_pay4 tb) a b : FVec Ideal S512x256 .bf16) (ix2 r d) = mix x ta tb (fun j => a (ix2 j d)) (fun j => b (ix2 j d)) r d := by
  pointwise [k0_pay9, ta_eq, tb_eq, mix]
theorem head4_at : (k0_pay11 x (k0_pay4 tb) (k0_pay10 x (k0_pay3 ta) a) b : FVec Ideal S512x256 .bf16) (ix2 r d) = mix x ta tb (fun j => a (ix2 j d)) (fun j => b (ix2 j d)) r d := by
  pointwise [k0_pay10, k0_pay11, ta_eq, tb_eq, mix]
theorem head5_at : (k0_pay12 x (k0_pay3 ta) (k0_pay4 tb) a b : FVec Ideal S512x256 .bf16) (ix2 r d) = mix x ta tb (fun j => a (ix2 j d)) (fun j => b (ix2 j d)) r d := by
  pointwise [k0_pay12, ta_eq, tb_eq, mix]
theorem head6_at : (k0_pay13 x (k0_pay3 ta) (k0_pay4 tb) a b : FVec Ideal S512x256 .bf16) (ix2 r d) = mix x ta tb (fun j => a (ix2 j d)) (fun j => b (ix2 j d)) r d := by
  pointwise [k0_pay13, ta_eq, tb_eq, mix]
theorem head7_at : (k0_pay1 x (k0_pay4 tb) (k0_pay14 x (k0_pay3 ta) a) b : FVec Ideal S512x256 .bf16) (ix2 r d) = mix x ta tb (fun j => a (ix2 j d)) (fun j => b (ix2 j d)) r d := by
  pointwise [k0_pay1, k0_pay14, ta_eq, tb_eq, mix]

end Heads

/-! ## The heads side by side -/

/-- A column of a slice is a column of the array. -/
theorem slice_at (v : Vec Ideal S512x2048 .bf16) (o : ℕ) (h : ∀ a, (![0, o] : Fin 2 → ℕ) a + S512x256.size a ≤ S512x2048.size a)
    (j : Fin 512) (d : Fin 256) (K : Fin 2048) (e : o + d.val = K.val) :
    View.ld v (Rect.unit ![0, o] ![512, 256] h) (ix2 (n0 := 512) (n1 := 256) j d) = v (ix2 j K) := by
  refine congrArg v (funext fun a => ?_)
  match a with
  | ⟨0, _⟩ => exact Fin.ext (show 0 + 1 * j.val = j.val by omega)
  | ⟨1, _⟩ => exact Fin.ext (show o + 1 * d.val = K.val by omega)

theorem mix_eq (X : FVec Ideal S512x512 .bf16) (ta tb : FVec Ideal S512x256 .f32) (A B : Vec Ideal S512x2048 .bf16) (o : ℕ) (h)
    (x : S512x256.Idx) (y : S512x2048.Idx) (e0 : (y 0).val = (x 0).val) (e1 : (y 1).val = o + (x 1).val) (ho : o % 256 = 0) :
    mix X ta tb (fun j => View.ld A (Rect.unit ![0, o] ![512, 256] h) (ix2 (n0 := 512) (n1 := 256) j (x 1)))
        (fun j => View.ld B (Rect.unit ![0, o] ![512, 256] h) (ix2 (n0 := 512) (n1 := 256) j (x 1))) (x 0) (x 1)
      = mix X ta tb (fun j => A (ix2 j (y 1))) (fun j => B (ix2 j (y 1))) (y 0) ⟨(y 1).val % 256, Nat.mod_lt _ (by decide)⟩ := by
  have hx : (x 1).val < 256 := (x 1).isLt
  have h0 : (x 0 : Fin 512) = y 0 := Fin.ext e0.symm
  have h1 : (x 1 : Fin 256) = ⟨(y 1).val % 256, Nat.mod_lt _ (by decide)⟩ := Fin.ext (by show (x 1).val = (y 1).val % 256; omega)
  have hA : (fun j : Fin 512 => View.ld A (Rect.unit ![0, o] ![512, 256] h) (ix2 (n0 := 512) (n1 := 256) j (x 1))) = fun j => A (ix2 j (y 1)) :=
    funext fun j => slice_at A o h j (x 1) (y 1) e1.symm
  have hB : (fun j : Fin 512 => View.ld B (Rect.unit ![0, o] ![512, 256] h) (ix2 (n0 := 512) (n1 := 256) j (x 1))) = fun j => B (ix2 j (y 1)) :=
    funext fun j => slice_at B o h j (x 1) (y 1) e1.symm
  rw [hA, hB]
  exact congr (congrArg (mix X ta tb (fun j => A (ix2 j (y 1))) (fun j => B (ix2 j (y 1)))) h0) h1

section Points

variable (m : (ℓ : Loc nD τ sig) → Buf (Elt Ideal) ℓ)

/-- The normed rows of a point. -/
def xn (c : Dev nD) (t : Fin cfg0.N) : FVec Ideal S512x512 .bf16 := k0_pay2 (X0_0 m c t) (iblk m c 1 t)

theorem out_q (c : Dev nD) (t : Fin cfg0.N) (y : S512x2048.Idx) :
    outsAt0 m c t y = mix (xn m c t) (show Vec Ideal S512x256 .f32 from iblk m c 4 t) (show Vec Ideal S512x256 .f32 from iblk m c 5 t)
      (fun j => (show Vec Ideal S512x2048 .bf16 from iblk m c 2 t) (ix2 j (y 1))) (fun j => (show Vec Ideal S512x2048 .bf16 from iblk m c 3 t) (ix2 j (y 1)))
      (y 0) ⟨(y 1).val % 256, Nat.mod_lt _ (by decide)⟩ := by
  unfold outsAt0 out0_A_6
  frame_out
  canon_tiles x e
  · rw [eq_ix2 (n0 := 512) (n1 := 256) x]
    exact (head7_at _ _ _ _ _ _ _).trans (mix_eq _ _ _ _ _ 1792 _ x y e0 (by omega) (by decide))
  · rw [eq_ix2 (n0 := 512) (n1 := 256) x]
    exact (head6_at _ _ _ _ _ _ _).trans (mix_eq _ _ _ _ _ 1536 _ x y e0 (by omega) (by decide))
  · rw [eq_ix2 (n0 := 512) (n1 := 256) x]
    exact (head5_at _ _ _ _ _ _ _).trans (mix_eq _ _ _ _ _ 1280 _ x y e0 (by omega) (by decide))
  · rw [eq_ix2 (n0 := 512) (n1 := 256) x]
    exact (head4_at _ _ _ _ _ _ _).trans (mix_eq _ _ _ _ _ 1024 _ x y e0 (by omega) (by decide))
  · rw [eq_ix2 (n0 := 512) (n1 := 256) x]
    exact (head3_at _ _ _ _ _ _ _).trans (mix_eq _ _ _ _ _ 768 _ x y e0 (by omega) (by decide))
  · rw [eq_ix2 (n0 := 512) (n1 := 256) x]
    exact (head2_at _ _ _ _ _ _ _).trans (mix_eq _ _ _ _ _ 512 _ x y e0 (by omega) (by decide))
  · rw [eq_ix2 (n0 := 512) (n1 := 256) x]
    exact (head1_at _ _ _ _ _ _ _ _).trans (mix_eq _ _ _ _ _ 256 _ x y e0 (by omega) (by decide))
  · rw [eq_ix2 (n0 := 512) (n1 := 256) x]
    exact (head0_at _ _ _ _ _ _ _ _).trans (mix_eq _ _ _ _ _ 0 _ x y e0 (by omega) (by decide))

end Points

end Cert.Kernel8Ideal.Q

end
-- ==== Proof.QEntry.lean ====
/- The projection of the queries: its mathematics, and the arrays the call finds, entry by entry. -/
module

public import proofs.«01_k».proof.Proof.QBody
public import proofs.«01_k».proof.Proof.KvEntry
public import Idealize.ShloMosaic.Lib.StableHlo.RunRead

@[expose] public section

set_option maxRecDepth 16384

noncomputable section

namespace Cert.Spec

open Idealize.ShloMosaic
open Cert.Kernel6Ideal.Merge (c512)

/-- A real, seen among the extended reals. -/
def IsReal (x : EReal) : Prop := ∃ r : ℝ, x = (r : EReal)

theorem IsReal.mul {x y : EReal} (hx : IsReal x) (hy : IsReal y) : IsReal (x * y) := by
  obtain ⟨a, rfl⟩ := hx; obtain ⟨b, rfl⟩ := hy
  exact ⟨a * b, (EReal.coe_mul a b).symm⟩

theorem sum_real {N : ℕ} (r : Fin N → ℝ) : (∑ l, ((r l : ℝ) : EReal)) = ((∑ l, r l : ℝ) : EReal) := by
  induction (Finset.univ : Finset (Fin N)) using Finset.cons_induction with
  | empty => simp
  | cons a s ha ih => rw [Finset.sum_cons, Finset.sum_cons, EReal.coe_add, ih]

/-- Over reals the sum of the negated terms is the negated sum. -/
theorem sum_neg_real {N : ℕ} (f : Fin N → EReal) (h : ∀ l, IsReal (f l)) : (∑ l, -f l) = -∑ l, f l := by
  choose r hr using h
  have e : (∑ l, -f l) = ∑ l, ((-r l : ℝ) : EReal) := Finset.sum_congr rfl fun l _ => by rw [hr l, EReal.coe_neg]
  have e' : (∑ l, f l) = ∑ l, ((r l : ℝ) : EReal) := Finset.sum_congr rfl fun l _ => hr l
  rw [e, e', sum_real, sum_real, ← EReal.coe_neg, Finset.sum_neg_distrib]

theorem c512_eq : c512 = ((512 : ℝ) : EReal) := by simp [c512, Ideal.ofBits, Ideal.ieee]; norm_num; rw [← EReal.coe_mul]; norm_num

theorem eps_pos : ∃ e : ℝ, 0 < e ∧ Ideal.ofBits .f32 0x358637BD#32 = (e : EReal) := by
  refine ⟨_, ?_, by simp [Ideal.ofBits, Ideal.ieee]; rfl⟩
  positivity

/-- A row of reals has a real norm. -/
theorem rms_real (x : Fin 512 → EReal) (h : ∀ l, IsReal (x l)) : IsReal (rms c512 x) := by
  choose r hr using h
  obtain ⟨e, he, ee⟩ := eps_pos
  have hs : (∑ l, x l * x l) = ((∑ l, r l * r l : ℝ) : EReal) := by
    rw [← sum_real]
    exact Finset.sum_congr rfl fun l _ => by rw [hr l, EReal.coe_mul]
  have hp : 0 < (∑ l, r l * r l) * (1 / 512) + e := by
    have := Finset.sum_nonneg (s := Finset.univ) fun l (_ : l ∈ Finset.univ) => mul_self_nonneg (r l)
    positivity
  unfold rms
  rw [hs, c512_eq, ee, Ideal.div_coe (by norm_num), ← EReal.coe_mul, ← EReal.coe_add, Ideal.rsqrt_coe, if_neg (not_lt.mpr hp.le), if_neg hp.ne']
  exact ⟨_, rfl⟩

/-- An entry over its row's norm is a real, whatever the row: a row with an infinite entry has the scale zero. -/
theorem scaled_real (x : Fin 512 → EReal) (j : Fin 512) : IsReal (x j * rms c512 x) := by
  by_cases h : ∀ l, IsReal (x l)
  · exact (h j).mul (rms_real x h)
  · obtain ⟨l, hl⟩ := not_forall.mp h
    have hq : x l * x l = ⊤ := by
      rcases x l |>.rec (motive := fun y => y = ⊥ ∨ (∃ r : ℝ, y = (r : EReal)) ∨ y = ⊤) (Or.inl rfl) (fun r => Or.inr (Or.inl ⟨r, rfl⟩)) (Or.inr (Or.inr rfl)) with e | e | e
      · rw [e]; rfl
      · exact absurd e hl
      · rw [e]; rfl
    have hn : ∀ i, 0 ≤ x i * x i := fun i => by
      rcases le_total 0 (x i) with e | e
      · exact mul_nonneg e e
      · rw [← neg_mul_neg]; exact mul_nonneg (EReal.neg_nonneg.mpr e) (EReal.neg_nonneg.mpr e)
    have hs : (∑ i, x i * x i) = ⊤ :=
      top_le_iff.mp (hq ▸ Finset.single_le_sum (f := fun i => x i * x i) (fun i _ => hn i) (Finset.mem_univ l))
    obtain ⟨e, _, ee⟩ := eps_pos
    have hr : rms c512 x = 0 := by
      unfold rms
      rw [hs, c512_eq, ee, Ideal.div_coe (by norm_num), EReal.top_mul_coe_of_pos (by norm_num), EReal.top_add_coe, Ideal.rsqrt_top]
    exact ⟨0, by rw [hr, mul_zero]; rfl⟩

end Cert.Spec

namespace Cert.Kernel8Ideal.Q

open Idealize.ShloMosaic Idealize.ShloMosaic.TcCoe Idealize.SL.Sem
open Cert.Kernel8Ideal Cert.Kernel8Ideal.Gen Cert.Spec

variable (m : (ℓ : Loc nD τ sig) → Buf (Elt Ideal) ℓ) (ρ : Dev nD → PrngReg)

abbrev X0 (c : Dev nD) : FVec Ideal S1x16384x512 .f32 := m ((c : Thread nD τ).loc main_arg0)
abbrev X1 (c : Dev nD) : FVec Ideal S1x512 .f32 := m ((c : Thread nD τ).loc main_arg1)
abbrev X2 (c : Dev nD) : FVec Ideal S1x512x1536 .f32 := m ((c : Thread nD τ).loc main_arg2)
abbrev X3 (c : Dev nD) : FVec Ideal S16384x2x16 .f32 := m ((c : Thread nD τ).loc main_arg3)
abbrev X4 (c : Dev nD) : FVec Ideal S16384x2x16 .f32 := m ((c : Thread nD τ).loc main_arg4)

/-- An array at the call, after the host operations before it. -/
theorem V_eq (c : Dev nD) (b : Ref sig .tc) : V m c b = StableHlo.after hostOps0 (fun b => m (c, b)) (Proc.devRef .tc b) := by
  rfl

variable (c : Dev nD)

/-! ## Three pieces side by side -/

def catX (z : FVec Ideal S16384x1024 .f32) (a : FVec Ideal S16384x512 .f32) (z' : FVec Ideal S16384x2304 .f32) : FVec Ideal S16384x3840 .f32 :=
  concatenate S16384x3840 1 [⟨S16384x1024, z⟩, ⟨S16384x512, a⟩, ⟨S16384x2304, z'⟩] concatenates_S16384x1024_S16384x512_S16384x2304_S16384x3840_d1

theorem catX1 (z : FVec Ideal S16384x1024 .f32) (a : FVec Ideal S16384x512 .f32) (z' : FVec Ideal S16384x2304 .f32) (R : Fin 16384) (k : Fin 512) (K : Fin 3840)
    (h : 1024 + k.val = K.val) : catX z a z' (ix2 R K) = a (ix2 R k) :=
  concatenate_apply_piece (t := S16384x3840) 1 _ _ (ix2 R K) 1 (by simp) S16384x512 a rfl rfl 1024 rfl (ix2 R k) (fun | ⟨0, _⟩, _ => rfl | ⟨1, _⟩, hb => absurd rfl hb) h

def catT (a : FVec Ideal S16384x128 .f32) (b z : FVec Ideal S16384x64 .f32) : FVec Ideal S16384x256 .f32 :=
  concatenate S16384x256 1 [⟨S16384x128, a⟩, ⟨S16384x64, b⟩, ⟨S16384x64, z⟩] concatenates_S16384x128_S16384x64_S16384x64_S16384x256_d1

section CatT
variable (a : FVec Ideal S16384x128 .f32) (b z : FVec Ideal S16384x64 .f32) (R : Fin 16384) (K : Fin 256)
theorem catT0 (k : Fin 128) (h : 0 + k.val = K.val) : catT a b z (ix2 R K) = a (ix2 R k) :=
  concatenate_apply_piece (t := S16384x256) 1 _ _ (ix2 R K) 0 (by simp) S16384x128 a rfl rfl 0 rfl (ix2 R k) (fun | ⟨0, _⟩, _ => rfl | ⟨1, _⟩, hb => absurd rfl hb) h
theorem catT1 (k : Fin 64) (h : 128 + k.val = K.val) : catT a b z (ix2 R K) = b (ix2 R k) :=
  concatenate_apply_piece (t := S16384x256) 1 _ _ (ix2 R K) 1 (by simp) S16384x64 b rfl rfl 128 rfl (ix2 R k) (fun | ⟨0, _⟩, _ => rfl | ⟨1, _⟩, hb => absurd rfl hb) h
end CatT

def catB (a : FVec Ideal S512x8x128 .f32) (b z : FVec Ideal S512x8x64 .f32) : FVec Ideal S512x8x256 .f32 :=
  concatenate S512x8x256 2 [⟨S512x8x128, a⟩, ⟨S512x8x64, b⟩, ⟨S512x8x64, z⟩] concatenates_S512x8x128_S512x8x64_S512x8x64_S512x8x256_d2

section CatB
variable (a : FVec Ideal S512x8x128 .f32) (b z : FVec Ideal S512x8x64 .f32) (j : Fin 512) (h : Fin 8) (K : Fin 256)
theorem catB0 (k : Fin 128) (e : 0 + k.val = K.val) : catB a b z (ix3 j h K) = a (ix3 j h k) :=
  concatenate_apply_piece (t := S512x8x256) 2 _ _ (ix3 j h K) 0 (by simp) S512x8x128 a rfl rfl 0 rfl (ix3 j h k) (fun | ⟨0, _⟩, _ => rfl | ⟨1, _⟩, _ => rfl | ⟨2, _⟩, hb => absurd rfl hb) e
theorem catB1 (k : Fin 64) (e : 128 + k.val = K.val) : catB a b z (ix3 j h K) = b (ix3 j h k) :=
  concatenate_apply_piece (t := S512x8x256) 2 _ _ (ix3 j h K) 1 (by simp) S512x8x64 b rfl rfl 128 rfl (ix3 j h k) (fun | ⟨0, _⟩, _ => rfl | ⟨1, _⟩, _ => rfl | ⟨2, _⟩, hb => absurd rfl hb) e
end CatB

/-- The heads of a weight side by side. -/
def flat (p : FVec Ideal S512x8x256 .f32) : FVec Ideal S512x2048 .bf16 := truncf .bf16 (shapeCast _ p shapeCasts_S512x8x256_S512x2048) bitsLt_bf16_f32
theorem flat_at (p : FVec Ideal S512x8x256 .f32) (j : Fin 512) (h : Fin 8) (d : Fin 256) : flat p (ix2 j ⟨h.val * 256 + d.val, by omega⟩) = p (ix3 j h d) := by
  pointwise [flat]

/-- The projection's weight, heads apart. -/
def heads (w : FVec Ideal S1x512x1536 .f32) : FVec Ideal S512x8x192 .f32 := shapeCast _ (shapeCast S512x1536 w shapeCasts_S1x512x1536_S512x1536) shapeCasts_S512x1536_S512x8x192
theorem heads_at (w : FVec Ideal S1x512x1536 .f32) (j : Fin 512) (h : Fin 8) (d : Fin 192) : heads w (ix3 j h d) = w (ix3 0 j ⟨h.val * 192 + d.val, by omega⟩) := by
  pointwise [heads]

/-- Each head's columns, padded. -/
def wide (p : FVec Ideal S512x8x192 .f32) (z : FVec Ideal S512x8x64 .f32) : FVec Ideal S512x8x256 .f32 :=
  concatenate S512x8x256 2 [⟨S512x8x192, p⟩, ⟨S512x8x64, z⟩] concatenates_S512x8x192_S512x8x64_S512x8x256_d2
theorem wide_at (p : FVec Ideal S512x8x192 .f32) (z : FVec Ideal S512x8x64 .f32) (j : Fin 512) (h : Fin 8) (d : Fin 192) (K : Fin 256) (e : 0 + d.val = K.val) :
    wide p z (ix3 j h K) = p (ix3 j h d) :=
  concatenate_apply_piece (t := S512x8x256) 2 _ _ (ix3 j h K) 0 (by simp) S512x8x192 p rfl rfl 0 rfl (ix3 j h d) (fun | ⟨0, _⟩, _ => rfl | ⟨1, _⟩, _ => rfl | ⟨2, _⟩, hb => absurd rfl hb) e

/-- Each head's rotary columns, pairs exchanged, as the host code builds them. -/
def swapped (p : FVec Ideal S512x8x192 .f32) : FVec Ideal S512x8x64 .f32 :=
  shapeCast _ (concatenate S512x8x2x2x16 3 [⟨S512x8x2x1x16, broadcastInDim S512x8x2x1x16 ![0, 1, 2, 4] bcast_S512x8x2x16_S512x8x2x1x16_0_1_2_4
      (Host.negf (shapeCast _ (extractStridedSlice S512x8x2x1x16 ![0, 0, 0, 1, 0] (shapeCast _ (extractStridedSlice S512x8x64 ![0, 0, 128] p slices_S512x8x192_S512x8x64_0_0_128) shapeCasts_S512x8x64_S512x8x2x2x16) slices_S512x8x2x2x16_S512x8x2x1x16_0_0_0_1_0) shapeCasts_S512x8x2x1x16_S512x8x2x16))⟩,
    ⟨S512x8x2x1x16, broadcastInDim S512x8x2x1x16 ![0, 1, 2, 4] bcast_S512x8x2x16_S512x8x2x1x16_0_1_2_4
      (shapeCast _ (extractStridedSlice S512x8x2x1x16 ![0, 0, 0, 0, 0] (shapeCast _ (extractStridedSlice S512x8x64 ![0, 0, 128] p slices_S512x8x192_S512x8x64_0_0_128) shapeCasts_S512x8x64_S512x8x2x2x16) slices_S512x8x2x2x16_S512x8x2x1x16_0_0_0_0_0) shapeCasts_S512x8x2x1x16_S512x8x2x16)⟩]
    concatenates_S512x8x2x1x16_S512x8x2x1x16_S512x8x2x2x16_d3) shapeCasts_S512x8x2x2x16_S512x8x64

theorem swapped_at (p : FVec Ideal S512x8x192 .f32) (j : Fin 512) (h : Fin 8) (e : Fin 64) :
    swapped p (ix3 j h e) = rSwap (fun e => p (ix3 j h ⟨128 + e.val, by omega⟩)) e := by
  unfold rSwap
  by_cases he : e.val / 16 % 2 = 0
  · rw [if_pos he]
    pointwise [swapped, rHi]
    exact dif_pos (by omega)
  · rw [if_neg he]
    pointwise [swapped, rLo]
    exact dif_neg (by omega)

/-- A table's columns for every rotary column. -/
def cols (t : FVec Ideal S16384x2x16 .f32) : FVec Ideal S16384x64 .f32 :=
  shapeCast _ (broadcastInDim S16384x2x2x16 ![0, 1, 2, 3] bcast_S16384x2x1x16_S16384x2x2x16_0_1_2_3
    (broadcastInDim S16384x2x1x16 ![0, 1, 3] bcast_S16384x2x16_S16384x2x1x16_0_1_3 t)) shapeCasts_S16384x2x2x16_S16384x64
theorem cols_at (t : FVec Ideal S16384x2x16 .f32) (R : Fin 16384) (e : Fin 64) : cols t (ix2 R e) = t (ix3 R (rAxis e) (rFreq e)) := by
  pointwise [cols, rAxis, rFreq]

theorem V35_eq : ∃ z z', (show FVec Ideal S16384x3840 .f32 from V m c main_v35) = catX z (shapeCast _ (X0 m c) shapeCasts_S1x16384x512_S16384x512) z' := by
  rw [V_eq]; after_reads_simp
  unfold catX
  exact ⟨_, _, rfl⟩
theorem V5_eq : ∃ z, (show FVec Ideal S16384x256 .f32 from V m c main_v5)
    = catT (broadcastInDim S16384x128 ![] bcast_S_S16384x128 (constant S_ .f32 0x3F800000#32)) (cols (X3 m c)) z := by
  rw [V_eq]; after_reads_simp
  unfold catT cols
  exact ⟨_, rfl⟩
theorem V10_eq : ∃ z, (show FVec Ideal S16384x256 .f32 from V m c main_v10)
    = catT (broadcastInDim S16384x128 ![] bcast_S_S16384x128 (constant S_ .f32 0x00000000#32)) (cols (X4 m c)) z := by
  rw [V_eq]; after_reads_simp
  unfold catT cols
  exact ⟨_, rfl⟩
theorem V16_eq : ∃ z, (show FVec Ideal S512x2048 .bf16 from V m c main_v16) = flat (wide (heads (X2 m c)) z) := by
  rw [V_eq]; after_reads_simp
  unfold flat wide heads
  exact ⟨_, rfl⟩
theorem V31_eq : ∃ z, (show FVec Ideal S512x2048 .bf16 from V m c main_v31)
    = flat (catB (broadcastInDim S512x8x128 ![] bcast_S_S512x8x128 (constant S_ .f32 0x00000000#32)) (swapped (heads (X2 m c))) z) := by
  rw [V_eq]; after_reads_simp
  unfold flat catB swapped heads
  exact ⟨_, rfl⟩

theorem e35 (R : Fin 16384) (l : Fin 512) (K : Fin 3840) (h : 1024 + l.val = K.val) :
    (show FVec Ideal S16384x3840 .f32 from V m c main_v35) (ix2 R K) = X0 m c (ix3 0 R l) := by
  obtain ⟨z, z', e⟩ := V35_eq m c
  rw [e, catX1 _ _ _ R l K h]; pointwise
theorem e37 (l : Fin 512) : (show FVec Ideal S1x512 .f32 from V m c main_v37) (ix2 0 l) = X1 m c (ix2 0 l) := by
  rw [V_eq]; entry_read; pointwise
theorem e5_one (R : Fin 16384) (d : Fin 128) (K : Fin 256) (h : 0 + d.val = K.val) : (show FVec Ideal S16384x256 .f32 from V m c main_v5) (ix2 R K) = 1 := by
  obtain ⟨z, e⟩ := V5_eq m c
  rw [e, catT0 _ _ _ R K d h]; pointwise
theorem e5_cos (R : Fin 16384) (d : Fin 64) (K : Fin 256) (h : 128 + d.val = K.val) :
    (show FVec Ideal S16384x256 .f32 from V m c main_v5) (ix2 R K) = X3 m c (ix3 R (rAxis d) (rFreq d)) := by
  obtain ⟨z, e⟩ := V5_eq m c
  rw [e, catT1 _ _ _ R K d h, cols_at]
theorem e10_zero (R : Fin 16384) (d : Fin 128) (K : Fin 256) (h : 0 + d.val = K.val) : (show FVec Ideal S16384x256 .f32 from V m c main_v10) (ix2 R K) = 0 := by
  obtain ⟨z, e⟩ := V10_eq m c
  rw [e, catT0 _ _ _ R K d h]; pointwise
theorem e10_sin (R : Fin 16384) (d : Fin 64) (K : Fin 256) (h : 128 + d.val = K.val) :
    (show FVec Ideal S16384x256 .f32 from V m c main_v10) (ix2 R K) = X4 m c (ix3 R (rAxis d) (rFreq d)) := by
  obtain ⟨z, e⟩ := V10_eq m c
  rw [e, catT1 _ _ _ R K d h, cols_at]
theorem e16 (j : Fin 512) (h : Fin 8) (d : Fin 192) :
    (show FVec Ideal S512x2048 .bf16 from V m c main_v16) (ix2 j ⟨h.val * 256 + d.val, by omega⟩) = X2 m c (ix3 0 j ⟨h.val * 192 + d.val, by omega⟩) := by
  obtain ⟨z, e⟩ := V16_eq m c
  rw [e]
  exact (flat_at _ j h ⟨d.val, by omega⟩).trans ((wide_at _ _ j h d _ (Nat.zero_add _)).trans (heads_at _ j h d))
theorem e31 (j : Fin 512) (h : Fin 8) (d : Fin 64) :
    (show FVec Ideal S512x2048 .bf16 from V m c main_v31) (ix2 j ⟨h.val * 256 + (128 + d.val), by omega⟩)
      = rSwap (fun e => X2 m c (ix3 0 j ⟨h.val * 192 + (128 + e.val), by omega⟩)) d := by
  obtain ⟨z, e⟩ := V31_eq m c
  rw [e]
  refine (flat_at _ j h ⟨128 + d.val, by omega⟩).trans ((catB1 _ _ _ j h _ d rfl).trans ((swapped_at _ j h d).trans ?_))
  exact congrArg (fun f => rSwap f d) (funext fun e => heads_at _ j h ⟨128 + e.val, by omega⟩)

end Cert.Kernel8Ideal.Q

end
-- ==== Proof.QValue.lean ====
/- The projection of the queries: what the program's result holds, entry by entry, where the rows and the weights are real. -/
module

public import proofs.«01_k».proof.Proof.QEntry
public import Idealize.ShloMosaic.Lib.Claim

@[expose] public section

set_option maxRecDepth 16384

noncomputable section

namespace Cert.Spec

open Idealize.ShloMosaic
open Cert.Kernel6Ideal.Merge (c512)

section Query
variable (x : (⟨3, ![1, 16384, 512]⟩ : Shape).Idx → EReal) (nw : (⟨2, ![1, 512]⟩ : Shape).Idx → EReal) (w : (⟨3, ![1, 512, 1536]⟩ : Shape).Idx → EReal)
  (cs sn : (⟨3, ![16384, 2, 16]⟩ : Shape).Idx → EReal)

/-- A normed row's product with column `k`. -/
def qProj (R : Fin 16384) (k : Fin 1536) : EReal :=
  ∑ j : Fin 512, normed c512 (fun l => x (ix3 0 R l)) (fun l => nw (ix2 0 l)) j * w (ix3 0 j k)

/-- The queries: of each head's 192 columns the last 64 turned by the row's angles. -/
def query (R : Fin 16384) (h : Fin 8) (d : Fin 192) : EReal :=
  if hd : d.val < 128 then qProj x nw w R ⟨h.val * 192 + d.val, by omega⟩
  else rope (fun e => qProj x nw w R ⟨h.val * 192 + (128 + e.val), by omega⟩) (fun a f => cs (ix3 R a f)) (fun a f => sn (ix3 R a f)) ⟨d.val - 128, by omega⟩

/-- With real weights, the product with the exchanged columns is the exchanged product. -/
theorem swap_proj (hn : ∀ i, IsReal (nw i)) (hw : ∀ i, IsReal (w i)) (R : Fin 16384) (h : Fin 8) (d : Fin 64) :
    (∑ j : Fin 512, normed c512 (fun l => x (ix3 0 R l)) (fun l => nw (ix2 0 l)) j * rSwap (fun e => w (ix3 0 j ⟨h.val * 192 + (128 + e.val), by omega⟩)) d)
      = rSwap (fun e => qProj x nw w R ⟨h.val * 192 + (128 + e.val), by omega⟩) d := by
  unfold rSwap qProj
  by_cases hd : d.val / 16 % 2 = 0
  · rw [if_pos hd, ← sum_neg_real]
    · refine Finset.sum_congr rfl fun j _ => ?_
      rw [if_pos hd]
      exact mul_neg _ _
    · intro j
      exact ((scaled_real (fun l => x (ix3 0 R l)) j).mul (hn (ix2 0 j))).mul (hw _)
  · rw [if_neg hd]
    refine Finset.sum_congr rfl fun j _ => ?_
    rw [if_neg hd]

end Query

end Cert.Spec

namespace Cert.Kernel8Ideal.Q

open Idealize.ShloMosaic Idealize.ShloMosaic.TcCoe Idealize.SL.Sem
open Cert.Kernel8Ideal Cert.Kernel8Ideal.Gen Cert.Spec
open Cert.Kernel6Ideal.Merge (c512)

variable (m : (ℓ : Loc nD τ sig) → Buf (Elt Ideal) ℓ) (ρ : Dev nD → PrngReg)

/-- The windows' blocks at every point. -/
theorem idx : ∀ t : Fin cfg0.N,
    win0_0.index t = ![t.val, 2] ∧ win0_1.index t = ![0, 0] ∧ win0_2.index t = ![0, 0] ∧ win0_3.index t = ![0, 0]
    ∧ win0_4.index t = ![t.val, 0] ∧ win0_5.index t = ![t.val, 0] ∧ win0_6.index t = ![t.val, 0] :=
  (by decide +kernel : ∀ t : Fin grid0.N, _)

theorem N_eq : cfg0.N = 32 := N_0

variable (c : Dev nD)

/-! ## The blocks a point reads -/

theorem row_lt (t : Fin cfg0.N) (r : Fin 512) : t.val * 512 + r.val < 16384 := by
  have := lt_of_lt_of_eq t.isLt N_eq; omega

/-- Row `r` of point `t`. -/
def row (t : Fin cfg0.N) (r : Fin 512) : Fin 16384 := ⟨t.val * 512 + r.val, row_lt t r⟩

section Blocks
variable (t : Fin cfg0.N)

theorem blk0 (r : Fin 512) (l : Fin 512) : (show Vec Ideal S512x512 .f32 from X0_0 m c t) (ix2 r l) = X0 m c (ix3 0 (row t r) l) := by
  rw [← e35 m c (row t r) l ⟨2 * 512 + l.val, by omega⟩ (by show 1024 + l.val = 2 * 512 + l.val; omega)]
  unfold X0_0 Pipeline.Window.fill
  refine (dif_pos (moved0_0 t (ix2 (n0 := 512) (n1 := 512) r l))).trans ?_
  blk_ext [iblk, idx t, row]
theorem blk1 (l : Fin 512) : (show Vec Ideal S1x512 .f32 from iblk m c 1 t) (ix2 0 l) = X1 m c (ix2 0 l) := by
  rw [← e37]; blk_ext [iblk, idx t]
theorem blk2 (j : Fin 512) (k : Fin 2048) : (show Vec Ideal S512x2048 .bf16 from iblk m c 2 t) (ix2 j k) = (show FVec Ideal S512x2048 .bf16 from V m c main_v16) (ix2 j k) := by
  blk_ext [iblk, idx t]
theorem blk3 (j : Fin 512) (k : Fin 2048) : (show Vec Ideal S512x2048 .bf16 from iblk m c 3 t) (ix2 j k) = (show FVec Ideal S512x2048 .bf16 from V m c main_v31) (ix2 j k) := by
  blk_ext [iblk, idx t]
theorem blk4 (r : Fin 512) (d : Fin 256) : (show Vec Ideal S512x256 .f32 from iblk m c 4 t) (ix2 r d) = (show FVec Ideal S16384x256 .f32 from V m c main_v5) (ix2 (row t r) d) := by
  blk_ext [iblk, idx t, row]
theorem blk5 (r : Fin 512) (d : Fin 256) : (show Vec Ideal S512x256 .f32 from iblk m c 5 t) (ix2 r d) = (show FVec Ideal S16384x256 .f32 from V m c main_v10) (ix2 (row t r) d) := by
  blk_ext [iblk, idx t, row]

theorem xn_eq (r : Fin 512) (l : Fin 512) : xn m c t (ix2 r l) = normed c512 (fun l => X0 m c (ix3 0 (row t r) l)) (fun l => X1 m c (ix2 0 l)) l := by
  refine (norm_at _ _ r l).trans ?_
  congr 1
  · funext l; exact blk0 m c t r l
  · funext l; exact blk1 m c t l

end Blocks

/-! ## What a point computes, in the arguments -/

abbrev res := query (X0 m c) (X1 m c) (X2 m c) (X3 m c) (X4 m c)

theorem point (hn : ∀ i, IsReal (X1 m c i)) (hw : ∀ i, IsReal (X2 m c i)) (t : Fin cfg0.N) (r : Fin 512) (h : Fin 8) (d : Fin 192) :
    outsAt0 m c t (ix2 r ⟨h.val * 256 + d.val, by omega⟩) = res m c (row t r) h d := by
  refine (out_q m c t _).trans ?_
  have hD : (⟨(h.val * 256 + d.val) % 256, Nat.mod_lt _ (by decide)⟩ : Fin 256) = ⟨d.val, by omega⟩ := Fin.ext (by show (h.val * 256 + d.val) % 256 = d.val; omega)
  refine (congrArg (mix _ _ _ _ _ r) hD).trans ?_
  unfold mix res query
  by_cases hd : d.val < 128
  · rw [dif_pos hd]
    have hta := (blk4 m c t r ⟨d.val, by omega⟩).trans (e5_one m c (row t r) ⟨d.val, hd⟩ _ (Nat.zero_add _))
    have htb := (blk5 m c t r ⟨d.val, by omega⟩).trans (e10_zero m c (row t r) ⟨d.val, hd⟩ _ (Nat.zero_add _))
    refine (congr (congrArg HAdd.hAdd (congrArg (_ * ·) hta)) (congrArg (_ * ·) htb)).trans ?_
    rw [mul_one, mul_zero, add_zero]
    unfold qProj
    refine Finset.sum_congr rfl fun j _ => congr (congrArg HMul.hMul (xn_eq m c t r j)) ?_
    exact (blk2 m c t j _).trans (e16 m c j h d)
  · rw [dif_neg hd, ← rope_eq]
    have hta := (blk4 m c t r ⟨d.val, by omega⟩).trans (e5_cos m c (row t r) ⟨d.val - 128, by omega⟩ _ (by show 128 + (d.val - 128) = d.val; omega))
    have htb := (blk5 m c t r ⟨d.val, by omega⟩).trans (e10_sin m c (row t r) ⟨d.val - 128, by omega⟩ _ (by show 128 + (d.val - 128) = d.val; omega))
    have hk : (⟨h.val * 256 + d.val, by omega⟩ : Fin 2048) = ⟨h.val * 256 + (128 + (⟨d.val - 128, by omega⟩ : Fin 64).val), by show _ + (128 + (d.val - 128)) < _; omega⟩ :=
      Fin.ext (by show h.val * 256 + d.val = h.val * 256 + (128 + (d.val - 128)); omega)
    refine congr (congrArg HAdd.hAdd (congr (congrArg HMul.hMul ?_) hta)) (congr (congrArg HMul.hMul ?_) htb)
    · unfold qProj
      refine Finset.sum_congr rfl fun j _ => congr (congrArg HMul.hMul (xn_eq m c t r j)) ?_
      refine (blk2 m c t j _).trans ((e16 m c j h d).trans (congrArg (fun k => X2 m c (ix3 0 j k)) (Fin.ext ?_)))
      show h.val * 192 + d.val = h.val * 192 + (128 + (d.val - 128))
      omega
    · refine Eq.trans (Finset.sum_congr rfl fun j _ => congr (congrArg HMul.hMul (xn_eq m c t r j)) ?_) (swap_proj _ _ _ hn hw (row t r) h ⟨d.val - 128, by omega⟩)
      exact (blk3 m c t j _).trans ((congrArg (fun k => (show FVec Ideal S512x2048 .bf16 from V m c main_v31) (ix2 j k)) hk).trans (e31 m c j h ⟨d.val - 128, by omega⟩))

/-! ## The call's array -/

/-- The point that writes a row, and the row within its block. -/
def pt (R : Fin 16384) : Fin cfg0.N := ⟨R.val / 512, by rw [N_eq]; omega⟩
def within (R : Fin 16384) : Fin 512 := ⟨R.val % 512, by omega⟩
theorem row_pt (R : Fin 16384) : row (pt R) (within R) = R := Fin.ext (by show R.val / 512 * 512 + R.val % 512 = R.val; omega)

theorem q_eq (t : Fin cfg0.N) (y : S512x2048.Idx) (R : Fin 16384) (C : Fin 2048) (hR : t.val * 512 + (y 0).val = R.val) (hC : (y 1).val = C.val) :
    outsAt0 m c t y = outsAt0 m c (pt R) (ix2 (within R) C) := by
  have h0 : (y 0).val < 512 := (y 0).isLt
  obtain rfl : t = pt R := Fin.ext (by show t.val = R.val / 512; omega)
  refine congrArg _ ((eq_ix2 (n0 := 512) (n1 := 2048) y).trans (congr (congrArg ix2 (Fin.ext ?_)) (Fin.ext hC)))
  show (y 0).val = R.val % 512
  omega

theorem final : (dats m 0 c).arrAt 6 cfg0.N = (show FVec Ideal S16384x2048 .bf16 from fun i => outsAt0 m c (pt (i 0)) (ix2 (within (i 0)) (i 1))) := by
  refine (dats m 0 c).arrAt_eq_of_covers 6 _ (by decide +kernel) fun t ht y => ?_
  blk_simp
  rw [after0_6]
  have e := (idx t).2.2.2.2.2.2
  have b0 : (((cfg0.win 6).blk t).view.emb y 0).val = win0_6.index t (0 : Fin 2) * 512 + 1 * (y 0).val := rfl
  have b1 : (((cfg0.win 6).blk t).view.emb y 1).val = win0_6.index t (1 : Fin 2) * 2048 + 1 * (y 1).val := rfl
  have e0 : win0_6.index t (0 : Fin 2) = t.val := by rw [e]; rfl
  have e1 : win0_6.index t (1 : Fin 2) = 0 := by rw [e]; rfl
  rw [e0] at b0; rw [e1] at b1
  refine q_eq m c t y _ _ ?_ ?_
  · exact Eq.trans (by omega) b0.symm
  · exact Eq.trans (by omega) b1.symm

/-! ## The host operations after the call -/

/-- Heads apart, their first 192 columns. -/
def back (p : FVec Ideal S16384x2048 .bf16) : FVec Ideal S1x16384x8x192 .bf16 :=
  broadcastInDim S1x16384x8x192 ![1, 2, 3] bcast_S16384x8x192_S1x16384x8x192_1_2_3
    (extractStridedSlice S16384x8x192 ![0, 0, 0] (shapeCast S16384x8x256 p shapeCasts_S16384x2048_S16384x8x256) slices_S16384x8x256_S16384x8x192_0_0_0)

theorem back_at (p : FVec Ideal S16384x2048 .bf16) (R : Fin 16384) (h : Fin 8) (d : Fin 192) :
    back p (ix4 0 R h d) = p (ix2 R ⟨h.val * 256 + d.val, by omega⟩) := by
  pointwise [back]

theorem after_eq (Z : Valuation τ sig (Elt Ideal)) :
    StableHlo.after (hostOps1 (F := Ideal)) Z (Proc.devRef .tc main_v41) = back (Z (Proc.devRef .tc main_v38)) := by
  after_reads_simp
  unfold back
  rfl

theorem tail_eq : Pipeline.afterTail₀ cfgs (dats m) 0 (V0 m) [hostOps1] c main_v41 = back ((dats m 0 c).arrAt 6 cfg0.N) :=
  (after_eq _).trans (congrArg back (Pipeline.withArrays_arr (cfgs 0).spec (by decide) c (V0 m c) _ 6))

/-- The program's result: the call's array, heads apart. -/
def out : FVec Ideal S1x16384x8x192 .bf16 := back ((dats m 0 c).arrAt 6 cfg0.N)

theorem out_eq (hn : ∀ i, IsReal (X1 m c i)) (hw : ∀ i, IsReal (X2 m c i)) :
    out m c = fun i => res m c (i 1) (i 2) (i 3) := by
  unfold out
  rw [final]
  funext i
  have e : i = ix4 (n0 := 1) (n1 := 16384) (n2 := 8) (n3 := 192) 0 (i 1) (i 2) (i 3) :=
    (eq_ix4 i).trans (congrArg (fun a => ix4 (n0 := 1) (n1 := 16384) (n2 := 8) (n3 := 192) a (i 1) (i 2) (i 3)) (Subsingleton.elim (α := Fin 1) _ _))
  refine (congrArg (back _) e).trans ((back_at _ (i 1) (i 2) (i 3)).trans ((point m c hn hw _ _ (i 2) (i 3)).trans ?_))
  exact congrArg (fun R => res m c R (i 2) (i 3)) (row_pt (i 1))

/-- Every execution leaves the result and changes no argument. -/
theorem run : θ_run defs (onTc (τ := τ) (main (F := Ideal))) ⟨m, fun _ => 0, ρ⟩ fun r => ∀ c : Dev nD,
      r.2.mem ((c.tc : Thread nD τ).loc main_v41) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨((h.1 c).2 main_v41 (by decide)).trans (tail_eq m c), h.2 c⟩) (θ_run_and (run_main m ρ) (unchanged m ρ))

end Cert.Kernel8Ideal.Q

end
-- ==== Proof.QRef.lean ====
/- The reference of the projection of the queries over the extended reals, entry by entry, and its precondition read. -/
module

public import proofs.«01_k».proof.Proof.QValue
public import proofs.«01_k».proof.Proof.Finite
public import proofs.«01_k».proof.Proof.Gen.Reference8Ideal.Run
public import Idealize.ShloMosaic.Lib.IdealHost

@[expose] public section

set_option maxRecDepth 16384

noncomputable section

namespace Cert.Reference8Ideal.Q

open Idealize.ShloMosaic Idealize.ShloMosaic.TcCoe Idealize.SL.Sem
open Cert.Reference8Ideal Cert.Reference8Ideal.Gen Cert.Spec
open Cert.Kernel6Ideal.Merge (c512)

/-- Every row over the root of its mean square, times the norm's weight. -/
def Norm (x : FVec Ideal S1x16384x512 .f32) (nw : FVec Ideal S1x512 .f32) : FVec Ideal S1x16384x512 .f32 :=
  mulf (mulf x (broadcastInDim S1x16384x512 ![0, 1, 2] bcast_S1x16384x1_S1x16384x512_0_1_2 (Host.rsqrt (addf (Host.divf (broadcastInDim S1x16384x1 ![0, 1] bcast_S1x16384_S1x16384x1_0_1 (Host.reduceAdd (mulf x x) (constant S_ .f32 0x00000000#32) reducesTo_S1x16384x512_S1x16384_d2 h_S_)) (broadcastInDim S1x16384x1 ![] bcast_S_S1x16384x1 (constant S_ .f32 0x44000000#32))) (broadcastInDim S1x16384x1 ![] bcast_S_S1x16384x1 (constant S_ .f32 0x358637BD#32)))))) (broadcastInDim S1x16384x512 ![0, 1, 2] bcast_S1x1x512_S1x16384x512_0_1_2 (broadcastInDim S1x1x512 ![2] bcast_S512_S1x1x512_2 (shapeCast _ nw shapeCasts_S1x512_S512)))

/-- The projection of the normed rows, heads apart. -/
def Prod (u : FVec Ideal S1x16384x512 .f32) (w : FVec Ideal S1x512x1536 .f32) : FVec Ideal S1x16384x8x192 .f32 :=
  shapeCast _ (Host.dotGeneral dot_S1x16384x512_S512x1536_S1x16384x1536_2_0_01_1_n_n none u (shapeCast _ w shapeCasts_S1x512x1536_S512x1536)) shapeCasts_S1x16384x1536_S1x16384x8x192

/-- The first and the second columns of the rotary pairs. -/
def Lo (p : FVec Ideal S1x16384x8x192 .f32) : FVec Ideal S1x16384x8x2x16 .f32 :=
  shapeCast _ (extractStridedSlice S1x16384x8x2x1x16 ![0, 0, 0, 0, 0, 0] (shapeCast _ (extractStridedSlice S1x16384x8x64 ![0, 0, 0, 128] p slices_S1x16384x8x192_S1x16384x8x64_0_0_0_128) shapeCasts_S1x16384x8x64_S1x16384x8x2x2x16) slices_S1x16384x8x2x2x16_S1x16384x8x2x1x16_0_0_0_0_0_0) shapeCasts_S1x16384x8x2x1x16_S1x16384x8x2x16
def Hi (p : FVec Ideal S1x16384x8x192 .f32) : FVec Ideal S1x16384x8x2x16 .f32 :=
  shapeCast _ (extractStridedSlice S1x16384x8x2x1x16 ![0, 0, 0, 0, 1, 0] (shapeCast _ (extractStridedSlice S1x16384x8x64 ![0, 0, 0, 128] p slices_S1x16384x8x192_S1x16384x8x64_0_0_0_128) shapeCasts_S1x16384x8x64_S1x16384x8x2x2x16) slices_S1x16384x8x2x2x16_S1x16384x8x2x1x16_0_0_0_0_1_0) shapeCasts_S1x16384x8x2x1x16_S1x16384x8x2x16

/-- A table for every head. -/
def Tab (t : FVec Ideal S16384x2x16 .f32) : FVec Ideal S1x16384x8x2x16 .f32 :=
  broadcastInDim S1x16384x8x2x16 ![0, 1, 2, 3, 4] bcast_S1x16384x1x2x16_S1x16384x8x2x16_0_1_2_3_4 (broadcastInDim S1x16384x1x2x16 ![1, 2, 3, 4] bcast_S16384x1x2x16_S1x16384x1x2x16_1_2_3_4 (broadcastInDim S16384x1x2x16 ![0, 2, 3] bcast_S16384x2x16_S16384x1x2x16_0_2_3 t))

/-- The pairs put together again. -/
def Pair (a b : FVec Ideal S1x16384x8x2x16 .f32) : FVec Ideal S1x16384x8x64 .f32 :=
  shapeCast _ (concatenate S1x16384x8x2x2x16 4 [⟨S1x16384x8x2x1x16, (broadcastInDim S1x16384x8x2x1x16 ![0, 1, 2, 3, 5] bcast_S1x16384x8x2x16_S1x16384x8x2x1x16_0_1_2_3_5 a)⟩, ⟨S1x16384x8x2x1x16, (broadcastInDim S1x16384x8x2x1x16 ![0, 1, 2, 3, 5] bcast_S1x16384x8x2x16_S1x16384x8x2x1x16_0_1_2_3_5 b)⟩] concatenates_S1x16384x8x2x1x16_S1x16384x8x2x1x16_S1x16384x8x2x2x16_d4) shapeCasts_S1x16384x8x2x2x16_S1x16384x8x64

/-- Each head's columns after its first, turned. -/
def Turn (p : FVec Ideal S1x16384x8x192 .f32) (cs sn : FVec Ideal S16384x2x16 .f32) : FVec Ideal S1x16384x8x64 .f32 :=
  Pair (subf (mulf (Lo p) (Tab cs)) (mulf (Hi p) (Tab sn))) (addf (mulf (Lo p) (Tab sn)) (mulf (Hi p) (Tab cs)))

/-- Each head's first columns, and the turned ones. -/
def Join (p : FVec Ideal S1x16384x8x192 .f32) (k : FVec Ideal S1x16384x8x64 .f32) : FVec Ideal S1x16384x8x192 .bf16 :=
  truncf .bf16 (concatenate S1x16384x8x192 3 [⟨S1x16384x8x128, (extractStridedSlice S1x16384x8x128 ![0, 0, 0, 0] p slices_S1x16384x8x192_S1x16384x8x128_0_0_0_0)⟩, ⟨S1x16384x8x64, k⟩] concatenates_S1x16384x8x128_S1x16384x8x64_S1x16384x8x192_d3) bitsLt_bf16_f32

/-- The reference's result. -/
def REF (x : FVec Ideal S1x16384x512 .f32) (nw : FVec Ideal S1x512 .f32) (w : FVec Ideal S1x512x1536 .f32) (cs sn : FVec Ideal S16384x2x16 .f32) : FVec Ideal S1x16384x8x192 .bf16 :=
  Join (Prod (Norm x nw) w) (Turn (Prod (Norm x nw) w) cs sn)

/-- Every execution leaves the result and changes no argument. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v45) = REF (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h c).1.trans (by unfold Value.res_main_v45 REF Join Turn Pair Lo Hi Tab Prod Norm; rfl), (h c).2⟩) (Value.run m ρ)

section At
variable (x : FVec Ideal S1x16384x512 .f32) (nw : FVec Ideal S1x512 .f32) (w : FVec Ideal S1x512x1536 .f32) (p : FVec Ideal S1x16384x8x192 .f32)
  (t cs sn : FVec Ideal S16384x2x16 .f32) (a b : FVec Ideal S1x16384x8x2x16 .f32) (R : Fin 16384) (h : Fin 8)

theorem Norm_at (l : Fin 512) : Norm x nw (ix3 0 R l) = normed c512 (fun l => x (ix3 0 R l)) (fun l => nw (ix2 0 l)) l := by
  pointwise [Norm, normed, rms, c512]
theorem Prod_at (d : Fin 192) : Prod x w (ix4 0 R h d) = ∑ j : Fin 512, x (ix3 0 R j) * w (ix3 0 j ⟨h.val * 192 + d.val, by omega⟩) := by
  pointwise [Prod]
theorem proj_at (d : Fin 192) : Prod (Norm x nw) w (ix4 0 R h d) = qProj x nw w R ⟨h.val * 192 + d.val, by omega⟩ := by
  rw [Prod_at]; unfold qProj
  exact Finset.sum_congr rfl fun j _ => congrArg (· * _) (Norm_at x nw R j)
theorem Lo_at (a : Fin 2) (f : Fin 16) : Lo p (ix5 0 R h a f) = p (ix4 0 R h ⟨128 + (a.val * 32 + f.val), by omega⟩) := by
  pointwise [Lo]
theorem Hi_at (a : Fin 2) (f : Fin 16) : Hi p (ix5 0 R h a f) = p (ix4 0 R h ⟨128 + (a.val * 32 + 16 + f.val), by omega⟩) := by
  pointwise [Hi]
theorem Tab_at (a : Fin 2) (f : Fin 16) : Tab t (ix5 0 R h a f) = t (ix3 R a f) := by
  pointwise [Tab]
theorem Pair_at (e : Fin 64) : Pair a b (ix4 0 R h e) = if e.val / 16 % 2 = 0 then a (ix5 0 R h (rAxis e) (rFreq e)) else b (ix5 0 R h (rAxis e) (rFreq e)) := by
  by_cases he : e.val / 16 % 2 = 0
  · rw [if_pos he]
    pointwise [Pair, rAxis, rFreq]
    exact dif_pos (by omega)
  · rw [if_neg he]
    pointwise [Pair, rAxis, rFreq]
    exact dif_neg (by omega)
theorem Turn_at (e : Fin 64) : Turn p cs sn (ix4 0 R h e)
    = rope (fun e => p (ix4 0 R h ⟨128 + e.val, by omega⟩)) (fun a f => cs (ix3 R a f)) (fun a f => sn (ix3 R a f)) e := by
  unfold Turn rope
  rw [Pair_at]
  refine if_congr Iff.rfl ?_ ?_
  · pointwise [Lo_at, Hi_at, Tab_at, rAxis, rFreq, rLo, rHi]
  · pointwise [Lo_at, Hi_at, Tab_at, rAxis, rFreq, rLo, rHi]
theorem Join_at (k : FVec Ideal S1x16384x8x64 .f32) (d : Fin 192) :
    Join p k (ix4 0 R h d) = if hd : d.val < 128 then p (ix4 0 R h d) else k (ix4 0 R h ⟨d.val - 128, by omega⟩) := by
  pointwise [Join]

/-- The reference's result, entry by entry. -/
theorem REF_eq (d : Fin 192) : REF x nw w cs sn (ix4 0 R h d) = query x nw w cs sn R h d := by
  unfold REF query
  rw [Join_at]
  by_cases hd : d.val < 128
  · rw [dif_pos hd, dif_pos hd, proj_at]
  · rw [dif_neg hd, dif_neg hd, Turn_at]
    exact congrArg (fun f => rope f _ _ _) (funext fun e => proj_at x nw w R h ⟨128 + e.val, by omega⟩)

/-- The same at an index. -/
theorem REF_idx (i : S1x16384x8x192.Idx) : REF x nw w cs sn i = query x nw w cs sn (i 1) (i 2) (i 3) := by
  have e : i = ix4 (n0 := 1) (n1 := 16384) (n2 := 8) (n3 := 192) 0 (i 1) (i 2) (i 3) :=
    (eq_ix4 i).trans (congrArg (fun a => ix4 (n0 := 1) (n1 := 16384) (n2 := 8) (n3 := 192) a (i 1) (i 2) (i 3)) (Subsingleton.elim (α := Fin 1) _ _))
  exact (congrArg (REF x nw w cs sn) e).trans (REF_eq x nw w cs sn (i 1) (i 2) (i 3))

end At

end Cert.Reference8Ideal.Q

namespace Cert.Pre_finite_q

open Idealize.ShloMosaic Cert.Spec

/-- The side conditions of the precondition's operations. -/
instance facts : Cert.Pre_finite_q.Facts where
  bcast_S_S1x512 := by decide
  bcast_S_S1x512x1536 := by decide

variable (x : FVec Ideal S1x16384x512 .f32) (nw : FVec Ideal S1x512 .f32) (w : FVec Ideal S1x512x1536 .f32) (cs sn : FVec Ideal S16384x2x16 .f32)

theorem real_n (h : (fn x nw w cs sn).1 = fun _ => 1#1) (i : S1x512.Idx) : IsReal (nw i) := by
  have hi := congrFun h i
  have e : (fn x nw w cs sn).1 i = cmpf .olt (Host.absf nw) (broadcastInDim S1x512 ![] facts.bcast_S_S1x512 (constant S_ .f32 0x7F800000#32)) i := rfl
  rw [e] at hi
  pointwise [Cert.Pre_finite_qk.ofBits_top] at hi
  have hb : decide ((FloatOps.absf (nw i : EReal) : EReal) < ⊤) = true := by
    cases hd : decide ((FloatOps.absf (nw i : EReal) : EReal) < ⊤)
    · rw [show decide (FloatOps.absf (nw i) < ⊤) = false from hd] at hi; exact absurd hi (by decide)
    · rfl
  exact ⟨_, (Cert.Pre_finite_qk.real_of_abs (of_decide_eq_true hb)).symm⟩

theorem real_w (h : (fn x nw w cs sn).2 = fun _ => 1#1) (i : S1x512x1536.Idx) : IsReal (w i) := by
  have hi := congrFun h i
  have e : (fn x nw w cs sn).2 i = cmpf .olt (Host.absf w) (broadcastInDim S1x512x1536 ![] facts.bcast_S_S1x512x1536 (constant S_ .f32 0x7F800000#32)) i := rfl
  rw [e] at hi
  pointwise [Cert.Pre_finite_qk.ofBits_top] at hi
  have hb : decide ((FloatOps.absf (w i : EReal) : EReal) < ⊤) = true := by
    cases hd : decide ((FloatOps.absf (w i : EReal) : EReal) < ⊤)
    · rw [show decide (FloatOps.absf (w i) < ⊤) = false from hd] at hi; exact absurd hi (by decide)
    · rfl
  exact ⟨_, (Cert.Pre_finite_qk.real_of_abs (of_decide_eq_true hb)).symm⟩

end Cert.Pre_finite_q

end
-- ==== Proof.DwValue.lean ====
/- The short convolution before the state-space scan: what one point writes, and what the call's result holds, entry by entry. -/
module

public import proofs.«01_k».proof.Proof.Spec
public import proofs.«01_k».proof.Proof.Gen.Kernel9Ideal.Value
public import Idealize.ShloMosaic.Lib.Pipeline.ValueKit
public import Idealize.ShloMosaic.Lib.Pointwise
public import Idealize.ShloMosaic.Lib.StableHlo.RunRead
public import Idealize.ShloMosaic.Lib.Claim

@[expose] public section

set_option maxRecDepth 16384

noncomputable section

namespace Cert.Spec

open Idealize.ShloMosaic

variable (x : (⟨3, ![1, 16384, 1536]⟩ : Shape).Idx → EReal) (cw : (⟨3, ![1, 3, 1536]⟩ : Shape).Idx → EReal) (cb : (⟨2, ![1, 1536]⟩ : Shape).Idx → EReal)

/-- The row before `R`; before the first row there is zero. -/
def rowPrev (R : Fin 16384) (k : Fin 1536) : EReal :=
  if R.val = 0 then 0 else x (ix3 0 ⟨R.val - 1, by omega⟩ k)

/-- The row after `R`; after the last row there is zero. -/
def rowNext (R : Fin 16384) (k : Fin 1536) : EReal :=
  if R.val = 16383 then 0 else x (ix3 0 ⟨(R.val + 1) % 16384, Nat.mod_lt _ (by decide)⟩ k)

/-- The result: each column's three neighbours weighted, and the bias, through SiLU. -/
def tapsRes (R : Fin 16384) (k : Fin 1536) : EReal :=
  silu (rowPrev x R k * cw (ix3 0 0 k) + x (ix3 0 R k) * cw (ix3 0 1 k) + rowNext x R k * cw (ix3 0 2 k) + cb (ix2 0 k))

end Cert.Spec

namespace Cert.Kernel9Ideal.Taps

open Idealize.ShloMosaic Idealize.ShloMosaic.TcCoe Idealize.SL.Sem
open Cert.Kernel9Ideal Cert.Kernel9Ideal.Gen Cert.Spec

/-! ## The formulas of one point -/

/-- A choice on an equality of two words. -/
theorem sel_eq {α : Type} (n k : Nat) (hn : n < 2 ^ 32) (hk : k < 2 ^ 32) (a b : α) :
    Scalar.select (IntOp.cmpi .eq (BitVec.ofNat 32 n) (BitVec.ofNat 32 k)) a b = if n = k then a else b := by
  rw [WordCmp.cmpi_eq_ofNat hn hk, WordCmp.select_ofBool]
  simp only [decide_eq_true_eq]

/-- The row before, weighted, and the row itself, weighted. -/
theorem pay3_at (i : grid0.Coords) (I : Nat) (hI : (i 0).val = I) (hb : I < 32) (x : Vec Ideal S512x1536 .f32) (p w0 w1 : Vec Ideal S1x1536 .f32) (r : Fin 512) (k : Fin 1536) :
    (k0_pay3 i x p w0 w1 : Vec Ideal S512x1536 .f32) (ix2 r k)
      = (if r.val = 0 then (if I = 0 then 0 else p (ix2 0 k)) else x (ix2 ⟨(r.val + 512 - 1) % 512, Nat.mod_lt _ (by decide)⟩ k)) * w0 (ix2 0 k)
        + x (ix2 r k) * w1 (ix2 0 k) := by
  unfold k0_pay3
  rw [hI]
  pointwise [k0_pay2]
  rw [sel_eq r.val 0 (by omega) (by decide)]
  refine congrArg (· + _) (congrArg (· * _) (if_congr Iff.rfl ?_ rfl))
  exact sel_eq I 0 (by omega) (by decide) _ _

/-- The row after, weighted. -/
theorem pay4_at (i : grid0.Coords) (I : Nat) (hI : (i 0).val = I) (hb : I < 32) (x : Vec Ideal S512x1536 .f32) (p w2 : Vec Ideal S1x1536 .f32) (r : Fin 512) (k : Fin 1536) :
    (k0_pay4 i x p w2 : Vec Ideal S512x1536 .f32) (ix2 r k)
      = (if r.val = 511 then (if I = 31 then 0 else p (ix2 0 k)) else x (ix2 ⟨(r.val + 512 - 511) % 512, Nat.mod_lt _ (by decide)⟩ k)) * w2 (ix2 0 k) := by
  unfold k0_pay4
  rw [hI]
  pointwise [k0_pay2]
  rw [sel_eq r.val 511 (by omega) (by decide)]
  refine congrArg (· * _) (if_congr Iff.rfl ?_ rfl)
  exact sel_eq I 31 (by omega) (by decide) _ _

theorem pay1_at (a b : FVec Ideal S512x1536 .f32) (v : Vec Ideal S1x1536 .f32) (r : Fin 512) (k : Fin 1536) :
    (k0_pay1 a b v : Vec Ideal S512x1536 .f32) (ix2 r k) = silu (a (ix2 r k) + b (ix2 r k) + v (ix2 0 k)) := by
  pointwise [k0_pay1, silu]
  rw [zero_sub]

variable (m : (ℓ : Loc nD τ sig) → Buf (Elt Ideal) ℓ) (ρ : Dev nD → PrngReg) (c : Dev nD)

abbrev X0 : FVec Ideal S1x16384x1536 .f32 := m ((c : Thread nD τ).loc main_arg0)
abbrev X1 : FVec Ideal S1x3x1536 .f32 := m ((c : Thread nD τ).loc main_arg1)
abbrev X2 : FVec Ideal S1x1536 .f32 := m ((c : Thread nD τ).loc main_arg2)

/-! ## The arrays at the call -/

theorem V_eq (b : Ref sig .tc) : V m c b = StableHlo.after hostOps0 (fun b => m (c, b)) (Proc.devRef .tc b) := by
  rfl

/-- The rows between two blocks of zeros. -/
def cat (z : FVec Ideal S16384x1536 .f32) (a : FVec Ideal S16384x1536 .f32) (z' : FVec Ideal S16384x768 .f32) : FVec Ideal S16384x3840 .f32 :=
  concatenate S16384x3840 1 [⟨S16384x1536, z⟩, ⟨S16384x1536, a⟩, ⟨S16384x768, z'⟩] concatenates_S16384x1536_S16384x1536_S16384x768_S16384x3840_d1

theorem cat_at (z : FVec Ideal S16384x1536 .f32) (a : FVec Ideal S16384x1536 .f32) (z' : FVec Ideal S16384x768 .f32) (R : Fin 16384) (k : Fin 1536) (K : Fin 3840)
    (h : 1536 + k.val = K.val) : cat z a z' (ix2 R K) = a (ix2 R k) :=
  concatenate_apply_piece (t := S16384x3840) 1 _ _ (ix2 R K) 1 (by simp) S16384x1536 a rfl rfl 1536 rfl (ix2 R k) (fun | ⟨0, _⟩, _ => rfl | ⟨1, _⟩, hb => absurd rfl hb) h

theorem V3_eq : ∃ z z', (show FVec Ideal S16384x3840 .f32 from V m c main_v3) = cat z (shapeCast _ (X0 m c) shapeCasts_S1x16384x1536_S16384x1536) z' := by
  rw [V_eq]; after_reads_simp
  unfold cat
  exact ⟨_, _, rfl⟩

theorem flat_at (x : FVec Ideal S1x16384x1536 .f32) (R : Fin 16384) (k : Fin 1536) :
    (shapeCast S16384x1536 x shapeCasts_S1x16384x1536_S16384x1536) (ix2 R k) = x (ix3 0 R k) := by
  pointwise []

theorem e3 (R : Fin 16384) (k : Fin 1536) (K : Fin 3840) (h : 1536 + k.val = K.val) :
    (show FVec Ideal S16384x3840 .f32 from V m c main_v3) (ix2 R K) = X0 m c (ix3 0 R k) := by
  obtain ⟨z, z', e⟩ := V3_eq m c
  exact (congrFun e (ix2 R K)).trans ((cat_at z _ z' R k K h).trans (flat_at _ R k))
theorem e4 (a : Fin 3) (k : Fin 1536) : (show FVec Ideal S3x1536 .f32 from V m c main_v4) (ix2 a k) = X1 m c (ix3 0 a k) := by
  entry_read; pointwise
theorem e6 (k : Fin 1536) : (show FVec Ideal S1x1536 .f32 from V m c main_v6) (ix2 0 k) = X2 m c (ix2 0 k) := by
  entry_read; pointwise

/-! ## The blocks a point reads -/

/-- The windows' blocks at every point. -/
theorem idx : ∀ t : Fin cfg0.N,
    win0_0.index t = ![t.val, 1] ∧ win0_1.index t = ![t.val * 64 - 1, 1] ∧ win0_2.index t = ![min ((t.val + 1) * 64) 2047, 1]
    ∧ win0_3.index t = ![0, 0] ∧ win0_4.index t = ![0, 0] ∧ win0_5.index t = ![t.val, 0] ∧ (grid0.coords t 0).val = t.val :=
  (by decide +kernel : ∀ t : Fin grid0.N, _)

theorem N_eq : cfg0.N = 32 := N_0

theorem row_lt (t : Fin cfg0.N) (r : Fin 512) : t.val * 512 + r.val < 16384 := by
  have := lt_of_lt_of_eq t.isLt N_eq; omega
theorem before_lt (t : Fin cfg0.N) : t.val * 512 - 1 < 16384 := by
  have := lt_of_lt_of_eq t.isLt N_eq; omega

/-- Row `r` of point `t`, the row before the point's rows, and the row after them. -/
def row (t : Fin cfg0.N) (r : Fin 512) : Fin 16384 := ⟨t.val * 512 + r.val, row_lt t r⟩
def before (t : Fin cfg0.N) : Fin 16384 := ⟨t.val * 512 - 1, before_lt t⟩
def after (t : Fin cfg0.N) : Fin 16384 := ⟨(t.val + 1) * 512 % 16384, Nat.mod_lt _ (by decide)⟩

section Blocks
variable (t : Fin cfg0.N)

theorem blk0 (r : Fin 512) (k : Fin 1536) : (show Vec Ideal S512x1536 .f32 from X0_0 m c t) (ix2 r k) = X0 m c (ix3 0 (row t r) k) := by
  rw [← e3 m c (row t r) k ⟨1 * 1536 + k.val, by omega⟩ (by show 1536 + k.val = 1 * 1536 + k.val; omega)]
  unfold X0_0 Pipeline.Window.fill
  refine (dif_pos (moved0_0 t (ix2 (n0 := 512) (n1 := 1536) r k))).trans ?_
  blk_ext [iblk, idx t, row]
theorem blk1 (h : t.val ≠ 0) (k : Fin 1536) : (show Vec Ideal S8x1536 .f32 from X0_1 m c t) (ix2 7 k) = X0 m c (ix3 0 (before t) k) := by
  rw [← e3 m c (before t) k ⟨1 * 1536 + k.val, by omega⟩ (by show 1536 + k.val = 1 * 1536 + k.val; omega)]
  unfold X0_1 Pipeline.Window.fill
  refine (dif_pos (moved0_1 t (ix2 (n0 := 8) (n1 := 1536) 7 k))).trans ?_
  blk_ext [iblk, idx t, before]
theorem blk2 (h : t.val ≠ 31) (k : Fin 1536) : (show Vec Ideal S8x1536 .f32 from X0_2 m c t) (ix2 0 k) = X0 m c (ix3 0 (after t) k) := by
  have := lt_of_lt_of_eq t.isLt N_eq
  rw [← e3 m c (after t) k ⟨1 * 1536 + k.val, by omega⟩ (by show 1536 + k.val = 1 * 1536 + k.val; omega)]
  unfold X0_2 Pipeline.Window.fill
  refine (dif_pos (moved0_2 t (ix2 (n0 := 8) (n1 := 1536) 0 k))).trans ?_
  blk_ext [iblk, idx t, after]
theorem blk3 (a : Fin 3) (k : Fin 1536) : (show Vec Ideal S3x1536 .f32 from iblk m c 3 t) (ix2 a k) = X1 m c (ix3 0 a k) := by
  rw [← e4]; blk_ext [iblk, idx t]
theorem blk4 (k : Fin 1536) : (show Vec Ideal S1x1536 .f32 from iblk m c 4 t) (ix2 0 k) = X2 m c (ix2 0 k) := by
  rw [← e6]; blk_ext [iblk, idx t]

/-- What a point writes. -/
theorem out_pay : ∃ p n w0 w1 w2 : Vec Ideal S1x1536 .f32,
    outsAt0 m c t = k0_pay1 (k0_pay3 (grid0.coords t) (X0_0 m c t) p w0 w1) (k0_pay4 (grid0.coords t) (X0_0 m c t) n w2) (iblk m c 4 t)
      ∧ (∀ k, p (ix2 0 k) = (show Vec Ideal S8x1536 .f32 from X0_1 m c t) (ix2 7 k)) ∧ (∀ k, n (ix2 0 k) = (show Vec Ideal S8x1536 .f32 from X0_2 m c t) (ix2 0 k))
      ∧ (∀ k, w0 (ix2 0 k) = (show Vec Ideal S3x1536 .f32 from iblk m c 3 t) (ix2 0 k)) ∧ (∀ k, w1 (ix2 0 k) = (show Vec Ideal S3x1536 .f32 from iblk m c 3 t) (ix2 1 k))
      ∧ (∀ k, w2 (ix2 0 k) = (show Vec Ideal S3x1536 .f32 from iblk m c 3 t) (ix2 2 k)) := by
  refine ⟨View.ld (X0_1 m c t) (Rect.unit ![7, 0] ![1, 1536] inb_S8x1536_S1x1536_7_0), View.ld (X0_2 m c t) (Rect.unit ![0, 0] ![1, 1536] inb_S8x1536_S1x1536_0_0),
    View.ld (iblk m c 3 t) (Rect.unit ![0, 0] ![1, 1536] inb_S3x1536_S1x1536_0_0), View.ld (iblk m c 3 t) (Rect.unit ![1, 0] ![1, 1536] inb_S3x1536_S1x1536_1_0),
    View.ld (iblk m c 3 t) (Rect.unit ![2, 0] ![1, 1536] inb_S3x1536_S1x1536_2_0), ?_, fun k => ?_, fun k => ?_, fun k => ?_, fun k => ?_, fun k => ?_⟩
  · unfold outsAt0 out0_A_5
    frame_out
    rfl
  · pointwise []
  · pointwise []
  · pointwise []
  · pointwise []
  · pointwise []

end Blocks

/-- The specification at the call's arguments. -/
abbrev res := tapsRes (X0 m c) (X1 m c) (X2 m c)

theorem point (t : Fin cfg0.N) (r : Fin 512) (k : Fin 1536) : outsAt0 m c t (ix2 r k) = res m c (row t r) k := by
  have hN := lt_of_lt_of_eq t.isLt N_eq
  have hR : (row t r).val = t.val * 512 + r.val := rfl
  obtain ⟨p, n, w0, w1, w2, e, hp, hn, h0, h1, h2⟩ := out_pay m c t
  refine (congrFun e (ix2 r k)).trans ((pay1_at _ _ _ r k).trans ?_)
  rw [pay3_at _ t.val (idx t).2.2.2.2.2.2 (by omega), pay4_at _ t.val (idx t).2.2.2.2.2.2 (by omega)]
  unfold res tapsRes
  refine congrArg silu (congr (congrArg HAdd.hAdd (congr (congrArg HAdd.hAdd (congr (congrArg HAdd.hAdd (congr (congrArg HMul.hMul ?_) ((h0 k).trans (blk3 m c t 0 k))))
    (congr (congrArg HMul.hMul (blk0 m c t r k)) ((h1 k).trans (blk3 m c t 1 k))))) (congr (congrArg HMul.hMul ?_) ((h2 k).trans (blk3 m c t 2 k))))) (blk4 m c t k))
  · unfold rowPrev
    by_cases hr : r.val = 0
    · rw [if_pos hr]
      by_cases hi : t.val = 0
      · rw [if_pos hi, if_pos (show (row t r).val = 0 by omega)]
      · rw [if_neg hi, if_neg (show ¬(row t r).val = 0 by omega)]
        refine ((hp k).trans (blk1 m c t hi k)).trans (congrArg (fun R => X0 m c (ix3 0 R k)) (Fin.ext ?_))
        show t.val * 512 - 1 = t.val * 512 + r.val - 1
        omega
    · rw [if_neg hr, if_neg (show ¬(row t r).val = 0 by omega)]
      refine (blk0 m c t _ k).trans (congrArg (fun R => X0 m c (ix3 0 R k)) (Fin.ext ?_))
      show t.val * 512 + (r.val + 512 - 1) % 512 = t.val * 512 + r.val - 1
      omega
  · unfold rowNext
    by_cases hr : r.val = 511
    · rw [if_pos hr]
      by_cases hi : t.val = 31
      · rw [if_pos hi, if_pos (show (row t r).val = 16383 by omega)]
      · rw [if_neg hi, if_neg (show ¬(row t r).val = 16383 by omega)]
        refine ((hn k).trans (blk2 m c t hi k)).trans (congrArg (fun R => X0 m c (ix3 0 R k)) (Fin.ext ?_))
        show (t.val + 1) * 512 % 16384 = (t.val * 512 + r.val + 1) % 16384
        omega
    · rw [if_neg hr, if_neg (show ¬(row t r).val = 16383 by omega)]
      refine (blk0 m c t _ k).trans (congrArg (fun R => X0 m c (ix3 0 R k)) (Fin.ext ?_))
      show t.val * 512 + (r.val + 512 - 511) % 512 = (t.val * 512 + r.val + 1) % 16384
      omega

theorem entry_eq (t : Fin cfg0.N) (y : S512x1536.Idx) (R : Fin 16384) (C : Fin 1536) (hR : t.val * 512 + (y 0).val = R.val) (hC : (y 1).val = C.val) :
    outsAt0 m c t y = res m c R C := by
  obtain rfl : row t (y 0) = R := Fin.ext hR
  obtain rfl : (y 1 : Fin 1536) = C := Fin.ext hC
  exact (congrArg (outsAt0 m c t) (eq_ix2 (n0 := 512) (n1 := 1536) y)).trans (point m c t _ _)

/-- The result array. -/
theorem final : (dats m 0 c).arrAt 5 cfg0.N = (show FVec Ideal S16384x1536 .f32 from fun i => res m c (i 0) (i 1)) := by
  refine (dats m 0 c).arrAt_eq_of_covers 5 _ (by decide +kernel) fun t ht y => ?_
  blk_simp
  rw [after0_5]
  have e := (idx t).2.2.2.2.2.1
  have b0 : (((cfg0.win 5).blk t).view.emb y 0).val = win0_5.index t (0 : Fin 2) * 512 + 1 * (y 0).val := rfl
  have b1 : (((cfg0.win 5).blk t).view.emb y 1).val = win0_5.index t (1 : Fin 2) * 1536 + 1 * (y 1).val := rfl
  have e0 : win0_5.index t (0 : Fin 2) = t.val := by rw [e]; rfl
  have e1 : win0_5.index t (1 : Fin 2) = 0 := by rw [e]; rfl
  rw [e0] at b0; rw [e1] at b1
  refine entry_eq m c t y _ _ ?_ ?_
  · exact Eq.trans (by omega) b0.symm
  · exact Eq.trans (by omega) b1.symm

/-- Every execution leaves the result and changes no argument. -/
theorem run : θ_run defs (onTc (τ := τ) (main (F := Ideal))) ⟨m, fun _ => 0, ρ⟩ fun r => ∀ c : Dev nD,
      r.2.mem ((c.tc : Thread nD τ).loc main_v7) = (show FVec Ideal S16384x1536 .f32 from fun i => res m c (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1.trans (final m c), (h c).2⟩) (Value.run_blocks m ρ)

end Cert.Kernel9Ideal.Taps

end
-- ==== Proof.DwRef.lean ====
/- The reference of the short convolution before the state-space scan over the extended reals, entry by entry. -/
module

public import proofs.«01_k».proof.Proof.DwValue
public import proofs.«01_k».proof.Proof.ConvRef
public import proofs.«01_k».proof.Proof.Gen.Reference9Ideal.Run
public import Idealize.ShloMosaic.Lib.IdealHost

@[expose] public section

set_option maxRecDepth 16384

noncomputable section

namespace Cert.Reference9Ideal.Taps

open Idealize.ShloMosaic Idealize.ShloMosaic.TcCoe Idealize.SL.Sem
open Cert.Reference9Ideal Cert.Reference9Ideal.Gen Cert.Spec

/-- The rows with a row of zeros before and one after. -/
def Pad (p : FVec Ideal S1x16384x1536 .f32) : FVec Ideal S1x16386x1536 .f32 :=
  pad S1x16386x1536 ![0, 1, 0] ![0, 1, 0] ![0, 0, 0] p (sitofp .f32 (constantI S_ 32 0#32)) pads_S1x16384x1536_S1x16386x1536_000_110_000 h_S_

/-- The three weighted neighbours and the bias. -/
def Sum3 (q : FVec Ideal S1x16386x1536 .f32) (cw : FVec Ideal S1x3x1536 .f32) (cb : FVec Ideal S1x1536 .f32) : FVec Ideal S1x16384x1536 .f32 :=
  addf (addf (addf
    (mulf (extractStridedSlice S1x16384x1536 ![0, 0, 0] q slices_S1x16386x1536_S1x16384x1536_0_0_0) (broadcastInDim S1x16384x1536 ![0, 1, 2] bcast_S1x1x1536_S1x16384x1536_0_1_2 (broadcastInDim S1x1x1536 ![2] bcast_S1536_S1x1x1536_2 (shapeCast _ (extractStridedSlice S1x1536 ![0, 0] (shapeCast _ cw shapeCasts_S1x3x1536_S3x1536) slices_S3x1536_S1x1536_0_0) shapeCasts_S1x1536_S1536))))
    (mulf (extractStridedSlice S1x16384x1536 ![0, 1, 0] q slices_S1x16386x1536_S1x16384x1536_0_1_0) (broadcastInDim S1x16384x1536 ![0, 1, 2] bcast_S1x1x1536_S1x16384x1536_0_1_2 (broadcastInDim S1x1x1536 ![2] bcast_S1536_S1x1x1536_2 (shapeCast _ (extractStridedSlice S1x1536 ![1, 0] (shapeCast _ cw shapeCasts_S1x3x1536_S3x1536) slices_S3x1536_S1x1536_1_0) shapeCasts_S1x1536_S1536)))))
    (mulf (extractStridedSlice S1x16384x1536 ![0, 2, 0] q slices_S1x16386x1536_S1x16384x1536_0_2_0) (broadcastInDim S1x16384x1536 ![0, 1, 2] bcast_S1x1x1536_S1x16384x1536_0_1_2 (broadcastInDim S1x1x1536 ![2] bcast_S1536_S1x1x1536_2 (shapeCast _ (extractStridedSlice S1x1536 ![2, 0] (shapeCast _ cw shapeCasts_S1x3x1536_S3x1536) slices_S3x1536_S1x1536_2_0) shapeCasts_S1x1536_S1536)))))
    (broadcastInDim S1x16384x1536 ![0, 1, 2] bcast_S1x1x1536_S1x16384x1536_0_1_2 (broadcastInDim S1x1x1536 ![2] bcast_S1536_S1x1x1536_2 (shapeCast _ cb shapeCasts_S1x1536_S1536)))

/-- SiLU of every entry. -/
def Act (y : FVec Ideal S1x16384x1536 .f32) : FVec Ideal S16384x1536 .f32 :=
  shapeCast _ (mulf y (Host.divf (broadcastInDim S1x16384x1536 ![] bcast_S_S1x16384x1536 (constant S_ .f32 0x3F800000#32)) (addf (broadcastInDim S1x16384x1536 ![] bcast_S_S1x16384x1536 (constant S_ .f32 0x3F800000#32)) (Host.exp (Host.negf y))))) shapeCasts_S1x16384x1536_S16384x1536

/-- The reference's result. -/
def REF (x : FVec Ideal S1x16384x1536 .f32) (cw : FVec Ideal S1x3x1536 .f32) (cb : FVec Ideal S1x1536 .f32) : FVec Ideal S16384x1536 .f32 :=
  Act (Sum3 (Pad x) cw cb)

/-- Every execution leaves the result and changes no argument. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v27) = REF (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1.trans (by unfold Value.res_main_v27 REF Act Sum3 Pad; rfl), (h c).2⟩) (Value.run m ρ)

section At

theorem Act_at (y : FVec Ideal S1x16384x1536 .f32) (R : Fin 16384) (k : Fin 1536) : Act y (ix2 R k) = silu (y (ix3 0 R k)) := by
  pointwise [Act, silu]

theorem Sum3_at (q : FVec Ideal S1x16386x1536 .f32) (cw : FVec Ideal S1x3x1536 .f32) (cb : FVec Ideal S1x1536 .f32) (R : Fin 16384) (k : Fin 1536) :
    Sum3 q cw cb (ix3 0 R k) = q (ix3 0 ⟨R.val, by omega⟩ k) * cw (ix3 0 0 k) + q (ix3 0 ⟨1 + R.val, by omega⟩ k) * cw (ix3 0 1 k)
      + q (ix3 0 ⟨2 + R.val, by omega⟩ k) * cw (ix3 0 2 k) + cb (ix2 0 k) := by
  pointwise [Sum3]

theorem Pad_at (p : FVec Ideal S1x16384x1536 .f32) (R : Fin 16386) (k : Fin 1536) :
    Pad p (ix3 0 R k) = if h : 1 ≤ R.val ∧ R.val - 1 < 16384 then p (ix3 0 ⟨R.val - 1, by omega⟩ k) else 0 := by
  rw [← Cert.Reference3Ideal.Conv.sitofp_zero]
  pointwise [Pad]

end At

/-- The reference's result, entry by entry. -/
theorem REF_eq (x : FVec Ideal S1x16384x1536 .f32) (cw : FVec Ideal S1x3x1536 .f32) (cb : FVec Ideal S1x1536 .f32) (R : Fin 16384) (k : Fin 1536) :
    REF x cw cb (ix2 R k) = tapsRes x cw cb R k := by
  rw [REF, Act_at, Sum3_at, Pad_at, Pad_at, Pad_at]
  unfold tapsRes
  refine congrArg silu (congrArg (· + cb (ix2 0 k)) (congr (congrArg _ (congr (congrArg _ (congrArg (· * cw (ix3 0 0 k)) ?_)) (congrArg (· * cw (ix3 0 1 k)) ?_)))
    (congrArg (· * cw (ix3 0 2 k)) ?_)))
  · unfold rowPrev
    by_cases h : R.val = 0
    · rw [dif_neg (fun h' => absurd (show 1 ≤ R.val from h'.1) (by omega)), if_pos h]
    · rw [dif_pos (⟨by show 1 ≤ R.val; omega, by show R.val - 1 < 16384; omega⟩), if_neg h]
  · rw [dif_pos (⟨by show 1 ≤ 1 + R.val; omega, by show 1 + R.val - 1 < 16384; omega⟩)]
    exact congrArg (fun R => x (ix3 0 R k)) (Fin.ext (show 1 + R.val - 1 = R.val by omega))
  · unfold rowNext
    by_cases h : R.val = 16383
    · rw [dif_neg (fun h' => absurd (show 2 + R.val - 1 < 16384 from h'.2) (by omega)), if_pos h]
    · rw [dif_pos (⟨by show 1 ≤ 2 + R.val; omega, by show 2 + R.val - 1 < 16384; omega⟩), if_neg h]
      exact congrArg (fun R => x (ix3 0 R k)) (Fin.ext (show 2 + R.val - 1 = (R.val + 1) % 16384 by omega))

end Cert.Reference9Ideal.Taps

end
-- ==== Proof.ModValue.lean ====
/- The layer's modulation: what the program's results hold, entry by entry. -/
module

public import proofs.«01_k».proof.Proof.Spec
public import Idealize.ShloMosaic.Lib.Pipeline.ValueKit
public import Idealize.ShloMosaic.Lib.Pointwise
public import Idealize.ShloMosaic.Lib.StableHlo.RunRead
public import Idealize.ShloMosaic.Lib.Claim
public import proofs.«01_k».proof.Proof.Gen.Kernel10Ideal.Frame

@[expose] public section

set_option maxRecDepth 16384

noncomputable section

namespace Cert.Spec

open Idealize.ShloMosaic

/-- A vector through SiLU, its product with column `k` of the first layer's weights, and the bias. -/
def modRes (v : Fin 2048 → EReal) (w : (⟨3, ![2, 2048, 12288]⟩ : Shape).Idx → EReal) (b : (⟨2, ![2, 12288]⟩ : Shape).Idx → EReal) (k : Fin 12288) : EReal :=
  (∑ j : Fin 2048, silu (v j) * w (ix3 0 j k)) + b (ix2 0 k)

end Cert.Spec

namespace Cert.Kernel10Ideal.Mod

open Idealize.ShloMosaic Idealize.ShloMosaic.TcCoe Idealize.SL.Sem
open Cert.Kernel10Ideal Cert.Kernel10Ideal.Gen Cert.Spec

theorem pay1_at (x : Vec Ideal S8x2048 .f32) (w : Vec Ideal S1x2048x1024 .f32) (b : Vec Ideal S1x1x1024 .f32) (r : Fin 8) (k : Fin 1024) :
    (k0_pay1 x w b : Vec Ideal S8x1024 .f32) (ix2 r k) = (∑ j : Fin 2048, silu (x (ix2 r j)) * w (ix3 0 j k)) + b (ix3 0 0 k) := by
  pointwise [k0_pay1, silu]
  simp only [zero_sub]

variable (m : (ℓ : Loc nD τ sig) → Buf (Elt Ideal) ℓ) (ρ : Dev nD → PrngReg) (c : Dev nD)

abbrev X0 : FVec Ideal S1x2048 .f32 := m ((c : Thread nD τ).loc main_arg0)
abbrev X1 : FVec Ideal S2048 .f32 := m ((c : Thread nD τ).loc main_arg1)
abbrev X2 : FVec Ideal S2x2048x12288 .f32 := m ((c : Thread nD τ).loc main_arg2)
abbrev X3 : FVec Ideal S2x12288 .f32 := m ((c : Thread nD τ).loc main_arg3)

/-! ## The arrays at the call -/

theorem V_eq (b : Ref sig .tc) : V m c b = StableHlo.after hostOps0 (fun b => m (c, b)) (Proc.devRef .tc b) := by
  rfl

/-- The two vectors, and six rows below them. -/
def cat (a b : FVec Ideal S1x2048 .f32) (z : FVec Ideal S6x2048 .f32) : FVec Ideal S8x2048 .f32 :=
  concatenate S8x2048 0 [⟨S1x2048, a⟩, ⟨S1x2048, b⟩, ⟨S6x2048, z⟩] concatenates_S1x2048_S1x2048_S6x2048_S8x2048_d0

theorem cat_fst (a b : FVec Ideal S1x2048 .f32) (z : FVec Ideal S6x2048 .f32) (j : Fin 2048) : cat a b z (ix2 0 j) = a (ix2 0 j) :=
  concatenate_apply_piece (t := S8x2048) 0 _ _ (ix2 0 j) 0 (by simp) S1x2048 a rfl rfl 0 rfl (ix2 0 j) (fun | ⟨0, _⟩, hb => absurd rfl hb | ⟨1, _⟩, _ => rfl) rfl

theorem cat_snd (a b : FVec Ideal S1x2048 .f32) (z : FVec Ideal S6x2048 .f32) (j : Fin 2048) : cat a b z (ix2 1 j) = b (ix2 0 j) :=
  concatenate_apply_piece (t := S8x2048) 0 _ _ (ix2 1 j) 1 (by simp) S1x2048 b rfl rfl 1 rfl (ix2 0 j) (fun | ⟨0, _⟩, hb => absurd rfl hb | ⟨1, _⟩, _ => rfl) rfl

theorem V2_eq : ∃ z, (show FVec Ideal S8x2048 .f32 from V m c main_v2) = cat (X0 m c) (shapeCast _ (X1 m c) shapeCasts_S2048_S1x2048) z := by
  rw [V_eq]; after_reads_simp
  unfold cat
  exact ⟨_, rfl⟩

theorem line_at (x : FVec Ideal S2048 .f32) (j : Fin 2048) : (shapeCast S1x2048 x shapeCasts_S2048_S1x2048) (ix2 0 j) = x (ix1 j) := by
  pointwise []

theorem e2_fst (j : Fin 2048) : (show FVec Ideal S8x2048 .f32 from V m c main_v2) (ix2 0 j) = X0 m c (ix2 0 j) := by
  obtain ⟨z, e⟩ := V2_eq m c
  exact (congrFun e (ix2 0 j)).trans (cat_fst _ _ z j)
theorem e2_snd (j : Fin 2048) : (show FVec Ideal S8x2048 .f32 from V m c main_v2) (ix2 1 j) = X1 m c (ix1 j) := by
  obtain ⟨z, e⟩ := V2_eq m c
  exact (congrFun e (ix2 1 j)).trans ((cat_snd _ _ z j).trans (line_at _ j))
theorem lines_at (x : FVec Ideal S2x12288 .f32) (k : Fin 12288) : (shapeCast S2x1x12288 x shapeCasts_S2x12288_S2x1x12288) (ix3 0 0 k) = x (ix2 0 k) := by
  pointwise []
theorem V3_eq : (show FVec Ideal S2x1x12288 .f32 from V m c main_v3) = shapeCast S2x1x12288 (X3 m c) shapeCasts_S2x12288_S2x1x12288 := by
  rw [V_eq]; after_reads_simp
  rfl
theorem e3 (k : Fin 12288) : (show FVec Ideal S2x1x12288 .f32 from V m c main_v3) (ix3 0 0 k) = X3 m c (ix2 0 k) := by
  exact (congrFun (V3_eq m c) (ix3 0 0 k)).trans (lines_at _ k)

/-! ## The blocks a point reads -/

/-- The windows' blocks at every point. -/
theorem idx : ∀ t : Fin cfg0.N,
    win0_0.index t = ![0, 0] ∧ win0_1.index t = ![0, 0, t.val] ∧ win0_2.index t = ![0, 0, t.val] ∧ win0_3.index t = ![0, t.val] :=
  (by decide +kernel : ∀ t : Fin grid0.N, _)

theorem N_eq : cfg0.N = 12 := N_0

theorem col_lt (t : Fin cfg0.N) (k : Fin 1024) : t.val * 1024 + k.val < 12288 := by
  have := lt_of_lt_of_eq t.isLt N_eq; omega

/-- Column `k` of point `t`. -/
def col (t : Fin cfg0.N) (k : Fin 1024) : Fin 12288 := ⟨t.val * 1024 + k.val, col_lt t k⟩

section Blocks
variable (t : Fin cfg0.N)

theorem blk0 (r : Fin 8) (j : Fin 2048) : (show Vec Ideal S8x2048 .f32 from iblk m c 0 t) (ix2 r j) = (show FVec Ideal S8x2048 .f32 from V m c main_v2) (ix2 r j) := by
  blk_ext [iblk, idx t]
theorem blk1 (j : Fin 2048) (k : Fin 1024) : (show Vec Ideal S1x2048x1024 .f32 from iblk m c 1 t) (ix3 0 j k) = X2 m c (ix3 0 j (col t k)) := by
  refine Eq.trans ?_ (congrFun (V_main_arg2 m c) (ix3 0 j (col t k)))
  blk_ext [iblk, idx t, col]
theorem blk2 (k : Fin 1024) : (show Vec Ideal S1x1x1024 .f32 from iblk m c 2 t) (ix3 0 0 k) = X3 m c (ix2 0 (col t k)) := by
  rw [← e3]; blk_ext [iblk, idx t, col]

end Blocks

/-- Row `r` of the vectors at the call. -/
abbrev vec (r : Fin 8) : Fin 2048 → EReal := fun j => (show FVec Ideal S8x2048 .f32 from V m c main_v2) (ix2 r j)

/-- What a point leaves. -/
theorem out_eq (t : Fin cfg0.N) : out0_3 (iblk m c 0 t) (iblk m c 1 t) (iblk m c 2 t) = k0_pay1 (iblk m c 0 t) (iblk m c 1 t) (iblk m c 2 t) := by
  unfold out0_3
  frame_out

theorem point (t : Fin cfg0.N) (r : Fin 8) (k : Fin 1024) :
    (show Vec Ideal S8x1024 .f32 from out0_3 (iblk m c 0 t) (iblk m c 1 t) (iblk m c 2 t)) (ix2 r k) = modRes (vec m c r) (X2 m c) (X3 m c) (col t k) := by
  refine (congrFun (out_eq m c t) (ix2 r k)).trans ((pay1_at _ _ _ r k).trans ?_)
  unfold modRes
  exact congr (congrArg HAdd.hAdd (Finset.sum_congr rfl fun j _ => congr (congrArg HMul.hMul (congrArg silu (blk0 m c t r j))) (blk1 m c t j k))) (blk2 m c t k)

/-! ## The call's array -/

theorem entry_eq (t : Fin cfg0.N) (y : S8x1024.Idx) (r : Fin 8) (K : Fin 12288) (hr : (y 0).val = r.val) (hK : t.val * 1024 + (y 1).val = K.val) :
    (show Vec Ideal S8x1024 .f32 from out0_3 (iblk m c 0 t) (iblk m c 1 t) (iblk m c 2 t)) y = modRes (vec m c r) (X2 m c) (X3 m c) K := by
  refine (congrArg _ (eq_ix2 (n0 := 8) (n1 := 1024) y)).trans ((point m c t (y 0) (y 1)).trans ?_)
  exact congr (congrArg (fun r => modRes (vec m c r) (X2 m c) (X3 m c)) (Fin.ext hr)) (Fin.ext hK)

theorem final : (dats m 0 c).arrAt 3 cfg0.N = (show FVec Ideal S8x12288 .f32 from fun i => modRes (vec m c (i 0)) (X2 m c) (X3 m c) (i 1)) := by
  refine (dats m 0 c).arrAt_eq_of_covers 3 _ (by decide +kernel) fun t ht y => ?_
  blk_simp
  rw [after0_3]
  have e := (idx t).2.2.2
  have b0 : (((cfg0.win 3).blk t).view.emb y 0).val = win0_3.index t (0 : Fin 2) * 8 + 1 * (y 0).val := rfl
  have b1 : (((cfg0.win 3).blk t).view.emb y 1).val = win0_3.index t (1 : Fin 2) * 1024 + 1 * (y 1).val := rfl
  have e0 : win0_3.index t (0 : Fin 2) = 0 := by rw [e]; rfl
  have e1 : win0_3.index t (1 : Fin 2) = t.val := by rw [e]; rfl
  rw [e0] at b0; rw [e1] at b1
  refine entry_eq m c t y _ _ ?_ ?_
  · exact Eq.trans (by omega) b0.symm
  · exact Eq.trans (by omega) b1.symm

/-! ## The host operations after the call -/

/-- The first row, and the first 4096 columns of the second. -/
def backA (p : FVec Ideal S8x12288 .f32) : FVec Ideal S1x12288 .f32 := extractStridedSlice S1x12288 ![0, 0] p slices_S8x12288_S1x12288_0_0
def backB (p : FVec Ideal S8x12288 .f32) : FVec Ideal S4096 .f32 := shapeCast _ (extractStridedSlice S1x4096 ![1, 0] p slices_S8x12288_S1x4096_1_0) shapeCasts_S1x4096_S4096

theorem backA_at (p : FVec Ideal S8x12288 .f32) (k : Fin 12288) : backA p (ix2 0 k) = p (ix2 0 k) := by
  pointwise [backA]
theorem backB_at (p : FVec Ideal S8x12288 .f32) (k : Fin 4096) : backB p (ix1 k) = p (ix2 1 ⟨k.val, by omega⟩) := by
  pointwise [backB]

theorem after_a (Z : Valuation τ sig (Elt Ideal)) :
    StableHlo.after (hostOps1 (F := Ideal)) Z (Proc.devRef .tc main_v5) = backA (Z (Proc.devRef .tc main_v4)) := by
  after_reads_simp
  unfold backA
  rfl

theorem after_b (Z : Valuation τ sig (Elt Ideal)) :
    StableHlo.after (hostOps1 (F := Ideal)) Z (Proc.devRef .tc main_v7) = backB (Z (Proc.devRef .tc main_v4)) := by
  after_reads_simp
  unfold backB
  rfl

theorem tail_a : Pipeline.afterTail₀ cfgs (dats m) 0 (V0 m) [hostOps1] c main_v5 = backA ((dats m 0 c).arrAt 3 cfg0.N) :=
  (after_a _).trans (congrArg backA (Pipeline.withArrays_arr (cfgs 0).spec (by decide) c (V0 m c) _ 3))
theorem tail_b : Pipeline.afterTail₀ cfgs (dats m) 0 (V0 m) [hostOps1] c main_v7 = backB ((dats m 0 c).arrAt 3 cfg0.N) :=
  (after_b _).trans (congrArg backB (Pipeline.withArrays_arr (cfgs 0).spec (by decide) c (V0 m c) _ 3))

/-- The modulation of the sequence's rows, and of the context's. -/
abbrev resA := modRes (fun j => X0 m c (ix2 0 j)) (X2 m c) (X3 m c)
abbrev resB (k : Fin 4096) := modRes (fun j => X1 m c (ix1 j)) (X2 m c) (X3 m c) ⟨k.val, by omega⟩

theorem named_a : backA ((dats m 0 c).arrAt 3 cfg0.N) = (show FVec Ideal S1x12288 .f32 from fun i => resA m c (i 1)) := by
  rw [final]
  funext i
  have e : i = ix2 (n0 := 1) (n1 := 12288) 0 (i 1) :=
    (eq_ix2 i).trans (congrArg (fun a => ix2 (n0 := 1) (n1 := 12288) a (i 1)) (Subsingleton.elim (α := Fin 1) _ _))
  refine (congrArg (backA _) e).trans ((backA_at _ (i 1)).trans ?_)
  exact congrArg (fun v => modRes v (X2 m c) (X3 m c) (i 1)) (funext fun j => e2_fst m c j)

theorem named_b : backB ((dats m 0 c).arrAt 3 cfg0.N) = (show FVec Ideal S4096 .f32 from fun i => resB m c (i 0)) := by
  rw [final]
  funext i
  refine (congrArg (backB _) (eq_ix1 i)).trans ((backB_at _ (i 0)).trans ?_)
  exact congrArg (fun v => modRes v (X2 m c) (X3 m c) _) (funext fun j => e2_snd m c j)

/-- Every execution leaves the results and changes no argument. -/
theorem run : θ_run defs (onTc (τ := τ) (main (F := Ideal))) ⟨m, fun _ => 0, ρ⟩ fun r => ∀ c : Dev nD,
      r.2.mem ((c.tc : Thread nD τ).loc main_v5) = (show FVec Ideal S1x12288 .f32 from fun i => resA m c (i 1))
      ∧ r.2.mem ((c.tc : Thread nD τ).loc main_v7) = (show FVec Ideal S4096 .f32 from fun i => resB m c (i 0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨((h.1 c).2 main_v5 (by decide)).trans ((tail_a m c).trans (named_a m c)),
    ((h.1 c).2 main_v7 (by decide)).trans ((tail_b m c).trans (named_b m c)), h.2 c⟩) (θ_run_and (run_main m ρ) (unchanged m ρ))

end Cert.Kernel10Ideal.Mod

end
-- ==== Proof.ModRef.lean ====
/- The reference of the layer's modulation over the extended reals, entry by entry. -/
module

public import proofs.«01_k».proof.Proof.ModValue
public import proofs.«01_k».proof.Proof.Gen.Reference10Ideal.Run
public import Idealize.ShloMosaic.Lib.IdealHost

@[expose] public section

set_option maxRecDepth 16384

noncomputable section

namespace Cert.Reference10Ideal.Mod

open Idealize.ShloMosaic Idealize.ShloMosaic.TcCoe Idealize.SL.Sem
open Cert.Reference10Ideal Cert.Reference10Ideal.Gen Cert.Spec

/-- The two vectors through SiLU. -/
def ActA (x : FVec Ideal S1x2048 .f32) : FVec Ideal S1x2048 .f32 :=
  mulf x (Host.divf (broadcastInDim S1x2048 ![] bcast_S_S1x2048 (constant S_ .f32 0x3F800000#32)) (addf (broadcastInDim S1x2048 ![] bcast_S_S1x2048 (constant S_ .f32 0x3F800000#32)) (Host.exp (Host.negf x))))
def ActB (x : FVec Ideal S2048 .f32) : FVec Ideal S2048 .f32 :=
  mulf x (Host.divf (broadcastInDim S2048 ![] bcast_S_S2048 (constant S_ .f32 0x3F800000#32)) (addf (broadcastInDim S2048 ![] bcast_S_S2048 (constant S_ .f32 0x3F800000#32)) (Host.exp (Host.negf x))))

/-- The first layer's weights and bias. -/
def Wt (w : FVec Ideal S2x2048x12288 .f32) : FVec Ideal S2048x12288 .f32 :=
  shapeCast _ (extractStridedSlice S1x2048x12288 ![0, 0, 0] w slices_S2x2048x12288_S1x2048x12288_0_0_0) shapeCasts_S1x2048x12288_S2048x12288
def Bias (b : FVec Ideal S2x12288 .f32) : FVec Ideal S12288 .f32 :=
  shapeCast _ (extractStridedSlice S1x12288 ![0, 0] b slices_S2x12288_S1x12288_0_0) shapeCasts_S1x12288_S12288

/-- The reference's results. -/
def REFA (x : FVec Ideal S1x2048 .f32) (w : FVec Ideal S2x2048x12288 .f32) (b : FVec Ideal S2x12288 .f32) : FVec Ideal S1x12288 .f32 :=
  addf (Host.dotGeneral dot_S1x2048_S2048x12288_S1x12288_1_0_0_1_n_n none (ActA x) (Wt w)) (broadcastInDim S1x12288 ![1] bcast_S12288_S1x12288_1 (Bias b))
def REFB (x : FVec Ideal S2048 .f32) (w : FVec Ideal S2x2048x12288 .f32) (b : FVec Ideal S2x12288 .f32) : FVec Ideal S4096 .f32 :=
  addf (Host.dotGeneral dot_S2048_S2048x4096_S4096_0_0_n_1_n_n none (ActB x) (extractStridedSlice S2048x4096 ![0, 0] (Wt w) slices_S2048x12288_S2048x4096_0_0))
    (extractStridedSlice S4096 ![0] (Bias b) slices_S12288_S4096_0)

/-- Every execution leaves the results and changes no argument. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v8) = REFA (m ((c.tc : Thread nD τ).loc main_arg0)) (m ((c.tc : Thread nD τ).loc main_arg2)) (m ((c.tc : Thread nD τ).loc main_arg3))
      ∧ r.2.mem ((c.tc : Thread nD τ).loc main_v16) = REFB (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1.trans (by unfold REFA ActA Wt Bias; rfl), (h c).2.1.trans (by unfold REFB ActB Wt Bias; rfl), (h c).2.2⟩) (Value.run m ρ)

section At
variable (x : FVec Ideal S1x2048 .f32) (y : FVec Ideal S2048 .f32) (w : FVec Ideal S2x2048x12288 .f32) (b : FVec Ideal S2x12288 .f32)

theorem ActA_at (j : Fin 2048) : ActA x (ix2 0 j) = silu (x (ix2 0 j)) := by
  pointwise [ActA, silu]
theorem ActB_at (j : Fin 2048) : ActB y (ix1 j) = silu (y (ix1 j)) := by
  pointwise [ActB, silu]
theorem Wt_at (j : Fin 2048) (k : Fin 12288) : Wt w (ix2 j k) = w (ix3 0 j k) := by
  pointwise [Wt]
theorem Bias_at (k : Fin 12288) : Bias b (ix1 k) = b (ix2 0 k) := by
  pointwise [Bias]

/-- The reference's results, entry by entry. -/
theorem REFA_eq (k : Fin 12288) : REFA x w b (ix2 0 k) = modRes (fun j => x (ix2 0 j)) w b k := by
  unfold REFA modRes
  pointwise [ActA_at, Wt_at, Bias_at]
theorem REFB_eq (k : Fin 4096) : REFB y w b (ix1 k) = modRes (fun j => y (ix1 j)) w b ⟨k.val, by omega⟩ := by
  unfold REFB modRes
  pointwise [ActB_at, Wt_at, Bias_at]

/-- The same at an index. -/
theorem REFA_idx (i : S1x12288.Idx) : REFA x w b i = modRes (fun j => x (ix2 0 j)) w b (i 1) := by
  have e : i = ix2 (n0 := 1) (n1 := 12288) 0 (i 1) :=
    (eq_ix2 i).trans (congrArg (fun a => ix2 (n0 := 1) (n1 := 12288) a (i 1)) (Subsingleton.elim (α := Fin 1) _ _))
  exact (congrArg (REFA x w b) e).trans (REFA_eq x w b (i 1))
theorem REFB_idx (i : S4096.Idx) : REFB y w b i = modRes (fun j => y (ix1 j)) w b ⟨(i 0).val, lt_trans (show (i 0).val < 4096 from (i 0).isLt) (by decide)⟩ :=
  (congrArg (REFB y w b) (eq_ix1 i)).trans (REFB_eq y w b (i 0))

end At

end Cert.Reference10Ideal.Mod

end
-- ==== Proof.CtxBody.lean ====
/- The projection of the context's rows: what one grid point leaves in the normed rows and in the output block. -/
module

public import proofs.«01_k».proof.Proof.Spec
public import proofs.«01_k».proof.Proof.Gen.Kernel11Ideal.Frame
public import Idealize.ShloMosaic.Lib.Pipeline.ValueKit
public import Idealize.ShloMosaic.Lib.Pointwise

@[expose] public section

set_option maxRecDepth 16384

noncomputable section

namespace Cert.Kernel11Ideal.Ctx

open Idealize.ShloMosaic Idealize.ShloMosaic.TcCoe Idealize.SL.Sem
open Cert.Kernel11Ideal Cert.Kernel11Ideal.Gen Cert.Spec

section Points

variable {F : FTy → Type} [FloatOps F]
variable (m : (ℓ : Loc nD τ sig) → Buf (Elt F) ℓ)

/-- The scratch read whole is what was put there. -/
theorem read0 (X : Vec F S256x2048 .bf16) :
    View.read (Elt F) (View.whole cc0_scratch0) ((Memref.isWhole_whole cc0_scratch0).unread X) = X :=
  (Memref.isWhole_whole cc0_scratch0).read_unread X

/-- The first point of a run norms its rows. -/
theorem xn_first (c : Dev nD) (t : Fin cfg0.N) (h0 : t.val % 5 = 0) :
    (outsAt0 m c t.val t.isLt).2 = k0_pay1 (iblk m c 0 t) (iblk m c 1 t) (iblk m c 2 t) (iblk m c 3 t) := by
  rw [outsAt0_A m c t h0]; frame_out

/-- The other points keep the normed rows. -/
theorem xn_next (c : Dev nD) (n : ℕ) (h : n + 1 < cfg0.N) (h0 : ¬(n + 1) % 5 = 0) :
    (outsAt0 m c (n + 1) h).2 = (outsAt0 m c n (Nat.lt_of_succ_lt h)).2 := by
  rw [outsAt0_B m c ⟨n + 1, h⟩ h0]; rfl

/-- What a point writes. -/
theorem out_all (c : Dev nD) (t : Fin cfg0.N) :
    (outsAt0 m c t.val t.isLt).1 = k0_pay2 (outsAt0 m c t.val t.isLt).2 (iblk m c 4 t) (iblk m c 5 t) := by
  by_cases h0 : t.val % 5 = 0
  · rw [outsAt0_A m c t h0]; frame_out
  · rw [outsAt0_B m c t h0]; frame_out; simp only [read0]; rfl

end Points

/-- A normed row of the point's rows. -/
theorem pay1_at (x : Vec Ideal S256x2048 .f32) (w sh sc : Vec Ideal S1x2048 .f32) (r : Fin 256) (l : Fin 2048) :
    (k0_pay1 x w sh sc : Vec Ideal S256x2048 .bf16) (ix2 r l)
      = modnorm (fun l => x (ix2 r l)) (fun l => w (ix2 0 l)) (fun l => sc (ix2 0 l)) (fun l => sh (ix2 0 l)) l := by
  pointwise [k0_pay1, c2048, modnorm, normed, rms]

/-- A projected row. -/
theorem pay2_at (x : Vec Ideal S256x2048 .bf16) (w : Vec Ideal S2048x768 .bf16) (b : Vec Ideal S1x768 .f32) (r : Fin 256) (k : Fin 768) :
    (k0_pay2 x w b : Vec Ideal S256x768 .f32) (ix2 r k) = (∑ j : Fin 2048, x (ix2 r j) * w (ix2 j k)) + b (ix2 0 k) := by
  pointwise [k0_pay2]

end Cert.Kernel11Ideal.Ctx

end
-- ==== Proof.CtxValue.lean ====
/- The projection of the context's rows: what the program's result holds, entry by entry. -/
module

public import proofs.«01_k».proof.Proof.CtxBody
public import proofs.«01_k».proof.Proof.ProjValue
public import Idealize.ShloMosaic.Lib.Claim
public import Idealize.ShloMosaic.Lib.StableHlo.RunRead

@[expose] public section

set_option maxRecDepth 16384

noncomputable section

namespace Cert.Spec

open Idealize.ShloMosaic

variable (x : (⟨3, ![1, 256, 2048]⟩ : Shape).Idx → EReal) (nw : (⟨2, ![2, 2048]⟩ : Shape).Idx → EReal) (sh sc : (⟨1, ![2048]⟩ : Shape).Idx → EReal)
  (w : (⟨3, ![1, 2048, 3680]⟩ : Shape).Idx → EReal)

/-- The modulated norm of row `R`, with the first layer's weight. -/
def ctxNorm (R : Fin 256) (l : Fin 2048) : EReal :=
  modnorm (fun l => x (ix3 0 R l)) (fun l => nw (ix2 0 l)) (fun l => sc (ix1 l)) (fun l => sh (ix1 l)) l

/-- The projection of row `R`, the columns after the first 1536. -/
def ctxRes (R : Fin 256) (k : Fin 2144) : EReal :=
  ∑ j : Fin 2048, ctxNorm x nw sh sc R j * w (ix3 0 j ⟨1536 + k.val, by omega⟩)

end Cert.Spec

namespace Cert.Kernel11Ideal.Ctx

open Idealize.ShloMosaic Idealize.ShloMosaic.TcCoe Idealize.SL.Sem
open Cert.Kernel11Ideal Cert.Kernel11Ideal.Gen Cert.Spec
open Cert.Kernel4Ideal.Proj (cat cat0 cat1 cat2 cat3 cat5)

variable (m : (ℓ : Loc nD τ sig) → Buf (Elt Ideal) ℓ) (ρ : Dev nD → PrngReg)

abbrev X0 (c : Dev nD) : FVec Ideal S1x256x2048 .f32 := m ((c : Thread nD τ).loc main_arg0)
abbrev X1 (c : Dev nD) : FVec Ideal S2x2048 .f32 := m ((c : Thread nD τ).loc main_arg1)
abbrev X2 (c : Dev nD) : FVec Ideal S2048 .f32 := m ((c : Thread nD τ).loc main_arg2)
abbrev X3 (c : Dev nD) : FVec Ideal S2048 .f32 := m ((c : Thread nD τ).loc main_arg3)
abbrev X4 (c : Dev nD) : FVec Ideal S1x2048x3680 .f32 := m ((c : Thread nD τ).loc main_arg4)

/-- The windows' blocks at every point. -/
theorem idx : ∀ t : Fin cfg0.N,
    win0_0.index t = ![t.val / 5, 0] ∧ win0_1.index t = ![0, 0] ∧ win0_2.index t = ![0, 0] ∧ win0_3.index t = ![0, 0]
    ∧ win0_4.index t = ![0, t.val % 5] ∧ win0_5.index t = ![0, t.val % 5] ∧ win0_6.index t = ![t.val / 5, t.val % 5] :=
  (by decide +kernel : ∀ t : Fin grid0.N, _)

section Entry
variable (c : Dev nD)

/-- An array at the call, after the host operations before it. -/
theorem V_eq (b : Ref sig .tc) : V m c b = StableHlo.after hostOps0 (fun b => m (c, b)) (Proc.devRef .tc b) := by
  rfl

/-- The columns of the weights in the order the call reads them, and its bias. -/
abbrev W (c : Dev nD) : FVec Ideal S2048x3840 .bf16 := V m c main_v18
abbrev B (c : Dev nD) : FVec Ideal S1x3840 .f32 := V m c main_v26

theorem entry0 (r : Fin 256) (l : Fin 2048) : (show FVec Ideal S256x2048 .f32 from V m c main_v20) (ix2 r l) = X0 m c (ix3 0 r l) := by
  rw [V_eq]; entry_read; pointwise
theorem entry1 (l : Fin 2048) : (show FVec Ideal S1x2048 .f32 from V m c main_v23) (ix2 0 l) = X1 m c (ix2 0 l) := by
  rw [V_eq]; entry_read; pointwise
theorem entry2 (l : Fin 2048) : (show FVec Ideal S1x2048 .f32 from V m c main_v24) (ix2 0 l) = X2 m c (ix1 l) := by
  rw [V_eq]; entry_read; pointwise
theorem entry3 (l : Fin 2048) : (show FVec Ideal S1x2048 .f32 from V m c main_v25) (ix2 0 l) = X3 m c (ix1 l) := by
  rw [V_eq]; entry_read; pointwise
theorem entry5 (k : Fin 3840) : B m c (ix2 0 k) = 0 := by
  unfold B; rw [V_eq]; entry_read; pointwise
/-- The weights as a matrix. -/
abbrev Mat (c : Dev nD) : FVec Ideal S2048x3680 .f32 := shapeCast _ (X4 m c) shapeCasts_S1x2048x3680_S2048x3680

theorem W_eq : ∃ (e : FVec Ideal S2048x64 .f32) (g : FVec Ideal S2048x96 .f32), W m c = truncf .bf16 (cat
    (extractStridedSlice S2048x1536 ![0, 0] (Mat m c) slices_S2048x3680_S2048x1536_0_0)
    (extractStridedSlice S2048x1536 ![0, 1536] (Mat m c) slices_S2048x3680_S2048x1536_0_1536)
    (extractStridedSlice S2048x512 ![0, 3104] (Mat m c) slices_S2048x3680_S2048x512_0_3104)
    (extractStridedSlice S2048x64 ![0, 3616] (Mat m c) slices_S2048x3680_S2048x64_0_3616) e
    (extractStridedSlice S2048x32 ![0, 3072] (Mat m c) slices_S2048x3680_S2048x32_0_3072) g) bitsLt_bf16_f32 := by
  unfold W
  rw [V_eq]; after_reads_simp
  unfold cat
  exact ⟨_, _, rfl⟩

variable (t : Fin cfg0.N)

theorem N_eq : cfg0.N = 5 := N_0

theorem row_lt (t : Fin cfg0.N) (r : Fin 256) : t.val / 5 * 256 + r.val < 256 := by
  have := lt_of_lt_of_eq t.isLt N_eq; omega
theorem col_lt (t : Fin cfg0.N) (k : Fin 768) : t.val % 5 * 768 + k.val < 3840 := by omega

/-- The row of the call's result that row `r` of point `t` is. -/
def row (t : Fin cfg0.N) (r : Fin 256) : Fin 256 := ⟨t.val / 5 * 256 + r.val, row_lt t r⟩
/-- The column of the call's result that column `k` of point `t` is. -/
def col (t : Fin cfg0.N) (k : Fin 768) : Fin 3840 := ⟨t.val % 5 * 768 + k.val, col_lt t k⟩

theorem blk0 (r : Fin 256) (l : Fin 2048) : (show Vec Ideal S256x2048 .f32 from iblk m c 0 t) (ix2 r l) = X0 m c (ix3 0 (row t r) l) := by
  rw [← entry0]; blk_ext [iblk, idx t, row]
theorem blk1 (l : Fin 2048) : (show Vec Ideal S1x2048 .f32 from iblk m c 1 t) (ix2 0 l) = X1 m c (ix2 0 l) := by
  rw [← entry1]; blk_ext [iblk, idx t]
theorem blk2 (l : Fin 2048) : (show Vec Ideal S1x2048 .f32 from iblk m c 2 t) (ix2 0 l) = X2 m c (ix1 l) := by
  rw [← entry2]; blk_ext [iblk, idx t]
theorem blk3 (l : Fin 2048) : (show Vec Ideal S1x2048 .f32 from iblk m c 3 t) (ix2 0 l) = X3 m c (ix1 l) := by
  rw [← entry3]; blk_ext [iblk, idx t]
theorem blk4 (j : Fin 2048) (k : Fin 768) : (show Vec Ideal S2048x768 .bf16 from iblk m c 4 t) (ix2 j k) = W m c (ix2 j (col t k)) := by
  blk_ext [iblk, idx t, col]
theorem blk5 (k : Fin 768) : (show Vec Ideal S1x768 .f32 from iblk m c 5 t) (ix2 0 k) = B m c (ix2 0 (col t k)) := by
  blk_ext [iblk, idx t, col]

end Entry

variable (c : Dev nD)

/-- The specification at the program's arguments. -/
abbrev nrm := ctxNorm (X0 m c) (X1 m c) (X2 m c) (X3 m c)
abbrev res := ctxRes (X0 m c) (X1 m c) (X2 m c) (X3 m c) (X4 m c)

/-- What the call's array holds. -/
def raw (R : Fin 256) (C : Fin 3840) : EReal := (∑ j : Fin 2048, nrm m c R j * W m c (ix2 j C)) + B m c (ix2 0 C)

/-- The normed rows after a run's first point. -/
theorem first_eq (t : Fin cfg0.N) (h0 : t.val % 5 = 0) (r : Fin 256) (l : Fin 2048) :
    (outsAt0 m c t.val t.isLt).2 (ix2 r l) = nrm m c (row t r) l := by
  refine (congrFun (xn_first m c t h0) (ix2 r l)).trans ((pay1_at _ _ _ _ r l).trans ?_)
  unfold nrm ctxNorm
  congr 1
  · funext l; exact blk0 m c t r l
  · funext l; exact blk1 m c t l
  · funext l; exact blk3 m c t l
  · funext l; exact blk2 m c t l

/-- The normed rows, at every point. -/
theorem normed_eq : ∀ (n : ℕ) (h : n < cfg0.N) (r : Fin 256) (l : Fin 2048), (outsAt0 m c n h).2 (ix2 r l) = nrm m c (row ⟨n, h⟩ r) l
  | 0, h => first_eq m c ⟨0, h⟩ rfl
  | n + 1, h => by
    by_cases h0 : (n + 1) % 5 = 0
    · exact first_eq m c ⟨n + 1, h⟩ h0
    · have e : n / 5 = (n + 1) / 5 := by omega
      have er : ∀ r, row ⟨n, Nat.lt_of_succ_lt h⟩ r = row ⟨n + 1, h⟩ r := fun r => Fin.ext (by show n / 5 * 256 + r.val = (n + 1) / 5 * 256 + r.val; rw [e])
      rw [xn_next m c n h h0]
      exact fun r l => (normed_eq n (Nat.lt_of_succ_lt h) r l).trans (by rw [er r])

/-- The block a point writes. -/
theorem out_eq (t : Fin cfg0.N) (r : Fin 256) (k : Fin 768) :
    (outsAt0 m c t.val t.isLt).1 (ix2 r k) = raw m c (row t r) (col t k) := by
  refine (congrFun (out_all m c t) (ix2 r k)).trans ((pay2_at _ _ _ r k).trans ?_)
  unfold raw
  refine congr (congrArg _ (Finset.sum_congr rfl fun j _ => ?_)) (blk5 m c t k)
  exact congr (congrArg _ (normed_eq m c t.val t.isLt r j)) (blk4 m c t j k)

theorem entry_eq (t : Fin cfg0.N) (y : S256x768.Idx) (R : Fin 256) (C : Fin 3840)
    (hR : t.val / 5 * 256 + (y 0).val = R.val) (hC : t.val % 5 * 768 + (y 1).val = C.val) : (outsAt0 m c t.val t.isLt).1 y = raw m c R C := by
  obtain rfl : row t (y 0) = R := Fin.ext hR
  obtain rfl : col t (y 1) = C := Fin.ext hC
  exact (congrArg (outsAt0 m c t.val t.isLt).1 (eq_ix2 (n0 := 256) (n1 := 768) y)).trans (out_eq m c t _ _)

/-- The call's array. -/
theorem final : (dats m 0 c).arrAt 6 cfg0.N = (show FVec Ideal S256x3840 .f32 from fun i => raw m c (i 0) (i 1)) := by
  refine (dats m 0 c).arrAt_eq_of_covers 6 _ (by decide +kernel) fun t ht y => ?_
  blk_simp
  rw [after0_6]
  have e := (idx t).2.2.2.2.2.2
  have b0 : (((cfg0.win 6).blk t).view.emb y 0).val = win0_6.index t (0 : Fin 2) * 256 + 1 * (y 0).val := rfl
  have b1 : (((cfg0.win 6).blk t).view.emb y 1).val = win0_6.index t (1 : Fin 2) * 768 + 1 * (y 1).val := rfl
  have e0 : win0_6.index t (0 : Fin 2) = t.val / 5 := by rw [e]; rfl
  have e1 : win0_6.index t (1 : Fin 2) = t.val % 5 := by rw [e]; rfl
  rw [e0] at b0; rw [e1] at b1
  refine entry_eq m c t y _ _ ?_ ?_
  · exact Eq.trans (by omega) b0.symm
  · exact Eq.trans (by omega) b1.symm

/-! ## The columns of the weights -/

section Cols
variable (j : Fin 2048)

theorem W_a (C : Fin 3680) (K : Fin 3840) (h : C.val < 3072) (hK : K.val = C.val) : W m c (ix2 j K) = X4 m c (ix3 0 j C) := by
  obtain ⟨e, g, hW⟩ := W_eq m c
  rw [hW]
  by_cases h1 : C.val < 1536
  · refine (cat0 _ _ _ _ _ _ _ j ⟨C.val, h1⟩ K (by show 0 + C.val = K.val; omega)).trans ?_
    pointwise
  · obtain ⟨d, hd⟩ : ∃ d : Fin 1536, 1536 + d.val = C.val := ⟨⟨C.val - 1536, by omega⟩, by show 1536 + (C.val - 1536) = C.val; omega⟩
    refine (cat1 _ _ _ _ _ _ _ j d K (by omega)).trans ?_
    rw [← show (⟨1536 + d.val, by omega⟩ : Fin 3680) = C from Fin.ext hd]
    pointwise

theorem W_b (C : Fin 3680) (K : Fin 3840) (h : 3104 ≤ C.val) (hK : K.val + 32 = C.val) : W m c (ix2 j K) = X4 m c (ix3 0 j C) := by
  obtain ⟨e, g, hW⟩ := W_eq m c
  rw [hW]
  by_cases h1 : C.val < 3616
  · obtain ⟨d, hd⟩ : ∃ d : Fin 512, 3104 + d.val = C.val := ⟨⟨C.val - 3104, by omega⟩, by show 3104 + (C.val - 3104) = C.val; omega⟩
    refine (cat2 _ _ _ _ _ _ _ j d K (by omega)).trans ?_
    rw [← show (⟨3104 + d.val, by omega⟩ : Fin 3680) = C from Fin.ext hd]
    pointwise
  · obtain ⟨d, hd⟩ : ∃ d : Fin 64, 3616 + d.val = C.val := ⟨⟨C.val - 3616, by omega⟩, by show 3616 + (C.val - 3616) = C.val; omega⟩
    refine (cat3 _ _ _ _ _ _ _ j d K (by omega)).trans ?_
    rw [← show (⟨3616 + d.val, by omega⟩ : Fin 3680) = C from Fin.ext hd]
    pointwise

theorem W_c (C : Fin 3680) (K : Fin 3840) (h : 3072 ≤ C.val) (h' : C.val < 3104) (hK : K.val = C.val + 640) : W m c (ix2 j K) = X4 m c (ix3 0 j C) := by
  obtain ⟨e, g, hW⟩ := W_eq m c
  rw [hW]
  obtain ⟨d, hd⟩ : ∃ d : Fin 32, 3072 + d.val = C.val := ⟨⟨C.val - 3072, by omega⟩, by show 3072 + (C.val - 3072) = C.val; omega⟩
  refine (cat5 _ _ _ _ _ _ _ j d K (by omega)).trans ?_
  rw [← show (⟨3072 + d.val, by omega⟩ : Fin 3680) = C from Fin.ext hd]
  pointwise

end Cols

/-- A column of the call's array whose weights are column `1536 + C` of the argument's. -/
theorem raw_eq (R : Fin 256) (C : Fin 2144) (K : Fin 3840) (h : ∀ j, W m c (ix2 j K) = X4 m c (ix3 0 j ⟨1536 + C.val, by omega⟩)) : raw m c R K = res m c R C := by
  unfold raw res ctxRes
  rw [entry5, add_zero]
  exact Finset.sum_congr rfl fun j _ => congrArg _ (h j)

/-! ## The host operations after the call -/

/-- The columns put back in order. -/
def back (p : FVec Ideal S256x3840 .f32) : FVec Ideal S1x256x2144 .f32 :=
  broadcastInDim S1x256x2144 ![1, 2] bcast_S256x2144_S1x256x2144_1_2
    (concatenate S256x2144 1 [⟨S256x1536, extractStridedSlice S256x1536 ![0, 1536] p slices_S256x3840_S256x1536_0_1536⟩,
      ⟨S256x32, extractStridedSlice S256x32 ![0, 3712] p slices_S256x3840_S256x32_0_3712⟩,
      ⟨S256x576, extractStridedSlice S256x576 ![0, 3072] p slices_S256x3840_S256x576_0_3072⟩] concatenates_S256x1536_S256x32_S256x576_S256x2144_d1)

theorem back_at (p : FVec Ideal S256x3840 .f32) (R : Fin 256) (C : Fin 2144) (K : Fin 3840)
    (h : (C.val < 1536 ∧ K.val = 1536 + C.val) ∨ (1536 ≤ C.val ∧ C.val < 1568 ∧ K.val = C.val + 2176) ∨ (1568 ≤ C.val ∧ K.val = C.val + 1504)) :
    back p (ix3 0 R C) = p (ix2 R K) := by
  unfold back
  pointwise
  by_cases h1 : C.val < 1536
  · rw [dif_pos h1]
    exact congrArg (fun k => p (ix2 R k)) (Fin.ext (show 1536 + C.val = K.val by omega))
  · rw [dif_neg h1]
    by_cases h2 : C.val - 1536 < 32
    · rw [dif_pos h2]
      exact congrArg (fun k => p (ix2 R k)) (Fin.ext (show 3712 + (C.val - 1536) = K.val by omega))
    · rw [dif_neg h2]
      exact congrArg (fun k => p (ix2 R k)) (Fin.ext (show 3072 + (C.val - 1536 - 32) = K.val by omega))

theorem after_eq (Z : Valuation τ sig (Elt Ideal)) :
    StableHlo.after (hostOps1 (F := Ideal)) Z (Proc.devRef .tc main_v32) = back (Z (Proc.devRef .tc main_v27)) := by
  after_reads_simp
  unfold back
  rfl

theorem tail_eq : Pipeline.afterTail₀ cfgs (dats m) 0 (V0 m) [hostOps1] c main_v32 = back ((dats m 0 c).arrAt 6 cfg0.N) :=
  (after_eq _).trans (congrArg back (Pipeline.withArrays_arr (cfgs 0).spec (by decide) c (V0 m c) _ 6))

/-- The program's result, entry by entry. -/
theorem back_eq (R : Fin 256) (C : Fin 2144) : back ((dats m 0 c).arrAt 6 cfg0.N) (ix3 0 R C) = res m c R C := by
  rw [final]
  by_cases h1 : C.val < 1536
  · refine (back_at _ R C ⟨1536 + C.val, by omega⟩ (Or.inl ⟨h1, rfl⟩)).trans ?_
    exact raw_eq m c R C _ fun j => W_a m c j _ _ (show 1536 + C.val < 3072 by omega) rfl
  · by_cases h2 : C.val < 1568
    · refine (back_at _ R C ⟨C.val + 2176, by omega⟩ (Or.inr (Or.inl ⟨by omega, h2, rfl⟩))).trans ?_
      exact raw_eq m c R C _ fun j => W_c m c j _ _ (show 3072 ≤ 1536 + C.val by omega) (show 1536 + C.val < 3104 by omega) (show C.val + 2176 = 1536 + C.val + 640 by omega)
    · refine (back_at _ R C ⟨C.val + 1504, by omega⟩ (Or.inr (Or.inr ⟨by omega, rfl⟩))).trans ?_
      exact raw_eq m c R C _ fun j => W_b m c j _ _ (show 3104 ≤ 1536 + C.val by omega) (show C.val + 1504 + 32 = 1536 + C.val by omega)

theorem out_named : back ((dats m 0 c).arrAt 6 cfg0.N) = (show FVec Ideal S1x256x2144 .f32 from fun i => res m c (i 1) (i 2)) := by
  funext i
  have e : i = ix3 (n0 := 1) (n1 := 256) (n2 := 2144) 0 (i 1) (i 2) :=
    (eq_ix3 i).trans (congrArg (fun a => ix3 (n0 := 1) (n1 := 256) (n2 := 2144) a (i 1) (i 2)) (Subsingleton.elim (α := Fin 1) _ _))
  exact (congrArg (back ((dats m 0 c).arrAt 6 cfg0.N)) e).trans (back_eq m c (i 1) (i 2))

/-- Every execution leaves the result and changes no argument. -/
theorem run : θ_run defs (onTc (τ := τ) (main (F := Ideal))) ⟨m, fun _ => 0, ρ⟩ fun r => ∀ c : Dev nD,
      r.2.mem ((c.tc : Thread nD τ).loc main_v32) = (show FVec Ideal S1x256x2144 .f32 from fun i => res m c (i 1) (i 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨((h.1 c).2 main_v32 (by decide)).trans ((tail_eq m c).trans (out_named m c)), h.2 c⟩) (θ_run_and (run_main m ρ) (unchanged m ρ))

end Cert.Kernel11Ideal.Ctx

end
-- ==== Proof.CtxRef.lean ====
/- The reference of the projection of the context's rows over the extended reals, entry by entry. -/
module

public import proofs.«01_k».proof.Proof.CtxValue
public import proofs.«01_k».proof.Proof.Gen.Reference11Ideal.Run
public import Idealize.ShloMosaic.Lib.IdealHost

@[expose] public section

set_option maxRecDepth 16384

noncomputable section

namespace Cert.Reference11Ideal.Ctx

open Idealize.ShloMosaic Idealize.ShloMosaic.TcCoe Idealize.SL.Sem
open Cert.Reference11Ideal Cert.Reference11Ideal.Gen Cert.Spec

/-- Every row over the root of its mean square. -/
def Rms (x : FVec Ideal S1x256x2048 .f32) : FVec Ideal S1x256x2048 .f32 :=
  mulf x (broadcastInDim S1x256x2048 ![0, 1, 2] bcast_S1x256x1_S1x256x2048_0_1_2 (Host.rsqrt (addf (Host.divf (broadcastInDim S1x256x1 ![0, 1] bcast_S1x256_S1x256x1_0_1 (Host.reduceAdd (mulf x x) (constant S_ .f32 0x00000000#32) reducesTo_S1x256x2048_S1x256_d2 h_S_)) (broadcastInDim S1x256x1 ![] bcast_S_S1x256x1 (constant S_ .f32 0x45000000#32))) (broadcastInDim S1x256x1 ![] bcast_S_S1x256x1 (constant S_ .f32 0x358637BD#32)))))

/-- The modulated norm. -/
def Mod (y : FVec Ideal S1x256x2048 .f32) (nw : FVec Ideal S2x2048 .f32) (sh sc : FVec Ideal S2048 .f32) : FVec Ideal S1x256x2048 .f32 :=
  addf (mulf (mulf y (broadcastInDim S1x256x2048 ![0, 1, 2] bcast_S1x1x2048_S1x256x2048_0_1_2 (broadcastInDim S1x1x2048 ![2] bcast_S2048_S1x1x2048_2 (shapeCast _ (extractStridedSlice S1x2048 ![0, 0] nw slices_S2x2048_S1x2048_0_0) shapeCasts_S1x2048_S2048)))) (broadcastInDim S1x256x2048 ![0, 1, 2] bcast_S1x1x2048_S1x256x2048_0_1_2 (broadcastInDim S1x1x2048 ![2] bcast_S2048_S1x1x2048_2 (addf (broadcastInDim S2048 ![] bcast_S_S2048 (constant S_ .f32 0x3F800000#32)) sc)))) (broadcastInDim S1x256x2048 ![0, 1, 2] bcast_S1x1x2048_S1x256x2048_0_1_2 (broadcastInDim S1x1x2048 ![2] bcast_S2048_S1x1x2048_2 sh))

/-- The projection. -/
def Prod (u : FVec Ideal S1x256x2048 .f32) (w : FVec Ideal S1x2048x3680 .f32) : FVec Ideal S1x256x2144 .f32 :=
  Host.dotGeneral dot_S1x256x2048_S2048x2144_S1x256x2144_2_0_01_1_n_n none u (extractStridedSlice S2048x2144 ![0, 1536] (shapeCast _ w shapeCasts_S1x2048x3680_S2048x3680) slices_S2048x3680_S2048x2144_0_1536)

/-- The reference's result. -/
def REF (x : FVec Ideal S1x256x2048 .f32) (nw : FVec Ideal S2x2048 .f32) (sh sc : FVec Ideal S2048 .f32) (w : FVec Ideal S1x2048x3680 .f32) :
    FVec Ideal S1x256x2144 .f32 :=
  Prod (Mod (Rms x) nw sh sc) w

/-- Every execution leaves the result and changes no argument. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v25) = REF (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h c).1.trans (by unfold REF Prod Mod Rms; rfl), (h c).2⟩) (Value.run m ρ)

theorem Rms_at (x : FVec Ideal S1x256x2048 .f32) (R : Fin 256) (l : Fin 2048) :
    Rms x (ix3 0 R l) = x (ix3 0 R l) * rms c2048 (fun l => x (ix3 0 R l)) := by
  pointwise [Rms, rms]

theorem Mod_at (y : FVec Ideal S1x256x2048 .f32) (nw : FVec Ideal S2x2048 .f32) (sh sc : FVec Ideal S2048 .f32) (R : Fin 256) (l : Fin 2048) :
    Mod y nw sh sc (ix3 0 R l) = y (ix3 0 R l) * nw (ix2 0 l) * (1 + sc (ix1 l)) + sh (ix1 l) := by
  pointwise [Mod]

theorem Prod_at (u : FVec Ideal S1x256x2048 .f32) (w : FVec Ideal S1x2048x3680 .f32) (R : Fin 256) (k : Fin 2144) :
    Prod u w (ix3 0 R k) = ∑ j : Fin 2048, u (ix3 0 R j) * w (ix3 0 j ⟨1536 + k.val, by omega⟩) := by
  pointwise [Prod]

/-- The reference's result, entry by entry. -/
theorem REF_eq (x : FVec Ideal S1x256x2048 .f32) (nw : FVec Ideal S2x2048 .f32) (sh sc : FVec Ideal S2048 .f32) (w : FVec Ideal S1x2048x3680 .f32)
    (R : Fin 256) (k : Fin 2144) : REF x nw sh sc w (ix3 0 R k) = ctxRes x nw sh sc w R k := by
  have hu : ∀ R l, Mod (Rms x) nw sh sc (ix3 0 R l) = ctxNorm x nw sh sc R l := by
    intro R l; rw [Mod_at, Rms_at]; rfl
  rw [REF, Prod_at]
  simp only [hu]
  rfl

/-- The same at an index. -/
theorem REF_idx (x : FVec Ideal S1x256x2048 .f32) (nw : FVec Ideal S2x2048 .f32) (sh sc : FVec Ideal S2048 .f32) (w : FVec Ideal S1x2048x3680 .f32)
    (i : S1x256x2144.Idx) : REF x nw sh sc w i = ctxRes x nw sh sc w (i 1) (i 2) := by
  have hi : i = ix3 (n0 := 1) (n1 := 256) (n2 := 2144) 0 (i 1) (i 2) :=
    (eq_ix3 (n0 := 1) (n1 := 256) (n2 := 2144) i).trans
      (congrArg (fun a : Fin 1 => ix3 (n0 := 1) (n1 := 256) (n2 := 2144) a (i 1) (i 2)) (Subsingleton.elim (α := Fin 1) _ _))
  exact (congrArg (REF x nw sh sc w) hi).trans (REF_eq x nw sh sc w (i 1) (i 2))

end Cert.Reference11Ideal.Ctx

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Reference8Ideal.Run
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal
public import proofs.«01_k».proof.Proof.Gen.Reference10Ideal.Run
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Reference11Ideal
public import proofs.«01_k».proof.Proof.Gen.Reference11Ideal.Run
public import proofs.«01_k».proof.Proof.KernelValue
public import proofs.«01_k».proof.Proof.RefValue
public import proofs.«01_k».proof.Proof.Finite
public import proofs.«01_k».proof.Proof.Same
public import proofs.«01_k».proof.Proof.FfnRef
public import proofs.«01_k».proof.Proof.ConvRef
public import proofs.«01_k».proof.Proof.ProjRef
public import proofs.«01_k».proof.Proof.OutValue
public import proofs.«01_k».proof.Proof.MergeRef
public import proofs.«01_k».proof.Proof.KvRef
public import proofs.«01_k».proof.Proof.QRef
public import proofs.«01_k».proof.Proof.DwRef
public import proofs.«01_k».proof.Proof.ModRef
public import proofs.«01_k».proof.Proof.CtxRef
public import Idealize.ShloMosaic.Adequacy
public import Idealize.ShloMosaic.Init

@[expose] public section

noncomputable section

namespace Cert.Proof

open Idealize.ShloMosaic Idealize.SL.Sem Cert.Kernel

/-- The program runs, leaves its arguments and its counters: over the hardware's words, and over the reals. The two programs have
    one text, so that one run over any float values serves both. -/
theorem frame_kernel : Cert.quiescent_Kernel := by
  intro m g _
  rw [Same.defs, Same.main]
  exact Cert.KernelIdeal.Attn.frame_run (F := Bits) m g

theorem frame_ideal : Cert.quiescent_KernelIdeal := fun m g _ => Cert.KernelIdeal.Attn.frame_run (F := Ideal) m g

theorem frame_ideal_pre : Cert.quiescent_KernelIdeal_pre_finite_qk := fun m g _ => Cert.KernelIdeal.Attn.frame_run (F := Ideal) m g

theorem frame_ref : Cert.quiescent_ReferenceIdeal := fun m g _ => Cert.ReferenceIdeal.Attn.frame_run m g

theorem frame_ref_pre : Cert.quiescent_ReferenceIdeal_pre_finite_qk := fun m g _ => Cert.ReferenceIdeal.Attn.frame_run m g

/-- Over the reals the kernel's result is the reference's. -/
theorem value : Cert.algebraic_KernelIdeal_ReferenceIdeal_pre_finite_qk := by
  intro m g m' g' hpre hm
  refine ⟨fun c => Cert.KernelIdeal.Attn.G m c, Cert.KernelIdeal.Attn.run m g, ?_⟩
  refine (θ_run Cert.ReferenceIdeal.defs _ _).mono (fun r h c => ⟨(h c).1.trans ?_, (h c).2⟩) (Cert.ReferenceIdeal.Attn.run m' g')
  obtain ⟨h0, h1, h2⟩ := hm c
  rw [h0, h1, h2]
  have hQ := Cert.Pre_finite_qk.real_q _ _ _ (hpre c).1
  have hK := Cert.Pre_finite_qk.real_k _ _ _ (hpre c).2
  funext i
  rw [eq_ix2 i]
  exact (Cert.ReferenceIdeal.Attn.REF_eq _ _ _ _ _ hQ hK (i 0) (i 1)).trans (Cert.KernelIdeal.Attn.G_eq m c _ _ hQ hK (i 0) (i 1)).symm

/-! ## The feed-forward of the last layer with the norm after it -/

theorem frame_kernel2 : Cert.quiescent_Kernel2 := fun m g _ => Cert.Kernel2.Gen.frame m g

theorem frame_ideal2 : Cert.quiescent_Kernel2Ideal := fun m g _ => Cert.Kernel2Ideal.Gen.frame m g

theorem frame_ref2 : Cert.quiescent_Reference2Ideal := fun m g _ =>
  (θ_run Cert.Reference2Ideal.defs _ _).mono (fun r h => ⟨fun c => (h c).2, Idealize.ShloMosaic.sem_eq_zero_of_no_sems (by decide) r.2⟩)
    (Cert.Reference2Ideal.Value.run m g)

theorem value2 : Cert.algebraic_Kernel2Ideal_Reference2Ideal := by
  intro m g m' g' _ hm
  refine ⟨fun c => (fun i => Cert.Kernel2Ideal.Ffn.res m c (i 0) (i 1)), (θ_run Cert.Kernel2Ideal.defs _ _).mono (fun r h c => ⟨(h c).1.trans (Cert.Kernel2Ideal.Ffn.final m c), (h c).2⟩)
    (Cert.Kernel2Ideal.Value.run_blocks m g), ?_⟩
  refine (θ_run Cert.Reference2Ideal.defs _ _).mono (fun r h c => ⟨(h c).1.trans ?_, (h c).2⟩) (Cert.Reference2Ideal.Value.run m' g')
  obtain ⟨h0, h1, h2, h3, h4, h5, h6, h7, h8⟩ := hm c
  rw [Cert.Reference2Ideal.Ffn.out_named, h0, h1, h2, h3, h4, h5, h6, h7, h8]
  funext i
  rw [eq_ix2 i]
  exact Cert.Reference2Ideal.Ffn.REF_eq _ _ _ _ _ _ _ _ _ _ _

/-! ## The Hyena layer's input projection and short convolution -/

theorem frame_kernel3 : Cert.quiescent_Kernel3 := fun m g _ => Cert.Kernel3.Gen.frame m g

theorem frame_ideal3 : Cert.quiescent_Kernel3Ideal := fun m g _ => Cert.Kernel3Ideal.Gen.frame m g

theorem frame_ref3 : Cert.quiescent_Reference3Ideal := fun m g _ =>
  (θ_run Cert.Reference3Ideal.defs _ _).mono (fun r h => ⟨fun c => (h c).2, Idealize.ShloMosaic.sem_eq_zero_of_no_sems (by decide) r.2⟩)
    (Cert.Reference3Ideal.Conv.run m g)

theorem value3 : Cert.algebraic_Kernel3Ideal_Reference3Ideal := by
  intro m g m' g' _ hm
  refine ⟨fun c => (fun i => Cert.Kernel3Ideal.Conv.res m c (i 0) (i 1)), Cert.Kernel3Ideal.Conv.run m g, ?_⟩
  refine (θ_run Cert.Reference3Ideal.defs _ _).mono (fun r h c => ⟨(h c).1.trans ?_, (h c).2⟩) (Cert.Reference3Ideal.Conv.run m' g')
  obtain ⟨h0, h1, h2, h3, h4, h5, h6, h7⟩ := hm c
  rw [h0, h1, h2, h3, h4, h5, h6, h7]
  funext i
  rw [eq_ix2 i]
  exact Cert.Reference3Ideal.Conv.REF_eq _ _ _ _ _ _ _ _ _ _

/-! ## The mixed layer's input projection -/

theorem frame_kernel4 : Cert.quiescent_Kernel4 := fun m g _ => Cert.Kernel4.Gen.frame m g

theorem frame_ideal4 : Cert.quiescent_Kernel4Ideal := fun m g _ => Cert.Kernel4Ideal.Gen.frame m g

theorem frame_ref4 : Cert.quiescent_Reference4Ideal := fun m g _ =>
  (θ_run Cert.Reference4Ideal.defs _ _).mono (fun r h => ⟨fun c => (h c).2, Idealize.ShloMosaic.sem_eq_zero_of_no_sems (by decide) r.2⟩)
    (Cert.Reference4Ideal.Proj.run m g)

theorem value4 : Cert.algebraic_Kernel4Ideal_Reference4Ideal := by
  intro m g m' g' _ hm
  refine ⟨fun c => (fun i => Cert.Kernel4Ideal.Proj.res m c (i 1) (i 2)), Cert.Kernel4Ideal.Proj.run m g, ?_⟩
  refine (θ_run Cert.Reference4Ideal.defs _ _).mono (fun r h c => ⟨(h c).1.trans ?_, (h c).2⟩) (Cert.Reference4Ideal.Proj.run m' g')
  obtain ⟨h0, h1, h2, h3, h4⟩ := hm c
  rw [h0, h1, h2, h3, h4]
  funext i
  exact Cert.Reference4Ideal.Proj.REF_idx _ _ _ _ _ i

/-! ## The Hyena layer's output projection -/

theorem frame_kernel5 : Cert.quiescent_Kernel5 := fun m g _ => Cert.Kernel5.Gen.frame m g

theorem frame_ideal5 : Cert.quiescent_Kernel5Ideal := fun m g _ => Cert.Kernel5Ideal.Gen.frame m g

theorem frame_ref5 : Cert.quiescent_Reference5Ideal := fun m g _ =>
  (θ_run Cert.Reference5Ideal.defs _ _).mono (fun r h => ⟨fun c => (h c).2, Idealize.ShloMosaic.sem_eq_zero_of_no_sems (by decide) r.2⟩)
    (Cert.Reference5Ideal.Out.run m g)

theorem value5 : Cert.algebraic_Kernel5Ideal_Reference5Ideal := by
  intro m g m' g' _ hm
  refine ⟨fun c => (fun i => Cert.Kernel5Ideal.Out.res m c (i 0) (i 1)), (θ_run Cert.Kernel5Ideal.defs _ _).mono (fun r h c => ⟨(h c).1.trans (Cert.Kernel5Ideal.Out.final m c), (h c).2⟩)
    (Cert.Kernel5Ideal.Value.run_blocks m g), ?_⟩
  refine (θ_run Cert.Reference5Ideal.defs _ _).mono (fun r h c => ⟨(h c).1.trans ?_, (h c).2⟩) (Cert.Reference5Ideal.Out.run m' g')
  obtain ⟨h0, h1, h2, h3, h4⟩ := hm c
  rw [h0, h1, h2, h3, h4]
  funext i
  rw [eq_ix2 i]
  exact Cert.Reference5Ideal.Out.REF_eq _ _ _ _ _ _ _

/-! ## The mixed layer's output projection -/

theorem frame_kernel6 : Cert.quiescent_Kernel6 := fun m g _ => Cert.Kernel6.Gen.frame m g

theorem frame_ideal6 : Cert.quiescent_Kernel6Ideal := fun m g _ => Cert.Kernel6Ideal.Gen.frame m g

theorem frame_ref6 : Cert.quiescent_Reference6Ideal := fun m g _ =>
  (θ_run Cert.Reference6Ideal.defs _ _).mono (fun r h => ⟨fun c => (h c).2, Idealize.ShloMosaic.sem_eq_zero_of_no_sems (by decide) r.2⟩)
    (Cert.Reference6Ideal.Merge.run m g)

theorem value6 : Cert.algebraic_Kernel6Ideal_Reference6Ideal := by
  intro m g m' g' _ hm
  refine ⟨fun c => (fun i => Cert.Kernel6Ideal.Merge.res m c (i 0) (i 1)), (θ_run Cert.Kernel6Ideal.defs _ _).mono (fun r h c => ⟨(h c).1.trans (Cert.Kernel6Ideal.Merge.final m c), (h c).2⟩)
    (Cert.Kernel6Ideal.Value.run_blocks m g), ?_⟩
  refine (θ_run Cert.Reference6Ideal.defs _ _).mono (fun r h c => ⟨(h c).1.trans ?_, (h c).2⟩) (Cert.Reference6Ideal.Merge.run m' g')
  obtain ⟨h0, h1, h2, h3, h4, h5, h6, h7, h8, h9⟩ := hm c
  rw [h0, h1, h2, h3, h4, h5, h6, h7, h8, h9]
  funext i
  rw [eq_ix2 i]
  exact Cert.Reference6Ideal.Merge.REF_eq _ _ _ _ _ _ _ _ _ _ _ _

/-! ## The keys and values of the mixed layer's attention -/

theorem frame_kernel7 : Cert.quiescent_Kernel7 := fun m g _ => Cert.Kernel7.Gen.frame m g

theorem frame_ideal7 : Cert.quiescent_Kernel7Ideal := fun m g _ => Cert.Kernel7Ideal.Gen.frame m g

theorem frame_ref7 : Cert.quiescent_Reference7Ideal := fun m g _ =>
  (θ_run Cert.Reference7Ideal.defs _ _).mono (fun r h => ⟨fun c => (h c).2.2, Idealize.ShloMosaic.sem_eq_zero_of_no_sems (by decide) r.2⟩)
    (Cert.Reference7Ideal.Kv.run m g)

theorem value7 : Cert.algebraic_Kernel7Ideal_Reference7Ideal := by
  intro m g m' g' _ hm
  refine ⟨fun c => (fun i => Cert.Kernel7Ideal.Kv.key m c (i 1) (i 2) (i 3)), fun c => (fun i => Cert.Kernel7Ideal.Kv.val m c (i 1) (i 2) (i 3)),
    Cert.Kernel7Ideal.Kv.run m g, ?_⟩
  refine (θ_run Cert.Reference7Ideal.defs _ _).mono (fun r h c => ⟨(h c).1.trans ?_, (h c).2.1.trans ?_, (h c).2.2⟩) (Cert.Reference7Ideal.Kv.run m' g')
  · obtain ⟨h0, h1, h2, h3, h4, h5, h6, h7⟩ := hm c
    rw [h0, h1, h2, h3, h4, h5, h6, h7]
    funext i
    exact Cert.Reference7Ideal.Kv.REFK_idx _ _ _ _ _ _ _ _ i
  · obtain ⟨h0, h1, h2, h3, h4, h5, h6, h7⟩ := hm c
    rw [h0, h2, h4, h5]
    funext i
    exact Cert.Reference7Ideal.Kv.REFV_idx _ _ _ _ i

/-! ## The queries of the mixed layer -/

theorem frame_kernel8 : Cert.quiescent_Kernel8 := fun m g _ => Cert.Kernel8.Gen.frame m g

theorem frame_ideal8 : Cert.quiescent_Kernel8Ideal := fun m g _ => Cert.Kernel8Ideal.Gen.frame m g

theorem frame_ideal8_pre : Cert.quiescent_Kernel8Ideal_pre_finite_q := fun m g _ => Cert.Kernel8Ideal.Gen.frame m g

theorem frame_ref8 : Cert.quiescent_Reference8Ideal := fun m g _ =>
  (θ_run Cert.Reference8Ideal.defs _ _).mono (fun r h => ⟨fun c => (h c).2, Idealize.ShloMosaic.sem_eq_zero_of_no_sems (by decide) r.2⟩)
    (Cert.Reference8Ideal.Q.run m g)

theorem frame_ref8_pre : Cert.quiescent_Reference8Ideal_pre_finite_q := fun m g _ => frame_ref8 m g trivial

theorem value8 : Cert.algebraic_Kernel8Ideal_Reference8Ideal_pre_finite_q := by
  intro m g m' g' hpre hm
  refine ⟨fun c => Cert.Kernel8Ideal.Q.out m c, Cert.Kernel8Ideal.Q.run m g, ?_⟩
  refine (θ_run Cert.Reference8Ideal.defs _ _).mono (fun r h c => ⟨(h c).1.trans ?_, (h c).2⟩) (Cert.Reference8Ideal.Q.run m' g')
  obtain ⟨h0, h1, h2, h3, h4⟩ := hm c
  rw [h0, h1, h2, h3, h4]
  refine Eq.trans ?_ (Cert.Kernel8Ideal.Q.out_eq m c (Cert.Pre_finite_q.real_n _ _ _ _ _ (hpre c).1)
    (Cert.Pre_finite_q.real_w _ _ _ _ _ (hpre c).2)).symm
  funext i
  exact Cert.Reference8Ideal.Q.REF_idx _ _ _ _ _ i

/-! ## The short convolution before the state-space scan -/

theorem frame_kernel9 : Cert.quiescent_Kernel9 := fun m g _ => Cert.Kernel9.Gen.frame m g

theorem frame_ideal9 : Cert.quiescent_Kernel9Ideal := fun m g _ => Cert.Kernel9Ideal.Gen.frame m g

theorem frame_ref9 : Cert.quiescent_Reference9Ideal := fun m g _ =>
  (θ_run Cert.Reference9Ideal.defs _ _).mono (fun r h => ⟨fun c => (h c).2, Idealize.ShloMosaic.sem_eq_zero_of_no_sems (by decide) r.2⟩)
    (Cert.Reference9Ideal.Taps.run m g)

theorem value9 : Cert.algebraic_Kernel9Ideal_Reference9Ideal := by
  intro m g m' g' _ hm
  refine ⟨fun c => (fun i => Cert.Kernel9Ideal.Taps.res m c (i 0) (i 1)), Cert.Kernel9Ideal.Taps.run m g, ?_⟩
  refine (θ_run Cert.Reference9Ideal.defs _ _).mono (fun r h c => ⟨(h c).1.trans ?_, (h c).2⟩) (Cert.Reference9Ideal.Taps.run m' g')
  obtain ⟨h0, h1, h2⟩ := hm c
  rw [h0, h1, h2]
  funext i
  rw [eq_ix2 i]
  exact Cert.Reference9Ideal.Taps.REF_eq _ _ _ _ _

/-! ## The modulation of the mixed layer -/

theorem frame_kernel10 : Cert.quiescent_Kernel10 := fun m g _ => Cert.Kernel10.Gen.frame m g

theorem frame_ideal10 : Cert.quiescent_Kernel10Ideal := fun m g _ => Cert.Kernel10Ideal.Gen.frame m g

theorem frame_ref10 : Cert.quiescent_Reference10Ideal := fun m g _ =>
  (θ_run Cert.Reference10Ideal.defs _ _).mono (fun r h => ⟨fun c => (h c).2.2, Idealize.ShloMosaic.sem_eq_zero_of_no_sems (by decide) r.2⟩)
    (Cert.Reference10Ideal.Mod.run m g)

theorem value10 : Cert.algebraic_Kernel10Ideal_Reference10Ideal := by
  intro m g m' g' _ hm
  refine ⟨fun c => (fun i => Cert.Kernel10Ideal.Mod.resA m c (i 1)), fun c => (fun i => Cert.Kernel10Ideal.Mod.resB m c (i 0)),
    Cert.Kernel10Ideal.Mod.run m g, ?_⟩
  refine (θ_run Cert.Reference10Ideal.defs _ _).mono (fun r h c => ⟨(h c).1.trans ?_, (h c).2.1.trans ?_, (h c).2.2⟩) (Cert.Reference10Ideal.Mod.run m' g')
  · obtain ⟨h0, h1, h2, h3⟩ := hm c
    rw [h0, h2, h3]
    funext i
    exact Cert.Reference10Ideal.Mod.REFA_idx _ _ _ i
  · obtain ⟨h0, h1, h2, h3⟩ := hm c
    rw [h1, h2, h3]
    funext i
    exact Cert.Reference10Ideal.Mod.REFB_idx _ _ _ i

/-! ## The projection of the context's rows -/

theorem frame_kernel11 : Cert.quiescent_Kernel11 := fun m g _ => Cert.Kernel11.Gen.frame m g

theorem frame_ideal11 : Cert.quiescent_Kernel11Ideal := fun m g _ => Cert.Kernel11Ideal.Gen.frame m g

theorem frame_ref11 : Cert.quiescent_Reference11Ideal := fun m g _ =>
  (θ_run Cert.Reference11Ideal.defs _ _).mono (fun r h => ⟨fun c => (h c).2, Idealize.ShloMosaic.sem_eq_zero_of_no_sems (by decide) r.2⟩)
    (Cert.Reference11Ideal.Ctx.run m g)

theorem value11 : Cert.algebraic_Kernel11Ideal_Reference11Ideal := by
  intro m g m' g' _ hm
  refine ⟨fun c => (fun i => Cert.Kernel11Ideal.Ctx.res m c (i 1) (i 2)), Cert.Kernel11Ideal.Ctx.run m g, ?_⟩
  refine (θ_run Cert.Reference11Ideal.defs _ _).mono (fun r h c => ⟨(h c).1.trans ?_, (h c).2⟩) (Cert.Reference11Ideal.Ctx.run m' g')
  obtain ⟨h0, h1, h2, h3, h4⟩ := hm c
  rw [h0, h1, h2, h3, h4]
  funext i
  exact Cert.Reference11Ideal.Ctx.REF_idx _ _ _ _ _ i

/-! ## Together -/

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Pre_finite_qk.facts, Cert.Pre_finite_q.facts,
  frame_kernel, frame_ideal, frame_ideal_pre, frame_ref, frame_ref_pre,
  frame_kernel2, frame_ideal2, frame_ref2, frame_kernel3, frame_ideal3, frame_ref3, frame_kernel4, frame_ideal4, frame_ref4, frame_kernel5, frame_ideal5, frame_ref5, frame_kernel6, frame_ideal6, frame_ref6, frame_kernel7, frame_ideal7, frame_ref7, frame_kernel8, frame_ideal8, frame_ideal8_pre, frame_ref8, frame_ref8_pre, frame_kernel9, frame_ideal9, frame_ref9, frame_kernel10, frame_ideal10, frame_ref10, frame_kernel11, frame_ideal11, frame_ref11, trivial, value,
  trivial, value2, trivial, value3, trivial, value4, trivial, value5, trivial, value6, trivial, value7, trivial, value8, trivial, value9, trivial, value10, trivial, value11⟩

end Cert.Proof

end
